-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_RefBranchIdeal (m : (ℓ : Loc Cert.RefBranchIdeal.nD Cert.RefBranchIdeal.τ Cert.RefBranchIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_RefBranchDxIdeal (m : (ℓ : Loc Cert.RefBranchDxIdeal.nD Cert.RefBranchDxIdeal.τ Cert.RefBranchDxIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_RefBranchDwIdeal (m : (ℓ : Loc Cert.RefBranchDwIdeal.nD Cert.RefBranchDwIdeal.τ Cert.RefBranchDwIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MergeDx (m : (ℓ : Loc Cert.MergeDx.nD Cert.MergeDx.τ Cert.MergeDx.sig) → Buf (Elt Bits) ℓ) : Prop :=
  True

def Pre_MergeDxIdeal (m : (ℓ : Loc Cert.MergeDxIdeal.nD Cert.MergeDxIdeal.τ Cert.MergeDxIdeal.sig) → Buf (Elt Ideal) ℓ) : Prop :=
  True

def Pre_RefMergeDxIdeal (m : (ℓ : Loc Cert.RefMergeDxIdeal.nD Cert.RefMergeDxIdeal.τ Cert.RefMergeDxIdeal.sig) → Buf (Elt Ideal) ℓ) : Prop :=
  True

def Pre_MergeDw (m : (ℓ : Loc Cert.MergeDw.nD Cert.MergeDw.τ Cert.MergeDw.sig) → Buf (Elt Bits) ℓ) : Prop :=
  True

def Pre_MergeDwIdeal (m : (ℓ : Loc Cert.MergeDwIdeal.nD Cert.MergeDwIdeal.τ Cert.MergeDwIdeal.sig) → Buf (Elt Ideal) ℓ) : Prop :=
  True

def Pre_RefMergeDwIdeal (m : (ℓ : Loc Cert.RefMergeDwIdeal.nD Cert.RefMergeDwIdeal.τ Cert.RefMergeDwIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_RefQueryIdeal (m : (ℓ : Loc Cert.RefQueryIdeal.nD Cert.RefQueryIdeal.τ Cert.RefQueryIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_RefQueryDxIdeal (m : (ℓ : Loc Cert.RefQueryDxIdeal.nD Cert.RefQueryDxIdeal.τ Cert.RefQueryDxIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_RefQueryDwIdeal (m : (ℓ : Loc Cert.RefQueryDwIdeal.nD Cert.RefQueryDwIdeal.τ Cert.RefQueryDwIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_RefMemoryIdeal (m : (ℓ : Loc Cert.RefMemoryIdeal.nD Cert.RefMemoryIdeal.τ Cert.RefMemoryIdeal.sig) → Buf (Elt Ideal) ℓ) : Prop :=
  True

def Pre_MemoryDx (m : (ℓ : Loc Cert.MemoryDx.nD Cert.MemoryDx.τ Cert.MemoryDx.sig) → Buf (Elt Bits) ℓ) : Prop :=
  True

def Pre_MemoryDxIdeal (m : (ℓ : Loc Cert.MemoryDxIdeal.nD Cert.MemoryDxIdeal.τ Cert.MemoryDxIdeal.sig) → Buf (Elt Ideal) ℓ) : Prop :=
  True

def Pre_RefMemoryDxIdeal (m : (ℓ : Loc Cert.RefMemoryDxIdeal.nD Cert.RefMemoryDxIdeal.τ Cert.RefMemoryDxIdeal.sig) → Buf (Elt Ideal) ℓ) : Prop :=
  True

def Pre_MemoryDw (m : (ℓ : Loc Cert.MemoryDw.nD Cert.MemoryDw.τ Cert.MemoryDw.sig) → Buf (Elt Bits) ℓ) : Prop :=
  True

def Pre_MemoryDwIdeal (m : (ℓ : Loc Cert.MemoryDwIdeal.nD Cert.MemoryDwIdeal.τ Cert.MemoryDwIdeal.sig) → Buf (Elt Ideal) ℓ) : Prop :=
  True

def Pre_RefMemoryDwIdeal (m : (ℓ : Loc Cert.RefMemoryDwIdeal.nD Cert.RefMemoryDwIdeal.τ Cert.RefMemoryDwIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_all_finite [hPre_all_finite : Cert.Pre_all_finite.Facts] (m : (ℓ : Loc Cert.FoxIdeal.nD Cert.FoxIdeal.τ Cert.FoxIdeal.sig) → Buf (Elt Ideal) ℓ) : Prop :=
  ∀ c : Dev Cert.FoxIdeal.nD,
    (Cert.Pre_all_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_all_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_all_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_all_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_all_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_RefFoxIdeal (m : (ℓ : Loc Cert.RefFoxIdeal.nD Cert.RefFoxIdeal.τ Cert.RefFoxIdeal.sig) → Buf (Elt Ideal) ℓ) : Prop :=
  True

def Pre_RefFoxIdeal_all_finite [hPre_all_finite : Cert.Pre_all_finite.Facts] (m : (ℓ : Loc Cert.RefFoxIdeal.nD Cert.RefFoxIdeal.τ Cert.RefFoxIdeal.sig) → Buf (Elt Ideal) ℓ) : Prop :=
  ∀ c : Dev Cert.RefFoxIdeal.nD,
    (Cert.Pre_all_finite.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3)) (m ((c.tc : Thread Cert.RefFoxIdeal.nD Cert.RefFoxIdeal.τ).loc Cert.RefFoxIdeal.main_arg4))).1 = (fun _ => 1#1)
    ∧ (Cert.Pre_all_finite.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3)) (m ((c.tc : Thread Cert.RefFoxIdeal.nD Cert.RefFoxIdeal.τ).loc Cert.RefFoxIdeal.main_arg4))).2.1 = (fun _ => 1#1)
    ∧ (Cert.Pre_all_finite.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3)) (m ((c.tc : Thread Cert.RefFoxIdeal.nD Cert.RefFoxIdeal.τ).loc Cert.RefFoxIdeal.main_arg4))).2.2.1 = (fun _ => 1#1)
    ∧ (Cert.Pre_all_finite.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3)) (m ((c.tc : Thread Cert.RefFoxIdeal.nD Cert.RefFoxIdeal.τ).loc Cert.RefFoxIdeal.main_arg4))).2.2.2.1 = (fun _ => 1#1)
    ∧ (Cert.Pre_all_finite.fn (F := Ideal) (m ((c.tc : Thread Cert.RefFoxIdeal.nD Cert.RefFoxIdeal.τ).loc Cert.RefFoxIdeal.main_arg0)) (m ((c.tc : Thread Cert.RefFoxIdeal.nD Cert.RefFoxIdeal.τ).loc Cert.RefFoxIdeal.main_arg1)) (m ((c.tc : Thread Cert.RefFoxIdeal.nD Cert.RefFoxIdeal.τ).loc Cert.RefFoxIdeal.main_arg2)) (m ((c.tc : Thread Cert.RefFoxIdeal.nD Cert.RefFoxIdeal.τ).loc Cert.RefFoxIdeal.main_arg3)) (m ((c.tc : Thread Cert.RefFoxIdeal.nD Cert.RefFoxIdeal.τ).loc Cert.RefFoxIdeal.main_arg4))).2.2.2.2 = (fun _ => 1#1)

def Pre_FoxForward (m : (ℓ : Loc Cert.FoxForward.nD Cert.FoxForward.τ Cert.FoxForward.sig) → Buf (Elt Bits) ℓ) : Prop :=
  True

def Pre_FoxForwardIdeal (m : (ℓ : Loc Cert.FoxForwardIdeal.nD Cert.FoxForwardIdeal.τ Cert.FoxForwardIdeal.sig) → Buf (Elt Ideal) ℓ) : Prop :=
  True

def Pre_FoxForwardIdeal_scores_finite [hPre_scores_finite : Cert.Pre_scores_finite.Facts] (m : (ℓ : Loc Cert.FoxForwardIdeal.nD Cert.FoxForwardIdeal.τ Cert.FoxForwardIdeal.sig) → Buf (Elt Ideal) ℓ) : Prop :=
  ∀ c : Dev Cert.FoxForwardIdeal.nD,
    (Cert.Pre_scores_finite.fn (F := Ideal) (m ((c.tc : Thread Cert.FoxForwardIdeal.nD Cert.FoxForwardIdeal.τ).loc Cert.FoxForwardIdeal.main_arg0)) (m ((c.tc : Thread Cert.FoxForwardIdeal.nD Cert.FoxForwardIdeal.τ).loc Cert.FoxForwardIdeal.main_arg1)) (m ((c.tc : Thread Cert.FoxForwardIdeal.nD Cert.FoxForwardIdeal.τ).loc Cert.FoxForwardIdeal.main_arg2)) (m ((c.tc : Thread Cert.FoxForwardIdeal.nD Cert.FoxForwardIdeal.τ).loc Cert.FoxForwardIdeal.main_arg3))).1 = (fun _ => 1#1)
    ∧ (Cert.Pre_scores_finite.fn (F := Ideal) (m ((c.tc : Thread Cert.FoxForwardIdeal.nD Cert.FoxForwardIdeal.τ).loc Cert.FoxForwardIdeal.main_arg0)) (m ((c.tc : Thread Cert.FoxForwardIdeal.nD Cert.FoxForwardIdeal.τ).loc Cert.FoxForwardIdeal.main_arg1)) (m ((c.tc : Thread Cert.FoxForwardIdeal.nD Cert.FoxForwardIdeal.τ).loc Cert.FoxForwardIdeal.main_arg2)) (m ((c.tc : Thread Cert.FoxForwardIdeal.nD Cert.FoxForwardIdeal.τ).loc Cert.FoxForwardIdeal.main_arg3))).2.1 = (fun _ => 1#1)
    ∧ (Cert.Pre_scores_finite.fn (F := Ideal) (m ((c.tc : Thread Cert.FoxForwardIdeal.nD Cert.FoxForwardIdeal.τ).loc Cert.FoxForwardIdeal.main_arg0)) (m ((c.tc : Thread Cert.FoxForwardIdeal.nD Cert.FoxForwardIdeal.τ).loc Cert.FoxForwardIdeal.main_arg1)) (m ((c.tc : Thread Cert.FoxForwardIdeal.nD Cert.FoxForwardIdeal.τ).loc Cert.FoxForwardIdeal.main_arg2)) (m ((c.tc : Thread Cert.FoxForwardIdeal.nD Cert.FoxForwardIdeal.τ).loc Cert.FoxForwardIdeal.main_arg3))).2.2 = (fun _ => 1#1)

def Pre_RefFoxForwardIdeal (m : (ℓ : Loc Cert.RefFoxForwardIdeal.nD Cert.RefFoxForwardIdeal.τ Cert.RefFoxForwardIdeal.sig) → Buf (Elt Ideal) ℓ) : Prop :=
  True

def Pre_RefFoxForwardIdeal_scores_finite [hPre_scores_finite : Cert.Pre_scores_finite.Facts] (m : (ℓ : Loc Cert.RefFoxForwardIdeal.nD Cert.RefFoxForwardIdeal.τ Cert.RefFoxForwardIdeal.sig) → Buf (Elt Ideal) ℓ) : Prop :=
  ∀ c : Dev Cert.RefFoxForwardIdeal.nD,
    (Cert.Pre_scores_finite.fn (F := Ideal) (m ((c.tc : Thread Cert.RefFoxForwardIdeal.nD Cert.RefFoxForwardIdeal.τ).loc Cert.RefFoxForwardIdeal.main_arg0)) (m ((c.tc : Thread Cert.RefFoxForwardIdeal.nD Cert.RefFoxForwardIdeal.τ).loc Cert.RefFoxForwardIdeal.main_arg1)) (m ((c.tc : Thread Cert.RefFoxForwardIdeal.nD Cert.RefFoxForwardIdeal.τ).loc Cert.RefFoxForwardIdeal.main_arg2)) (m ((c.tc : Thread Cert.RefFoxForwardIdeal.nD Cert.RefFoxForwardIdeal.τ).loc Cert.RefFoxForwardIdeal.main_arg3))).1 = (fun _ => 1#1)
    ∧ (Cert.Pre_scores_finite.fn (F := Ideal) (m ((c.tc : Thread Cert.RefFoxForwardIdeal.nD Cert.RefFoxForwardIdeal.τ).loc Cert.RefFoxForwardIdeal.main_arg0)) (m ((c.tc : Thread Cert.RefFoxForwardIdeal.nD Cert.RefFoxForwardIdeal.τ).loc Cert.RefFoxForwardIdeal.main_arg1)) (m ((c.tc : Thread Cert.RefFoxForwardIdeal.nD Cert.RefFoxForwardIdeal.τ).loc Cert.RefFoxForwardIdeal.main_arg2)) (m ((c.tc : Thread Cert.RefFoxForwardIdeal.nD Cert.RefFoxForwardIdeal.τ).loc Cert.RefFoxForwardIdeal.main_arg3))).2.1 = (fun _ => 1#1)
    ∧ (Cert.Pre_scores_finite.fn (F := Ideal) (m ((c.tc : Thread Cert.RefFoxForwardIdeal.nD Cert.RefFoxForwardIdeal.τ).loc Cert.RefFoxForwardIdeal.main_arg0)) (m ((c.tc : Thread Cert.RefFoxForwardIdeal.nD Cert.RefFoxForwardIdeal.τ).loc Cert.RefFoxForwardIdeal.main_arg1)) (m ((c.tc : Thread Cert.RefFoxForwardIdeal.nD Cert.RefFoxForwardIdeal.τ).loc Cert.RefFoxForwardIdeal.main_arg2)) (m ((c.tc : Thread Cert.RefFoxForwardIdeal.nD Cert.RefFoxForwardIdeal.τ).loc Cert.RefFoxForwardIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_RefBranchIdeal [hRefBranchIdeal : Cert.RefBranchIdeal.Facts] : Prop :=
  ∀ (m : (ℓ : Loc Cert.RefBranchIdeal.nD Cert.RefBranchIdeal.τ Cert.RefBranchIdeal.sig) → Buf (Elt Ideal) ℓ) (g : Dev Cert.RefBranchIdeal.nD → PrngReg), Pre_RefBranchIdeal m →
    θ_run (Cert.RefBranchIdeal.defs (F := Ideal)) (onTc (τ := Cert.RefBranchIdeal.τ) (Cert.RefBranchIdeal.main (F := Ideal))) ⟨m, fun _ => 0, g⟩ (fun r => (∀ c : Dev Cert.RefBranchIdeal.nD,
      r.2.mem ((c.tc : Thread Cert.RefBranchIdeal.nD Cert.RefBranchIdeal.τ).loc Cert.RefBranchIdeal.main_arg0) = m ((c.tc : Thread Cert.RefBranchIdeal.nD Cert.RefBranchIdeal.τ).loc Cert.RefBranchIdeal.main_arg0)
      ∧ r.2.mem ((c.tc : Thread Cert.RefBranchIdeal.nD Cert.RefBranchIdeal.τ).loc Cert.RefBranchIdeal.main_arg1) = m ((c.tc : Thread Cert.RefBranchIdeal.nD Cert.RefBranchIdeal.τ).loc Cert.RefBranchIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_RefBranchDxIdeal [hRefBranchDxIdeal : Cert.RefBranchDxIdeal.Facts] : Prop :=
  ∀ (m : (ℓ : Loc Cert.RefBranchDxIdeal.nD Cert.RefBranchDxIdeal.τ Cert.RefBranchDxIdeal.sig) → Buf (Elt Ideal) ℓ) (g : Dev Cert.RefBranchDxIdeal.nD → PrngReg), Pre_RefBranchDxIdeal m →
    θ_run (Cert.RefBranchDxIdeal.defs (F := Ideal)) (onTc (τ := Cert.RefBranchDxIdeal.τ) (Cert.RefBranchDxIdeal.main (F := Ideal))) ⟨m, fun _ => 0, g⟩ (fun r => (∀ c : Dev Cert.RefBranchDxIdeal.nD,
      r.2.mem ((c.tc : Thread Cert.RefBranchDxIdeal.nD Cert.RefBranchDxIdeal.τ).loc Cert.RefBranchDxIdeal.main_arg0) = m ((c.tc : Thread Cert.RefBranchDxIdeal.nD Cert.RefBranchDxIdeal.τ).loc Cert.RefBranchDxIdeal.main_arg0)
      ∧ r.2.mem ((c.tc : Thread Cert.RefBranchDxIdeal.nD Cert.RefBranchDxIdeal.τ).loc Cert.RefBranchDxIdeal.main_arg1) = m ((c.tc : Thread Cert.RefBranchDxIdeal.nD Cert.RefBranchDxIdeal.τ).loc Cert.RefBranchDxIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_RefBranchDwIdeal [hRefBranchDwIdeal : Cert.RefBranchDwIdeal.Facts] : Prop :=
  ∀ (m : (ℓ : Loc Cert.RefBranchDwIdeal.nD Cert.RefBranchDwIdeal.τ Cert.RefBranchDwIdeal.sig) → Buf (Elt Ideal) ℓ) (g : Dev Cert.RefBranchDwIdeal.nD → PrngReg), Pre_RefBranchDwIdeal m →
    θ_run (Cert.RefBranchDwIdeal.defs (F := Ideal)) (onTc (τ := Cert.RefBranchDwIdeal.τ) (Cert.RefBranchDwIdeal.main (F := Ideal))) ⟨m, fun _ => 0, g⟩ (fun r => (∀ c : Dev Cert.RefBranchDwIdeal.nD,
      r.2.mem ((c.tc : Thread Cert.RefBranchDwIdeal.nD Cert.RefBranchDwIdeal.τ).loc Cert.RefBranchDwIdeal.main_arg0) = m ((c.tc : Thread Cert.RefBranchDwIdeal.nD Cert.RefBranchDwIdeal.τ).loc Cert.RefBranchDwIdeal.main_arg0)
      ∧ r.2.mem ((c.tc : Thread Cert.RefBranchDwIdeal.nD Cert.RefBranchDwIdeal.τ).loc Cert.RefBranchDwIdeal.main_arg1) = m ((c.tc : Thread Cert.RefBranchDwIdeal.nD Cert.RefBranchDwIdeal.τ).loc Cert.RefBranchDwIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1))
      ∧ r.2.sem = fun _ => 0)

def quiescent_MergeDx [hMergeDx : Cert.MergeDx.Facts] : Prop :=
  ∀ (m : (ℓ : Loc Cert.MergeDx.nD Cert.MergeDx.τ Cert.MergeDx.sig) → Buf (Elt Bits) ℓ) (g : Dev Cert.MergeDx.nD → PrngReg), Pre_MergeDx m →
    θ_run (Cert.MergeDx.defs (F := Bits)) (onTc (τ := Cert.MergeDx.τ) (Cert.MergeDx.main (F := Bits))) ⟨m, fun _ => 0, g⟩ (fun r => (∀ c : Dev Cert.MergeDx.nD,
      r.2.mem ((c.tc : Thread Cert.MergeDx.nD Cert.MergeDx.τ).loc Cert.MergeDx.main_arg0) = m ((c.tc : Thread Cert.MergeDx.nD Cert.MergeDx.τ).loc Cert.MergeDx.main_arg0)
      ∧ r.2.mem ((c.tc : Thread Cert.MergeDx.nD Cert.MergeDx.τ).loc Cert.MergeDx.main_arg1) = m ((c.tc : Thread Cert.MergeDx.nD Cert.MergeDx.τ).loc Cert.MergeDx.main_arg1))
      ∧ r.2.sem = fun _ => 0)

def quiescent_MergeDxIdeal [hMergeDxIdeal : Cert.MergeDxIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg), Pre_MergeDxIdeal m →
    θ_run (Cert.MergeDxIdeal.defs (F := Ideal)) (onTc (τ := Cert.MergeDxIdeal.τ) (Cert.MergeDxIdeal.main (F := Ideal))) ⟨m, fun _ => 0, g⟩ (fun r => (∀ c : Dev Cert.MergeDxIdeal.nD,
      r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
      ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1))
      ∧ r.2.sem = fun _ => 0)

def quiescent_RefMergeDxIdeal [hRefMergeDxIdeal : Cert.RefMergeDxIdeal.Facts] : Prop :=
  ∀ (m : (ℓ : Loc Cert.RefMergeDxIdeal.nD Cert.RefMergeDxIdeal.τ Cert.RefMergeDxIdeal.sig) → Buf (Elt Ideal) ℓ) (g : Dev Cert.RefMergeDxIdeal.nD → PrngReg), Pre_RefMergeDxIdeal m →
    θ_run (Cert.RefMergeDxIdeal.defs (F := Ideal)) (onTc (τ := Cert.RefMergeDxIdeal.τ) (Cert.RefMergeDxIdeal.main (F := Ideal))) ⟨m, fun _ => 0, g⟩ (fun r => (∀ c : Dev Cert.RefMergeDxIdeal.nD,
      r.2.mem ((c.tc : Thread Cert.RefMergeDxIdeal.nD Cert.RefMergeDxIdeal.τ).loc Cert.RefMergeDxIdeal.main_arg0) = m ((c.tc : Thread Cert.RefMergeDxIdeal.nD Cert.RefMergeDxIdeal.τ).loc Cert.RefMergeDxIdeal.main_arg0)
      ∧ r.2.mem ((c.tc : Thread Cert.RefMergeDxIdeal.nD Cert.RefMergeDxIdeal.τ).loc Cert.RefMergeDxIdeal.main_arg1) = m ((c.tc : Thread Cert.RefMergeDxIdeal.nD Cert.RefMergeDxIdeal.τ).loc Cert.RefMergeDxIdeal.main_arg1))
      ∧ r.2.sem = fun _ => 0)

def quiescent_MergeDw [hMergeDw : Cert.MergeDw.Facts] : Prop :=
  ∀ (m : (ℓ : Loc Cert.MergeDw.nD Cert.MergeDw.τ Cert.MergeDw.sig) → Buf (Elt Bits) ℓ) (g : Dev Cert.MergeDw.nD → PrngReg), Pre_MergeDw m →
    θ_run (Cert.MergeDw.defs (F := Bits)) (onTc (τ := Cert.MergeDw.τ) (Cert.MergeDw.main (F := Bits))) ⟨m, fun _ => 0, g⟩ (fun r => (∀ c : Dev Cert.MergeDw.nD,
      r.2.mem ((c.tc : Thread Cert.MergeDw.nD Cert.MergeDw.τ).loc Cert.MergeDw.main_arg0) = m ((c.tc : Thread Cert.MergeDw.nD Cert.MergeDw.τ).loc Cert.MergeDw.main_arg0)
      ∧ r.2.mem ((c.tc : Thread Cert.MergeDw.nD Cert.MergeDw.τ).loc Cert.MergeDw.main_arg1) = m ((c.tc : Thread Cert.MergeDw.nD Cert.MergeDw.τ).loc Cert.MergeDw.main_arg1))
      ∧ r.2.sem = fun _ => 0)

def quiescent_MergeDwIdeal [hMergeDwIdeal : Cert.MergeDwIdeal.Facts] : Prop :=
  ∀ (m : (ℓ : Loc Cert.MergeDwIdeal.nD Cert.MergeDwIdeal.τ Cert.MergeDwIdeal.sig) → Buf (Elt Ideal) ℓ) (g : Dev Cert.MergeDwIdeal.nD → PrngReg), Pre_MergeDwIdeal m →
    θ_run (Cert.MergeDwIdeal.defs (F := Ideal)) (onTc (τ := Cert.MergeDwIdeal.τ) (Cert.MergeDwIdeal.main (F := Ideal))) ⟨m, fun _ => 0, g⟩ (fun r => (∀ c : Dev Cert.MergeDwIdeal.nD,
      r.2.mem ((c.tc : Thread Cert.MergeDwIdeal.nD Cert.MergeDwIdeal.τ).loc Cert.MergeDwIdeal.main_arg0) = m ((c.tc : Thread Cert.MergeDwIdeal.nD Cert.MergeDwIdeal.τ).loc Cert.MergeDwIdeal.main_arg0)
      ∧ r.2.mem ((c.tc : Thread Cert.MergeDwIdeal.nD Cert.MergeDwIdeal.τ).loc Cert.MergeDwIdeal.main_arg1) = m ((c.tc : Thread Cert.MergeDwIdeal.nD Cert.MergeDwIdeal.τ).loc Cert.MergeDwIdeal.main_arg1))
      ∧ r.2.sem = fun _ => 0)

def quiescent_RefMergeDwIdeal [hRefMergeDwIdeal : Cert.RefMergeDwIdeal.Facts] : Prop :=
  ∀ (m : (ℓ : Loc Cert.RefMergeDwIdeal.nD Cert.RefMergeDwIdeal.τ Cert.RefMergeDwIdeal.sig) → Buf (Elt Ideal) ℓ) (g : Dev Cert.RefMergeDwIdeal.nD → PrngReg), Pre_RefMergeDwIdeal m →
    θ_run (Cert.RefMergeDwIdeal.defs (F := Ideal)) (onTc (τ := Cert.RefMergeDwIdeal.τ) (Cert.RefMergeDwIdeal.main (F := Ideal))) ⟨m, fun _ => 0, g⟩ (fun r => (∀ c : Dev Cert.RefMergeDwIdeal.nD,
      r.2.mem ((c.tc : Thread Cert.RefMergeDwIdeal.nD Cert.RefMergeDwIdeal.τ).loc Cert.RefMergeDwIdeal.main_arg0) = m ((c.tc : Thread Cert.RefMergeDwIdeal.nD Cert.RefMergeDwIdeal.τ).loc Cert.RefMergeDwIdeal.main_arg0)
      ∧ r.2.mem ((c.tc : Thread Cert.RefMergeDwIdeal.nD Cert.RefMergeDwIdeal.τ).loc Cert.RefMergeDwIdeal.main_arg1) = m ((c.tc : Thread Cert.RefMergeDwIdeal.nD Cert.RefMergeDwIdeal.τ).loc Cert.RefMergeDwIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_RefQueryIdeal [hRefQueryIdeal : Cert.RefQueryIdeal.Facts] : Prop :=
  ∀ (m : (ℓ : Loc Cert.RefQueryIdeal.nD Cert.RefQueryIdeal.τ Cert.RefQueryIdeal.sig) → Buf (Elt Ideal) ℓ) (g : Dev Cert.RefQueryIdeal.nD → PrngReg), Pre_RefQueryIdeal m →
    θ_run (Cert.RefQueryIdeal.defs (F := Ideal)) (onTc (τ := Cert.RefQueryIdeal.τ) (Cert.RefQueryIdeal.main (F := Ideal))) ⟨m, fun _ => 0, g⟩ (fun r => (∀ c : Dev Cert.RefQueryIdeal.nD,
      r.2.mem ((c.tc : Thread Cert.RefQueryIdeal.nD Cert.RefQueryIdeal.τ).loc Cert.RefQueryIdeal.main_arg0) = m ((c.tc : Thread Cert.RefQueryIdeal.nD Cert.RefQueryIdeal.τ).loc Cert.RefQueryIdeal.main_arg0)
      ∧ r.2.mem ((c.tc : Thread Cert.RefQueryIdeal.nD Cert.RefQueryIdeal.τ).loc Cert.RefQueryIdeal.main_arg1) = m ((c.tc : Thread Cert.RefQueryIdeal.nD Cert.RefQueryIdeal.τ).loc Cert.RefQueryIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_RefQueryDxIdeal [hRefQueryDxIdeal : Cert.RefQueryDxIdeal.Facts] : Prop :=
  ∀ (m : (ℓ : Loc Cert.RefQueryDxIdeal.nD Cert.RefQueryDxIdeal.τ Cert.RefQueryDxIdeal.sig) → Buf (Elt Ideal) ℓ) (g : Dev Cert.RefQueryDxIdeal.nD → PrngReg), Pre_RefQueryDxIdeal m →
    θ_run (Cert.RefQueryDxIdeal.defs (F := Ideal)) (onTc (τ := Cert.RefQueryDxIdeal.τ) (Cert.RefQueryDxIdeal.main (F := Ideal))) ⟨m, fun _ => 0, g⟩ (fun r => (∀ c : Dev Cert.RefQueryDxIdeal.nD,
      r.2.mem ((c.tc : Thread Cert.RefQueryDxIdeal.nD Cert.RefQueryDxIdeal.τ).loc Cert.RefQueryDxIdeal.main_arg0) = m ((c.tc : Thread Cert.RefQueryDxIdeal.nD Cert.RefQueryDxIdeal.τ).loc Cert.RefQueryDxIdeal.main_arg0)
      ∧ r.2.mem ((c.tc : Thread Cert.RefQueryDxIdeal.nD Cert.RefQueryDxIdeal.τ).loc Cert.RefQueryDxIdeal.main_arg1) = m ((c.tc : Thread Cert.RefQueryDxIdeal.nD Cert.RefQueryDxIdeal.τ).loc Cert.RefQueryDxIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_RefQueryDwIdeal [hRefQueryDwIdeal : Cert.RefQueryDwIdeal.Facts] : Prop :=
  ∀ (m : (ℓ : Loc Cert.RefQueryDwIdeal.nD Cert.RefQueryDwIdeal.τ Cert.RefQueryDwIdeal.sig) → Buf (Elt Ideal) ℓ) (g : Dev Cert.RefQueryDwIdeal.nD → PrngReg), Pre_RefQueryDwIdeal m →
    θ_run (Cert.RefQueryDwIdeal.defs (F := Ideal)) (onTc (τ := Cert.RefQueryDwIdeal.τ) (Cert.RefQueryDwIdeal.main (F := Ideal))) ⟨m, fun _ => 0, g⟩ (fun r => (∀ c : Dev Cert.RefQueryDwIdeal.nD,
      r.2.mem ((c.tc : Thread Cert.RefQueryDwIdeal.nD Cert.RefQueryDwIdeal.τ).loc Cert.RefQueryDwIdeal.main_arg0) = m ((c.tc : Thread Cert.RefQueryDwIdeal.nD Cert.RefQueryDwIdeal.τ).loc Cert.RefQueryDwIdeal.main_arg0)
      ∧ r.2.mem ((c.tc : Thread Cert.RefQueryDwIdeal.nD Cert.RefQueryDwIdeal.τ).loc Cert.RefQueryDwIdeal.main_arg1) = m ((c.tc : Thread Cert.RefQueryDwIdeal.nD Cert.RefQueryDwIdeal.τ).loc Cert.RefQueryDwIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_RefMemoryIdeal [hRefMemoryIdeal : Cert.RefMemoryIdeal.Facts] : Prop :=
  ∀ (m : (ℓ : Loc Cert.RefMemoryIdeal.nD Cert.RefMemoryIdeal.τ Cert.RefMemoryIdeal.sig) → Buf (Elt Ideal) ℓ) (g : Dev Cert.RefMemoryIdeal.nD → PrngReg), Pre_RefMemoryIdeal m →
    θ_run (Cert.RefMemoryIdeal.defs (F := Ideal)) (onTc (τ := Cert.RefMemoryIdeal.τ) (Cert.RefMemoryIdeal.main (F := Ideal))) ⟨m, fun _ => 0, g⟩ (fun r => (∀ c : Dev Cert.RefMemoryIdeal.nD,
      r.2.mem ((c.tc : Thread Cert.RefMemoryIdeal.nD Cert.RefMemoryIdeal.τ).loc Cert.RefMemoryIdeal.main_arg0) = m ((c.tc : Thread Cert.RefMemoryIdeal.nD Cert.RefMemoryIdeal.τ).loc Cert.RefMemoryIdeal.main_arg0)
      ∧ r.2.mem ((c.tc : Thread Cert.RefMemoryIdeal.nD Cert.RefMemoryIdeal.τ).loc Cert.RefMemoryIdeal.main_arg1) = m ((c.tc : Thread Cert.RefMemoryIdeal.nD Cert.RefMemoryIdeal.τ).loc Cert.RefMemoryIdeal.main_arg1))
      ∧ r.2.sem = fun _ => 0)

def quiescent_MemoryDx [hMemoryDx : Cert.MemoryDx.Facts] : Prop :=
  ∀ (m : (ℓ : Loc Cert.MemoryDx.nD Cert.MemoryDx.τ Cert.MemoryDx.sig) → Buf (Elt Bits) ℓ) (g : Dev Cert.MemoryDx.nD → PrngReg), Pre_MemoryDx m →
    θ_run (Cert.MemoryDx.defs (F := Bits)) (onTc (τ := Cert.MemoryDx.τ) (Cert.MemoryDx.main (F := Bits))) ⟨m, fun _ => 0, g⟩ (fun r => (∀ c : Dev Cert.MemoryDx.nD,
      r.2.mem ((c.tc : Thread Cert.MemoryDx.nD Cert.MemoryDx.τ).loc Cert.MemoryDx.main_arg0) = m ((c.tc : Thread Cert.MemoryDx.nD Cert.MemoryDx.τ).loc Cert.MemoryDx.main_arg0)
      ∧ r.2.mem ((c.tc : Thread Cert.MemoryDx.nD Cert.MemoryDx.τ).loc Cert.MemoryDx.main_arg1) = m ((c.tc : Thread Cert.MemoryDx.nD Cert.MemoryDx.τ).loc Cert.MemoryDx.main_arg1))
      ∧ r.2.sem = fun _ => 0)

def quiescent_MemoryDxIdeal [hMemoryDxIdeal : Cert.MemoryDxIdeal.Facts] : Prop :=
  ∀ (m : (ℓ : Loc Cert.MemoryDxIdeal.nD Cert.MemoryDxIdeal.τ Cert.MemoryDxIdeal.sig) → Buf (Elt Ideal) ℓ) (g : Dev Cert.MemoryDxIdeal.nD → PrngReg), Pre_MemoryDxIdeal m →
    θ_run (Cert.MemoryDxIdeal.defs (F := Ideal)) (onTc (τ := Cert.MemoryDxIdeal.τ) (Cert.MemoryDxIdeal.main (F := Ideal))) ⟨m, fun _ => 0, g⟩ (fun r => (∀ c : Dev Cert.MemoryDxIdeal.nD,
      r.2.mem ((c.tc : Thread Cert.MemoryDxIdeal.nD Cert.MemoryDxIdeal.τ).loc Cert.MemoryDxIdeal.main_arg0) = m ((c.tc : Thread Cert.MemoryDxIdeal.nD Cert.MemoryDxIdeal.τ).loc Cert.MemoryDxIdeal.main_arg0)
      ∧ r.2.mem ((c.tc : Thread Cert.MemoryDxIdeal.nD Cert.MemoryDxIdeal.τ).loc Cert.MemoryDxIdeal.main_arg1) = m ((c.tc : Thread Cert.MemoryDxIdeal.nD Cert.MemoryDxIdeal.τ).loc Cert.MemoryDxIdeal.main_arg1))
      ∧ r.2.sem = fun _ => 0)

def quiescent_RefMemoryDxIdeal [hRefMemoryDxIdeal : Cert.RefMemoryDxIdeal.Facts] : Prop :=
  ∀ (m : (ℓ : Loc Cert.RefMemoryDxIdeal.nD Cert.RefMemoryDxIdeal.τ Cert.RefMemoryDxIdeal.sig) → Buf (Elt Ideal) ℓ) (g : Dev Cert.RefMemoryDxIdeal.nD → PrngReg), Pre_RefMemoryDxIdeal m →
    θ_run (Cert.RefMemoryDxIdeal.defs (F := Ideal)) (onTc (τ := Cert.RefMemoryDxIdeal.τ) (Cert.RefMemoryDxIdeal.main (F := Ideal))) ⟨m, fun _ => 0, g⟩ (fun r => (∀ c : Dev Cert.RefMemoryDxIdeal.nD,
      r.2.mem ((c.tc : Thread Cert.RefMemoryDxIdeal.nD Cert.RefMemoryDxIdeal.τ).loc Cert.RefMemoryDxIdeal.main_arg0) = m ((c.tc : Thread Cert.RefMemoryDxIdeal.nD Cert.RefMemoryDxIdeal.τ).loc Cert.RefMemoryDxIdeal.main_arg0)
      ∧ r.2.mem ((c.tc : Thread Cert.RefMemoryDxIdeal.nD Cert.RefMemoryDxIdeal.τ).loc Cert.RefMemoryDxIdeal.main_arg1) = m ((c.tc : Thread Cert.RefMemoryDxIdeal.nD Cert.RefMemoryDxIdeal.τ).loc Cert.RefMemoryDxIdeal.main_arg1))
      ∧ r.2.sem = fun _ => 0)

def quiescent_MemoryDw [hMemoryDw : Cert.MemoryDw.Facts] : Prop :=
  ∀ (m : (ℓ : Loc Cert.MemoryDw.nD Cert.MemoryDw.τ Cert.MemoryDw.sig) → Buf (Elt Bits) ℓ) (g : Dev Cert.MemoryDw.nD → PrngReg), Pre_MemoryDw m →
    θ_run (Cert.MemoryDw.defs (F := Bits)) (onTc (τ := Cert.MemoryDw.τ) (Cert.MemoryDw.main (F := Bits))) ⟨m, fun _ => 0, g⟩ (fun r => (∀ c : Dev Cert.MemoryDw.nD,
      r.2.mem ((c.tc : Thread Cert.MemoryDw.nD Cert.MemoryDw.τ).loc Cert.MemoryDw.main_arg0) = m ((c.tc : Thread Cert.MemoryDw.nD Cert.MemoryDw.τ).loc Cert.MemoryDw.main_arg0)
      ∧ r.2.mem ((c.tc : Thread Cert.MemoryDw.nD Cert.MemoryDw.τ).loc Cert.MemoryDw.main_arg1) = m ((c.tc : Thread Cert.MemoryDw.nD Cert.MemoryDw.τ).loc Cert.MemoryDw.main_arg1))
      ∧ r.2.sem = fun _ => 0)

def quiescent_MemoryDwIdeal [hMemoryDwIdeal : Cert.MemoryDwIdeal.Facts] : Prop :=
  ∀ (m : (ℓ : Loc Cert.MemoryDwIdeal.nD Cert.MemoryDwIdeal.τ Cert.MemoryDwIdeal.sig) → Buf (Elt Ideal) ℓ) (g : Dev Cert.MemoryDwIdeal.nD → PrngReg), Pre_MemoryDwIdeal m →
    θ_run (Cert.MemoryDwIdeal.defs (F := Ideal)) (onTc (τ := Cert.MemoryDwIdeal.τ) (Cert.MemoryDwIdeal.main (F := Ideal))) ⟨m, fun _ => 0, g⟩ (fun r => (∀ c : Dev Cert.MemoryDwIdeal.nD,
      r.2.mem ((c.tc : Thread Cert.MemoryDwIdeal.nD Cert.MemoryDwIdeal.τ).loc Cert.MemoryDwIdeal.main_arg0) = m ((c.tc : Thread Cert.MemoryDwIdeal.nD Cert.MemoryDwIdeal.τ).loc Cert.MemoryDwIdeal.main_arg0)
      ∧ r.2.mem ((c.tc : Thread Cert.MemoryDwIdeal.nD Cert.MemoryDwIdeal.τ).loc Cert.MemoryDwIdeal.main_arg1) = m ((c.tc : Thread Cert.MemoryDwIdeal.nD Cert.MemoryDwIdeal.τ).loc Cert.MemoryDwIdeal.main_arg1))
      ∧ r.2.sem = fun _ => 0)

def quiescent_RefMemoryDwIdeal [hRefMemoryDwIdeal : Cert.RefMemoryDwIdeal.Facts] : Prop :=
  ∀ (m : (ℓ : Loc Cert.RefMemoryDwIdeal.nD Cert.RefMemoryDwIdeal.τ Cert.RefMemoryDwIdeal.sig) → Buf (Elt Ideal) ℓ) (g : Dev Cert.RefMemoryDwIdeal.nD → PrngReg), Pre_RefMemoryDwIdeal m →
    θ_run (Cert.RefMemoryDwIdeal.defs (F := Ideal)) (onTc (τ := Cert.RefMemoryDwIdeal.τ) (Cert.RefMemoryDwIdeal.main (F := Ideal))) ⟨m, fun _ => 0, g⟩ (fun r => (∀ c : Dev Cert.RefMemoryDwIdeal.nD,
      r.2.mem ((c.tc : Thread Cert.RefMemoryDwIdeal.nD Cert.RefMemoryDwIdeal.τ).loc Cert.RefMemoryDwIdeal.main_arg0) = m ((c.tc : Thread Cert.RefMemoryDwIdeal.nD Cert.RefMemoryDwIdeal.τ).loc Cert.RefMemoryDwIdeal.main_arg0)
      ∧ r.2.mem ((c.tc : Thread Cert.RefMemoryDwIdeal.nD Cert.RefMemoryDwIdeal.τ).loc Cert.RefMemoryDwIdeal.main_arg1) = m ((c.tc : Thread Cert.RefMemoryDwIdeal.nD Cert.RefMemoryDwIdeal.τ).loc Cert.RefMemoryDwIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_all_finite [hFoxIdeal : Cert.FoxIdeal.Facts] [hPre_all_finite : Cert.Pre_all_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_all_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_RefFoxIdeal [hRefFoxIdeal : Cert.RefFoxIdeal.Facts] : Prop :=
  ∀ (m : (ℓ : Loc Cert.RefFoxIdeal.nD Cert.RefFoxIdeal.τ Cert.RefFoxIdeal.sig) → Buf (Elt Ideal) ℓ) (g : Dev Cert.RefFoxIdeal.nD → PrngReg), Pre_RefFoxIdeal m →
    θ_run (Cert.RefFoxIdeal.defs (F := Ideal)) (onTc (τ := Cert.RefFoxIdeal.τ) (Cert.RefFoxIdeal.main (F := Ideal))) ⟨m, fun _ => 0, g⟩ (fun r => (∀ c : Dev Cert.RefFoxIdeal.nD,
      r.2.mem ((c.tc : Thread Cert.RefFoxIdeal.nD Cert.RefFoxIdeal.τ).loc Cert.RefFoxIdeal.main_arg0) = m ((c.tc : Thread Cert.RefFoxIdeal.nD Cert.RefFoxIdeal.τ).loc Cert.RefFoxIdeal.main_arg0)
      ∧ r.2.mem ((c.tc : Thread Cert.RefFoxIdeal.nD Cert.RefFoxIdeal.τ).loc Cert.RefFoxIdeal.main_arg1) = m ((c.tc : Thread Cert.RefFoxIdeal.nD Cert.RefFoxIdeal.τ).loc Cert.RefFoxIdeal.main_arg1)
      ∧ r.2.mem ((c.tc : Thread Cert.RefFoxIdeal.nD Cert.RefFoxIdeal.τ).loc Cert.RefFoxIdeal.main_arg2) = m ((c.tc : Thread Cert.RefFoxIdeal.nD Cert.RefFoxIdeal.τ).loc Cert.RefFoxIdeal.main_arg2)
      ∧ r.2.mem ((c.tc : Thread Cert.RefFoxIdeal.nD Cert.RefFoxIdeal.τ).loc Cert.RefFoxIdeal.main_arg3) = m ((c.tc : Thread Cert.RefFoxIdeal.nD Cert.RefFoxIdeal.τ).loc Cert.RefFoxIdeal.main_arg3)
      ∧ r.2.mem ((c.tc : Thread Cert.RefFoxIdeal.nD Cert.RefFoxIdeal.τ).loc Cert.RefFoxIdeal.main_arg4) = m ((c.tc : Thread Cert.RefFoxIdeal.nD Cert.RefFoxIdeal.τ).loc Cert.RefFoxIdeal.main_arg4))
      ∧ r.2.sem = fun _ => 0)

def quiescent_RefFoxIdeal_pre_all_finite [hRefFoxIdeal : Cert.RefFoxIdeal.Facts] [hPre_all_finite : Cert.Pre_all_finite.Facts] : Prop :=
  ∀ (m : (ℓ : Loc Cert.RefFoxIdeal.nD Cert.RefFoxIdeal.τ Cert.RefFoxIdeal.sig) → Buf (Elt Ideal) ℓ) (g : Dev Cert.RefFoxIdeal.nD → PrngReg), Pre_RefFoxIdeal_all_finite m →
    θ_run (Cert.RefFoxIdeal.defs (F := Ideal)) (onTc (τ := Cert.RefFoxIdeal.τ) (Cert.RefFoxIdeal.main (F := Ideal))) ⟨m, fun _ => 0, g⟩ (fun r => (∀ c : Dev Cert.RefFoxIdeal.nD,
      r.2.mem ((c.tc : Thread Cert.RefFoxIdeal.nD Cert.RefFoxIdeal.τ).loc Cert.RefFoxIdeal.main_arg0) = m ((c.tc : Thread Cert.RefFoxIdeal.nD Cert.RefFoxIdeal.τ).loc Cert.RefFoxIdeal.main_arg0)
      ∧ r.2.mem ((c.tc : Thread Cert.RefFoxIdeal.nD Cert.RefFoxIdeal.τ).loc Cert.RefFoxIdeal.main_arg1) = m ((c.tc : Thread Cert.RefFoxIdeal.nD Cert.RefFoxIdeal.τ).loc Cert.RefFoxIdeal.main_arg1)
      ∧ r.2.mem ((c.tc : Thread Cert.RefFoxIdeal.nD Cert.RefFoxIdeal.τ).loc Cert.RefFoxIdeal.main_arg2) = m ((c.tc : Thread Cert.RefFoxIdeal.nD Cert.RefFoxIdeal.τ).loc Cert.RefFoxIdeal.main_arg2)
      ∧ r.2.mem ((c.tc : Thread Cert.RefFoxIdeal.nD Cert.RefFoxIdeal.τ).loc Cert.RefFoxIdeal.main_arg3) = m ((c.tc : Thread Cert.RefFoxIdeal.nD Cert.RefFoxIdeal.τ).loc Cert.RefFoxIdeal.main_arg3)
      ∧ r.2.mem ((c.tc : Thread Cert.RefFoxIdeal.nD Cert.RefFoxIdeal.τ).loc Cert.RefFoxIdeal.main_arg4) = m ((c.tc : Thread Cert.RefFoxIdeal.nD Cert.RefFoxIdeal.τ).loc Cert.RefFoxIdeal.main_arg4))
      ∧ r.2.sem = fun _ => 0)

def quiescent_FoxForward [hFoxForward : Cert.FoxForward.Facts] : Prop :=
  ∀ (m : (ℓ : Loc Cert.FoxForward.nD Cert.FoxForward.τ Cert.FoxForward.sig) → Buf (Elt Bits) ℓ) (g : Dev Cert.FoxForward.nD → PrngReg), Pre_FoxForward m →
    θ_run (Cert.FoxForward.defs (F := Bits)) (onTc (τ := Cert.FoxForward.τ) (Cert.FoxForward.main (F := Bits))) ⟨m, fun _ => 0, g⟩ (fun r => (∀ c : Dev Cert.FoxForward.nD,
      r.2.mem ((c.tc : Thread Cert.FoxForward.nD Cert.FoxForward.τ).loc Cert.FoxForward.main_arg0) = m ((c.tc : Thread Cert.FoxForward.nD Cert.FoxForward.τ).loc Cert.FoxForward.main_arg0)
      ∧ r.2.mem ((c.tc : Thread Cert.FoxForward.nD Cert.FoxForward.τ).loc Cert.FoxForward.main_arg1) = m ((c.tc : Thread Cert.FoxForward.nD Cert.FoxForward.τ).loc Cert.FoxForward.main_arg1)
      ∧ r.2.mem ((c.tc : Thread Cert.FoxForward.nD Cert.FoxForward.τ).loc Cert.FoxForward.main_arg2) = m ((c.tc : Thread Cert.FoxForward.nD Cert.FoxForward.τ).loc Cert.FoxForward.main_arg2)
      ∧ r.2.mem ((c.tc : Thread Cert.FoxForward.nD Cert.FoxForward.τ).loc Cert.FoxForward.main_arg3) = m ((c.tc : Thread Cert.FoxForward.nD Cert.FoxForward.τ).loc Cert.FoxForward.main_arg3))
      ∧ r.2.sem = fun _ => 0)

def quiescent_FoxForwardIdeal [hFoxForwardIdeal : Cert.FoxForwardIdeal.Facts] : Prop :=
  ∀ (m : (ℓ : Loc Cert.FoxForwardIdeal.nD Cert.FoxForwardIdeal.τ Cert.FoxForwardIdeal.sig) → Buf (Elt Ideal) ℓ) (g : Dev Cert.FoxForwardIdeal.nD → PrngReg), Pre_FoxForwardIdeal m →
    θ_run (Cert.FoxForwardIdeal.defs (F := Ideal)) (onTc (τ := Cert.FoxForwardIdeal.τ) (Cert.FoxForwardIdeal.main (F := Ideal))) ⟨m, fun _ => 0, g⟩ (fun r => (∀ c : Dev Cert.FoxForwardIdeal.nD,
      r.2.mem ((c.tc : Thread Cert.FoxForwardIdeal.nD Cert.FoxForwardIdeal.τ).loc Cert.FoxForwardIdeal.main_arg0) = m ((c.tc : Thread Cert.FoxForwardIdeal.nD Cert.FoxForwardIdeal.τ).loc Cert.FoxForwardIdeal.main_arg0)
      ∧ r.2.mem ((c.tc : Thread Cert.FoxForwardIdeal.nD Cert.FoxForwardIdeal.τ).loc Cert.FoxForwardIdeal.main_arg1) = m ((c.tc : Thread Cert.FoxForwardIdeal.nD Cert.FoxForwardIdeal.τ).loc Cert.FoxForwardIdeal.main_arg1)
      ∧ r.2.mem ((c.tc : Thread Cert.FoxForwardIdeal.nD Cert.FoxForwardIdeal.τ).loc Cert.FoxForwardIdeal.main_arg2) = m ((c.tc : Thread Cert.FoxForwardIdeal.nD Cert.FoxForwardIdeal.τ).loc Cert.FoxForwardIdeal.main_arg2)
      ∧ r.2.mem ((c.tc : Thread Cert.FoxForwardIdeal.nD Cert.FoxForwardIdeal.τ).loc Cert.FoxForwardIdeal.main_arg3) = m ((c.tc : Thread Cert.FoxForwardIdeal.nD Cert.FoxForwardIdeal.τ).loc Cert.FoxForwardIdeal.main_arg3))
      ∧ r.2.sem = fun _ => 0)

def quiescent_FoxForwardIdeal_pre_scores_finite [hFoxForwardIdeal : Cert.FoxForwardIdeal.Facts] [hPre_scores_finite : Cert.Pre_scores_finite.Facts] : Prop :=
  ∀ (m : (ℓ : Loc Cert.FoxForwardIdeal.nD Cert.FoxForwardIdeal.τ Cert.FoxForwardIdeal.sig) → Buf (Elt Ideal) ℓ) (g : Dev Cert.FoxForwardIdeal.nD → PrngReg), Pre_FoxForwardIdeal_scores_finite m →
    θ_run (Cert.FoxForwardIdeal.defs (F := Ideal)) (onTc (τ := Cert.FoxForwardIdeal.τ) (Cert.FoxForwardIdeal.main (F := Ideal))) ⟨m, fun _ => 0, g⟩ (fun r => (∀ c : Dev Cert.FoxForwardIdeal.nD,
      r.2.mem ((c.tc : Thread Cert.FoxForwardIdeal.nD Cert.FoxForwardIdeal.τ).loc Cert.FoxForwardIdeal.main_arg0) = m ((c.tc : Thread Cert.FoxForwardIdeal.nD Cert.FoxForwardIdeal.τ).loc Cert.FoxForwardIdeal.main_arg0)
      ∧ r.2.mem ((c.tc : Thread Cert.FoxForwardIdeal.nD Cert.FoxForwardIdeal.τ).loc Cert.FoxForwardIdeal.main_arg1) = m ((c.tc : Thread Cert.FoxForwardIdeal.nD Cert.FoxForwardIdeal.τ).loc Cert.FoxForwardIdeal.main_arg1)
      ∧ r.2.mem ((c.tc : Thread Cert.FoxForwardIdeal.nD Cert.FoxForwardIdeal.τ).loc Cert.FoxForwardIdeal.main_arg2) = m ((c.tc : Thread Cert.FoxForwardIdeal.nD Cert.FoxForwardIdeal.τ).loc Cert.FoxForwardIdeal.main_arg2)
      ∧ r.2.mem ((c.tc : Thread Cert.FoxForwardIdeal.nD Cert.FoxForwardIdeal.τ).loc Cert.FoxForwardIdeal.main_arg3) = m ((c.tc : Thread Cert.FoxForwardIdeal.nD Cert.FoxForwardIdeal.τ).loc Cert.FoxForwardIdeal.main_arg3))
      ∧ r.2.sem = fun _ => 0)

def quiescent_RefFoxForwardIdeal [hRefFoxForwardIdeal : Cert.RefFoxForwardIdeal.Facts] : Prop :=
  ∀ (m : (ℓ : Loc Cert.RefFoxForwardIdeal.nD Cert.RefFoxForwardIdeal.τ Cert.RefFoxForwardIdeal.sig) → Buf (Elt Ideal) ℓ) (g : Dev Cert.RefFoxForwardIdeal.nD → PrngReg), Pre_RefFoxForwardIdeal m →
    θ_run (Cert.RefFoxForwardIdeal.defs (F := Ideal)) (onTc (τ := Cert.RefFoxForwardIdeal.τ) (Cert.RefFoxForwardIdeal.main (F := Ideal))) ⟨m, fun _ => 0, g⟩ (fun r => (∀ c : Dev Cert.RefFoxForwardIdeal.nD,
      r.2.mem ((c.tc : Thread Cert.RefFoxForwardIdeal.nD Cert.RefFoxForwardIdeal.τ).loc Cert.RefFoxForwardIdeal.main_arg0) = m ((c.tc : Thread Cert.RefFoxForwardIdeal.nD Cert.RefFoxForwardIdeal.τ).loc Cert.RefFoxForwardIdeal.main_arg0)
      ∧ r.2.mem ((c.tc : Thread Cert.RefFoxForwardIdeal.nD Cert.RefFoxForwardIdeal.τ).loc Cert.RefFoxForwardIdeal.main_arg1) = m ((c.tc : Thread Cert.RefFoxForwardIdeal.nD Cert.RefFoxForwardIdeal.τ).loc Cert.RefFoxForwardIdeal.main_arg1)
      ∧ r.2.mem ((c.tc : Thread Cert.RefFoxForwardIdeal.nD Cert.RefFoxForwardIdeal.τ).loc Cert.RefFoxForwardIdeal.main_arg2) = m ((c.tc : Thread Cert.RefFoxForwardIdeal.nD Cert.RefFoxForwardIdeal.τ).loc Cert.RefFoxForwardIdeal.main_arg2)
      ∧ r.2.mem ((c.tc : Thread Cert.RefFoxForwardIdeal.nD Cert.RefFoxForwardIdeal.τ).loc Cert.RefFoxForwardIdeal.main_arg3) = m ((c.tc : Thread Cert.RefFoxForwardIdeal.nD Cert.RefFoxForwardIdeal.τ).loc Cert.RefFoxForwardIdeal.main_arg3))
      ∧ r.2.sem = fun _ => 0)

def quiescent_RefFoxForwardIdeal_pre_scores_finite [hRefFoxForwardIdeal : Cert.RefFoxForwardIdeal.Facts] [hPre_scores_finite : Cert.Pre_scores_finite.Facts] : Prop :=
  ∀ (m : (ℓ : Loc Cert.RefFoxForwardIdeal.nD Cert.RefFoxForwardIdeal.τ Cert.RefFoxForwardIdeal.sig) → Buf (Elt Ideal) ℓ) (g : Dev Cert.RefFoxForwardIdeal.nD → PrngReg), Pre_RefFoxForwardIdeal_scores_finite m →
    θ_run (Cert.RefFoxForwardIdeal.defs (F := Ideal)) (onTc (τ := Cert.RefFoxForwardIdeal.τ) (Cert.RefFoxForwardIdeal.main (F := Ideal))) ⟨m, fun _ => 0, g⟩ (fun r => (∀ c : Dev Cert.RefFoxForwardIdeal.nD,
      r.2.mem ((c.tc : Thread Cert.RefFoxForwardIdeal.nD Cert.RefFoxForwardIdeal.τ).loc Cert.RefFoxForwardIdeal.main_arg0) = m ((c.tc : Thread Cert.RefFoxForwardIdeal.nD Cert.RefFoxForwardIdeal.τ).loc Cert.RefFoxForwardIdeal.main_arg0)
      ∧ r.2.mem ((c.tc : Thread Cert.RefFoxForwardIdeal.nD Cert.RefFoxForwardIdeal.τ).loc Cert.RefFoxForwardIdeal.main_arg1) = m ((c.tc : Thread Cert.RefFoxForwardIdeal.nD Cert.RefFoxForwardIdeal.τ).loc Cert.RefFoxForwardIdeal.main_arg1)
      ∧ r.2.mem ((c.tc : Thread Cert.RefFoxForwardIdeal.nD Cert.RefFoxForwardIdeal.τ).loc Cert.RefFoxForwardIdeal.main_arg2) = m ((c.tc : Thread Cert.RefFoxForwardIdeal.nD Cert.RefFoxForwardIdeal.τ).loc Cert.RefFoxForwardIdeal.main_arg2)
      ∧ r.2.mem ((c.tc : Thread Cert.RefFoxForwardIdeal.nD Cert.RefFoxForwardIdeal.τ).loc Cert.RefFoxForwardIdeal.main_arg3) = m ((c.tc : Thread Cert.RefFoxForwardIdeal.nD Cert.RefFoxForwardIdeal.τ).loc Cert.RefFoxForwardIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v0) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v2) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v3) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v0) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v2) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v3) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v0) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v2) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v3) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_Branch_BranchIdeal : Prop :=
  True

def algebraic_BranchIdeal_RefBranchIdeal [hBranchIdeal : Cert.BranchIdeal.Facts] [hRefBranchIdeal : Cert.RefBranchIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.RefBranchIdeal.nD Cert.RefBranchIdeal.τ Cert.RefBranchIdeal.sig) → Buf (Elt Ideal) ℓ) (g' : Dev Cert.RefBranchIdeal.nD → PrngReg), Pre_BranchIdeal m →
    (∀ c : Dev Cert.BranchIdeal.nD,
      m' ((c.tc : Thread Cert.RefBranchIdeal.nD Cert.RefBranchIdeal.τ).loc Cert.RefBranchIdeal.main_arg0) = m ((c.tc : Thread Cert.BranchIdeal.nD Cert.BranchIdeal.τ).loc Cert.BranchIdeal.main_arg0)
      ∧ m' ((c.tc : Thread Cert.RefBranchIdeal.nD Cert.RefBranchIdeal.τ).loc Cert.RefBranchIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v1)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v1) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.RefBranchIdeal.defs (F := Ideal)) (onTc (τ := Cert.RefBranchIdeal.τ) (Cert.RefBranchIdeal.main (F := Ideal))) ⟨m', fun _ => 0, g'⟩ (fun r => ∀ c : Dev Cert.RefBranchIdeal.nD,
          r.2.mem ((c.tc : Thread Cert.RefBranchIdeal.nD Cert.RefBranchIdeal.τ).loc Cert.RefBranchIdeal.main_v0) = v0 c
          ∧ r.2.mem ((c.tc : Thread Cert.RefBranchIdeal.nD Cert.RefBranchIdeal.τ).loc Cert.RefBranchIdeal.main_arg0) = m' ((c.tc : Thread Cert.RefBranchIdeal.nD Cert.RefBranchIdeal.τ).loc Cert.RefBranchIdeal.main_arg0)
          ∧ r.2.mem ((c.tc : Thread Cert.RefBranchIdeal.nD Cert.RefBranchIdeal.τ).loc Cert.RefBranchIdeal.main_arg1) = m' ((c.tc : Thread Cert.RefBranchIdeal.nD Cert.RefBranchIdeal.τ).loc Cert.RefBranchIdeal.main_arg1))

def preserves_BranchDx_BranchDxIdeal : Prop :=
  True

def algebraic_BranchDxIdeal_RefBranchDxIdeal [hBranchDxIdeal : Cert.BranchDxIdeal.Facts] [hRefBranchDxIdeal : Cert.RefBranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.RefBranchDxIdeal.nD Cert.RefBranchDxIdeal.τ Cert.RefBranchDxIdeal.sig) → Buf (Elt Ideal) ℓ) (g' : Dev Cert.RefBranchDxIdeal.nD → PrngReg), Pre_BranchDxIdeal m →
    (∀ c : Dev Cert.BranchDxIdeal.nD,
      m' ((c.tc : Thread Cert.RefBranchDxIdeal.nD Cert.RefBranchDxIdeal.τ).loc Cert.RefBranchDxIdeal.main_arg0) = m ((c.tc : Thread Cert.BranchDxIdeal.nD Cert.BranchDxIdeal.τ).loc Cert.BranchDxIdeal.main_arg0)
      ∧ m' ((c.tc : Thread Cert.RefBranchDxIdeal.nD Cert.RefBranchDxIdeal.τ).loc Cert.RefBranchDxIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v1)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v1) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.RefBranchDxIdeal.defs (F := Ideal)) (onTc (τ := Cert.RefBranchDxIdeal.τ) (Cert.RefBranchDxIdeal.main (F := Ideal))) ⟨m', fun _ => 0, g'⟩ (fun r => ∀ c : Dev Cert.RefBranchDxIdeal.nD,
          r.2.mem ((c.tc : Thread Cert.RefBranchDxIdeal.nD Cert.RefBranchDxIdeal.τ).loc Cert.RefBranchDxIdeal.main_v2) = v0 c
          ∧ r.2.mem ((c.tc : Thread Cert.RefBranchDxIdeal.nD Cert.RefBranchDxIdeal.τ).loc Cert.RefBranchDxIdeal.main_arg0) = m' ((c.tc : Thread Cert.RefBranchDxIdeal.nD Cert.RefBranchDxIdeal.τ).loc Cert.RefBranchDxIdeal.main_arg0)
          ∧ r.2.mem ((c.tc : Thread Cert.RefBranchDxIdeal.nD Cert.RefBranchDxIdeal.τ).loc Cert.RefBranchDxIdeal.main_arg1) = m' ((c.tc : Thread Cert.RefBranchDxIdeal.nD Cert.RefBranchDxIdeal.τ).loc Cert.RefBranchDxIdeal.main_arg1))

def preserves_BranchDw_BranchDwIdeal : Prop :=
  True

def algebraic_BranchDwIdeal_RefBranchDwIdeal [hBranchDwIdeal : Cert.BranchDwIdeal.Facts] [hRefBranchDwIdeal : Cert.RefBranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.RefBranchDwIdeal.nD Cert.RefBranchDwIdeal.τ Cert.RefBranchDwIdeal.sig) → Buf (Elt Ideal) ℓ) (g' : Dev Cert.RefBranchDwIdeal.nD → PrngReg), Pre_BranchDwIdeal m →
    (∀ c : Dev Cert.BranchDwIdeal.nD,
      m' ((c.tc : Thread Cert.RefBranchDwIdeal.nD Cert.RefBranchDwIdeal.τ).loc Cert.RefBranchDwIdeal.main_arg0) = m ((c.tc : Thread Cert.BranchDwIdeal.nD Cert.BranchDwIdeal.τ).loc Cert.BranchDwIdeal.main_arg0)
      ∧ m' ((c.tc : Thread Cert.RefBranchDwIdeal.nD Cert.RefBranchDwIdeal.τ).loc Cert.RefBranchDwIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.RefBranchDwIdeal.defs (F := Ideal)) (onTc (τ := Cert.RefBranchDwIdeal.τ) (Cert.RefBranchDwIdeal.main (F := Ideal))) ⟨m', fun _ => 0, g'⟩ (fun r => ∀ c : Dev Cert.RefBranchDwIdeal.nD,
          r.2.mem ((c.tc : Thread Cert.RefBranchDwIdeal.nD Cert.RefBranchDwIdeal.τ).loc Cert.RefBranchDwIdeal.main_v3) = v0 c
          ∧ r.2.mem ((c.tc : Thread Cert.RefBranchDwIdeal.nD Cert.RefBranchDwIdeal.τ).loc Cert.RefBranchDwIdeal.main_arg0) = m' ((c.tc : Thread Cert.RefBranchDwIdeal.nD Cert.RefBranchDwIdeal.τ).loc Cert.RefBranchDwIdeal.main_arg0)
          ∧ r.2.mem ((c.tc : Thread Cert.RefBranchDwIdeal.nD Cert.RefBranchDwIdeal.τ).loc Cert.RefBranchDwIdeal.main_arg1) = m' ((c.tc : Thread Cert.RefBranchDwIdeal.nD Cert.RefBranchDwIdeal.τ).loc Cert.RefBranchDwIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v0) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1))

def preserves_MergeDx_MergeDxIdeal : Prop :=
  True

def algebraic_MergeDxIdeal_RefMergeDxIdeal [hMergeDxIdeal : Cert.MergeDxIdeal.Facts] [hRefMergeDxIdeal : Cert.RefMergeDxIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg)
    (m' : (ℓ : Loc Cert.RefMergeDxIdeal.nD Cert.RefMergeDxIdeal.τ Cert.RefMergeDxIdeal.sig) → Buf (Elt Ideal) ℓ) (g' : Dev Cert.RefMergeDxIdeal.nD → PrngReg), Pre_MergeDxIdeal m →
    (∀ c : Dev Cert.MergeDxIdeal.nD,
      m' ((c.tc : Thread Cert.RefMergeDxIdeal.nD Cert.RefMergeDxIdeal.τ).loc Cert.RefMergeDxIdeal.main_arg0) = m ((c.tc : Thread Cert.MergeDxIdeal.nD Cert.MergeDxIdeal.τ).loc Cert.MergeDxIdeal.main_arg0)
      ∧ m' ((c.tc : Thread Cert.RefMergeDxIdeal.nD Cert.RefMergeDxIdeal.τ).loc Cert.RefMergeDxIdeal.main_arg1) = m ((c.tc : Thread Cert.MergeDxIdeal.nD Cert.MergeDxIdeal.τ).loc Cert.MergeDxIdeal.main_arg1)) →
    ∃ (v0 : (c : Dev Cert.MergeDxIdeal.nD) → Buf (Elt Ideal) ((c.tc : Thread Cert.MergeDxIdeal.nD Cert.MergeDxIdeal.τ).loc Cert.MergeDxIdeal.main_v1)),
      θ_run (Cert.MergeDxIdeal.defs (F := Ideal)) (onTc (τ := Cert.MergeDxIdeal.τ) (Cert.MergeDxIdeal.main (F := Ideal))) ⟨m, fun _ => 0, g⟩ (fun r => ∀ c : Dev Cert.MergeDxIdeal.nD,
          r.2.mem ((c.tc : Thread Cert.MergeDxIdeal.nD Cert.MergeDxIdeal.τ).loc Cert.MergeDxIdeal.main_v1) = v0 c
          ∧ r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
          ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1))
      ∧ θ_run (Cert.RefMergeDxIdeal.defs (F := Ideal)) (onTc (τ := Cert.RefMergeDxIdeal.τ) (Cert.RefMergeDxIdeal.main (F := Ideal))) ⟨m', fun _ => 0, g'⟩ (fun r => ∀ c : Dev Cert.RefMergeDxIdeal.nD,
          r.2.mem ((c.tc : Thread Cert.RefMergeDxIdeal.nD Cert.RefMergeDxIdeal.τ).loc Cert.RefMergeDxIdeal.main_v2) = v0 c
          ∧ r.2.mem ((c.tc : Thread Cert.RefMergeDxIdeal.nD Cert.RefMergeDxIdeal.τ).loc Cert.RefMergeDxIdeal.main_arg0) = m' ((c.tc : Thread Cert.RefMergeDxIdeal.nD Cert.RefMergeDxIdeal.τ).loc Cert.RefMergeDxIdeal.main_arg0)
          ∧ r.2.mem ((c.tc : Thread Cert.RefMergeDxIdeal.nD Cert.RefMergeDxIdeal.τ).loc Cert.RefMergeDxIdeal.main_arg1) = m' ((c.tc : Thread Cert.RefMergeDxIdeal.nD Cert.RefMergeDxIdeal.τ).loc Cert.RefMergeDxIdeal.main_arg1))

def preserves_MergeDw_MergeDwIdeal : Prop :=
  True

def algebraic_MergeDwIdeal_RefMergeDwIdeal [hMergeDwIdeal : Cert.MergeDwIdeal.Facts] [hRefMergeDwIdeal : Cert.RefMergeDwIdeal.Facts] : Prop :=
  ∀ (m : (ℓ : Loc Cert.MergeDwIdeal.nD Cert.MergeDwIdeal.τ Cert.MergeDwIdeal.sig) → Buf (Elt Ideal) ℓ) (g : Dev Cert.MergeDwIdeal.nD → PrngReg)
    (m' : (ℓ : Loc Cert.RefMergeDwIdeal.nD Cert.RefMergeDwIdeal.τ Cert.RefMergeDwIdeal.sig) → Buf (Elt Ideal) ℓ) (g' : Dev Cert.RefMergeDwIdeal.nD → PrngReg), Pre_MergeDwIdeal m →
    (∀ c : Dev Cert.MergeDwIdeal.nD,
      m' ((c.tc : Thread Cert.RefMergeDwIdeal.nD Cert.RefMergeDwIdeal.τ).loc Cert.RefMergeDwIdeal.main_arg0) = m ((c.tc : Thread Cert.MergeDwIdeal.nD Cert.MergeDwIdeal.τ).loc Cert.MergeDwIdeal.main_arg0)
      ∧ m' ((c.tc : Thread Cert.RefMergeDwIdeal.nD Cert.RefMergeDwIdeal.τ).loc Cert.RefMergeDwIdeal.main_arg1) = m ((c.tc : Thread Cert.MergeDwIdeal.nD Cert.MergeDwIdeal.τ).loc Cert.MergeDwIdeal.main_arg1)) →
    ∃ (v0 : (c : Dev Cert.MergeDwIdeal.nD) → Buf (Elt Ideal) ((c.tc : Thread Cert.MergeDwIdeal.nD Cert.MergeDwIdeal.τ).loc Cert.MergeDwIdeal.main_v0)),
      θ_run (Cert.MergeDwIdeal.defs (F := Ideal)) (onTc (τ := Cert.MergeDwIdeal.τ) (Cert.MergeDwIdeal.main (F := Ideal))) ⟨m, fun _ => 0, g⟩ (fun r => ∀ c : Dev Cert.MergeDwIdeal.nD,
          r.2.mem ((c.tc : Thread Cert.MergeDwIdeal.nD Cert.MergeDwIdeal.τ).loc Cert.MergeDwIdeal.main_v0) = v0 c
          ∧ r.2.mem ((c.tc : Thread Cert.MergeDwIdeal.nD Cert.MergeDwIdeal.τ).loc Cert.MergeDwIdeal.main_arg0) = m ((c.tc : Thread Cert.MergeDwIdeal.nD Cert.MergeDwIdeal.τ).loc Cert.MergeDwIdeal.main_arg0)
          ∧ r.2.mem ((c.tc : Thread Cert.MergeDwIdeal.nD Cert.MergeDwIdeal.τ).loc Cert.MergeDwIdeal.main_arg1) = m ((c.tc : Thread Cert.MergeDwIdeal.nD Cert.MergeDwIdeal.τ).loc Cert.MergeDwIdeal.main_arg1))
      ∧ θ_run (Cert.RefMergeDwIdeal.defs (F := Ideal)) (onTc (τ := Cert.RefMergeDwIdeal.τ) (Cert.RefMergeDwIdeal.main (F := Ideal))) ⟨m', fun _ => 0, g'⟩ (fun r => ∀ c : Dev Cert.RefMergeDwIdeal.nD,
          r.2.mem ((c.tc : Thread Cert.RefMergeDwIdeal.nD Cert.RefMergeDwIdeal.τ).loc Cert.RefMergeDwIdeal.main_v3) = v0 c
          ∧ r.2.mem ((c.tc : Thread Cert.RefMergeDwIdeal.nD Cert.RefMergeDwIdeal.τ).loc Cert.RefMergeDwIdeal.main_arg0) = m' ((c.tc : Thread Cert.RefMergeDwIdeal.nD Cert.RefMergeDwIdeal.τ).loc Cert.RefMergeDwIdeal.main_arg0)
          ∧ r.2.mem ((c.tc : Thread Cert.RefMergeDwIdeal.nD Cert.RefMergeDwIdeal.τ).loc Cert.RefMergeDwIdeal.main_arg1) = m' ((c.tc : Thread Cert.RefMergeDwIdeal.nD Cert.RefMergeDwIdeal.τ).loc Cert.RefMergeDwIdeal.main_arg1))

def preserves_Query_QueryIdeal : Prop :=
  True

def algebraic_QueryIdeal_RefQueryIdeal [hQueryIdeal : Cert.QueryIdeal.Facts] [hRefQueryIdeal : Cert.RefQueryIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.RefQueryIdeal.nD Cert.RefQueryIdeal.τ Cert.RefQueryIdeal.sig) → Buf (Elt Ideal) ℓ) (g' : Dev Cert.RefQueryIdeal.nD → PrngReg), Pre_QueryIdeal m →
    (∀ c : Dev Cert.QueryIdeal.nD,
      m' ((c.tc : Thread Cert.RefQueryIdeal.nD Cert.RefQueryIdeal.τ).loc Cert.RefQueryIdeal.main_arg0) = m ((c.tc : Thread Cert.QueryIdeal.nD Cert.QueryIdeal.τ).loc Cert.QueryIdeal.main_arg0)
      ∧ m' ((c.tc : Thread Cert.RefQueryIdeal.nD Cert.RefQueryIdeal.τ).loc Cert.RefQueryIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.RefQueryIdeal.defs (F := Ideal)) (onTc (τ := Cert.RefQueryIdeal.τ) (Cert.RefQueryIdeal.main (F := Ideal))) ⟨m', fun _ => 0, g'⟩ (fun r => ∀ c : Dev Cert.RefQueryIdeal.nD,
          r.2.mem ((c.tc : Thread Cert.RefQueryIdeal.nD Cert.RefQueryIdeal.τ).loc Cert.RefQueryIdeal.main_v0) = v0 c
          ∧ r.2.mem ((c.tc : Thread Cert.RefQueryIdeal.nD Cert.RefQueryIdeal.τ).loc Cert.RefQueryIdeal.main_arg0) = m' ((c.tc : Thread Cert.RefQueryIdeal.nD Cert.RefQueryIdeal.τ).loc Cert.RefQueryIdeal.main_arg0)
          ∧ r.2.mem ((c.tc : Thread Cert.RefQueryIdeal.nD Cert.RefQueryIdeal.τ).loc Cert.RefQueryIdeal.main_arg1) = m' ((c.tc : Thread Cert.RefQueryIdeal.nD Cert.RefQueryIdeal.τ).loc Cert.RefQueryIdeal.main_arg1))

def preserves_QueryDx_QueryDxIdeal : Prop :=
  True

def algebraic_QueryDxIdeal_RefQueryDxIdeal [hQueryDxIdeal : Cert.QueryDxIdeal.Facts] [hRefQueryDxIdeal : Cert.RefQueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.RefQueryDxIdeal.nD Cert.RefQueryDxIdeal.τ Cert.RefQueryDxIdeal.sig) → Buf (Elt Ideal) ℓ) (g' : Dev Cert.RefQueryDxIdeal.nD → PrngReg), Pre_QueryDxIdeal m →
    (∀ c : Dev Cert.QueryDxIdeal.nD,
      m' ((c.tc : Thread Cert.RefQueryDxIdeal.nD Cert.RefQueryDxIdeal.τ).loc Cert.RefQueryDxIdeal.main_arg0) = m ((c.tc : Thread Cert.QueryDxIdeal.nD Cert.QueryDxIdeal.τ).loc Cert.QueryDxIdeal.main_arg0)
      ∧ m' ((c.tc : Thread Cert.RefQueryDxIdeal.nD Cert.RefQueryDxIdeal.τ).loc Cert.RefQueryDxIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v1)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v1) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.RefQueryDxIdeal.defs (F := Ideal)) (onTc (τ := Cert.RefQueryDxIdeal.τ) (Cert.RefQueryDxIdeal.main (F := Ideal))) ⟨m', fun _ => 0, g'⟩ (fun r => ∀ c : Dev Cert.RefQueryDxIdeal.nD,
          r.2.mem ((c.tc : Thread Cert.RefQueryDxIdeal.nD Cert.RefQueryDxIdeal.τ).loc Cert.RefQueryDxIdeal.main_v2) = v0 c
          ∧ r.2.mem ((c.tc : Thread Cert.RefQueryDxIdeal.nD Cert.RefQueryDxIdeal.τ).loc Cert.RefQueryDxIdeal.main_arg0) = m' ((c.tc : Thread Cert.RefQueryDxIdeal.nD Cert.RefQueryDxIdeal.τ).loc Cert.RefQueryDxIdeal.main_arg0)
          ∧ r.2.mem ((c.tc : Thread Cert.RefQueryDxIdeal.nD Cert.RefQueryDxIdeal.τ).loc Cert.RefQueryDxIdeal.main_arg1) = m' ((c.tc : Thread Cert.RefQueryDxIdeal.nD Cert.RefQueryDxIdeal.τ).loc Cert.RefQueryDxIdeal.main_arg1))

def preserves_QueryDw_QueryDwIdeal : Prop :=
  True

def algebraic_QueryDwIdeal_RefQueryDwIdeal [hQueryDwIdeal : Cert.QueryDwIdeal.Facts] [hRefQueryDwIdeal : Cert.RefQueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.RefQueryDwIdeal.nD Cert.RefQueryDwIdeal.τ Cert.RefQueryDwIdeal.sig) → Buf (Elt Ideal) ℓ) (g' : Dev Cert.RefQueryDwIdeal.nD → PrngReg), Pre_QueryDwIdeal m →
    (∀ c : Dev Cert.QueryDwIdeal.nD,
      m' ((c.tc : Thread Cert.RefQueryDwIdeal.nD Cert.RefQueryDwIdeal.τ).loc Cert.RefQueryDwIdeal.main_arg0) = m ((c.tc : Thread Cert.QueryDwIdeal.nD Cert.QueryDwIdeal.τ).loc Cert.QueryDwIdeal.main_arg0)
      ∧ m' ((c.tc : Thread Cert.RefQueryDwIdeal.nD Cert.RefQueryDwIdeal.τ).loc Cert.RefQueryDwIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.RefQueryDwIdeal.defs (F := Ideal)) (onTc (τ := Cert.RefQueryDwIdeal.τ) (Cert.RefQueryDwIdeal.main (F := Ideal))) ⟨m', fun _ => 0, g'⟩ (fun r => ∀ c : Dev Cert.RefQueryDwIdeal.nD,
          r.2.mem ((c.tc : Thread Cert.RefQueryDwIdeal.nD Cert.RefQueryDwIdeal.τ).loc Cert.RefQueryDwIdeal.main_v3) = v0 c
          ∧ r.2.mem ((c.tc : Thread Cert.RefQueryDwIdeal.nD Cert.RefQueryDwIdeal.τ).loc Cert.RefQueryDwIdeal.main_arg0) = m' ((c.tc : Thread Cert.RefQueryDwIdeal.nD Cert.RefQueryDwIdeal.τ).loc Cert.RefQueryDwIdeal.main_arg0)
          ∧ r.2.mem ((c.tc : Thread Cert.RefQueryDwIdeal.nD Cert.RefQueryDwIdeal.τ).loc Cert.RefQueryDwIdeal.main_arg1) = m' ((c.tc : Thread Cert.RefQueryDwIdeal.nD Cert.RefQueryDwIdeal.τ).loc Cert.RefQueryDwIdeal.main_arg1))

def preserves_Memory_MemoryIdeal : Prop :=
  True

def algebraic_MemoryIdeal_RefMemoryIdeal [hMemoryIdeal : Cert.MemoryIdeal.Facts] [hRefMemoryIdeal : Cert.RefMemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.RefMemoryIdeal.nD Cert.RefMemoryIdeal.τ Cert.RefMemoryIdeal.sig) → Buf (Elt Ideal) ℓ) (g' : Dev Cert.RefMemoryIdeal.nD → PrngReg), Pre_MemoryIdeal m →
    (∀ c : Dev Cert.MemoryIdeal.nD,
      m' ((c.tc : Thread Cert.RefMemoryIdeal.nD Cert.RefMemoryIdeal.τ).loc Cert.RefMemoryIdeal.main_arg0) = m ((c.tc : Thread Cert.MemoryIdeal.nD Cert.MemoryIdeal.τ).loc Cert.MemoryIdeal.main_arg0)
      ∧ m' ((c.tc : Thread Cert.RefMemoryIdeal.nD Cert.RefMemoryIdeal.τ).loc Cert.RefMemoryIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v1) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.RefMemoryIdeal.defs (F := Ideal)) (onTc (τ := Cert.RefMemoryIdeal.τ) (Cert.RefMemoryIdeal.main (F := Ideal))) ⟨m', fun _ => 0, g'⟩ (fun r => ∀ c : Dev Cert.RefMemoryIdeal.nD,
          r.2.mem ((c.tc : Thread Cert.RefMemoryIdeal.nD Cert.RefMemoryIdeal.τ).loc Cert.RefMemoryIdeal.main_v0) = v0 c
          ∧ r.2.mem ((c.tc : Thread Cert.RefMemoryIdeal.nD Cert.RefMemoryIdeal.τ).loc Cert.RefMemoryIdeal.main_arg0) = m' ((c.tc : Thread Cert.RefMemoryIdeal.nD Cert.RefMemoryIdeal.τ).loc Cert.RefMemoryIdeal.main_arg0)
          ∧ r.2.mem ((c.tc : Thread Cert.RefMemoryIdeal.nD Cert.RefMemoryIdeal.τ).loc Cert.RefMemoryIdeal.main_arg1) = m' ((c.tc : Thread Cert.RefMemoryIdeal.nD Cert.RefMemoryIdeal.τ).loc Cert.RefMemoryIdeal.main_arg1))

def preserves_MemoryDx_MemoryDxIdeal : Prop :=
  True

def algebraic_MemoryDxIdeal_RefMemoryDxIdeal [hMemoryDxIdeal : Cert.MemoryDxIdeal.Facts] [hRefMemoryDxIdeal : Cert.RefMemoryDxIdeal.Facts] : Prop :=
  ∀ (m : (ℓ : Loc Cert.MemoryDxIdeal.nD Cert.MemoryDxIdeal.τ Cert.MemoryDxIdeal.sig) → Buf (Elt Ideal) ℓ) (g : Dev Cert.MemoryDxIdeal.nD → PrngReg)
    (m' : (ℓ : Loc Cert.RefMemoryDxIdeal.nD Cert.RefMemoryDxIdeal.τ Cert.RefMemoryDxIdeal.sig) → Buf (Elt Ideal) ℓ) (g' : Dev Cert.RefMemoryDxIdeal.nD → PrngReg), Pre_MemoryDxIdeal m →
    (∀ c : Dev Cert.MemoryDxIdeal.nD,
      m' ((c.tc : Thread Cert.RefMemoryDxIdeal.nD Cert.RefMemoryDxIdeal.τ).loc Cert.RefMemoryDxIdeal.main_arg0) = m ((c.tc : Thread Cert.MemoryDxIdeal.nD Cert.MemoryDxIdeal.τ).loc Cert.MemoryDxIdeal.main_arg0)
      ∧ m' ((c.tc : Thread Cert.RefMemoryDxIdeal.nD Cert.RefMemoryDxIdeal.τ).loc Cert.RefMemoryDxIdeal.main_arg1) = m ((c.tc : Thread Cert.MemoryDxIdeal.nD Cert.MemoryDxIdeal.τ).loc Cert.MemoryDxIdeal.main_arg1)) →
    ∃ (v0 : (c : Dev Cert.MemoryDxIdeal.nD) → Buf (Elt Ideal) ((c.tc : Thread Cert.MemoryDxIdeal.nD Cert.MemoryDxIdeal.τ).loc Cert.MemoryDxIdeal.main_v1)),
      θ_run (Cert.MemoryDxIdeal.defs (F := Ideal)) (onTc (τ := Cert.MemoryDxIdeal.τ) (Cert.MemoryDxIdeal.main (F := Ideal))) ⟨m, fun _ => 0, g⟩ (fun r => ∀ c : Dev Cert.MemoryDxIdeal.nD,
          r.2.mem ((c.tc : Thread Cert.MemoryDxIdeal.nD Cert.MemoryDxIdeal.τ).loc Cert.MemoryDxIdeal.main_v1) = v0 c
          ∧ r.2.mem ((c.tc : Thread Cert.MemoryDxIdeal.nD Cert.MemoryDxIdeal.τ).loc Cert.MemoryDxIdeal.main_arg0) = m ((c.tc : Thread Cert.MemoryDxIdeal.nD Cert.MemoryDxIdeal.τ).loc Cert.MemoryDxIdeal.main_arg0)
          ∧ r.2.mem ((c.tc : Thread Cert.MemoryDxIdeal.nD Cert.MemoryDxIdeal.τ).loc Cert.MemoryDxIdeal.main_arg1) = m ((c.tc : Thread Cert.MemoryDxIdeal.nD Cert.MemoryDxIdeal.τ).loc Cert.MemoryDxIdeal.main_arg1))
      ∧ θ_run (Cert.RefMemoryDxIdeal.defs (F := Ideal)) (onTc (τ := Cert.RefMemoryDxIdeal.τ) (Cert.RefMemoryDxIdeal.main (F := Ideal))) ⟨m', fun _ => 0, g'⟩ (fun r => ∀ c : Dev Cert.RefMemoryDxIdeal.nD,
          r.2.mem ((c.tc : Thread Cert.RefMemoryDxIdeal.nD Cert.RefMemoryDxIdeal.τ).loc Cert.RefMemoryDxIdeal.main_v2) = v0 c
          ∧ r.2.mem ((c.tc : Thread Cert.RefMemoryDxIdeal.nD Cert.RefMemoryDxIdeal.τ).loc Cert.RefMemoryDxIdeal.main_arg0) = m' ((c.tc : Thread Cert.RefMemoryDxIdeal.nD Cert.RefMemoryDxIdeal.τ).loc Cert.RefMemoryDxIdeal.main_arg0)
          ∧ r.2.mem ((c.tc : Thread Cert.RefMemoryDxIdeal.nD Cert.RefMemoryDxIdeal.τ).loc Cert.RefMemoryDxIdeal.main_arg1) = m' ((c.tc : Thread Cert.RefMemoryDxIdeal.nD Cert.RefMemoryDxIdeal.τ).loc Cert.RefMemoryDxIdeal.main_arg1))

def preserves_MemoryDw_MemoryDwIdeal : Prop :=
  True

def algebraic_MemoryDwIdeal_RefMemoryDwIdeal [hMemoryDwIdeal : Cert.MemoryDwIdeal.Facts] [hRefMemoryDwIdeal : Cert.RefMemoryDwIdeal.Facts] : Prop :=
  ∀ (m : (ℓ : Loc Cert.MemoryDwIdeal.nD Cert.MemoryDwIdeal.τ Cert.MemoryDwIdeal.sig) → Buf (Elt Ideal) ℓ) (g : Dev Cert.MemoryDwIdeal.nD → PrngReg)
    (m' : (ℓ : Loc Cert.RefMemoryDwIdeal.nD Cert.RefMemoryDwIdeal.τ Cert.RefMemoryDwIdeal.sig) → Buf (Elt Ideal) ℓ) (g' : Dev Cert.RefMemoryDwIdeal.nD → PrngReg), Pre_MemoryDwIdeal m →
    (∀ c : Dev Cert.MemoryDwIdeal.nD,
      m' ((c.tc : Thread Cert.RefMemoryDwIdeal.nD Cert.RefMemoryDwIdeal.τ).loc Cert.RefMemoryDwIdeal.main_arg0) = m ((c.tc : Thread Cert.MemoryDwIdeal.nD Cert.MemoryDwIdeal.τ).loc Cert.MemoryDwIdeal.main_arg0)
      ∧ m' ((c.tc : Thread Cert.RefMemoryDwIdeal.nD Cert.RefMemoryDwIdeal.τ).loc Cert.RefMemoryDwIdeal.main_arg1) = m ((c.tc : Thread Cert.MemoryDwIdeal.nD Cert.MemoryDwIdeal.τ).loc Cert.MemoryDwIdeal.main_arg1)) →
    ∃ (v0 : (c : Dev Cert.MemoryDwIdeal.nD) → Buf (Elt Ideal) ((c.tc : Thread Cert.MemoryDwIdeal.nD Cert.MemoryDwIdeal.τ).loc Cert.MemoryDwIdeal.main_v0)),
      θ_run (Cert.MemoryDwIdeal.defs (F := Ideal)) (onTc (τ := Cert.MemoryDwIdeal.τ) (Cert.MemoryDwIdeal.main (F := Ideal))) ⟨m, fun _ => 0, g⟩ (fun r => ∀ c : Dev Cert.MemoryDwIdeal.nD,
          r.2.mem ((c.tc : Thread Cert.MemoryDwIdeal.nD Cert.MemoryDwIdeal.τ).loc Cert.MemoryDwIdeal.main_v0) = v0 c
          ∧ r.2.mem ((c.tc : Thread Cert.MemoryDwIdeal.nD Cert.MemoryDwIdeal.τ).loc Cert.MemoryDwIdeal.main_arg0) = m ((c.tc : Thread Cert.MemoryDwIdeal.nD Cert.MemoryDwIdeal.τ).loc Cert.MemoryDwIdeal.main_arg0)
          ∧ r.2.mem ((c.tc : Thread Cert.MemoryDwIdeal.nD Cert.MemoryDwIdeal.τ).loc Cert.MemoryDwIdeal.main_arg1) = m ((c.tc : Thread Cert.MemoryDwIdeal.nD Cert.MemoryDwIdeal.τ).loc Cert.MemoryDwIdeal.main_arg1))
      ∧ θ_run (Cert.RefMemoryDwIdeal.defs (F := Ideal)) (onTc (τ := Cert.RefMemoryDwIdeal.τ) (Cert.RefMemoryDwIdeal.main (F := Ideal))) ⟨m', fun _ => 0, g'⟩ (fun r => ∀ c : Dev Cert.RefMemoryDwIdeal.nD,
          r.2.mem ((c.tc : Thread Cert.RefMemoryDwIdeal.nD Cert.RefMemoryDwIdeal.τ).loc Cert.RefMemoryDwIdeal.main_v3) = v0 c
          ∧ r.2.mem ((c.tc : Thread Cert.RefMemoryDwIdeal.nD Cert.RefMemoryDwIdeal.τ).loc Cert.RefMemoryDwIdeal.main_arg0) = m' ((c.tc : Thread Cert.RefMemoryDwIdeal.nD Cert.RefMemoryDwIdeal.τ).loc Cert.RefMemoryDwIdeal.main_arg0)
          ∧ r.2.mem ((c.tc : Thread Cert.RefMemoryDwIdeal.nD Cert.RefMemoryDwIdeal.τ).loc Cert.RefMemoryDwIdeal.main_arg1) = m' ((c.tc : Thread Cert.RefMemoryDwIdeal.nD Cert.RefMemoryDwIdeal.τ).loc Cert.RefMemoryDwIdeal.main_arg1))

def preserves_Fox_FoxIdeal : Prop :=
  True

def algebraic_FoxIdeal_RefFoxIdeal_pre_all_finite [hFoxIdeal : Cert.FoxIdeal.Facts] [hRefFoxIdeal : Cert.RefFoxIdeal.Facts] [hPre_all_finite : Cert.Pre_all_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.RefFoxIdeal.nD Cert.RefFoxIdeal.τ Cert.RefFoxIdeal.sig) → Buf (Elt Ideal) ℓ) (g' : Dev Cert.RefFoxIdeal.nD → PrngReg), Pre_FoxIdeal_all_finite m →
    (∀ c : Dev Cert.FoxIdeal.nD,
      m' ((c.tc : Thread Cert.RefFoxIdeal.nD Cert.RefFoxIdeal.τ).loc Cert.RefFoxIdeal.main_arg0) = m ((c.tc : Thread Cert.FoxIdeal.nD Cert.FoxIdeal.τ).loc Cert.FoxIdeal.main_arg0)
      ∧ m' ((c.tc : Thread Cert.RefFoxIdeal.nD Cert.RefFoxIdeal.τ).loc Cert.RefFoxIdeal.main_arg1) = m ((c.tc : Thread Cert.FoxIdeal.nD Cert.FoxIdeal.τ).loc Cert.FoxIdeal.main_arg1)
      ∧ m' ((c.tc : Thread Cert.RefFoxIdeal.nD Cert.RefFoxIdeal.τ).loc Cert.RefFoxIdeal.main_arg2) = m ((c.tc : Thread Cert.FoxIdeal.nD Cert.FoxIdeal.τ).loc Cert.FoxIdeal.main_arg2)
      ∧ m' ((c.tc : Thread Cert.RefFoxIdeal.nD Cert.RefFoxIdeal.τ).loc Cert.RefFoxIdeal.main_arg3) = m ((c.tc : Thread Cert.FoxIdeal.nD Cert.FoxIdeal.τ).loc Cert.FoxIdeal.main_arg3)
      ∧ m' ((c.tc : Thread Cert.RefFoxIdeal.nD Cert.RefFoxIdeal.τ).loc Cert.RefFoxIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v37_0)) (v1 : (c : Dev Cert.FoxIdeal.nD) → Buf (Elt Ideal) ((c.tc : Thread Cert.FoxIdeal.nD Cert.FoxIdeal.τ).loc Cert.FoxIdeal.main_v37_1)) (v2 : (c : Dev Cert.FoxIdeal.nD) → Buf (Elt Ideal) ((c.tc : Thread Cert.FoxIdeal.nD Cert.FoxIdeal.τ).loc Cert.FoxIdeal.main_v37_2)) (v3 : (c : Dev Cert.FoxIdeal.nD) → Buf (Elt Ideal) ((c.tc : Thread Cert.FoxIdeal.nD Cert.FoxIdeal.τ).loc Cert.FoxIdeal.main_v37_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v37_0) = v0 c
          ∧ r.2.mem ((c.tc : Thread Cert.FoxIdeal.nD Cert.FoxIdeal.τ).loc Cert.FoxIdeal.main_v37_1) = v1 c
          ∧ r.2.mem ((c.tc : Thread Cert.FoxIdeal.nD Cert.FoxIdeal.τ).loc Cert.FoxIdeal.main_v37_2) = v2 c
          ∧ r.2.mem ((c.tc : Thread Cert.FoxIdeal.nD Cert.FoxIdeal.τ).loc Cert.FoxIdeal.main_v37_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.RefFoxIdeal.defs (F := Ideal)) (onTc (τ := Cert.RefFoxIdeal.τ) (Cert.RefFoxIdeal.main (F := Ideal))) ⟨m', fun _ => 0, g'⟩ (fun r => ∀ c : Dev Cert.RefFoxIdeal.nD,
          r.2.mem ((c.tc : Thread Cert.RefFoxIdeal.nD Cert.RefFoxIdeal.τ).loc Cert.RefFoxIdeal.main_v89) = v0 c
          ∧ r.2.mem ((c.tc : Thread Cert.RefFoxIdeal.nD Cert.RefFoxIdeal.τ).loc Cert.RefFoxIdeal.main_v88) = v1 c
          ∧ r.2.mem ((c.tc : Thread Cert.RefFoxIdeal.nD Cert.RefFoxIdeal.τ).loc Cert.RefFoxIdeal.main_v87) = v2 c
          ∧ r.2.mem ((c.tc : Thread Cert.RefFoxIdeal.nD Cert.RefFoxIdeal.τ).loc Cert.RefFoxIdeal.main_v91) = v3 c
          ∧ r.2.mem ((c.tc : Thread Cert.RefFoxIdeal.nD Cert.RefFoxIdeal.τ).loc Cert.RefFoxIdeal.main_arg0) = m' ((c.tc : Thread Cert.RefFoxIdeal.nD Cert.RefFoxIdeal.τ).loc Cert.RefFoxIdeal.main_arg0)
          ∧ r.2.mem ((c.tc : Thread Cert.RefFoxIdeal.nD Cert.RefFoxIdeal.τ).loc Cert.RefFoxIdeal.main_arg1) = m' ((c.tc : Thread Cert.RefFoxIdeal.nD Cert.RefFoxIdeal.τ).loc Cert.RefFoxIdeal.main_arg1)
          ∧ r.2.mem ((c.tc : Thread Cert.RefFoxIdeal.nD Cert.RefFoxIdeal.τ).loc Cert.RefFoxIdeal.main_arg2) = m' ((c.tc : Thread Cert.RefFoxIdeal.nD Cert.RefFoxIdeal.τ).loc Cert.RefFoxIdeal.main_arg2)
          ∧ r.2.mem ((c.tc : Thread Cert.RefFoxIdeal.nD Cert.RefFoxIdeal.τ).loc Cert.RefFoxIdeal.main_arg3) = m' ((c.tc : Thread Cert.RefFoxIdeal.nD Cert.RefFoxIdeal.τ).loc Cert.RefFoxIdeal.main_arg3)
          ∧ r.2.mem ((c.tc : Thread Cert.RefFoxIdeal.nD Cert.RefFoxIdeal.τ).loc Cert.RefFoxIdeal.main_arg4) = m' ((c.tc : Thread Cert.RefFoxIdeal.nD Cert.RefFoxIdeal.τ).loc Cert.RefFoxIdeal.main_arg4))

def preserves_FoxForward_FoxForwardIdeal : Prop :=
  True

def algebraic_FoxForwardIdeal_RefFoxForwardIdeal_pre_scores_finite [hFoxForwardIdeal : Cert.FoxForwardIdeal.Facts] [hRefFoxForwardIdeal : Cert.RefFoxForwardIdeal.Facts] [hPre_scores_finite : Cert.Pre_scores_finite.Facts] : Prop :=
  ∀ (m : (ℓ : Loc Cert.FoxForwardIdeal.nD Cert.FoxForwardIdeal.τ Cert.FoxForwardIdeal.sig) → Buf (Elt Ideal) ℓ) (g : Dev Cert.FoxForwardIdeal.nD → PrngReg)
    (m' : (ℓ : Loc Cert.RefFoxForwardIdeal.nD Cert.RefFoxForwardIdeal.τ Cert.RefFoxForwardIdeal.sig) → Buf (Elt Ideal) ℓ) (g' : Dev Cert.RefFoxForwardIdeal.nD → PrngReg), Pre_FoxForwardIdeal_scores_finite m →
    (∀ c : Dev Cert.FoxForwardIdeal.nD,
      m' ((c.tc : Thread Cert.RefFoxForwardIdeal.nD Cert.RefFoxForwardIdeal.τ).loc Cert.RefFoxForwardIdeal.main_arg0) = m ((c.tc : Thread Cert.FoxForwardIdeal.nD Cert.FoxForwardIdeal.τ).loc Cert.FoxForwardIdeal.main_arg0)
      ∧ m' ((c.tc : Thread Cert.RefFoxForwardIdeal.nD Cert.RefFoxForwardIdeal.τ).loc Cert.RefFoxForwardIdeal.main_arg1) = m ((c.tc : Thread Cert.FoxForwardIdeal.nD Cert.FoxForwardIdeal.τ).loc Cert.FoxForwardIdeal.main_arg1)
      ∧ m' ((c.tc : Thread Cert.RefFoxForwardIdeal.nD Cert.RefFoxForwardIdeal.τ).loc Cert.RefFoxForwardIdeal.main_arg2) = m ((c.tc : Thread Cert.FoxForwardIdeal.nD Cert.FoxForwardIdeal.τ).loc Cert.FoxForwardIdeal.main_arg2)
      ∧ m' ((c.tc : Thread Cert.RefFoxForwardIdeal.nD Cert.RefFoxForwardIdeal.τ).loc Cert.RefFoxForwardIdeal.main_arg3) = m ((c.tc : Thread Cert.FoxForwardIdeal.nD Cert.FoxForwardIdeal.τ).loc Cert.FoxForwardIdeal.main_arg3)) →
    ∃ (v0 : (c : Dev Cert.FoxForwardIdeal.nD) → Buf (Elt Ideal) ((c.tc : Thread Cert.FoxForwardIdeal.nD Cert.FoxForwardIdeal.τ).loc Cert.FoxForwardIdeal.main_v7_0)) (v1 : (c : Dev Cert.FoxForwardIdeal.nD) → Buf (Elt Ideal) ((c.tc : Thread Cert.FoxForwardIdeal.nD Cert.FoxForwardIdeal.τ).loc Cert.FoxForwardIdeal.main_v7_1)),
      θ_run (Cert.FoxForwardIdeal.defs (F := Ideal)) (onTc (τ := Cert.FoxForwardIdeal.τ) (Cert.FoxForwardIdeal.main (F := Ideal))) ⟨m, fun _ => 0, g⟩ (fun r => ∀ c : Dev Cert.FoxForwardIdeal.nD,
          r.2.mem ((c.tc : Thread Cert.FoxForwardIdeal.nD Cert.FoxForwardIdeal.τ).loc Cert.FoxForwardIdeal.main_v7_0) = v0 c
          ∧ r.2.mem ((c.tc : Thread Cert.FoxForwardIdeal.nD Cert.FoxForwardIdeal.τ).loc Cert.FoxForwardIdeal.main_v7_1) = v1 c
          ∧ r.2.mem ((c.tc : Thread Cert.FoxForwardIdeal.nD Cert.FoxForwardIdeal.τ).loc Cert.FoxForwardIdeal.main_arg0) = m ((c.tc : Thread Cert.FoxForwardIdeal.nD Cert.FoxForwardIdeal.τ).loc Cert.FoxForwardIdeal.main_arg0)
          ∧ r.2.mem ((c.tc : Thread Cert.FoxForwardIdeal.nD Cert.FoxForwardIdeal.τ).loc Cert.FoxForwardIdeal.main_arg1) = m ((c.tc : Thread Cert.FoxForwardIdeal.nD Cert.FoxForwardIdeal.τ).loc Cert.FoxForwardIdeal.main_arg1)
          ∧ r.2.mem ((c.tc : Thread Cert.FoxForwardIdeal.nD Cert.FoxForwardIdeal.τ).loc Cert.FoxForwardIdeal.main_arg2) = m ((c.tc : Thread Cert.FoxForwardIdeal.nD Cert.FoxForwardIdeal.τ).loc Cert.FoxForwardIdeal.main_arg2)
          ∧ r.2.mem ((c.tc : Thread Cert.FoxForwardIdeal.nD Cert.FoxForwardIdeal.τ).loc Cert.FoxForwardIdeal.main_arg3) = m ((c.tc : Thread Cert.FoxForwardIdeal.nD Cert.FoxForwardIdeal.τ).loc Cert.FoxForwardIdeal.main_arg3))
      ∧ θ_run (Cert.RefFoxForwardIdeal.defs (F := Ideal)) (onTc (τ := Cert.RefFoxForwardIdeal.τ) (Cert.RefFoxForwardIdeal.main (F := Ideal))) ⟨m', fun _ => 0, g'⟩ (fun r => ∀ c : Dev Cert.RefFoxForwardIdeal.nD,
          r.2.mem ((c.tc : Thread Cert.RefFoxForwardIdeal.nD Cert.RefFoxForwardIdeal.τ).loc Cert.RefFoxForwardIdeal.main_v44) = v0 c
          ∧ r.2.mem ((c.tc : Thread Cert.RefFoxForwardIdeal.nD Cert.RefFoxForwardIdeal.τ).loc Cert.RefFoxForwardIdeal.main_v41) = v1 c
          ∧ r.2.mem ((c.tc : Thread Cert.RefFoxForwardIdeal.nD Cert.RefFoxForwardIdeal.τ).loc Cert.RefFoxForwardIdeal.main_arg0) = m' ((c.tc : Thread Cert.RefFoxForwardIdeal.nD Cert.RefFoxForwardIdeal.τ).loc Cert.RefFoxForwardIdeal.main_arg0)
          ∧ r.2.mem ((c.tc : Thread Cert.RefFoxForwardIdeal.nD Cert.RefFoxForwardIdeal.τ).loc Cert.RefFoxForwardIdeal.main_arg1) = m' ((c.tc : Thread Cert.RefFoxForwardIdeal.nD Cert.RefFoxForwardIdeal.τ).loc Cert.RefFoxForwardIdeal.main_arg1)
          ∧ r.2.mem ((c.tc : Thread Cert.RefFoxForwardIdeal.nD Cert.RefFoxForwardIdeal.τ).loc Cert.RefFoxForwardIdeal.main_arg2) = m' ((c.tc : Thread Cert.RefFoxForwardIdeal.nD Cert.RefFoxForwardIdeal.τ).loc Cert.RefFoxForwardIdeal.main_arg2)
          ∧ r.2.mem ((c.tc : Thread Cert.RefFoxForwardIdeal.nD Cert.RefFoxForwardIdeal.τ).loc Cert.RefFoxForwardIdeal.main_arg3) = m' ((c.tc : Thread Cert.RefFoxForwardIdeal.nD Cert.RefFoxForwardIdeal.τ).loc Cert.RefFoxForwardIdeal.main_arg3))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hRefInIdeal : Cert.RefInIdeal.Facts) (hInDx : Cert.InDx.Facts) (hInDxIdeal : Cert.InDxIdeal.Facts) (hRefInDxIdeal : Cert.RefInDxIdeal.Facts) (hInDw : Cert.InDw.Facts) (hInDwIdeal : Cert.InDwIdeal.Facts) (hRefInDwIdeal : Cert.RefInDwIdeal.Facts) (hUp : Cert.Up.Facts) (hUpIdeal : Cert.UpIdeal.Facts) (hRefUpIdeal : Cert.RefUpIdeal.Facts) (hUpDx : Cert.UpDx.Facts) (hUpDxIdeal : Cert.UpDxIdeal.Facts) (hRefUpDxIdeal : Cert.RefUpDxIdeal.Facts) (hUpDw : Cert.UpDw.Facts) (hUpDwIdeal : Cert.UpDwIdeal.Facts) (hRefUpDwIdeal : Cert.RefUpDwIdeal.Facts) (hDown : Cert.Down.Facts) (hDownIdeal : Cert.DownIdeal.Facts) (hRefDownIdeal : Cert.RefDownIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hBranch : Cert.Branch.Facts) (hBranchIdeal : Cert.BranchIdeal.Facts) (hRefBranchIdeal : Cert.RefBranchIdeal.Facts) (hBranchDx : Cert.BranchDx.Facts) (hBranchDxIdeal : Cert.BranchDxIdeal.Facts) (hRefBranchDxIdeal : Cert.RefBranchDxIdeal.Facts) (hBranchDw : Cert.BranchDw.Facts) (hBranchDwIdeal : Cert.BranchDwIdeal.Facts) (hRefBranchDwIdeal : Cert.RefBranchDwIdeal.Facts) (hMerge : Cert.Merge.Facts) (hMergeIdeal : Cert.MergeIdeal.Facts) (hRefMergeIdeal : Cert.RefMergeIdeal.Facts) (hMergeDx : Cert.MergeDx.Facts) (hMergeDxIdeal : Cert.MergeDxIdeal.Facts) (hRefMergeDxIdeal : Cert.RefMergeDxIdeal.Facts) (hMergeDw : Cert.MergeDw.Facts) (hMergeDwIdeal : Cert.MergeDwIdeal.Facts) (hRefMergeDwIdeal : Cert.RefMergeDwIdeal.Facts) (hQuery : Cert.Query.Facts) (hQueryIdeal : Cert.QueryIdeal.Facts) (hRefQueryIdeal : Cert.RefQueryIdeal.Facts) (hQueryDx : Cert.QueryDx.Facts) (hQueryDxIdeal : Cert.QueryDxIdeal.Facts) (hRefQueryDxIdeal : Cert.RefQueryDxIdeal.Facts) (hQueryDw : Cert.QueryDw.Facts) (hQueryDwIdeal : Cert.QueryDwIdeal.Facts) (hRefQueryDwIdeal : Cert.RefQueryDwIdeal.Facts) (hMemory : Cert.Memory.Facts) (hMemoryIdeal : Cert.MemoryIdeal.Facts) (hRefMemoryIdeal : Cert.RefMemoryIdeal.Facts) (hMemoryDx : Cert.MemoryDx.Facts) (hMemoryDxIdeal : Cert.MemoryDxIdeal.Facts) (hRefMemoryDxIdeal : Cert.RefMemoryDxIdeal.Facts) (hMemoryDw : Cert.MemoryDw.Facts) (hMemoryDwIdeal : Cert.MemoryDwIdeal.Facts) (hRefMemoryDwIdeal : Cert.RefMemoryDwIdeal.Facts) (hFox : Cert.Fox.Facts) (hFoxIdeal : Cert.FoxIdeal.Facts) (hRefFoxIdeal : Cert.RefFoxIdeal.Facts) (hFoxForward : Cert.FoxForward.Facts) (hFoxForwardIdeal : Cert.FoxForwardIdeal.Facts) (hRefFoxForwardIdeal : Cert.RefFoxForwardIdeal.Facts) (hPre_finite : Cert.Pre_finite.Facts) (hPre_all_finite : Cert.Pre_all_finite.Facts) (hPre_scores_finite : Cert.Pre_scores_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_RefInIdeal (hRefInIdeal := hRefInIdeal)
    ∧ quiescent_InDx (hInDx := hInDx)
    ∧ quiescent_InDxIdeal (hInDxIdeal := hInDxIdeal)
    ∧ quiescent_RefInDxIdeal (hRefInDxIdeal := hRefInDxIdeal)
    ∧ quiescent_InDw (hInDw := hInDw)
    ∧ quiescent_InDwIdeal (hInDwIdeal := hInDwIdeal)
    ∧ quiescent_RefInDwIdeal (hRefInDwIdeal := hRefInDwIdeal)
    ∧ quiescent_Up (hUp := hUp)
    ∧ quiescent_UpIdeal (hUpIdeal := hUpIdeal)
    ∧ quiescent_RefUpIdeal (hRefUpIdeal := hRefUpIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_Down (hDown := hDown)
    ∧ quiescent_DownIdeal (hDownIdeal := hDownIdeal)
    ∧ quiescent_RefDownIdeal (hRefDownIdeal := hRefDownIdeal)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_Branch (hBranch := hBranch)
    ∧ quiescent_BranchIdeal (hBranchIdeal := hBranchIdeal)
    ∧ quiescent_RefBranchIdeal (hRefBranchIdeal := hRefBranchIdeal)
    ∧ quiescent_BranchDx (hBranchDx := hBranchDx)
    ∧ quiescent_BranchDxIdeal (hBranchDxIdeal := hBranchDxIdeal)
    ∧ quiescent_RefBranchDxIdeal (hRefBranchDxIdeal := hRefBranchDxIdeal)
    ∧ quiescent_BranchDw (hBranchDw := hBranchDw)
    ∧ quiescent_BranchDwIdeal (hBranchDwIdeal := hBranchDwIdeal)
    ∧ quiescent_RefBranchDwIdeal (hRefBranchDwIdeal := hRefBranchDwIdeal)
    ∧ quiescent_Merge (hMerge := hMerge)
    ∧ quiescent_MergeIdeal (hMergeIdeal := hMergeIdeal)
    ∧ quiescent_RefMergeIdeal (hRefMergeIdeal := hRefMergeIdeal)
    ∧ quiescent_MergeDx (hMergeDx := hMergeDx)
    ∧ quiescent_MergeDxIdeal (hMergeDxIdeal := hMergeDxIdeal)
    ∧ quiescent_RefMergeDxIdeal (hRefMergeDxIdeal := hRefMergeDxIdeal)
    ∧ quiescent_MergeDw (hMergeDw := hMergeDw)
    ∧ quiescent_MergeDwIdeal (hMergeDwIdeal := hMergeDwIdeal)
    ∧ quiescent_RefMergeDwIdeal (hRefMergeDwIdeal := hRefMergeDwIdeal)
    ∧ quiescent_Query (hQuery := hQuery)
    ∧ quiescent_QueryIdeal (hQueryIdeal := hQueryIdeal)
    ∧ quiescent_RefQueryIdeal (hRefQueryIdeal := hRefQueryIdeal)
    ∧ quiescent_QueryDx (hQueryDx := hQueryDx)
    ∧ quiescent_QueryDxIdeal (hQueryDxIdeal := hQueryDxIdeal)
    ∧ quiescent_RefQueryDxIdeal (hRefQueryDxIdeal := hRefQueryDxIdeal)
    ∧ quiescent_QueryDw (hQueryDw := hQueryDw)
    ∧ quiescent_QueryDwIdeal (hQueryDwIdeal := hQueryDwIdeal)
    ∧ quiescent_RefQueryDwIdeal (hRefQueryDwIdeal := hRefQueryDwIdeal)
    ∧ quiescent_Memory (hMemory := hMemory)
    ∧ quiescent_MemoryIdeal (hMemoryIdeal := hMemoryIdeal)
    ∧ quiescent_RefMemoryIdeal (hRefMemoryIdeal := hRefMemoryIdeal)
    ∧ quiescent_MemoryDx (hMemoryDx := hMemoryDx)
    ∧ quiescent_MemoryDxIdeal (hMemoryDxIdeal := hMemoryDxIdeal)
    ∧ quiescent_RefMemoryDxIdeal (hRefMemoryDxIdeal := hRefMemoryDxIdeal)
    ∧ quiescent_MemoryDw (hMemoryDw := hMemoryDw)
    ∧ quiescent_MemoryDwIdeal (hMemoryDwIdeal := hMemoryDwIdeal)
    ∧ quiescent_RefMemoryDwIdeal (hRefMemoryDwIdeal := hRefMemoryDwIdeal)
    ∧ quiescent_Fox (hFox := hFox)
    ∧ quiescent_FoxIdeal (hFoxIdeal := hFoxIdeal)
    ∧ quiescent_FoxIdeal_pre_all_finite (hFoxIdeal := hFoxIdeal) (hPre_all_finite := hPre_all_finite)
    ∧ quiescent_RefFoxIdeal (hRefFoxIdeal := hRefFoxIdeal)
    ∧ quiescent_RefFoxIdeal_pre_all_finite (hRefFoxIdeal := hRefFoxIdeal) (hPre_all_finite := hPre_all_finite)
    ∧ quiescent_FoxForward (hFoxForward := hFoxForward)
    ∧ quiescent_FoxForwardIdeal (hFoxForwardIdeal := hFoxForwardIdeal)
    ∧ quiescent_FoxForwardIdeal_pre_scores_finite (hFoxForwardIdeal := hFoxForwardIdeal) (hPre_scores_finite := hPre_scores_finite)
    ∧ quiescent_RefFoxForwardIdeal (hRefFoxForwardIdeal := hRefFoxForwardIdeal)
    ∧ quiescent_RefFoxForwardIdeal_pre_scores_finite (hRefFoxForwardIdeal := hRefFoxForwardIdeal) (hPre_scores_finite := hPre_scores_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_RefInIdeal (hInIdeal := hInIdeal) (hRefInIdeal := hRefInIdeal)
    ∧ preserves_InDx_InDxIdeal
    ∧ algebraic_InDxIdeal_RefInDxIdeal (hInDxIdeal := hInDxIdeal) (hRefInDxIdeal := hRefInDxIdeal)
    ∧ preserves_InDw_InDwIdeal
    ∧ algebraic_InDwIdeal_RefInDwIdeal (hInDwIdeal := hInDwIdeal) (hRefInDwIdeal := hRefInDwIdeal)
    ∧ preserves_Up_UpIdeal
    ∧ algebraic_UpIdeal_RefUpIdeal (hUpIdeal := hUpIdeal) (hRefUpIdeal := hRefUpIdeal)
    ∧ preserves_UpDx_UpDxIdeal
    ∧ algebraic_UpDxIdeal_RefUpDxIdeal (hUpDxIdeal := hUpDxIdeal) (hRefUpDxIdeal := hRefUpDxIdeal)
    ∧ preserves_UpDw_UpDwIdeal
    ∧ algebraic_UpDwIdeal_RefUpDwIdeal (hUpDwIdeal := hUpDwIdeal) (hRefUpDwIdeal := hRefUpDwIdeal)
    ∧ preserves_Down_DownIdeal
    ∧ algebraic_DownIdeal_RefDownIdeal (hDownIdeal := hDownIdeal) (hRefDownIdeal := hRefDownIdeal)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_Branch_BranchIdeal
    ∧ algebraic_BranchIdeal_RefBranchIdeal (hBranchIdeal := hBranchIdeal) (hRefBranchIdeal := hRefBranchIdeal)
    ∧ preserves_BranchDx_BranchDxIdeal
    ∧ algebraic_BranchDxIdeal_RefBranchDxIdeal (hBranchDxIdeal := hBranchDxIdeal) (hRefBranchDxIdeal := hRefBranchDxIdeal)
    ∧ preserves_BranchDw_BranchDwIdeal
    ∧ algebraic_BranchDwIdeal_RefBranchDwIdeal (hBranchDwIdeal := hBranchDwIdeal) (hRefBranchDwIdeal := hRefBranchDwIdeal)
    ∧ preserves_Merge_MergeIdeal
    ∧ algebraic_MergeIdeal_RefMergeIdeal (hMergeIdeal := hMergeIdeal) (hRefMergeIdeal := hRefMergeIdeal)
    ∧ preserves_MergeDx_MergeDxIdeal
    ∧ algebraic_MergeDxIdeal_RefMergeDxIdeal (hMergeDxIdeal := hMergeDxIdeal) (hRefMergeDxIdeal := hRefMergeDxIdeal)
    ∧ preserves_MergeDw_MergeDwIdeal
    ∧ algebraic_MergeDwIdeal_RefMergeDwIdeal (hMergeDwIdeal := hMergeDwIdeal) (hRefMergeDwIdeal := hRefMergeDwIdeal)
    ∧ preserves_Query_QueryIdeal
    ∧ algebraic_QueryIdeal_RefQueryIdeal (hQueryIdeal := hQueryIdeal) (hRefQueryIdeal := hRefQueryIdeal)
    ∧ preserves_QueryDx_QueryDxIdeal
    ∧ algebraic_QueryDxIdeal_RefQueryDxIdeal (hQueryDxIdeal := hQueryDxIdeal) (hRefQueryDxIdeal := hRefQueryDxIdeal)
    ∧ preserves_QueryDw_QueryDwIdeal
    ∧ algebraic_QueryDwIdeal_RefQueryDwIdeal (hQueryDwIdeal := hQueryDwIdeal) (hRefQueryDwIdeal := hRefQueryDwIdeal)
    ∧ preserves_Memory_MemoryIdeal
    ∧ algebraic_MemoryIdeal_RefMemoryIdeal (hMemoryIdeal := hMemoryIdeal) (hRefMemoryIdeal := hRefMemoryIdeal)
    ∧ preserves_MemoryDx_MemoryDxIdeal
    ∧ algebraic_MemoryDxIdeal_RefMemoryDxIdeal (hMemoryDxIdeal := hMemoryDxIdeal) (hRefMemoryDxIdeal := hRefMemoryDxIdeal)
    ∧ preserves_MemoryDw_MemoryDwIdeal
    ∧ algebraic_MemoryDwIdeal_RefMemoryDwIdeal (hMemoryDwIdeal := hMemoryDwIdeal) (hRefMemoryDwIdeal := hRefMemoryDwIdeal)
    ∧ preserves_Fox_FoxIdeal
    ∧ algebraic_FoxIdeal_RefFoxIdeal_pre_all_finite (hFoxIdeal := hFoxIdeal) (hRefFoxIdeal := hRefFoxIdeal) (hPre_all_finite := hPre_all_finite)
    ∧ preserves_FoxForward_FoxForwardIdeal
    ∧ algebraic_FoxForwardIdeal_RefFoxForwardIdeal_pre_scores_finite (hFoxForwardIdeal := hFoxForwardIdeal) (hRefFoxForwardIdeal := hRefFoxForwardIdeal) (hPre_scores_finite := hPre_scores_finite)
-- ==== Pre_all_finite.lean ====
abbrev S8192x512 : Shape := ⟨2, ![8192, 512]⟩
abbrev S8192x4 : Shape := ⟨2, ![8192, 4]⟩
abbrev S_ : Shape := ⟨0, ![]⟩

class Facts : Prop where
  bcast_S_S8192x512 : S_.BroadcastsInDim S8192x512 (![] : Fin 0 → Fin S8192x512.rank)
  bcast_S_S8192x4 : S_.BroadcastsInDim S8192x4 (![] : Fin 0 → Fin S8192x4.rank)

variable [Facts]

def fn {F : FTy → Type} [FloatOps F] (main_arg0 : FVec F S8192x512 .f32) (main_arg1 : FVec F S8192x512 .f32) (main_arg2 : FVec F S8192x512 .f32) (main_arg3 : FVec F S8192x4 .f32) (main_arg4 : FVec F S8192x512 .f32) : IVec S8192x512 1 × IVec S8192x512 1 × IVec S8192x512 1 × IVec S8192x4 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x4 .f32 := Host.absf main_arg3
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite.lean ====
abbrev S8192x512 : Shape := ⟨2, ![8192, 512]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  bcast_S_S256x512 : S_.BroadcastsInDim S256x512 (![] : Fin 0 → Fin S256x512.rank)

variable [Facts]

def fn {F : FTy → Type} [FloatOps F] (main_arg0 : FVec F S8192x512 .f32) (main_arg1 : FVec F S256x512 .f32) (main_arg2 : FVec F S256x512 .f32) (main_arg3 : FVec F S8192x512 .f32) : IVec S8192x512 1 × IVec S256x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  (main_v2, main_v5)
-- ==== Pre_scores_finite.lean ====
abbrev S8192x512 : Shape := ⟨2, ![8192, 512]⟩
abbrev S8192x4 : Shape := ⟨2, ![8192, 4]⟩
abbrev S_ : Shape := ⟨0, ![]⟩

class Facts : Prop where
  bcast_S_S8192x512 : S_.BroadcastsInDim S8192x512 (![] : Fin 0 → Fin S8192x512.rank)
  bcast_S_S8192x4 : S_.BroadcastsInDim S8192x4 (![] : Fin 0 → Fin S8192x4.rank)

variable [Facts]

def fn {F : FTy → Type} [FloatOps F] (main_arg0 : FVec F S8192x512 .f32) (main_arg1 : FVec F S8192x512 .f32) (main_arg2 : FVec F S8192x512 .f32) (main_arg3 : FVec F S8192x4 .f32) : IVec S8192x512 1 × IVec S8192x512 1 × IVec S8192x4 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x4 .f32 := Host.absf main_arg3
  let main_cst_1 : FVec F S_ .f32 := constant S_ .f32 0x7F800000#32
  let main_v7 : FVec F S8192x4 .f32 := broadcastInDim S8192x4 ![] bcast_S_S8192x4 main_cst_1
  let main_v8 : IVec S8192x4 1 := cmpf .olt main_v6 main_v7
  (main_v2, main_v5, main_v8)
-- ==== Kernel.lean ====
abbrev S8192x512 : Shape := ⟨2, ![8192, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S8192x512, .f32⟩
  | .hbm, ⟨4, _⟩ => ⟨S8192x512, .bf16⟩
  | .hbm, ⟨5, _⟩ => ⟨S256x512, .bf16⟩
  | .hbm, ⟨6, _⟩ => ⟨S256x512, .bf16⟩
  | .hbm, ⟨7, _⟩ => ⟨S8192x512, .f32⟩
  | .hbm, ⟨8, _⟩ => ⟨S256x512, .f32⟩
  | .hbm, ⟨9, _⟩ => ⟨S256x512, .f32⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S8192x512, .f32⟩
  | .hbm, ⟨4, _⟩ => ⟨S8192x4x128, .f32⟩
  | .hbm, ⟨5, _⟩ => ⟨S256x4x128, .f32⟩
  | .hbm, ⟨6, _⟩ => ⟨S256x4x128, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x256, .f32⟩
  | .hbm, ⟨15, _⟩ => ⟨S4x8192x256, .i1⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x128x8192, .f32⟩
  | .hbm, ⟨50, _⟩ => ⟨S8192x4x128, .f32⟩
  | .hbm, ⟨51, _⟩ => ⟨S8192x512, .f32⟩
  | .hbm, ⟨52, _⟩ => ⟨S8192x4x128, .f32⟩
  | .hbm, ⟨53, _⟩ => ⟨S4x128x8192, .f32⟩
  | .hbm, ⟨54, _⟩ => ⟨S4x8192x256, .f32⟩
  | .hbm, ⟨55, _⟩ => ⟨S4x128x256, .f32⟩
  | .hbm, ⟨56, _⟩ => ⟨S256x4x128, .f32⟩
  | .hbm, ⟨57, _⟩ => ⟨S4x8192x256, .f32⟩
  | .hbm, ⟨58, _⟩ => ⟨S4x8192x256, .f32⟩
  | .hbm, ⟨59, _⟩ => ⟨S4x8192x256, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S4x8192x1, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x256, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192x256, .f32⟩
  | .hbm, ⟨73, _⟩ => ⟨S4x8192x256, .f32⟩
  | .hbm, ⟨74, _⟩ => ⟨S4x256x128, .f32⟩
  | .hbm, ⟨75, _⟩ => ⟨S256x4x128, .f32⟩
  | .hbm, ⟨76, _⟩ => ⟨S4x8192x128, .f32⟩
  | .hbm, ⟨77, _⟩ => ⟨S8192x4x128, .f32⟩
  | .hbm, ⟨78, _⟩ => ⟨S256x512, .f32⟩
  | .hbm, ⟨79, _⟩ => ⟨S256x512, .f32⟩
  | .hbm, ⟨80, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== In.lean ====
abbrev S8192x1024 : Shape := ⟨2, ![8192, 1024]⟩
abbrev S1024x8320 : Shape := ⟨2, ![1024, 8320]⟩
abbrev S8192x8320 : Shape := ⟨2, ![8192, 8320]⟩
abbrev S1024x1024 : Shape := ⟨2, ![1024, 1024]⟩
abbrev S1024x1664 : Shape := ⟨2, ![1024, 1664]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S1024x8320, .bf16⟩
  | .hbm, ⟨3, _⟩ => ⟨S8192x8320, .f32⟩
  | .local _ .vmem, ⟨0, _⟩ => ⟨S1024x1024, .f32⟩
  | .local _ .vmem, ⟨1, _⟩ => ⟨S1024x1024, .f32⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x1024 : Shape := ⟨2, ![8192, 1024]⟩
abbrev S1024x8320 : Shape := ⟨2, ![1024, 8320]⟩
abbrev S8192x8320 : Shape := ⟨2, ![8192, 8320]⟩
abbrev S1024x1024 : Shape := ⟨2, ![1024, 1024]⟩
abbrev S1024x1664 : Shape := ⟨2, ![1024, 1664]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S1024x8320, .bf16⟩
  | .hbm, ⟨3, _⟩ => ⟨S8192x8320, .f32⟩
  | .local _ .vmem, ⟨0, _⟩ => ⟨S1024x1024, .f32⟩
  | .local _ .vmem, ⟨1, _⟩ => ⟨S1024x1024, .f32⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInIdeal.lean ====
abbrev S8192x1024 : Shape := ⟨2, ![8192, 1024]⟩
abbrev S1024x8320 : Shape := ⟨2, ![1024, 8320]⟩
abbrev S8192x8320 : Shape := ⟨2, ![8192, 8320]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S8192x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S8192x8320 : Shape := ⟨2, ![8192, 8320]⟩
abbrev S1024x8320 : Shape := ⟨2, ![1024, 8320]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S1024x8320, .bf16⟩
  | .hbm, ⟨3, _⟩ => ⟨S8192x1024, .f32⟩
  | .local _ .vmem, ⟨0, _⟩ => ⟨S1024x640, .f32⟩
  | .local _ .vmem, ⟨1, _⟩ => ⟨S1024x640, .f32⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | _, _ => ⟨S8192x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S8192x8320 : Shape := ⟨2, ![8192, 8320]⟩
abbrev S1024x8320 : Shape := ⟨2, ![1024, 8320]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S1024x8320, .bf16⟩
  | .hbm, ⟨3, _⟩ => ⟨S8192x1024, .f32⟩
  | .local _ .vmem, ⟨0, _⟩ => ⟨S1024x640, .f32⟩
  | .local _ .vmem, ⟨1, _⟩ => ⟨S1024x640, .f32⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | _, _ => ⟨S8192x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDxIdeal.lean ====
abbrev S8192x8320 : Shape := ⟨2, ![8192, 8320]⟩
abbrev S1024x8320 : Shape := ⟨2, ![1024, 8320]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S_, .f32⟩
  | .hbm, ⟨3, _⟩ => ⟨S8192x1024, .f32⟩
  | .hbm, ⟨4, _⟩ => ⟨S8192x8320, .f32⟩
  | .hbm, ⟨5, _⟩ => ⟨S8192x1024, .f32⟩
  | _, _ => ⟨S8192x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S8192x1024 : Shape := ⟨2, ![8192, 1024]⟩
abbrev S8192x8320 : Shape := ⟨2, ![8192, 8320]⟩
abbrev S1024x8320 : Shape := ⟨2, ![1024, 8320]⟩
abbrev S512x1024 : Shape := ⟨2, ![512, 1024]⟩
abbrev S512x1664 : Shape := ⟨2, ![512, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8320, .f32⟩
  | .local _ .vmem, ⟨0, _⟩ => ⟨S512x1024, .f32⟩
  | .local _ .vmem, ⟨1, _⟩ => ⟨S512x1024, .f32⟩
  | .local _ .vmem, ⟨2, _⟩ => ⟨S512x1664, .f32⟩
  | .local _ .vmem, ⟨3, _⟩ => ⟨S512x1664, .f32⟩
  | .local _ .vmem, ⟨4, _⟩ => ⟨S1024x1664, .f32⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x1024 : Shape := ⟨2, ![8192, 1024]⟩
abbrev S8192x8320 : Shape := ⟨2, ![8192, 8320]⟩
abbrev S1024x8320 : Shape := ⟨2, ![1024, 8320]⟩
abbrev S512x1024 : Shape := ⟨2, ![512, 1024]⟩
abbrev S512x1664 : Shape := ⟨2, ![512, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8320, .f32⟩
  | .local _ .vmem, ⟨0, _⟩ => ⟨S512x1024, .f32⟩
  | .local _ .vmem, ⟨1, _⟩ => ⟨S512x1024, .f32⟩
  | .local _ .vmem, ⟨2, _⟩ => ⟨S512x1664, .f32⟩
  | .local _ .vmem, ⟨3, _⟩ => ⟨S512x1664, .f32⟩
  | .local _ .vmem, ⟨4, _⟩ => ⟨S1024x1664, .f32⟩
  | .local _ .vmem, ⟨5, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S8192x1024 : Shape := ⟨2, ![8192, 1024]⟩
abbrev S8192x8320 : Shape := ⟨2, ![8192, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S_, .f32⟩
  | .hbm, ⟨3, _⟩ => ⟨S1024x8320, .f32⟩
  | .hbm, ⟨4, _⟩ => ⟨S8192x8320, .f32⟩
  | .hbm, ⟨5, _⟩ => ⟨S8320x1024, .f32⟩
  | .hbm, ⟨6, _⟩ => ⟨S1024x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S1024x5632, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S1024x5632, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDxIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S512x1408, .f32⟩
  | .local _ .vmem, ⟨3, _⟩ => ⟨S512x1408, .f32⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S512x1408, .f32⟩
  | .local _ .vmem, ⟨3, _⟩ => ⟨S512x1408, .f32⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDwIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S2816x1024, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S2816x1024, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDxIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Branch.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S512x1024, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S512x1024, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDx.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchDxIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchDw.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwIdeal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefBranchDwIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeIdeal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMergeIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeDx.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeDxIdeal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMergeDxIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MergeDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MergeDwIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMergeDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Query.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryIdeal.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S1024x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQueryIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryDx.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxIdeal.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x512, .bf16⟩
  | .hbm, ⟨3, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefQueryDxIdeal.lean ====
abbrev S8192x512 : Shape := ⟨2, ![8192, 512]⟩
abbrev S1024x512 : Shape := ⟨2, ![1024, 512]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S_, .f32⟩
  | .hbm, ⟨3, _⟩ => ⟨S8192x1024, .f32⟩
  | .hbm, ⟨4, _⟩ => ⟨S8192x512, .f32⟩
  | .hbm, ⟨5, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QueryDw.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwIdeal.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefQueryDwIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Memory.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemoryIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemoryDx.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemoryDxIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemoryDw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMemoryDwIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Fox.lean ====
abbrev S8192x512 : Shape := ⟨2, ![8192, 512]⟩
abbrev S8192x4 : Shape := ⟨2, ![8192, 4]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S512x128 : Shape := ⟨2, ![512, 128]⟩
abbrev S8192x128 : Shape := ⟨2, ![8192, 128]⟩
abbrev S1x512x1 : Shape := ⟨3, ![1, 512, 1]⟩
abbrev S1x1x8192 : Shape := ⟨3, ![1, 1, 8192]⟩
abbrev S512x1 : Shape := ⟨2, ![512, 1]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x512 : Shape := ⟨2, ![512, 512]⟩
abbrev S1x1x512 : Shape := ⟨3, ![1, 1, 512]⟩
abbrev S1x512 : Shape := ⟨2, ![1, 512]⟩
abbrev S1024 : Shape := ⟨1, ![1024]⟩

abbrev nBuf : Space → Nat
  | .hbm => 53
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192x4x128, .f32⟩
  | .hbm, ⟨6, _⟩ => ⟨S8192x4x128, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S4x8192, .f32⟩
  | .hbm, ⟨12, _⟩ => ⟨S4x8192x1, .f32⟩
  | .hbm, ⟨13, _⟩ => ⟨S4x8192, .f32⟩
  | .hbm, ⟨14, _⟩ => ⟨S4x1x8192, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S4x8192x8192, .i1⟩
  | .hbm, ⟨29, _⟩ => ⟨S4x8192x8192, .f32⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S8192x512, .bf16⟩
  | .hbm, ⟨43, _⟩ => ⟨S8192x512, .bf16⟩
  | .hbm, ⟨44, _⟩ => ⟨S8192x512, .bf16⟩
  | .hbm, ⟨45, _⟩ => ⟨S4x8192, .f32⟩
  | .hbm, ⟨46, _⟩ => ⟨S4x8192x1, .f32⟩
  | .hbm, ⟨47, _⟩ => ⟨S4x8192, .f32⟩
  | .hbm, ⟨48, _⟩ => ⟨S4x1x8192, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S4x1x8192, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x8192, .f32⟩
  | .local _ .vmem, ⟨9, _⟩ => ⟨S1x1x8192, .f32⟩
  | .local _ .vmem, ⟨10, _⟩ => ⟨S1x512x1, .f32⟩
  | .local _ .vmem, ⟨11, _⟩ => ⟨S1x512x1, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S1x1x8192, .f32⟩
  | .local _ .vmem, ⟨21, _⟩ => ⟨S1x1x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_10 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v14 : BitVec 32 := Scalar.subi v1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg13 : BitVec 32 := Scf.iv c0_i32_10 c1_i32_11 k0_t1
  let c1024_i32_64 : BitVec 32 := 1024#32
  let v147 : BitVec 32 := Scalar.muli arg13 c1024_i32_64
  v147
def k0_off1 (i : grid0.Coords) (k0_t1 : Fin (k0_t1_loop i).trips) : Fin 2 → Nat :=
  let c0_i32_10 : BitVec 32 := 0#32
  let c1_i32_11 : BitVec 32 := 1#32
  let arg13 : BitVec 32 := Scf.iv c0_i32_10 c1_i32_11 k0_t1
  let c1024_i32_64 : BitVec 32 := 1024#32
  let v147 : BitVec 32 := Scalar.muli arg13 c1024_i32_64
  let v148 : BitVec 32 := v147
  let v149 : Index := Scalar.indexCast v148
  let c0_65 : Index := 0#32
  ![v149.toNat, 0]
def k0_off2 (i : grid0.Coords) (k0_t1 : Fin (k0_t1_loop i).trips) : Fin 3 → Nat :=
  let c0_68 : Index := 0#32
  let c0_69 : Index := 0#32
  let c0_i32_10 : BitVec 32 := 0#32
  let c1_i32_11 : BitVec 32 := 1#32
  let arg13 : BitVec 32 := Scf.iv c0_i32_10 c1_i32_11 k0_t1
  let c1024_i32_64 : BitVec 32 := 1024#32
  let v147 : BitVec 32 := Scalar.muli arg13 c1024_i32_64
  let v148 : BitVec 32 := v147
  let v155 : Index := Scalar.indexCast v148
  ![0, 0, v155.toNat]
@[reducible] def k0_t2_loop (i : grid0.Coords) : Scf.Loop 32 :=
  let c0_i32_10 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v14 : BitVec 32 := Scalar.subi v1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v14 : BitVec 32 := Scalar.subi v1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg13 : BitVec 32 := Scf.iv v18 c1_i32_12 k0_t2
  let c1024_i32_64 : BitVec 32 := 1024#32
  let v147 : BitVec 32 := Scalar.muli arg13 c1024_i32_64
  v147
def k0_off3 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v14 : BitVec 32 := Scalar.subi v1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg13 : BitVec 32 := Scf.iv v18 c1_i32_12 k0_t2
  let c1024_i32_64 : BitVec 32 := 1024#32
  let v147 : BitVec 32 := Scalar.muli arg13 c1024_i32_64
  let v148 : BitVec 32 := v147
  let v149 : Index := Scalar.indexCast v148
  let c0_65 : Index := 0#32
  ![v149.toNat, 0]
def k0_off4 (i : grid0.Coords) (k0_t2 : Fin (k0_t2_loop i).trips) : Fin 3 → Nat :=
  let c0_68 : Index := 0#32
  let c0_69 : Index := 0#32
  let c0_i32_10 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v14 : BitVec 32 := Scalar.subi v1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg13 : BitVec 32 := Scf.iv v18 c1_i32_12 k0_t2
  let c1024_i32_64 : BitVec 32 := 1024#32
  let v147 : BitVec 32 := Scalar.muli arg13 c1024_i32_64
  let v148 : BitVec 32 := v147
  let v155 : Index := Scalar.indexCast v148
  ![0, 0, v155.toNat]
def k0_cond2 (i : grid0.Coords) : BitVec 1 :=
  let arg1 : BitVec 32 := BitVec.ofNat 32 (i 1).val
  let c512_i32_13 : BitVec 32 := 512#32
  let v21 : BitVec 32 := Scalar.muli arg1 c512_i32_13
  let c1024_i32_14 : BitVec 32 := 1024#32
  let v22 : BitVec 32 := Scalar.remsi v21 c1024_i32_14
  let c0_i32_15 : BitVec 32 := 0#32
  let v23 : BitVec 1 := Scalar.cmpi .ne v22 c0_i32_15
  let v24 : BitVec 32 := Scalar.extui v23
  let c0_i32_16 : BitVec 32 := 0#32
  let v25 : BitVec 1 := Scalar.cmpi .ne v24 c0_i32_16
  v25

def k0_mult3 (i : grid0.Coords) : BitVec 32 :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  v147
def k0_off5 (i : grid0.Coords) : Fin 2 → Nat :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  let v148 : BitVec 32 := v147
  let v149 : Index := Scalar.indexCast v148
  let c0_65 : Index := 0#32
  ![v149.toNat, 0]
def k0_off6 (i : grid0.Coords) : Fin 3 → Nat :=
  let c0_68 : Index := 0#32
  let c0_69 : Index := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  let v148 : BitVec 32 := v147
  let v155 : Index := Scalar.indexCast v148
  ![0, 0, v155.toNat]
def k0_mult4 (i : grid0.Coords) : BitVec 32 :=
  let arg1 : BitVec 32 := BitVec.ofNat 32 (i 1).val
  let c512_i32_17 : BitVec 32 := 512#32
  let v27 : BitVec 32 := Scalar.muli arg1 c512_i32_17
  v27
def k0_off7 (i : grid0.Coords) : Fin 2 → Nat :=
  let arg1 : BitVec 32 := BitVec.ofNat 32 (i 1).val
  let c512_i32_17 : BitVec 32 := 512#32
  let v27 : BitVec 32 := Scalar.muli arg1 c512_i32_17
  let v28 : BitVec 32 := v27
  let v29 : Index := Scalar.indexCast v28
  let c0_18 : Index := 0#32
  ![v29.toNat, 0]
def k0_off8 (i : grid0.Coords) : Fin 3 → Nat :=
  let c0_21 : Index := 0#32
  let c0_22 : Index := 0#32
  let arg1 : BitVec 32 := BitVec.ofNat 32 (i 1).val
  let c512_i32_17 : BitVec 32 := 512#32
  let v27 : BitVec 32 := Scalar.muli arg1 c512_i32_17
  let v28 : BitVec 32 := v27
  let v35 : Index := Scalar.indexCast v28
  ![0, 0, v35.toNat]
@[reducible] def k0_t3_loop (i : grid0.Coords) : Scf.Loop 32 :=
  let c0_i32_29 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v64 : BitVec 32 := Scalar.subi v1 c0_i32_29
  let c1_i32_30 : BitVec 32 := 1#32
  let v66 : BitVec 32 := Scalar.divsi v64 c1_i32_30
  let v67 : BitVec 32 := Scalar.muli v66 c1_i32_30
  let v68 : BitVec 32 := Scalar.addi c0_i32_29 v67
  let c1_i32_31 : BitVec 32 := 1#32
  ⟨c0_i32_29, v68, c1_i32_31⟩
def k0_mult5 (i : grid0.Coords) (k0_t3 : Fin (k0_t3_loop i).trips) : BitVec 32 :=
  let c0_i32_29 : BitVec 32 := 0#32
  let c1_i32_31 : BitVec 32 := 1#32
  let arg13 : BitVec 32 := Scf.iv c0_i32_29 c1_i32_31 k0_t3
  let c1024_i32_64 : BitVec 32 := 1024#32
  let v147 : BitVec 32 := Scalar.muli arg13 c1024_i32_64
  v147
def k0_off9 (i : grid0.Coords) (k0_t3 : Fin (k0_t3_loop i).trips) : Fin 2 → Nat :=
  let c0_i32_29 : BitVec 32 := 0#32
  let c1_i32_31 : BitVec 32 := 1#32
  let arg13 : BitVec 32 := Scf.iv c0_i32_29 c1_i32_31 k0_t3
  let c1024_i32_64 : BitVec 32 := 1024#32
  let v147 : BitVec 32 := Scalar.muli arg13 c1024_i32_64
  let v148 : BitVec 32 := v147
  let v149 : Index := Scalar.indexCast v148
  let c0_65 : Index := 0#32
  ![v149.toNat, 0]
def k0_off10 (i : grid0.Coords) (k0_t3 : Fin (k0_t3_loop i).trips) : Fin 3 → Nat :=
  let c0_68 : Index := 0#32
  let c0_69 : Index := 0#32
  let c0_i32_29 : BitVec 32 := 0#32
  let c1_i32_31 : BitVec 32 := 1#32
  let arg13 : BitVec 32 := Scf.iv c0_i32_29 c1_i32_31 k0_t3
  let c1024_i32_64 : BitVec 32 := 1024#32
  let v147 : BitVec 32 := Scalar.muli arg13 c1024_i32_64
  let v148 : BitVec 32 := v147
  let v155 : Index := Scalar.indexCast v148
  ![0, 0, v155.toNat]
@[reducible] def k0_t4_loop (i : grid0.Coords) : Scf.Loop 32 :=
  let c0_i32_29 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v64 : BitVec 32 := Scalar.subi v1 c0_i32_29
  let c1_i32_30 : BitVec 32 := 1#32
  let v66 : BitVec 32 := Scalar.divsi v64 c1_i32_30
  let v67 : BitVec 32 := Scalar.muli v66 c1_i32_30
  let v68 : BitVec 32 := Scalar.addi c0_i32_29 v67
  let v65 : BitVec 32 := Scalar.addi c0_i32_29 v64
  let c1_i32_32 : BitVec 32 := 1#32
  ⟨v68, v65, c1_i32_32⟩
def k0_mult6 (i : grid0.Coords) (k0_t4 : Fin (k0_t4_loop i).trips) : BitVec 32 :=
  let c0_i32_29 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v64 : BitVec 32 := Scalar.subi v1 c0_i32_29
  let c1_i32_30 : BitVec 32 := 1#32
  let v66 : BitVec 32 := Scalar.divsi v64 c1_i32_30
  let v67 : BitVec 32 := Scalar.muli v66 c1_i32_30
  let v68 : BitVec 32 := Scalar.addi c0_i32_29 v67
  let c1_i32_32 : BitVec 32 := 1#32
  let arg13 : BitVec 32 := Scf.iv v68 c1_i32_32 k0_t4
  let c1024_i32_64 : BitVec 32 := 1024#32
  let v147 : BitVec 32 := Scalar.muli arg13 c1024_i32_64
  v147
def k0_off11 (i : grid0.Coords) (k0_t4 : Fin (k0_t4_loop i).trips) : Fin 2 → Nat :=
  let c0_i32_29 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v64 : BitVec 32 := Scalar.subi v1 c0_i32_29
  let c1_i32_30 : BitVec 32 := 1#32
  let v66 : BitVec 32 := Scalar.divsi v64 c1_i32_30
  let v67 : BitVec 32 := Scalar.muli v66 c1_i32_30
  let v68 : BitVec 32 := Scalar.addi c0_i32_29 v67
  let c1_i32_32 : BitVec 32 := 1#32
  let arg13 : BitVec 32 := Scf.iv v68 c1_i32_32 k0_t4
  let c1024_i32_64 : BitVec 32 := 1024#32
  let v147 : BitVec 32 := Scalar.muli arg13 c1024_i32_64
  let v148 : BitVec 32 := v147
  let v149 : Index := Scalar.indexCast v148
  let c0_65 : Index := 0#32
  ![v149.toNat, 0]
def k0_off12 (i : grid0.Coords) (k0_t4 : Fin (k0_t4_loop i).trips) : Fin 3 → Nat :=
  let c0_68 : Index := 0#32
  let c0_69 : Index := 0#32
  let c0_i32_29 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v64 : BitVec 32 := Scalar.subi v1 c0_i32_29
  let c1_i32_30 : BitVec 32 := 1#32
  let v66 : BitVec 32 := Scalar.divsi v64 c1_i32_30
  let v67 : BitVec 32 := Scalar.muli v66 c1_i32_30
  let v68 : BitVec 32 := Scalar.addi c0_i32_29 v67
  let c1_i32_32 : BitVec 32 := 1#32
  let arg13 : BitVec 32 := Scf.iv v68 c1_i32_32 k0_t4
  let c1024_i32_64 : BitVec 32 := 1024#32
  let v147 : BitVec 32 := Scalar.muli arg13 c1024_i32_64
  let v148 : BitVec 32 := v147
  let v155 : Index := Scalar.indexCast v148
  ![0, 0, v155.toNat]
def k0_cond3 (i : grid0.Coords) : BitVec 1 :=
  let arg1 : BitVec 32 := BitVec.ofNat 32 (i 1).val
  let c512_i32_33 : BitVec 32 := 512#32
  let v71 : BitVec 32 := Scalar.muli arg1 c512_i32_33
  let c1024_i32_34 : BitVec 32 := 1024#32
  let v72 : BitVec 32 := Scalar.remsi v71 c1024_i32_34
  let c0_i32_35 : BitVec 32 := 0#32
  let v73 : BitVec 1 := Scalar.cmpi .ne v72 c0_i32_35
  let v74 : BitVec 32 := Scalar.extui v73
  let c0_i32_36 : BitVec 32 := 0#32
  let v75 : BitVec 1 := Scalar.cmpi .ne v74 c0_i32_36
  v75

def k0_mult7 (i : grid0.Coords) : BitVec 32 :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  v147
def k0_off13 (i : grid0.Coords) : Fin 2 → Nat :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  let v148 : BitVec 32 := v147
  let v149 : Index := Scalar.indexCast v148
  let c0_65 : Index := 0#32
  ![v149.toNat, 0]
def k0_off14 (i : grid0.Coords) : Fin 3 → Nat :=
  let c0_68 : Index := 0#32
  let c0_69 : Index := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_64 : BitVec 32 := 1024#32
  let v147 : BitVec 32 := Scalar.muli v1 c1024_i32_64
  let v148 : BitVec 32 := v147
  let v155 : Index := Scalar.indexCast v148
  ![0, 0, v155.toNat]
def k0_mult8 (i : grid0.Coords) : BitVec 32 :=
  let arg1 : BitVec 32 := BitVec.ofNat 32 (i 1).val
  let c512_i32_37 : BitVec 32 := 512#32
  let v77 : BitVec 32 := Scalar.muli arg1 c512_i32_37
  v77
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RefFoxIdeal.lean ====
abbrev S8192x512 : Shape := ⟨2, ![8192, 512]⟩
abbrev S8192x4 : Shape := ⟨2, ![8192, 4]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩
abbrev S4x8192x128 : Shape := ⟨3, ![4, 8192, 128]⟩

abbrev nBuf : Space → Nat
  | .hbm => 123
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192x4x128, .f32⟩
  | .hbm, ⟨6, _⟩ => ⟨S8192x4x128, .f32⟩
  | .hbm, ⟨7, _⟩ => ⟨S8192x4x128, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S4x8192, .f32⟩
  | .hbm, ⟨13, _⟩ => ⟨S4x8192x1, .f32⟩
  | .hbm, ⟨14, _⟩ => ⟨S4x8192, .f32⟩
  | .hbm, ⟨15, _⟩ => ⟨S4x1x8192, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S8192, .i32⟩
  | .hbm, ⟨21, _⟩ => ⟨S1x8192, .i32⟩
  | .hbm, ⟨22, _⟩ => ⟨S8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S4x8192x8192, .i1⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .i1⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .f32⟩
  | .hbm, ⟨45, _⟩ => ⟨S_, .f32⟩
  | .hbm, ⟨46, _⟩ => ⟨S4x8192, .f32⟩
  | .hbm, ⟨47, _⟩ => ⟨S4x8192, .i1⟩
  | .hbm, ⟨48, _⟩ => ⟨S_, .f32⟩
  | .hbm, ⟨49, _⟩ => ⟨S4x8192, .f32⟩
  | .hbm, ⟨50, _⟩ => ⟨S4x8192, .i1⟩
  | .hbm, ⟨51, _⟩ => ⟨S_, .f32⟩
  | .hbm, ⟨52, _⟩ => ⟨S4x8192, .f32⟩
  | .hbm, ⟨53, _⟩ => ⟨S_, .f32⟩
  | .hbm, ⟨54, _⟩ => ⟨S4x8192, .f32⟩
  | .hbm, ⟨55, _⟩ => ⟨S_, .f32⟩
  | .hbm, ⟨56, _⟩ => ⟨S4x8192, .f32⟩
  | .hbm, ⟨57, _⟩ => ⟨S4x8192, .f32⟩
  | .hbm, ⟨58, _⟩ => ⟨S4x8192, .f32⟩
  | .hbm, ⟨59, _⟩ => ⟨S4x8192x1, .f32⟩
  | .hbm, ⟨60, _⟩ => ⟨S4x8192x8192, .f32⟩
  | .hbm, ⟨61, _⟩ => ⟨S4x8192x8192, .f32⟩
  | .hbm, ⟨62, _⟩ => ⟨S4x8192x8192, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x8192, .f32⟩
  | .hbm, ⟨67, _⟩ => ⟨S4x8192x8192, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x128x8192, .f32⟩
  | .hbm, ⟨73, _⟩ => ⟨S8192x4x128, .f32⟩
  | .hbm, ⟨74, _⟩ => ⟨S8192x512, .f32⟩
  | .hbm, ⟨75, _⟩ => ⟨S8192x4x128, .f32⟩
  | .hbm, ⟨76, _⟩ => ⟨S4x128x8192, .f32⟩
  | .hbm, ⟨77, _⟩ => ⟨S4x8192x8192, .f32⟩
  | .hbm, ⟨78, _⟩ => ⟨S4x128x8192, .f32⟩
  | .hbm, ⟨79, _⟩ => ⟨S8192x4x128, .f32⟩
  | .hbm, ⟨80, _⟩ => ⟨S4x8192x8192, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192, .f32⟩
  | .hbm, ⟨85, _⟩ => ⟨S4x8192x1, .f32⟩
  | .hbm, ⟨86, _⟩ => ⟨S4x8192x1, .f32⟩
  | .hbm, ⟨87, _⟩ => ⟨S4x8192x8192, .f32⟩
  | .hbm, ⟨88, _⟩ => ⟨S4x8192x8192, .f32⟩
  | .hbm, ⟨89, _⟩ => ⟨S_, .f32⟩
  | .hbm, ⟨90, _⟩ => ⟨S4x8192, .f32⟩
  | .hbm, ⟨91, _⟩ => ⟨S4x8192x8192, .f32⟩
  | .hbm, ⟨92, _⟩ => ⟨S4x8192x8192, .f32⟩
  | .hbm, ⟨93, _⟩ => ⟨S4x8192x8192, .f32⟩
  | .hbm, ⟨94, _⟩ => ⟨S_, .f32⟩
  | .hbm, ⟨95, _⟩ => ⟨S4x8192x8192, .f32⟩
  | .hbm, ⟨96, _⟩ => ⟨S4x8192x8192, .f32⟩
  | .hbm, ⟨97, _⟩ => ⟨S_, .f32⟩
  | .hbm, ⟨98, _⟩ => ⟨S4x8192, .f32⟩
  | .hbm, ⟨99, _⟩ => ⟨S4x8192x1, .f32⟩
  | .hbm, ⟨100, _⟩ => ⟨S4x8192x8192, .f32⟩
  | .hbm, ⟨101, _⟩ => ⟨S_, .f32⟩
  | .hbm, ⟨102, _⟩ => ⟨S4x8192, .f32⟩
  | .hbm, ⟨103, _⟩ => ⟨S4x1x8192, .f32⟩
  | .hbm, ⟨104, _⟩ => ⟨S_, .f32⟩
  | .hbm, ⟨105, _⟩ => ⟨S4x8192, .f32⟩
  | .hbm, ⟨106, _⟩ => ⟨S8192x4, .f32⟩
  | .hbm, ⟨107, _⟩ => ⟨S_, .f32⟩
  | .hbm, ⟨108, _⟩ => ⟨S4x8192, .f32⟩
  | .hbm, ⟨109, _⟩ => ⟨S8192x4, .f32⟩
  | .hbm, ⟨110, _⟩ => ⟨S8192x4, .f32⟩
  | .hbm, ⟨111, _⟩ => ⟨S_, .f32⟩
  | .hbm, ⟨112, _⟩ => ⟨S4x8192x8192, .f32⟩
  | .hbm, ⟨113, _⟩ => ⟨S4x8192x8192, .f32⟩
  | .hbm, ⟨114, _⟩ => ⟨S4x8192x128, .f32⟩
  | .hbm, ⟨115, _⟩ => ⟨S8192x4x128, .f32⟩
  | .hbm, ⟨116, _⟩ => ⟨S4x8192x128, .f32⟩
  | .hbm, ⟨117, _⟩ => ⟨S8192x4x128, .f32⟩
  | .hbm, ⟨118, _⟩ => ⟨S8192x512, .f32⟩
  | .hbm, ⟨119, _⟩ => ⟨S8192x512, .f32⟩
  | .hbm, ⟨120, _⟩ => ⟨S8192x512, .f32⟩
  | .hbm, ⟨121, _⟩ => ⟨S4x8192, .f32⟩
  | .hbm, ⟨122, _⟩ => ⟨S4x1x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== FoxForward.lean ====
abbrev S8192x512 : Shape := ⟨2, ![8192, 512]⟩
abbrev S8192x4 : Shape := ⟨2, ![8192, 4]⟩
abbrev S4x8192 : Shape := ⟨2, ![4, 8192]⟩
abbrev S4x8192x1 : Shape := ⟨3, ![4, 8192, 1]⟩
abbrev S4x1x8192 : Shape := ⟨3, ![4, 1, 8192]⟩
abbrev S512x128 : Shape := ⟨2, ![512, 128]⟩
abbrev S8192x128 : Shape := ⟨2, ![8192, 128]⟩
abbrev S1x512x1 : Shape := ⟨3, ![1, 512, 1]⟩
abbrev S1x1x8192 : Shape := ⟨3, ![1, 1, 8192]⟩
abbrev S512x1 : Shape := ⟨2, ![512, 1]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩

abbrev nBuf : Space → Nat
  | .hbm => 13
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S4x8192, .f32⟩
  | .hbm, ⟨8, _⟩ => ⟨S4x8192x1, .f32⟩
  | .hbm, ⟨9, _⟩ => ⟨S4x8192, .f32⟩
  | .hbm, ⟨10, _⟩ => ⟨S4x1x8192, .f32⟩
  | .hbm, ⟨11, _⟩ => ⟨S8192x512, .f32⟩
  | .hbm, ⟨12, _⟩ => ⟨S4x8192x1, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x8192, .f32⟩
  | .local _ .vmem, ⟨9, _⟩ => ⟨S1x1x8192, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v9 : BitVec 32 := Scalar.subi v1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_6 : BitVec 32 := 1#32
  ⟨c0_i32, v13, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c1024_i32_25 : BitVec 32 := 1024#32
  let v69 : BitVec 32 := Scalar.muli arg9 c1024_i32_25
  v69
def k0_off1 (i : grid0.Coords) (k0_t1 : Fin (k0_t1_loop i).trips) : Fin 2 → Nat :=
  let c0_i32 : BitVec 32 := 0#32
  let c1_i32_6 : BitVec 32 := 1#32
  let arg9 : BitVec 32 := Scf.iv c0_i32 c1_i32_6 k0_t1
  let c1024_i32_25 : BitVec 32 := 1024#32
  let v69 : BitVec 32 := Scalar.muli arg9 c1024_i32_25
  let v70 : BitVec 32 := v69
  let v71 : Index := Scalar.indexCast v70
  let c0_26 : Index := 0#32
  ![v71.toNat, 0]
def k0_off2 (i : grid0.Coords) (k0_t1 : Fin (k0_t1_loop i).trips) : Fin 3 → Nat :=
  let c0_29 : Index := 0#32
  let c0_30 : Index := 0#32
  let c0_i32 : BitVec 32 := 0#32
  let c1_i32_6 : BitVec 32 := 1#32
  let arg9 : BitVec 32 := Scf.iv c0_i32 c1_i32_6 k0_t1
  let c1024_i32_25 : BitVec 32 := 1024#32
  let v69 : BitVec 32 := Scalar.muli arg9 c1024_i32_25
  let v70 : BitVec 32 := v69
  let v77 : Index := Scalar.indexCast v70
  ![0, 0, v77.toNat]
@[reducible] def k0_t2_loop (i : grid0.Coords) : Scf.Loop 32 :=
  let c0_i32 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v9 : BitVec 32 := Scalar.subi v1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_7 : BitVec 32 := 1#32
  ⟨v13, v10, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v9 : BitVec 32 := Scalar.subi v1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let c1024_i32_25 : BitVec 32 := 1024#32
  let v69 : BitVec 32 := Scalar.muli arg9 c1024_i32_25
  v69
def k0_off3 (i : grid0.Coords) (k0_t2 : Fin (k0_t2_loop i).trips) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v9 : BitVec 32 := Scalar.subi v1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let c1024_i32_25 : BitVec 32 := 1024#32
  let v69 : BitVec 32 := Scalar.muli arg9 c1024_i32_25
  let v70 : BitVec 32 := v69
  let v71 : Index := Scalar.indexCast v70
  let c0_26 : Index := 0#32
  ![v71.toNat, 0]
def k0_off4 (i : grid0.Coords) (k0_t2 : Fin (k0_t2_loop i).trips) : Fin 3 → Nat :=
  let c0_29 : Index := 0#32
  let c0_30 : Index := 0#32
  let c0_i32 : BitVec 32 := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let v9 : BitVec 32 := Scalar.subi v1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  let arg9 : BitVec 32 := Scf.iv v13 c1_i32_7 k0_t2
  let c1024_i32_25 : BitVec 32 := 1024#32
  let v69 : BitVec 32 := Scalar.muli arg9 c1024_i32_25
  let v70 : BitVec 32 := v69
  let v77 : Index := Scalar.indexCast v70
  ![0, 0, v77.toNat]
def k0_mult3 (i : grid0.Coords) : BitVec 32 :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_8 : BitVec 32 := 1024#32
  let v16 : BitVec 32 := Scalar.muli v1 c1024_i32_8
  v16
def k0_off5 (i : grid0.Coords) : Fin 2 → Nat :=
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_8 : BitVec 32 := 1024#32
  let v16 : BitVec 32 := Scalar.muli v1 c1024_i32_8
  let v17 : BitVec 32 := v16
  let v18 : Index := Scalar.indexCast v17
  let c0_9 : Index := 0#32
  ![v18.toNat, 0]
def k0_off6 (i : grid0.Coords) : Fin 3 → Nat :=
  let c0_12 : Index := 0#32
  let c0_13 : Index := 0#32
  let arg1 : BitVec 32 := BitVec.ofNat 32 (i 1).val
  let c512_i32 : BitVec 32 := 512#32
  let v0 : BitVec 32 := Scalar.muli arg1 c512_i32
  let c1024_i32 : BitVec 32 := 1024#32
  let v1 : BitVec 32 := Scalar.divsi v0 c1024_i32
  let c1024_i32_8 : BitVec 32 := 1024#32
  let v16 : BitVec 32 := Scalar.muli v1 c1024_i32_8
  let v17 : BitVec 32 := v16
  let v24 : Index := Scalar.indexCast v17
  ![0, 0, v24.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefFoxForwardIdeal.lean ====
abbrev S8192x512 : Shape := ⟨2, ![8192, 512]⟩
abbrev S8192x4 : Shape := ⟨2, ![8192, 4]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x4x128, .f32⟩
  | .hbm, ⟨5, _⟩ => ⟨S8192x4x128, .f32⟩
  | .hbm, ⟨6, _⟩ => ⟨S8192x4x128, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S4x8192, .f32⟩
  | .hbm, ⟨12, _⟩ => ⟨S4x8192x1, .f32⟩
  | .hbm, ⟨13, _⟩ => ⟨S4x8192, .f32⟩
  | .hbm, ⟨14, _⟩ => ⟨S4x1x8192, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S4x8192x8192, .i1⟩
  | .hbm, ⟨29, _⟩ => ⟨S4x8192x8192, .f32⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x128x8192, .f32⟩
  | .hbm, ⟨57, _⟩ => ⟨S8192x4x128, .f32⟩
  | .hbm, ⟨58, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Product.Spec.lean ====
/-
  The three products of two matrices that the training step takes, over the extended reals and for any sizes: plain, with
  the second matrix transposed, and with the first matrix transposed.
-/
module

public import Idealize.ShloMosaic.Lib.Pointwise

@[expose] public section

noncomputable section

namespace Cert.Product

open Idealize.ShloMosaic

/-- The product `A · B` of an `M × K` and a `K × N` matrix. -/
def nn {M K N : Nat} (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

/-- The product `A · Bᵀ` of an `M × K` and an `N × K` matrix. -/
def nt {M K N : Nat} (A : FVec Ideal ⟨2, ![M, K]⟩ .f32) (B : FVec Ideal ⟨2, ![N, K]⟩ .f32) : FVec Ideal ⟨2, ![M, N]⟩ .f32 :=
  fun i => ∑ k : Fin K, A (ix2 (i 0) k) * B (ix2 (i 1) k)

/-- The product `Aᵀ · B` of a `K × M` and a `K × N` matrix. -/
def tn {M K N : Nat} (A : FVec Ideal ⟨2, ![K, M]⟩ .f32) (B : FVec Ideal ⟨2, ![K, N]⟩ .f32) : FVec Ideal ⟨2, ![M, N]⟩ .f32 :=
  fun i => ∑ k : Fin K, A (ix2 k (i 0)) * B (ix2 k (i 1))

end Cert.Product

end
-- ==== Proof.Product.In.lean ====
/-
  The products with one weight matrix, the input projection, its columns in the kernel's order and padded: the product itself, the gradient of its rows and the
  gradient of the matrix. Of each: what one step of the kernel adds, what its result array holds, and that the reference
  leaves the same.
-/
module

public import proofs.«01_k».proof.Proof.Gen.InIdeal.Value
public import proofs.«01_k».proof.Proof.Gen.RefInIdeal.Run
public import proofs.«01_k».proof.Proof.Gen.InDxIdeal.Value
public import proofs.«01_k».proof.Proof.Gen.RefInDxIdeal.Run
public import proofs.«01_k».proof.Proof.Gen.InDwIdeal.Value
public import proofs.«01_k».proof.Proof.Gen.RefInDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.InIdeal.Product

open Cert.InIdeal Cert.InIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1664 .f32) (x : Vec Ideal S1024x1024 .f32) (y : Vec Ideal S1024x1664 .bf16)
    (j : S1024x1664.Idx) :
    k0_pay2 (F := Ideal) acc x y j = (show EReal from acc j) + ∑ k : Fin 1024, (show EReal from x (ix2 (j 0) k)) * (show EReal from y (ix2 k (j 1))) := by
  pointwise [k0_pay2]

/-- The block an accumulation starts from is zero. -/
theorem zero_apply (j : S1024x1664.Idx) : k0_pay1 (F := Ideal) j = 0 := by
  pointwise [k0_pay1]

/-- The block each window is on at a grid point. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The block a grid point computes: the product of its two input blocks. -/
theorem block_apply (c : Dev nD) (t : Fin cfg0.N) (j : S1024x1664.Idx) : outsAt0 m c t j
    = ∑ k : Fin 1024, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.InIdeal.Product

/-- The kernel and the reference leave the same product. -/
theorem Cert.Product.In.value : Cert.algebraic_InIdeal_RefInIdeal (hInIdeal := Cert.InIdeal.Gen.facts)
    (hRefInIdeal := Cert.RefInIdeal.Gen.facts) := by
  pair_intro
  · run_from Cert.InIdeal.Value.run_blocks m g
  · run_from Cert.RefInIdeal.Value.run m' g'
    rw [Cert.InIdeal.Product.final m c]
    funext i
    pointwise [Cert.Product.nn]

/-- The reference runs and leaves its arguments as they were. -/
theorem Cert.Product.In.frame_reference : Cert.quiescent_RefInIdeal (hRefInIdeal := Cert.RefInIdeal.Gen.facts) :=
  fun m ρ _ => (θ_run Cert.RefInIdeal.defs _ _).mono (fun r h => ⟨fun c => (h c).2, Idealize.ShloMosaic.sem_eq_zero_of_no_sems (by decide) r.2⟩)
    (Cert.RefInIdeal.Value.run m ρ)

namespace Cert.InDxIdeal.Product

open Cert.InDxIdeal Cert.InDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x640 .f32) (y : Vec Ideal S1024x640 .bf16)
    (j : S1024x1024.Idx) :
    k0_pay2 (F := Ideal) acc x y j = (show EReal from acc j) + ∑ k : Fin 640, (show EReal from x (ix2 (j 0) k)) * (show EReal from y (ix2 (j 1) k)) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val / 13, t.val % 13] ∧ win0_1.index t = ![0, t.val % 13] ∧ win0_2.index t = ![t.val / 13, 0] :=
  (by decide +kernel : ∀ t : Fin grid0.N, _)

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 13 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.InDxIdeal.Product

/-- The kernel and the reference leave the same product. -/
theorem Cert.Product.InDx.value : Cert.algebraic_InDxIdeal_RefInDxIdeal (hInDxIdeal := Cert.InDxIdeal.Gen.facts)
    (hRefInDxIdeal := Cert.RefInDxIdeal.Gen.facts) := by
  pair_intro
  · run_from Cert.InDxIdeal.Value.run_blocks m g
  · run_from Cert.RefInDxIdeal.Value.run m' g'
    rw [Cert.InDxIdeal.Product.final m c]
    funext i
    pointwise [Cert.Product.nt]

/-- The reference runs and leaves its arguments as they were. -/
theorem Cert.Product.InDx.frame_reference : Cert.quiescent_RefInDxIdeal (hRefInDxIdeal := Cert.RefInDxIdeal.Gen.facts) :=
  fun m ρ _ => (θ_run Cert.RefInDxIdeal.defs _ _).mono (fun r h => ⟨fun c => (h c).2, Idealize.ShloMosaic.sem_eq_zero_of_no_sems (by decide) r.2⟩)
    (Cert.RefInDxIdeal.Value.run m ρ)

namespace Cert.InDwIdeal.Product

open Cert.InDwIdeal Cert.InDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1664 .f32) (x : Vec Ideal S512x1024 .f32) (y : Vec Ideal S512x1664 .f32)
    (j : S1024x1664.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S1024x1664.Idx) : k0_pay1 (F := Ideal) j = 0 := by
  pointwise [k0_pay1]

/-- The block each window is on at a grid point. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.InDwIdeal.Product

/-- The kernel and the reference leave the same product. -/
theorem Cert.Product.InDw.value : Cert.algebraic_InDwIdeal_RefInDwIdeal (hInDwIdeal := Cert.InDwIdeal.Gen.facts)
    (hRefInDwIdeal := Cert.RefInDwIdeal.Gen.facts) := by
  pair_intro
  · run_from Cert.InDwIdeal.Value.run_blocks m g
  · run_from Cert.RefInDwIdeal.Value.run m' g'
    rw [Cert.InDwIdeal.Product.final m c]
    funext i
    pointwise [Cert.Product.tn]
    exact Finset.sum_congr rfl fun k _ => mul_comm _ _

/-- The reference runs and leaves its arguments as they were. -/
theorem Cert.Product.InDw.frame_reference : Cert.quiescent_RefInDwIdeal (hRefInDwIdeal := Cert.RefInDwIdeal.Gen.facts) :=
  fun m ρ _ => (θ_run Cert.RefInDwIdeal.defs _ _).mono (fun r h => ⟨fun c => (h c).2, Idealize.ShloMosaic.sem_eq_zero_of_no_sems (by decide) r.2⟩)
    (Cert.RefInDwIdeal.Value.run m ρ)

end
-- ==== Proof.Product.Up.lean ====
/-
  The products with one weight matrix, the widening matrix of the feed-forward layer: the product itself, the gradient of its rows and the
  gradient of the matrix. Of each: what one step of the kernel adds, what its result array holds, and that the reference
  leaves the same.
-/
module

public import proofs.«01_k».proof.Proof.Gen.UpIdeal.Value
public import proofs.«01_k».proof.Proof.Gen.RefUpIdeal.Run
public import proofs.«01_k».proof.Proof.Gen.UpDxIdeal.Value
public import proofs.«01_k».proof.Proof.Gen.RefUpDxIdeal.Run
public import proofs.«01_k».proof.Proof.Gen.UpDwIdeal.Value
public import proofs.«01_k».proof.Proof.Gen.RefUpDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.UpIdeal.Product

open Cert.UpIdeal Cert.UpIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1408 .f32) (x : Vec Ideal S1024x1024 .f32) (y : Vec Ideal S1024x1408 .bf16)
    (j : S1024x1408.Idx) :
    k0_pay2 (F := Ideal) acc x y j = (show EReal from acc j) + ∑ k : Fin 1024, (show EReal from x (ix2 (j 0) k)) * (show EReal from y (ix2 k (j 1))) := by
  pointwise [k0_pay2]

/-- The block an accumulation starts from is zero. -/
theorem zero_apply (j : S1024x1408.Idx) : k0_pay1 (F := Ideal) j = 0 := by
  pointwise [k0_pay1]

/-- The block each window is on at a grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The block a grid point computes: the product of its two input blocks. -/
theorem block_apply (c : Dev nD) (t : Fin cfg0.N) (j : S1024x1408.Idx) : outsAt0 m c t j
    = ∑ k : Fin 1024, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.UpIdeal.Product

/-- The kernel and the reference leave the same product. -/
theorem Cert.Product.Up.value : Cert.algebraic_UpIdeal_RefUpIdeal (hUpIdeal := Cert.UpIdeal.Gen.facts)
    (hRefUpIdeal := Cert.RefUpIdeal.Gen.facts) := by
  pair_intro
  · run_from Cert.UpIdeal.Value.run_blocks m g
  · run_from Cert.RefUpIdeal.Value.run m' g'
    rw [Cert.UpIdeal.Product.final m c]
    funext i
    pointwise [Cert.Product.nn]

/-- The reference runs and leaves its arguments as they were. -/
theorem Cert.Product.Up.frame_reference : Cert.quiescent_RefUpIdeal (hRefUpIdeal := Cert.RefUpIdeal.Gen.facts) :=
  fun m ρ _ => (θ_run Cert.RefUpIdeal.defs _ _).mono (fun r h => ⟨fun c => (h c).2, Idealize.ShloMosaic.sem_eq_zero_of_no_sems (by decide) r.2⟩)
    (Cert.RefUpIdeal.Value.run m ρ)

namespace Cert.UpDxIdeal.Product

open Cert.UpDxIdeal Cert.UpDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x1408 .f32) (y : Vec Ideal S1024x1408 .bf16)
    (j : S1024x1024.Idx) :
    k0_pay2 (F := Ideal) acc x y j = (show EReal from acc j) + ∑ k : Fin 1408, (show EReal from x (ix2 (j 0) k)) * (show EReal from y (ix2 (j 1) k)) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.UpDxIdeal.Product

/-- The kernel and the reference leave the same product. -/
theorem Cert.Product.UpDx.value : Cert.algebraic_UpDxIdeal_RefUpDxIdeal (hUpDxIdeal := Cert.UpDxIdeal.Gen.facts)
    (hRefUpDxIdeal := Cert.RefUpDxIdeal.Gen.facts) := by
  pair_intro
  · run_from Cert.UpDxIdeal.Value.run_blocks m g
  · run_from Cert.RefUpDxIdeal.Value.run m' g'
    rw [Cert.UpDxIdeal.Product.final m c]
    funext i
    pointwise [Cert.Product.nt]

/-- The reference runs and leaves its arguments as they were. -/
theorem Cert.Product.UpDx.frame_reference : Cert.quiescent_RefUpDxIdeal (hRefUpDxIdeal := Cert.RefUpDxIdeal.Gen.facts) :=
  fun m ρ _ => (θ_run Cert.RefUpDxIdeal.defs _ _).mono (fun r h => ⟨fun c => (h c).2, Idealize.ShloMosaic.sem_eq_zero_of_no_sems (by decide) r.2⟩)
    (Cert.RefUpDxIdeal.Value.run m ρ)

namespace Cert.UpDwIdeal.Product

open Cert.UpDwIdeal Cert.UpDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1408 .f32) (x : Vec Ideal S512x1024 .f32) (y : Vec Ideal S512x1408 .f32)
    (j : S1024x1408.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S1024x1408.Idx) : k0_pay1 (F := Ideal) j = 0 := by
  pointwise [k0_pay1]

/-- The block each window is on at a grid point. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.UpDwIdeal.Product

/-- The kernel and the reference leave the same product. -/
theorem Cert.Product.UpDw.value : Cert.algebraic_UpDwIdeal_RefUpDwIdeal (hUpDwIdeal := Cert.UpDwIdeal.Gen.facts)
    (hRefUpDwIdeal := Cert.RefUpDwIdeal.Gen.facts) := by
  pair_intro
  · run_from Cert.UpDwIdeal.Value.run_blocks m g
  · run_from Cert.RefUpDwIdeal.Value.run m' g'
    rw [Cert.UpDwIdeal.Product.final m c]
    funext i
    pointwise [Cert.Product.tn]
    exact Finset.sum_congr rfl fun k _ => mul_comm _ _

/-- The reference runs and leaves its arguments as they were. -/
theorem Cert.Product.UpDw.frame_reference : Cert.quiescent_RefUpDwIdeal (hRefUpDwIdeal := Cert.RefUpDwIdeal.Gen.facts) :=
  fun m ρ _ => (θ_run Cert.RefUpDwIdeal.defs _ _).mono (fun r h => ⟨fun c => (h c).2, Idealize.ShloMosaic.sem_eq_zero_of_no_sems (by decide) r.2⟩)
    (Cert.RefUpDwIdeal.Value.run m ρ)

end
-- ==== Proof.Product.Down.lean ====
/-
  The products with one weight matrix, the narrowing matrix of the feed-forward layer: the product itself, the gradient of its rows and the
  gradient of the matrix. Of each: what one step of the kernel adds, what its result array holds, and that the reference
  leaves the same.
-/
module

public import proofs.«01_k».proof.Proof.Gen.DownIdeal.Value
public import proofs.«01_k».proof.Proof.Gen.RefDownIdeal.Run
public import proofs.«01_k».proof.Proof.Gen.DownDxIdeal.Value
public import proofs.«01_k».proof.Proof.Gen.RefDownDxIdeal.Run
public import proofs.«01_k».proof.Proof.Gen.DownDwIdeal.Value
public import proofs.«01_k».proof.Proof.Gen.RefDownDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.DownIdeal.Product

open Cert.DownIdeal Cert.DownIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x1408 .f32) (y : Vec Ideal S1408x1024 .bf16)
    (j : S1024x1024.Idx) :
    k0_pay2 (F := Ideal) acc x y j = (show EReal from acc j) + ∑ k : Fin 1408, (show EReal from x (ix2 (j 0) k)) * (show EReal from y (ix2 k (j 1))) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.DownIdeal.Product

/-- The kernel and the reference leave the same product. -/
theorem Cert.Product.Down.value : Cert.algebraic_DownIdeal_RefDownIdeal (hDownIdeal := Cert.DownIdeal.Gen.facts)
    (hRefDownIdeal := Cert.RefDownIdeal.Gen.facts) := by
  pair_intro
  · run_from Cert.DownIdeal.Value.run_blocks m g
  · run_from Cert.RefDownIdeal.Value.run m' g'
    rw [Cert.DownIdeal.Product.final m c]
    funext i
    pointwise [Cert.Product.nn]

/-- The reference runs and leaves its arguments as they were. -/
theorem Cert.Product.Down.frame_reference : Cert.quiescent_RefDownIdeal (hRefDownIdeal := Cert.RefDownIdeal.Gen.facts) :=
  fun m ρ _ => (θ_run Cert.RefDownIdeal.defs _ _).mono (fun r h => ⟨fun c => (h c).2, Idealize.ShloMosaic.sem_eq_zero_of_no_sems (by decide) r.2⟩)
    (Cert.RefDownIdeal.Value.run m ρ)

namespace Cert.DownDxIdeal.Product

open Cert.DownDxIdeal Cert.DownDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1408 .f32) (x : Vec Ideal S1024x1024 .f32) (y : Vec Ideal S1408x1024 .bf16)
    (j : S1024x1408.Idx) :
    k0_pay2 (F := Ideal) acc x y j = (show EReal from acc j) + ∑ k : Fin 1024, (show EReal from x (ix2 (j 0) k)) * (show EReal from y (ix2 (j 1) k)) := by
  pointwise [k0_pay2]

/-- The block an accumulation starts from is zero. -/
theorem zero_apply (j : S1024x1408.Idx) : k0_pay1 (F := Ideal) j = 0 := by
  pointwise [k0_pay1]

/-- The block each window is on at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The block a grid point computes: the product of its two input blocks. -/
theorem block_apply (c : Dev nD) (t : Fin cfg0.N) (j : S1024x1408.Idx) : outsAt0 m c t j
    = ∑ k : Fin 1024, (show EReal from iblk m c 0 t (ix2 (j 0) k)) * (show EReal from iblk m c 1 t (ix2 (j 1) k)) := by
  simp only [outsAt0]
  frame_out
  rw [step_apply, zero_apply]
  exact zero_add _

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.DownDxIdeal.Product

/-- The kernel and the reference leave the same product. -/
theorem Cert.Product.DownDx.value : Cert.algebraic_DownDxIdeal_RefDownDxIdeal (hDownDxIdeal := Cert.DownDxIdeal.Gen.facts)
    (hRefDownDxIdeal := Cert.RefDownDxIdeal.Gen.facts) := by
  pair_intro
  · run_from Cert.DownDxIdeal.Value.run_blocks m g
  · run_from Cert.RefDownDxIdeal.Value.run m' g'
    rw [Cert.DownDxIdeal.Product.final m c]
    funext i
    pointwise [Cert.Product.nt]

/-- The reference runs and leaves its arguments as they were. -/
theorem Cert.Product.DownDx.frame_reference : Cert.quiescent_RefDownDxIdeal (hRefDownDxIdeal := Cert.RefDownDxIdeal.Gen.facts) :=
  fun m ρ _ => (θ_run Cert.RefDownDxIdeal.defs _ _).mono (fun r h => ⟨fun c => (h c).2, Idealize.ShloMosaic.sem_eq_zero_of_no_sems (by decide) r.2⟩)
    (Cert.RefDownDxIdeal.Value.run m ρ)

namespace Cert.DownDwIdeal.Product

open Cert.DownDwIdeal Cert.DownDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S256x1024 .f32) (x : Vec Ideal S512x256 .f32) (y : Vec Ideal S512x1024 .f32)
    (j : S256x1024.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S256x1024.Idx) : k0_pay1 (F := Ideal) j = 0 := by
  pointwise [k0_pay1]

/-- The block each window is on at a grid point. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.DownDwIdeal.Product

/-- The kernel and the reference leave the same product. -/
theorem Cert.Product.DownDw.value : Cert.algebraic_DownDwIdeal_RefDownDwIdeal (hDownDwIdeal := Cert.DownDwIdeal.Gen.facts)
    (hRefDownDwIdeal := Cert.RefDownDwIdeal.Gen.facts) := by
  pair_intro
  · run_from Cert.DownDwIdeal.Value.run_blocks m g
  · run_from Cert.RefDownDwIdeal.Value.run m' g'
    rw [Cert.DownDwIdeal.Product.final m c]
    funext i
    pointwise [Cert.Product.tn]
    exact Finset.sum_congr rfl fun k _ => mul_comm _ _

/-- The reference runs and leaves its arguments as they were. -/
theorem Cert.Product.DownDw.frame_reference : Cert.quiescent_RefDownDwIdeal (hRefDownDwIdeal := Cert.RefDownDwIdeal.Gen.facts) :=
  fun m ρ _ => (θ_run Cert.RefDownDwIdeal.defs _ _).mono (fun r h => ⟨fun c => (h c).2, Idealize.ShloMosaic.sem_eq_zero_of_no_sems (by decide) r.2⟩)
    (Cert.RefDownDwIdeal.Value.run m ρ)

end
-- ==== Proof.Product.Branch.lean ====
/-
  The products with one weight matrix, an output projection of a mixer or of the attention over the memory: the product itself, the gradient of its rows and the
  gradient of the matrix. Of each: what one step of the kernel adds, what its result array holds, and that the reference
  leaves the same.
-/
module

public import proofs.«01_k».proof.Proof.Gen.BranchIdeal.Value
public import proofs.«01_k».proof.Proof.Gen.RefBranchIdeal.Run
public import proofs.«01_k».proof.Proof.Gen.BranchDxIdeal.Value
public import proofs.«01_k».proof.Proof.Gen.RefBranchDxIdeal.Run
public import proofs.«01_k».proof.Proof.Gen.BranchDwIdeal.Value
public import proofs.«01_k».proof.Proof.Gen.RefBranchDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.BranchIdeal.Product

open Cert.BranchIdeal Cert.BranchIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x512 .f32) (y : Vec Ideal S512x1024 .bf16)
    (j : S1024x1024.Idx) :
    k0_pay2 (F := Ideal) acc x y j = (show EReal from acc j) + ∑ k : Fin 512, (show EReal from x (ix2 (j 0) k)) * (show EReal from y (ix2 k (j 1))) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x1024.Idx) : outsAt0 m c t j
    = ∑ k : Fin 512, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.BranchIdeal.Product

/-- The kernel and the reference leave the same product. -/
theorem Cert.Product.Branch.value : Cert.algebraic_BranchIdeal_RefBranchIdeal (hBranchIdeal := Cert.BranchIdeal.Gen.facts)
    (hRefBranchIdeal := Cert.RefBranchIdeal.Gen.facts) := by
  pair_intro
  · run_from Cert.BranchIdeal.Value.run_blocks m g
  · run_from Cert.RefBranchIdeal.Value.run m' g'
    rw [Cert.BranchIdeal.Product.final m c]
    funext i
    pointwise [Cert.Product.nn]

/-- The reference runs and leaves its arguments as they were. -/
theorem Cert.Product.Branch.frame_reference : Cert.quiescent_RefBranchIdeal (hRefBranchIdeal := Cert.RefBranchIdeal.Gen.facts) :=
  fun m ρ _ => (θ_run Cert.RefBranchIdeal.defs _ _).mono (fun r h => ⟨fun c => (h c).2, Idealize.ShloMosaic.sem_eq_zero_of_no_sems (by decide) r.2⟩)
    (Cert.RefBranchIdeal.Value.run m ρ)

namespace Cert.BranchDxIdeal.Product

open Cert.BranchDxIdeal Cert.BranchDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x512 .f32) (x : Vec Ideal S1024x1024 .f32) (y : Vec Ideal S512x1024 .bf16)
    (j : S1024x512.Idx) :
    k0_pay2 (F := Ideal) acc x y j = (show EReal from acc j) + ∑ k : Fin 1024, (show EReal from x (ix2 (j 0) k)) * (show EReal from y (ix2 (j 1) k)) := by
  pointwise [k0_pay2]

/-- The block an accumulation starts from is zero. -/
theorem zero_apply (j : S1024x512.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x512.Idx) : outsAt0 m c t j
    = ∑ k : Fin 1024, (show EReal from iblk m c 0 t (ix2 (j 0) k)) * (show EReal from iblk m c 1 t (ix2 (j 1) k)) := by
  simp only [outsAt0]
  frame_out
  rw [step_apply, zero_apply]
  exact zero_add _

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.BranchDxIdeal.Product

/-- The kernel and the reference leave the same product. -/
theorem Cert.Product.BranchDx.value : Cert.algebraic_BranchDxIdeal_RefBranchDxIdeal (hBranchDxIdeal := Cert.BranchDxIdeal.Gen.facts)
    (hRefBranchDxIdeal := Cert.RefBranchDxIdeal.Gen.facts) := by
  pair_intro
  · run_from Cert.BranchDxIdeal.Value.run_blocks m g
  · run_from Cert.RefBranchDxIdeal.Value.run m' g'
    rw [Cert.BranchDxIdeal.Product.final m c]
    funext i
    pointwise [Cert.Product.nt]

/-- The reference runs and leaves its arguments as they were. -/
theorem Cert.Product.BranchDx.frame_reference : Cert.quiescent_RefBranchDxIdeal (hRefBranchDxIdeal := Cert.RefBranchDxIdeal.Gen.facts) :=
  fun m ρ _ => (θ_run Cert.RefBranchDxIdeal.defs _ _).mono (fun r h => ⟨fun c => (h c).2, Idealize.ShloMosaic.sem_eq_zero_of_no_sems (by decide) r.2⟩)
    (Cert.RefBranchDxIdeal.Value.run m ρ)

namespace Cert.BranchDwIdeal.Product

open Cert.BranchDwIdeal Cert.BranchDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S512x1024 .f32) (x : Vec Ideal S512x512 .f32) (y : Vec Ideal S512x1024 .f32)
    (j : S512x1024.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S512x1024.Idx) : k0_pay1 (F := Ideal) j = 0 := by
  pointwise [k0_pay1]

/-- The block each window is on at a grid point. -/
theorem idx : ∀ t : Fin cfg0.N, win0_0.index t = ![t.val, 0] ∧ win0_1.index t = ![t.val, 0] ∧ win0_2.index t = ![0, 0] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.BranchDwIdeal.Product

/-- The kernel and the reference leave the same product. -/
theorem Cert.Product.BranchDw.value : Cert.algebraic_BranchDwIdeal_RefBranchDwIdeal (hBranchDwIdeal := Cert.BranchDwIdeal.Gen.facts)
    (hRefBranchDwIdeal := Cert.RefBranchDwIdeal.Gen.facts) := by
  pair_intro
  · run_from Cert.BranchDwIdeal.Value.run_blocks m g
  · run_from Cert.RefBranchDwIdeal.Value.run m' g'
    rw [Cert.BranchDwIdeal.Product.final m c]
    funext i
    pointwise [Cert.Product.tn]
    exact Finset.sum_congr rfl fun k _ => mul_comm _ _

/-- The reference runs and leaves its arguments as they were. -/
theorem Cert.Product.BranchDw.frame_reference : Cert.quiescent_RefBranchDwIdeal (hRefBranchDwIdeal := Cert.RefBranchDwIdeal.Gen.facts) :=
  fun m ρ _ => (θ_run Cert.RefBranchDwIdeal.defs _ _).mono (fun r h => ⟨fun c => (h c).2, Idealize.ShloMosaic.sem_eq_zero_of_no_sems (by decide) r.2⟩)
    (Cert.RefBranchDwIdeal.Value.run m ρ)

end
-- ==== Proof.Product.Merge.lean ====
/-
  The products with one weight matrix, the projection of the merged mixers: the product itself, the gradient of its rows and the
  gradient of the matrix. Of each: what one step of the kernel adds, what its result array holds, and that the reference
  leaves the same.
-/
module

public import proofs.«01_k».proof.Proof.Gen.MergeIdeal.Value
public import proofs.«01_k».proof.Proof.Gen.RefMergeIdeal.Run
public import proofs.«01_k».proof.Proof.Gen.MergeDxIdeal.Value
public import proofs.«01_k».proof.Proof.Gen.RefMergeDxIdeal.Run
public import proofs.«01_k».proof.Proof.Gen.MergeDwIdeal.Value
public import proofs.«01_k».proof.Proof.Gen.RefMergeDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.MergeIdeal.Product

open Cert.MergeIdeal Cert.MergeIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x1024 .f32) (y : Vec Ideal S1024x1024 .bf16)
    (j : S1024x1024.Idx) :
    k0_pay2 (F := Ideal) acc x y j = (show EReal from acc j) + ∑ k : Fin 1024, (show EReal from x (ix2 (j 0) k)) * (show EReal from y (ix2 k (j 1))) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x1024.Idx) : outsAt0 m c t j
    = ∑ k : Fin 1024, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.MergeIdeal.Product

/-- The kernel and the reference leave the same product. -/
theorem Cert.Product.Merge.value : Cert.algebraic_MergeIdeal_RefMergeIdeal (hMergeIdeal := Cert.MergeIdeal.Gen.facts)
    (hRefMergeIdeal := Cert.RefMergeIdeal.Gen.facts) := by
  pair_intro
  · run_from Cert.MergeIdeal.Value.run_blocks m g
  · run_from Cert.RefMergeIdeal.Value.run m' g'
    rw [Cert.MergeIdeal.Product.final m c]
    funext i
    pointwise [Cert.Product.nn]

/-- The reference runs and leaves its arguments as they were. -/
theorem Cert.Product.Merge.frame_reference : Cert.quiescent_RefMergeIdeal (hRefMergeIdeal := Cert.RefMergeIdeal.Gen.facts) :=
  fun m ρ _ => (θ_run Cert.RefMergeIdeal.defs _ _).mono (fun r h => ⟨fun c => (h c).2, Idealize.ShloMosaic.sem_eq_zero_of_no_sems (by decide) r.2⟩)
    (Cert.RefMergeIdeal.Value.run m ρ)

namespace Cert.MergeDxIdeal.Product

open Cert.MergeDxIdeal Cert.MergeDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x1024 .f32) (y : Vec Ideal S1024x1024 .bf16)
    (j : S1024x1024.Idx) :
    k0_pay2 (F := Ideal) acc x y j = (show EReal from acc j) + ∑ k : Fin 1024, (show EReal from x (ix2 (j 0) k)) * (show EReal from y (ix2 (j 1) k)) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x1024.Idx) : outsAt0 m c t j
    = ∑ k : Fin 1024, (show EReal from iblk m c 0 t (ix2 (j 0) k)) * (show EReal from iblk m c 1 t (ix2 (j 1) k)) := by
  simp only [outsAt0]
  frame_out
  rw [step_apply, zero_apply]
  exact zero_add _

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.MergeDxIdeal.Product

/-- The kernel and the reference leave the same product. -/
theorem Cert.Product.MergeDx.value : Cert.algebraic_MergeDxIdeal_RefMergeDxIdeal (hMergeDxIdeal := Cert.MergeDxIdeal.Gen.facts)
    (hRefMergeDxIdeal := Cert.RefMergeDxIdeal.Gen.facts) := by
  pair_intro
  · run_from Cert.MergeDxIdeal.Value.run_blocks m g
  · run_from Cert.RefMergeDxIdeal.Value.run m' g'
    rw [Cert.MergeDxIdeal.Product.final m c]
    funext i
    pointwise [Cert.Product.nt]

/-- The reference runs and leaves its arguments as they were. -/
theorem Cert.Product.MergeDx.frame_reference : Cert.quiescent_RefMergeDxIdeal (hRefMergeDxIdeal := Cert.RefMergeDxIdeal.Gen.facts) :=
  fun m ρ _ => (θ_run Cert.RefMergeDxIdeal.defs _ _).mono (fun r h => ⟨fun c => (h c).2, Idealize.ShloMosaic.sem_eq_zero_of_no_sems (by decide) r.2⟩)
    (Cert.RefMergeDxIdeal.Value.run m ρ)

namespace Cert.MergeDwIdeal.Product

open Cert.MergeDwIdeal Cert.MergeDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S512x1024 .f32) (y : Vec Ideal S512x1024 .f32)
    (j : S1024x1024.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val, 0] ∧ win0_1.index t = ![t.val, 0] ∧ win0_2.index t = ![0, 0] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.MergeDwIdeal.Product

/-- The kernel and the reference leave the same product. -/
theorem Cert.Product.MergeDw.value : Cert.algebraic_MergeDwIdeal_RefMergeDwIdeal (hMergeDwIdeal := Cert.MergeDwIdeal.Gen.facts)
    (hRefMergeDwIdeal := Cert.RefMergeDwIdeal.Gen.facts) := by
  pair_intro
  · run_from Cert.MergeDwIdeal.Value.run_blocks m g
  · run_from Cert.RefMergeDwIdeal.Value.run m' g'
    rw [Cert.MergeDwIdeal.Product.final m c]
    funext i
    pointwise [Cert.Product.tn]
    exact Finset.sum_congr rfl fun k _ => mul_comm _ _

/-- The reference runs and leaves its arguments as they were. -/
theorem Cert.Product.MergeDw.frame_reference : Cert.quiescent_RefMergeDwIdeal (hRefMergeDwIdeal := Cert.RefMergeDwIdeal.Gen.facts) :=
  fun m ρ _ => (θ_run Cert.RefMergeDwIdeal.defs _ _).mono (fun r h => ⟨fun c => (h c).2, Idealize.ShloMosaic.sem_eq_zero_of_no_sems (by decide) r.2⟩)
    (Cert.RefMergeDwIdeal.Value.run m ρ)

end
-- ==== Proof.Product.Query.lean ====
/-
  The products with one weight matrix, the query projection of the attention over the memory: the product itself, the gradient of its rows and the
  gradient of the matrix. Of each: what one step of the kernel adds, what its result array holds, and that the reference
  leaves the same.
-/
module

public import proofs.«01_k».proof.Proof.Gen.QueryIdeal.Value
public import proofs.«01_k».proof.Proof.Gen.RefQueryIdeal.Run
public import proofs.«01_k».proof.Proof.Gen.QueryDxIdeal.Value
public import proofs.«01_k».proof.Proof.Gen.RefQueryDxIdeal.Run
public import proofs.«01_k».proof.Proof.Gen.QueryDwIdeal.Value
public import proofs.«01_k».proof.Proof.Gen.RefQueryDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.QueryIdeal.Product

open Cert.QueryIdeal Cert.QueryIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x512 .f32) (x : Vec Ideal S1024x1024 .f32) (y : Vec Ideal S1024x512 .bf16)
    (j : S1024x512.Idx) :
    k0_pay2 (F := Ideal) acc x y j = (show EReal from acc j) + ∑ k : Fin 1024, (show EReal from x (ix2 (j 0) k)) * (show EReal from y (ix2 k (j 1))) := by
  pointwise [k0_pay2]

/-- The block an accumulation starts from is zero. -/
theorem zero_apply (j : S1024x512.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x512.Idx) : outsAt0 m c t j
    = ∑ k : Fin 1024, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.QueryIdeal.Product

/-- The kernel and the reference leave the same product. -/
theorem Cert.Product.Query.value : Cert.algebraic_QueryIdeal_RefQueryIdeal (hQueryIdeal := Cert.QueryIdeal.Gen.facts)
    (hRefQueryIdeal := Cert.RefQueryIdeal.Gen.facts) := by
  pair_intro
  · run_from Cert.QueryIdeal.Value.run_blocks m g
  · run_from Cert.RefQueryIdeal.Value.run m' g'
    rw [Cert.QueryIdeal.Product.final m c]
    funext i
    pointwise [Cert.Product.nn]

/-- The reference runs and leaves its arguments as they were. -/
theorem Cert.Product.Query.frame_reference : Cert.quiescent_RefQueryIdeal (hRefQueryIdeal := Cert.RefQueryIdeal.Gen.facts) :=
  fun m ρ _ => (θ_run Cert.RefQueryIdeal.defs _ _).mono (fun r h => ⟨fun c => (h c).2, Idealize.ShloMosaic.sem_eq_zero_of_no_sems (by decide) r.2⟩)
    (Cert.RefQueryIdeal.Value.run m ρ)

namespace Cert.QueryDxIdeal.Product

open Cert.QueryDxIdeal Cert.QueryDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S1024x512 .f32) (y : Vec Ideal S1024x512 .bf16)
    (j : S1024x1024.Idx) :
    k0_pay2 (F := Ideal) acc x y j = (show EReal from acc j) + ∑ k : Fin 512, (show EReal from x (ix2 (j 0) k)) * (show EReal from y (ix2 (j 1) k)) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![t.val, 0] ∧ win0_1.index t = ![0, 0] ∧ win0_2.index t = ![t.val, 0] :=
  (by decide +kernel : ∀ t : Fin grid0.N, _)

/-- The block a grid point computes: the product of its two input blocks. -/
theorem block_apply (c : Dev nD) (t : Fin cfg0.N) (j : S1024x1024.Idx) : outsAt0 m c t j
    = ∑ k : Fin 512, (show EReal from iblk m c 0 t (ix2 (j 0) k)) * (show EReal from iblk m c 1 t (ix2 (j 1) k)) := by
  simp only [outsAt0]
  frame_out
  rw [step_apply, zero_apply]
  exact zero_add _

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.QueryDxIdeal.Product

/-- The kernel and the reference leave the same product. -/
theorem Cert.Product.QueryDx.value : Cert.algebraic_QueryDxIdeal_RefQueryDxIdeal (hQueryDxIdeal := Cert.QueryDxIdeal.Gen.facts)
    (hRefQueryDxIdeal := Cert.RefQueryDxIdeal.Gen.facts) := by
  pair_intro
  · run_from Cert.QueryDxIdeal.Value.run_blocks m g
  · run_from Cert.RefQueryDxIdeal.Value.run m' g'
    rw [Cert.QueryDxIdeal.Product.final m c]
    funext i
    pointwise [Cert.Product.nt]

/-- The reference runs and leaves its arguments as they were. -/
theorem Cert.Product.QueryDx.frame_reference : Cert.quiescent_RefQueryDxIdeal (hRefQueryDxIdeal := Cert.RefQueryDxIdeal.Gen.facts) :=
  fun m ρ _ => (θ_run Cert.RefQueryDxIdeal.defs _ _).mono (fun r h => ⟨fun c => (h c).2, Idealize.ShloMosaic.sem_eq_zero_of_no_sems (by decide) r.2⟩)
    (Cert.RefQueryDxIdeal.Value.run m ρ)

namespace Cert.QueryDwIdeal.Product

open Cert.QueryDwIdeal Cert.QueryDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x512 .f32) (x : Vec Ideal S512x1024 .f32) (y : Vec Ideal S512x512 .f32)
    (j : S1024x512.Idx) :
    k0_pay2 (F := Ideal) acc x y j = (show EReal from acc j) + ∑ k : Fin 512, (show EReal from x (ix2 k (j 0))) * (show EReal from y (ix2 k (j 1))) := by
  pointwise [k0_pay2]

/-- The block an accumulation starts from is zero. -/
theorem zero_apply (j : S1024x512.Idx) : k0_pay1 (F := Ideal) j = 0 := by
  pointwise [k0_pay1]

/-- The block each window is on at a grid point. -/
theorem idx : ∀ t : Fin cfg0.N, win0_0.index t = ![t.val, 0] ∧ win0_1.index t = ![t.val, 0] ∧ win0_2.index t = ![0, 0] :=
  (by decide +kernel : ∀ t : Fin grid0.N, _)

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_apply, zero_apply])
    (fun t h j => by rw [outsAt0_B m c t h]; frame_out; rw [step_apply]) t ((flush0_2 t).mp hf) y, zero_add]
  refine Fin.sum_mul_add_congr fun s k hl => ?_
  have hi := idx ⟨_, Pipeline.run_point_lt_of_flush t ((flush0_2 t).mp hf) s⟩
  have ht := (flush0_2 t).mp hf
  congr 1 <;> blk_ext [iblk, V, hi, idx t]

end Cert.QueryDwIdeal.Product

/-- The kernel and the reference leave the same product. -/
theorem Cert.Product.QueryDw.value : Cert.algebraic_QueryDwIdeal_RefQueryDwIdeal (hQueryDwIdeal := Cert.QueryDwIdeal.Gen.facts)
    (hRefQueryDwIdeal := Cert.RefQueryDwIdeal.Gen.facts) := by
  pair_intro
  · run_from Cert.QueryDwIdeal.Value.run_blocks m g
  · run_from Cert.RefQueryDwIdeal.Value.run m' g'
    rw [Cert.QueryDwIdeal.Product.final m c]
    funext i
    pointwise [Cert.Product.tn]
    exact Finset.sum_congr rfl fun k _ => mul_comm _ _

/-- The reference runs and leaves its arguments as they were. -/
theorem Cert.Product.QueryDw.frame_reference : Cert.quiescent_RefQueryDwIdeal (hRefQueryDwIdeal := Cert.RefQueryDwIdeal.Gen.facts) :=
  fun m ρ _ => (θ_run Cert.RefQueryDwIdeal.defs _ _).mono (fun r h => ⟨fun c => (h c).2, Idealize.ShloMosaic.sem_eq_zero_of_no_sems (by decide) r.2⟩)
    (Cert.RefQueryDwIdeal.Value.run m ρ)

end
-- ==== Proof.Product.Memory.lean ====
/-
  The products with one weight matrix, the key and value projection of the memory: the product itself, the gradient of its rows and the
  gradient of the matrix. Of each: what one step of the kernel adds, what its result array holds, and that the reference
  leaves the same.
-/
module

public import proofs.«01_k».proof.Proof.Gen.MemoryIdeal.Value
public import proofs.«01_k».proof.Proof.Gen.RefMemoryIdeal.Run
public import proofs.«01_k».proof.Proof.Gen.MemoryDxIdeal.Value
public import proofs.«01_k».proof.Proof.Gen.RefMemoryDxIdeal.Run
public import proofs.«01_k».proof.Proof.Gen.MemoryDwIdeal.Value
public import proofs.«01_k».proof.Proof.Gen.RefMemoryDwIdeal.Run
public import proofs.«01_k».proof.Defs
public import Idealize.ShloMosaic.Lib.Pipeline.ValueKit
public import Idealize.ShloMosaic.Lib.Pointwise
public import Idealize.ShloMosaic.Lib.Claim
public import proofs.«01_k».proof.Proof.Product.Spec

@[expose] public section

set_option maxRecDepth 16384

noncomputable section

open Idealize.ShloMosaic Idealize.ShloMosaic.TcCoe Idealize.SL.Sem

namespace Cert.MemoryIdeal.Product

open Cert.MemoryIdeal Cert.MemoryIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S256x1024 .f32) (x : Vec Ideal S256x1024 .f32) (y : Vec Ideal S1024x1024 .bf16)
    (j : S256x1024.Idx) :
    k0_pay2 (F := Ideal) acc x y j = (show EReal from acc j) + ∑ k : Fin 1024, (show EReal from x (ix2 (j 0) k)) * (show EReal from y (ix2 k (j 1))) := by
  pointwise [k0_pay2]

/-- The block an accumulation starts from is zero. -/
theorem zero_apply (j : S256x1024.Idx) : k0_pay1 (F := Ideal) j = 0 := by
  pointwise [k0_pay1]

/-- The block each window is on at a grid point. -/
theorem idx : ∀ t : Fin cfg0.N, win0_0.index t = ![0, 0] ∧ win0_1.index t = ![0, 0] ∧ win0_2.index t = ![0, 0] :=
  (by decide +kernel : ∀ t : Fin grid0.N, _)

/-- The block a grid point computes: the product of its two input blocks. -/
theorem block_apply (c : Dev nD) (t : Fin cfg0.N) (j : S256x1024.Idx) : outsAt0 m c t j
    = ∑ k : Fin 1024, (show EReal from iblk m c 0 t (ix2 (j 0) k)) * (show EReal from iblk m c 1 t (ix2 k (j 1))) := by
  simp only [outsAt0]
  frame_out
  rw [step_apply, zero_apply]
  exact zero_add _

/-- The result array holds the product of the first argument and the second. -/
theorem final (c : Dev nD) : (dats m 0 c).arrAt 2 (cfgs 0).N
    = Cert.Product.nn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.MemoryIdeal.Product

/-- The kernel and the reference leave the same product. -/
theorem Cert.Product.Memory.value : Cert.algebraic_MemoryIdeal_RefMemoryIdeal (hMemoryIdeal := Cert.MemoryIdeal.Gen.facts)
    (hRefMemoryIdeal := Cert.RefMemoryIdeal.Gen.facts) := by
  pair_intro
  · run_from Cert.MemoryIdeal.Value.run_blocks m g
  · run_from Cert.RefMemoryIdeal.Value.run m' g'
    rw [Cert.MemoryIdeal.Product.final m c]
    funext i
    pointwise [Cert.Product.nn]

/-- The reference runs and leaves its arguments as they were. -/
theorem Cert.Product.Memory.frame_reference : Cert.quiescent_RefMemoryIdeal (hRefMemoryIdeal := Cert.RefMemoryIdeal.Gen.facts) :=
  fun m ρ _ => (θ_run Cert.RefMemoryIdeal.defs _ _).mono (fun r h => ⟨fun c => (h c).2, Idealize.ShloMosaic.sem_eq_zero_of_no_sems (by decide) r.2⟩)
    (Cert.RefMemoryIdeal.Value.run m ρ)

namespace Cert.MemoryDxIdeal.Product

open Cert.MemoryDxIdeal Cert.MemoryDxIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S256x1024 .f32) (x : Vec Ideal S256x1024 .f32) (y : Vec Ideal S1024x1024 .bf16)
    (j : S256x1024.Idx) :
    k0_pay2 (F := Ideal) acc x y j = (show EReal from acc j) + ∑ k : Fin 1024, (show EReal from x (ix2 (j 0) k)) * (show EReal from y (ix2 (j 1) k)) := by
  pointwise [k0_pay2]

/-- The block an accumulation starts from is zero. -/
theorem zero_apply (j : S256x1024.Idx) : k0_pay1 (F := Ideal) j = 0 := by
  pointwise [k0_pay1]

/-- The block each window is on at a grid point. -/
theorem idx : ∀ t : Fin cfg0.N, win0_0.index t = ![0, 0] ∧ win0_1.index t = ![0, 0] ∧ win0_2.index t = ![0, 0] :=
  (by decide +kernel : ∀ t : Fin grid0.N, _)

/-- The block a grid point computes: the product of its two input blocks. -/
theorem block_apply (c : Dev nD) (t : Fin cfg0.N) (j : S256x1024.Idx) : outsAt0 m c t j
    = ∑ k : Fin 1024, (show EReal from iblk m c 0 t (ix2 (j 0) k)) * (show EReal from iblk m c 1 t (ix2 (j 1) k)) := by
  simp only [outsAt0]
  frame_out
  rw [step_apply, zero_apply]
  exact zero_add _

/-- The result array holds the product of the first argument and the transposed second. -/
theorem final (c : Dev nD) : (dats m 0 c).arrAt 2 (cfgs 0).N
    = Cert.Product.nt (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.MemoryDxIdeal.Product

/-- The kernel and the reference leave the same product. -/
theorem Cert.Product.MemoryDx.value : Cert.algebraic_MemoryDxIdeal_RefMemoryDxIdeal (hMemoryDxIdeal := Cert.MemoryDxIdeal.Gen.facts)
    (hRefMemoryDxIdeal := Cert.RefMemoryDxIdeal.Gen.facts) := by
  pair_intro
  · run_from Cert.MemoryDxIdeal.Value.run_blocks m g
  · run_from Cert.RefMemoryDxIdeal.Value.run m' g'
    rw [Cert.MemoryDxIdeal.Product.final m c]
    funext i
    pointwise [Cert.Product.nt]

/-- The reference runs and leaves its arguments as they were. -/
theorem Cert.Product.MemoryDx.frame_reference : Cert.quiescent_RefMemoryDxIdeal (hRefMemoryDxIdeal := Cert.RefMemoryDxIdeal.Gen.facts) :=
  fun m ρ _ => (θ_run Cert.RefMemoryDxIdeal.defs _ _).mono (fun r h => ⟨fun c => (h c).2, Idealize.ShloMosaic.sem_eq_zero_of_no_sems (by decide) r.2⟩)
    (Cert.RefMemoryDxIdeal.Value.run m ρ)

namespace Cert.MemoryDwIdeal.Product

open Cert.MemoryDwIdeal Cert.MemoryDwIdeal.Gen Idealize.ShloMosaic Idealize.ShloMosaic.TcCoe Idealize.SL.Sem

variable (m : (ℓ : Loc nD τ sig) → Buf (Elt Ideal) ℓ)

/-- One step adds to the accumulator the product of the two blocks. -/
theorem step_apply (acc : Vec Ideal S1024x1024 .f32) (x : Vec Ideal S256x1024 .f32) (y : Vec Ideal S256x1024 .f32)
    (j : S1024x1024.Idx) :
    k0_pay2 (F := Ideal) acc x y j = (show EReal from acc j) + ∑ k : Fin 256, (show EReal from x (ix2 k (j 0))) * (show EReal from y (ix2 k (j 1))) := by
  pointwise [k0_pay2]

/-- The block an accumulation starts from is zero. -/
theorem zero_apply (j : S1024x1024.Idx) : k0_pay1 (F := Ideal) j = 0 := by
  pointwise [k0_pay1]

/-- The block each window is on at a grid point. -/
theorem idx : ∀ t : Fin cfg0.N, win0_0.index t = ![0, 0] ∧ win0_1.index t = ![0, 0] ∧ win0_2.index t = ![0, 0] :=
  (by decide +kernel : ∀ t : Fin grid0.N, _)

/-- The block a grid point computes: the product of its two input blocks. -/
theorem block_apply (c : Dev nD) (t : Fin cfg0.N) (j : S1024x1024.Idx) : outsAt0 m c t j
    = ∑ k : Fin 256, (show EReal from iblk m c 0 t (ix2 k (j 0))) * (show EReal from iblk m c 1 t (ix2 k (j 1))) := by
  simp only [outsAt0]
  frame_out
  rw [step_apply, zero_apply]
  exact zero_add _

/-- The result array holds the product of the transposed first argument and the second. -/
theorem final (c : Dev nD) : (dats m 0 c).arrAt 2 (cfgs 0).N
    = Cert.Product.tn (m ((c : Thread nD τ).loc main_arg0)) (m ((c : Thread nD τ).loc main_arg1)) := by
  refine (dats m 0 c).arrAt_eq_of_covers 2 _ (by decide +kernel) fun t hf y => ?_
  blk_simp
  rw [after0_2]
  refine (block_apply m c t y).trans ?_
  refine Finset.sum_congr rfl fun k _ => ?_
  congr 1 <;> blk_ext [iblk, V, idx t]

end Cert.MemoryDwIdeal.Product

/-- The kernel and the reference leave the same product. -/
theorem Cert.Product.MemoryDw.value : Cert.algebraic_MemoryDwIdeal_RefMemoryDwIdeal (hMemoryDwIdeal := Cert.MemoryDwIdeal.Gen.facts)
    (hRefMemoryDwIdeal := Cert.RefMemoryDwIdeal.Gen.facts) := by
  pair_intro
  · run_from Cert.MemoryDwIdeal.Value.run_blocks m g
  · run_from Cert.RefMemoryDwIdeal.Value.run m' g'
    rw [Cert.MemoryDwIdeal.Product.final m c]
    funext i
    pointwise [Cert.Product.tn]
    exact Finset.sum_congr rfl fun k _ => mul_comm _ _

/-- The reference runs and leaves its arguments as they were. -/
theorem Cert.Product.MemoryDw.frame_reference : Cert.quiescent_RefMemoryDwIdeal (hRefMemoryDwIdeal := Cert.RefMemoryDwIdeal.Gen.facts) :=
  fun m ρ _ => (θ_run Cert.RefMemoryDwIdeal.defs _ _).mono (fun r h => ⟨fun c => (h c).2, Idealize.ShloMosaic.sem_eq_zero_of_no_sems (by decide) r.2⟩)
    (Cert.RefMemoryDwIdeal.Value.run m ρ)

end
-- ==== Proof.Mem.Row.lean ====
/-
  One row of the attention over the memory bank, over the extended reals: the softmax of a row of scores and the
  gradient it passes back to the scores, in the two forms the programs compute it.
-/
module

public import Idealize.ShloMosaic.PureOps.Ideal

@[expose] public section

noncomputable section

namespace Cert.Mem

open Idealize.ShloMosaic

/-- The factor the scores are multiplied by: the single-precision value next to `1/√128`. -/
def factor : EReal := Ideal.ofBits .f32 0x3DB504F3#32

/-- The factor is a real number that is not negative. -/
theorem factor_real : ∃ c : ℝ, 0 ≤ c ∧ factor = (c : EReal) := by
  refine ⟨_, ?_, by simp [factor, Ideal.ofBits, Ideal.ieee, -EReal.coe_mul]; rfl⟩
  positivity

variable {n : Nat}

/-- The largest score of a row. -/
def top (s : Fin n → EReal) : EReal := Finset.univ.fold max ⊥ s

/-- The exponential of a score less the row's largest. -/
def weight (s : Fin n → EReal) (j : Fin n) : EReal := Ideal.exp (s j - top s)

/-- The sum of a row's weights. -/
def total (s : Fin n → EReal) : EReal := ∑ j, weight s j

/-- The softmax of a row. -/
def prob (s : Fin n → EReal) (j : Fin n) : EReal := Ideal.div (weight s j) (total s)

/-- The gradient with respect to the scores, from the gradient `g` with respect to the probabilities: `p · (g - Σ p g)`. -/
def back (s g : Fin n → EReal) (j : Fin n) : EReal := prob s j * (g j - ∑ l, prob s l * g l)

/-- The same gradient as differentiating the quotient term by term writes it: the numerator's part `g / Σ` and the
    denominator's part `-Σ g / Σ² · e`, both times the weight. -/
def backQuotient (s g : Fin n → EReal) (j : Fin n) : EReal :=
  (Ideal.div (g j) (total s) + -(∑ l, g l * Ideal.div 1 (total s * total s) * weight s l)) * weight s j

/-- A real factor that is not negative moves into a sum of extended reals. -/
theorem mul_sum_of_nonneg {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The factor of the scores moves into a sum. -/
theorem sum_mul_factor {ι : Type*} (t : Finset ι) (f : ι → EReal) : (∑ i ∈ t, f i) * factor = ∑ i ∈ t, f i * factor := by
  obtain ⟨c, hc, e⟩ := factor_real
  rw [e, mul_comm, mul_sum_of_nonneg t c hc]
  exact Finset.sum_congr rfl fun i _ => mul_comm _ _

/-- A sum of real numbers is a real number. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The largest of finitely many real scores is one of them. -/
theorem top_mem [NeZero n] (s : Fin n → EReal) : ∃ j, top s = s j := by
  have h : top s = Finset.univ.sup s := rfl
  obtain ⟨j, -, e⟩ := Finset.exists_mem_eq_sup Finset.univ (Finset.univ_nonempty) s
  exact ⟨j, h.trans e⟩

/-- Of real scores every weight is a positive real number. -/
theorem weight_real [NeZero n] (s : Fin n → EReal) (hs : ∀ j, ∃ r : ℝ, s j = (r : EReal)) (j : Fin n) :
    ∃ e : ℝ, 0 < e ∧ weight s j = (e : EReal) := by
  obtain ⟨k, hk⟩ := top_mem s
  obtain ⟨a, ha⟩ := hs j
  obtain ⟨b, hb⟩ := hs k
  refine ⟨Real.exp (a - b), Real.exp_pos _, ?_⟩
  rw [weight, hk, ha, hb, ← EReal.coe_sub, Ideal.exp_coe]

/-- Of real scores the weights' sum is a positive real number. -/
theorem total_real [NeZero n] (s : Fin n → EReal) (hs : ∀ j, ∃ r : ℝ, s j = (r : EReal)) :
    ∃ z : ℝ, 0 < z ∧ total s = (z : EReal) := by
  choose e he hw using weight_real s hs
  refine ⟨∑ j, e j, Finset.sum_pos (fun j _ => he j) Finset.univ_nonempty, ?_⟩
  rw [total, ← coe_sum]
  exact Finset.sum_congr rfl fun j _ => hw j

/-- For real scores, whatever the gradient of the probabilities, the two forms of the gradient agree. -/
theorem back_eq [NeZero n] (s g : Fin n → EReal) (hs : ∀ j, ∃ r : ℝ, s j = (r : EReal)) (j : Fin n) :
    backQuotient s g j = back s g j := by
  obtain ⟨z, hz, ez⟩ := total_real s hs
  have hz' : z ≠ 0 := hz.ne'
  have hi : (0 : ℝ) ≤ 1 / z := (one_div_pos.2 hz).le
  have hsum : ∑ l, g l * Ideal.div 1 (total s * total s) * weight s l
      = ((1 / z : ℝ) : EReal) * ∑ l, prob s l * g l := by
    rw [mul_sum_of_nonneg _ _ hi]
    refine Finset.sum_congr rfl fun l _ => ?_
    rw [prob, ez, ← EReal.coe_mul, Ideal.div_coe (mul_ne_zero hz' hz'), Ideal.div_coe hz', one_mul,
      show (1 / (z * z) : ℝ) = (1 / z) * (1 / z) by field_simp, EReal.coe_mul]
    ac_rfl
  rw [backQuotient, hsum, back, prob, ez, Ideal.div_coe hz', Ideal.div_coe hz', mul_comm (g j),
    sub_eq_add_neg, ← mul_neg, ← EReal.left_distrib_of_nonneg_of_ne_top (by exact_mod_cast hi) (EReal.coe_ne_top _)]
  ac_rfl

end Cert.Mem

end
-- ==== Proof.Mem.Block.lean ====
/-
  What one grid point of the attention's backward pass computes from its blocks, over the extended reals: the softmax of
  each of its 512 rows of scores, the gradient of the scores, and the three products taken with it.
-/
module

public import proofs.«01_k».proof.Proof.Gen.KernelIdeal.Frame
public import proofs.«01_k».proof.Proof.Mem.Row
public import Idealize.ShloMosaic.Lib.Pipeline.ValueKit
public import Idealize.ShloMosaic.Lib.Pointwise

@[expose] public section

set_option maxRecDepth 16384

noncomputable section

namespace Cert.KernelIdeal.Mem

open Cert.KernelIdeal Cert.KernelIdeal.Gen Cert.Mem Idealize.ShloMosaic Idealize.ShloMosaic.TcCoe Idealize.SL.Sem

/-- The scores of a row of a block of queries against a block of keys. -/
def blockScore (q : FVec Ideal S512x128 .bf16) (k : FVec Ideal S256x128 .bf16) (r : Fin 512) (j : Fin 256) : EReal :=
  (∑ x : Fin 128, q (ix2 r x) * k (ix2 j x)) * factor

/-- The gradient of a row of probabilities from a block of the output's gradient and a block of values. -/
def blockGrad (g : FVec Ideal S512x128 .f32) (v : FVec Ideal S256x128 .bf16) (r : Fin 512) (j : Fin 256) : EReal :=
  ∑ x : Fin 128, g (ix2 r x) * v (ix2 j x)

/-- The word of minus infinity is the least extended real. -/
theorem negInf : Ideal.ofBits .f32 0xFF800000#32 = ⊥ := by
  simp [Ideal.ofBits, Ideal.ieee]

/-- The point's probabilities are the softmax of its rows of scores. -/
theorem prob_apply (q : FVec Ideal S512x128 .bf16) (k : FVec Ideal S256x128 .bf16) (r : Fin 512) (j : Fin 256) :
    k0_pay5 (F := Ideal) q k (ix2 r j) = prob (blockScore q k r) j := by
  pointwise [k0_pay5]
  rw [negInf]
  rfl

/-- The point's gradient of the scores. -/
theorem back_apply (q : FVec Ideal S512x128 .bf16) (k v : FVec Ideal S256x128 .bf16) (g : FVec Ideal S512x128 .f32)
    (r : Fin 512) (j : Fin 256) :
    k0_pay7 (F := Ideal) q k g v (ix2 r j) = back (blockScore q k r) (blockGrad g v r) j := by
  pointwise [k0_pay7, k0_pay6]
  simp only [prob_apply]
  rfl

/-- The point's rows of the gradient of the queries. -/
theorem dq_apply (q : FVec Ideal S512x128 .bf16) (k v k' : FVec Ideal S256x128 .bf16) (g : FVec Ideal S512x128 .f32)
    (r : Fin 512) (d : Fin 128) :
    k0_pay8 (F := Ideal) q k g v k' (ix2 r d)
      = ∑ j : Fin 256, back (blockScore q k r) (blockGrad g v r) j * factor * k' (ix2 j d) := by
  pointwise [k0_pay8]
  simp only [back_apply]
  refine (sum_mul_factor _ _).trans (Finset.sum_congr rfl fun j _ => ?_)
  rw [mul_assoc, mul_assoc, mul_comm factor]

/-- What the point adds to the gradient of the keys. -/
theorem dk_apply (s : FVec Ideal S512x256 .bf16) (acc : FVec Ideal S256x128 .f32) (q : FVec Ideal S512x128 .bf16)
    (j : S256x128.Idx) :
    k0_pay1 (F := Ideal) s acc q j = acc j + ∑ r : Fin 512, s (ix2 r (j 0)) * factor * q (ix2 r (j 1)) := by
  pointwise [k0_pay1]
  refine congrArg _ ((sum_mul_factor _ _).trans (Finset.sum_congr rfl fun j _ => ?_))
  rw [mul_assoc, mul_assoc, mul_comm factor]

/-- What the point adds to the gradient of the values. -/
theorem dv_apply (p : FVec Ideal S512x256 .f32) (g : FVec Ideal S512x128 .bf16) (acc : FVec Ideal S256x128 .f32)
    (j : S256x128.Idx) :
    k0_pay2 (F := Ideal) p g acc j = acc j + ∑ r : Fin 512, p (ix2 r (j 0)) * g (ix2 r (j 1)) := by
  pointwise [k0_pay2]

/-- The gradient of the keys starts from zero. -/
theorem dk_zero (j : S256x128.Idx) : k0_pay3 (F := Ideal) j = 0 := by pointwise [k0_pay3]

/-- The gradient of the values starts from zero. -/
theorem dv_zero (j : S256x128.Idx) : k0_pay4 (F := Ideal) j = 0 := by pointwise [k0_pay4]

/-- Rounding the output's gradient changes nothing over the extended reals. -/
theorem round_apply (g : FVec Ideal S512x128 .f32) (j : S512x128.Idx) : k0_pay6 (F := Ideal) g j = g j := by pointwise [k0_pay6]

end Cert.KernelIdeal.Mem

end
-- ==== Proof.Mem.Spec.lean ====
/-
  The three gradients of the attention over the memory bank, over the extended reals, as functions of the queries `Q`, the
  bank's keys `K` and values `V`, and the gradient `G` with respect to the attention's output. Four heads of 128 columns
  each lie side by side in a row of 512.
-/
module

public import proofs.«01_k».proof.Proof.Mem.Row
public import Idealize.ShloMosaic.Lib.Pointwise

@[expose] public section

noncomputable section

namespace Cert.Mem

open Idealize.ShloMosaic

/-- Column `x` of head `h`. -/
abbrev col (h : Fin 4) (x : Fin 128) : Fin 512 := ⟨h.val * 128 + x.val, by omega⟩

/-- The head a column is in. -/
abbrev headOf (l : Fin 512) : Fin 4 := ⟨l.val / 128, by omega⟩

variable (Q G : FVec Ideal ⟨2, ![8192, 512]⟩ .f32) (K V : FVec Ideal ⟨2, ![256, 512]⟩ .f32)

/-- The scores of query `r` in head `h`. -/
def score (h : Fin 4) (r : Fin 8192) (j : Fin 256) : EReal := (∑ x : Fin 128, Q (ix2 r (col h x)) * K (ix2 j (col h x))) * factor

/-- The gradient with respect to the probabilities of query `r` in head `h`. -/
def probGrad (h : Fin 4) (r : Fin 8192) (j : Fin 256) : EReal := ∑ x : Fin 128, G (ix2 r (col h x)) * V (ix2 j (col h x))

/-- The gradient with respect to the queries. -/
def dq : FVec Ideal ⟨2, ![8192, 512]⟩ .f32 := fun i =>
  ∑ j : Fin 256, back (score Q K (headOf (i 1)) (i 0)) (probGrad G V (headOf (i 1)) (i 0)) j * factor * K (ix2 j (i 1))

/-- The gradient with respect to the keys. -/
def dk : FVec Ideal ⟨2, ![256, 512]⟩ .f32 := fun i =>
  ∑ r : Fin 8192, back (score Q K (headOf (i 1)) r) (probGrad G V (headOf (i 1)) r) (i 0) * factor * Q (ix2 r (i 1))

/-- The gradient with respect to the values. -/
def dv : FVec Ideal ⟨2, ![256, 512]⟩ .f32 := fun i =>
  ∑ r : Fin 8192, prob (score Q K (headOf (i 1)) r) (i 0) * G (ix2 r (i 1))

end Cert.Mem

end
-- ==== Proof.Mem.Array.lean ====
/-
  What the attention's backward pass leaves in its three result arrays, over the extended reals: the gradients of the
  queries, the keys and the values.
-/
module

public import proofs.«01_k».proof.Proof.Mem.Block
public import proofs.«01_k».proof.Proof.Mem.Spec

@[expose] public section

set_option maxRecDepth 16384

noncomputable section

namespace Cert.KernelIdeal.Mem

open Cert.KernelIdeal Cert.KernelIdeal.Gen Cert.Mem Idealize.ShloMosaic Idealize.ShloMosaic.TcCoe Idealize.SL.Sem

variable (m : (ℓ : Loc nD τ sig) → Buf (Elt Ideal) ℓ) (c : Dev nD)

/-- The queries. -/
abbrev argQ : FVec Ideal S8192x512 .f32 := m ((c : Thread nD τ).loc main_arg0)
/-- The keys. -/
abbrev argK : FVec Ideal S256x512 .f32 := m ((c : Thread nD τ).loc main_arg1)
/-- The values. -/
abbrev argV : FVec Ideal S256x512 .f32 := m ((c : Thread nD τ).loc main_arg2)
/-- The gradient of the output. -/
abbrev argG : FVec Ideal S8192x512 .f32 := m ((c : Thread nD τ).loc main_arg3)

/-- The block each window is on at a grid point: point `t` is tile `t % 16` of head `t / 16`. -/
theorem idx : ∀ t : Fin cfg0.N, win0_0.index t = ![t.val % 16, t.val / 16] ∧ win0_1.index t = ![0, t.val / 16]
    ∧ win0_2.index t = ![0, t.val / 16] ∧ win0_3.index t = ![t.val % 16, t.val / 16]
    ∧ win0_4.index t = ![t.val % 16, t.val / 16] ∧ win0_5.index t = ![0, t.val / 16] ∧ win0_6.index t = ![0, t.val / 16]
    ∧ t.val / 16 < 4 :=
  (by decide +kernel : ∀ t : Fin grid0.N, _)

/-- The head of a grid point. -/
abbrev ptHead (t : Fin cfg0.N) : Fin 4 := ⟨t.val / 16, (idx t).2.2.2.2.2.2.2⟩
/-- The query that row `r` of a grid point's tile is. -/
abbrev ptRow (t : Fin cfg0.N) (r : Fin 512) : Fin 8192 := ⟨t.val % 16 * 512 + r.val, by omega⟩

/-- A point's block of queries. -/
theorem readQ (t : Fin cfg0.N) (r : Fin 512) (x : Fin 128) :
    (show FVec Ideal S512x128 .bf16 from iblk m c 0 t) (ix2 r x) = argQ m c (ix2 (ptRow t r) (col (ptHead t) x)) := by
  blk_point [iblk, V, idx t]

/-- A point's block of keys. -/
theorem readK (t : Fin cfg0.N) (j : Fin 256) (x : Fin 128) :
    (show FVec Ideal S256x128 .bf16 from iblk m c 1 t) (ix2 j x) = argK m c (ix2 j (col (ptHead t) x)) := by
  blk_point [iblk, V, idx t]

/-- A point's block of values. -/
theorem readV (t : Fin cfg0.N) (j : Fin 256) (x : Fin 128) :
    (show FVec Ideal S256x128 .bf16 from iblk m c 2 t) (ix2 j x) = argV m c (ix2 j (col (ptHead t) x)) := by
  blk_point [iblk, V, idx t]

/-- A point's block of the output's gradient. -/
theorem readG (t : Fin cfg0.N) (r : Fin 512) (x : Fin 128) :
    (show FVec Ideal S512x128 .f32 from iblk m c 3 t) (ix2 r x) = argG m c (ix2 (ptRow t r) (col (ptHead t) x)) := by
  blk_point [iblk, V, idx t]

/-- A point's scores are the scores of its queries in its head. -/
theorem score_pt (t : Fin cfg0.N) (r : Fin 512) :
    blockScore (iblk m c 0 t) (iblk m c 1 t) r = score (argQ m c) (argK m c) (ptHead t) (ptRow t r) := by
  funext j
  exact congrArg (· * factor) (Finset.sum_congr rfl fun x _ => congrArg₂ (· * ·) (readQ m c t r x) (readK m c t j x))

/-- A point's gradients of its probabilities. -/
theorem grad_pt (t : Fin cfg0.N) (r : Fin 512) :
    blockGrad (iblk m c 3 t) (iblk m c 2 t) r = probGrad (argG m c) (argV m c) (ptHead t) (ptRow t r) := by
  funext j
  exact Finset.sum_congr rfl fun x _ => congrArg₂ (· * ·) (readG m c t r x) (readV m c t j x)

/-- At every point the first output block is the point's rows of the gradient of the queries. -/
theorem first_out (t : Fin cfg0.N) : (outsAt0 m c t.val t.isLt).1
    = k0_pay8 (F := Ideal) (iblk m c 0 t) (iblk m c 1 t) (iblk m c 3 t) (iblk m c 2 t) (iblk m c 1 t) := by
  by_cases h : t.val % 16 = 0
  · rw [outsAt0_A m c t h]; frame_out
  · rw [outsAt0_B m c t h]; frame_out

/-- The head of a column of head `h` is `h`. -/
theorem headOf_col (h : Fin 4) (x : Fin 128) : headOf (col h x) = h := by
  apply Fin.ext; show (h.val * 128 + x.val) / 128 = h.val; omega

/-- Where an entry of a point's tile of the first result is. -/
theorem emb4 (t : Fin cfg0.N) (r : Fin 512) (d : Fin 128) :
    (show S8192x512.Idx from (win0_4.blk t).view.emb (ix2 r d)) = ix2 (ptRow t r) (col (ptHead t) d) := by
  blk_ext [idx t]

/-- Where an entry of a point's block of the second result is. -/
theorem emb5 (t : Fin cfg0.N) (j : Fin 256) (d : Fin 128) :
    (show S256x512.Idx from (win0_5.blk t).view.emb (ix2 j d)) = ix2 j (col (ptHead t) d) := by
  blk_ext [idx t]

/-- Where an entry of a point's block of the third result is. -/
theorem emb6 (t : Fin cfg0.N) (j : Fin 256) (d : Fin 128) :
    (show S256x512.Idx from (win0_6.blk t).view.emb (ix2 j d)) = ix2 j (col (ptHead t) d) := by
  blk_ext [idx t]

/-- The first result is the gradient of the queries. -/
theorem final_dq : (dats m 0 c).arrAt 4 (cfgs 0).N = dq (argQ m c) (argG m c) (argK m c) (argV m c) := by
  refine (dats m 0 c).arrAt_eq_of_covers 4 _ (by decide +kernel) fun t hf y => ?_
  blk_simp
  rw [after0_4, first_out]
  obtain ⟨r, d, rfl⟩ : ∃ (r : Fin 512) (d : Fin 128), y = ix2 r d := ⟨y 0, y 1, eq_ix2 y⟩
  rw [dq_apply, score_pt, grad_pt]
  refine Eq.trans ?_ (congrArg (dq (argQ m c) (argG m c) (argK m c) (argV m c)) (emb4 t r d)).symm
  show _ = ∑ j : Fin 256, back (score (argQ m c) (argK m c) (headOf (col (ptHead t) d)) (ptRow t r))
    (probGrad (argG m c) (argV m c) (headOf (col (ptHead t) d)) (ptRow t r)) j * factor * argK m c (ix2 j (col (ptHead t) d))
  rw [headOf_col]
  exact Finset.sum_congr rfl fun j _ => congrArg _ (readK m c t j d)

/-- The points of a run are all of one head. -/
theorem ptHead_run (t : Fin cfg0.N) (s : Fin 16) (h : 16 * (t.val / 16) + s.val < cfg0.N) :
    ptHead ⟨16 * (t.val / 16) + s.val, h⟩ = ptHead t := by
  apply Fin.ext; show (16 * (t.val / 16) + s.val) / 16 = t.val / 16; omega

/-- Point `s` of a run has the tile of queries `s`. -/
theorem ptRow_run (t : Fin cfg0.N) (s : Fin 16) (k : Fin 512) (h : 16 * (t.val / 16) + s.val < cfg0.N) (hl : s.val * 512 + k.val < 8192) :
    ptRow ⟨16 * (t.val / 16) + s.val, h⟩ k = ⟨s.val * 512 + k.val, hl⟩ := by
  apply Fin.ext; show (16 * (t.val / 16) + s.val) % 16 * 512 + k.val = s.val * 512 + k.val; omega

/-- A point adds to the gradient of the keys its 512 queries' part. -/
def partK (t : Fin cfg0.N) (j : S256x128.Idx) : EReal :=
  ∑ r : Fin 512, back (score (argQ m c) (argK m c) (ptHead t) (ptRow t r)) (probGrad (argG m c) (argV m c) (ptHead t) (ptRow t r)) (j 0)
    * factor * argQ m c (ix2 (ptRow t r) (col (ptHead t) (j 1)))

/-- A point adds to the gradient of the values its 512 queries' part. -/
def partV (t : Fin cfg0.N) (j : S256x128.Idx) : EReal :=
  ∑ r : Fin 512, prob (score (argQ m c) (argK m c) (ptHead t) (ptRow t r)) (j 0) * argG m c (ix2 (ptRow t r) (col (ptHead t) (j 1)))

/-- The second output block's step. -/
theorem step_dk (t : Fin cfg0.N) (acc : FVec Ideal S256x128 .f32) (j : S256x128.Idx) :
    k0_pay1 (F := Ideal) (k0_pay7 (F := Ideal) (iblk m c 0 t) (iblk m c 1 t) (iblk m c 3 t) (iblk m c 2 t)) acc (iblk m c 0 t) j
      = acc j + partK m c t j := by
  rw [dk_apply]
  refine congrArg _ (Finset.sum_congr rfl fun r _ => ?_)
  refine congrArg₂ (· * ·) (congrArg (· * factor) ?_) (readQ m c t r (j 1))
  exact (back_apply _ _ _ _ r (j 0)).trans (by rw [score_pt, grad_pt])

/-- The third output block's step. -/
theorem step_dv (t : Fin cfg0.N) (acc : FVec Ideal S256x128 .f32) (j : S256x128.Idx) :
    k0_pay2 (F := Ideal) (k0_pay5 (F := Ideal) (iblk m c 0 t) (iblk m c 1 t)) (k0_pay6 (F := Ideal) (iblk m c 3 t)) acc j
      = acc j + partV m c t j := by
  rw [dv_apply]
  refine congrArg _ (Finset.sum_congr rfl fun r _ => ?_)
  refine congrArg₂ (· * ·) ?_ ((round_apply _ _).trans (readG m c t r (j 1)))
  exact (prob_apply _ _ r (j 0)).trans (by rw [score_pt])

/-- The second result is the gradient of the keys. -/
theorem final_dk : (dats m 0 c).arrAt 5 (cfgs 0).N = dk (argQ m c) (argG m c) (argK m c) (argV m c) := by
  refine (dats m 0 c).arrAt_eq_of_covers 5 _ (by decide +kernel) fun t hf y => ?_
  blk_simp
  have ht := (flush0_5 t).mp hf
  rw [after0_5, Pipeline.eq_sum_fin_of_reset_step_apply_of_flush (fun n h => (outsAt0 m c n h).2.1) 16 (fun _ => 0) (partK m c)
    (fun t h j => by rw [outsAt0_A m c t h]; frame_out; rw [step_dk, dk_zero])
    (fun t h j => by rw [outsAt0_B m c t h]; frame_out; rw [step_dk]) t ht y, zero_add]
  obtain ⟨j, d, rfl⟩ : ∃ (j : Fin 256) (d : Fin 128), y = ix2 j d := ⟨y 0, y 1, eq_ix2 y⟩
  refine Eq.trans ?_ (congrArg (dk (argQ m c) (argG m c) (argK m c) (argV m c)) (emb5 t j d)).symm
  show _ = ∑ r : Fin 8192, back (score (argQ m c) (argK m c) (headOf (col (ptHead t) d)) r)
    (probGrad (argG m c) (argV m c) (headOf (col (ptHead t) d)) r) j * factor * argQ m c (ix2 r (col (ptHead t) d))
  rw [headOf_col]
  refine Fin.sum_mul_add_congr fun s k hl => ?_
  rw [ptHead_run, ptRow_run t s k _ hl]
  rfl

/-- The third result is the gradient of the values. -/
theorem final_dv : (dats m 0 c).arrAt 6 (cfgs 0).N = dv (argQ m c) (argG m c) (argK m c) := by
  refine (dats m 0 c).arrAt_eq_of_covers 6 _ (by decide +kernel) fun t hf y => ?_
  blk_simp
  have ht := (flush0_6 t).mp hf
  rw [after0_6, Pipeline.eq_sum_fin_of_reset_step_apply_of_flush (fun n h => (outsAt0 m c n h).2.2) 16 (fun _ => 0) (partV m c)
    (fun t h j => by rw [outsAt0_A m c t h]; frame_out; rw [step_dv, dv_zero])
    (fun t h j => by rw [outsAt0_B m c t h]; frame_out; rw [step_dv]) t ht y, zero_add]
  obtain ⟨j, d, rfl⟩ : ∃ (j : Fin 256) (d : Fin 128), y = ix2 j d := ⟨y 0, y 1, eq_ix2 y⟩
  refine Eq.trans ?_ (congrArg (dv (argQ m c) (argG m c) (argK m c)) (emb6 t j d)).symm
  show _ = ∑ r : Fin 8192, prob (score (argQ m c) (argK m c) (headOf (col (ptHead t) d)) r) j * argG m c (ix2 r (col (ptHead t) d))
  rw [headOf_col]
  refine Fin.sum_mul_add_congr fun s k hl => ?_
  rw [ptHead_run, ptRow_run t s k _ hl]
  rfl

end Cert.KernelIdeal.Mem

end
-- ==== Proof.Mem.Reference.lean ====
/-
  The differentiated reference of the attention over the memory bank, read at an index over the extended reals: its
  scores, its weights and their sum, and its three gradients.
-/
module

public import proofs.«01_k».proof.Proof.Gen.ReferenceIdeal.Read
public import proofs.«01_k».proof.Proof.Mem.Spec
public import Idealize.ShloMosaic.Lib.Pointwise

@[expose] public section

set_option maxRecDepth 16384

noncomputable section

namespace Cert.ReferenceIdeal.Mem

open Cert.ReferenceIdeal Cert.ReferenceIdeal.Gen Cert.ReferenceIdeal.Read Cert.Mem Idealize.ShloMosaic Idealize.ShloMosaic.TcCoe Idealize.SL.Sem

variable (Q G : FVec Ideal S8192x512 .f32) (K V : FVec Ideal S256x512 .f32)

/-- The word of minus infinity is the least extended real. -/
theorem negInf : Ideal.ofBits .f32 0xFF800000#32 = ⊥ := by
  simp [Ideal.ofBits, Ideal.ieee]

/-- The word of one is one. -/
theorem one : Ideal.ofBits .f32 0x3F800000#32 = 1 := by
  simp [Ideal.ofBits, Ideal.ieee, -EReal.coe_mul]; norm_num

/-- The reference's scores. -/
theorem score_apply (h : Fin 4) (r : Fin 8192) (j : Fin 256) :
    val_main_v5 (F := Ideal) Q K (ix3 h r j) = score Q K h r j := by
  pointwise [val_main_v5, val_main_v4, val_main_v3, val_main_v1, val_main_v0, val_main_cst]
  rfl

/-- The largest entry of each row of an array of scores. -/
theorem rowMax_apply (y : FVec Ideal S4x8192x256 .f32) (h : Fin 4) (r : Fin 8192) :
    Host.reduce FloatOps.maximumf y (val_main_cst_0 (F := Ideal)) reducesTo_S4x8192x256_S4x8192_d2 h_S_ (ix2 h r)
      = Finset.univ.fold max (val_main_cst_0 (F := Ideal) (Shape.Idx.first h_S_)) fun x : Fin 256 => y (ix3 h r x) := by
  generalize val_main_cst_0 (F := Ideal) = z
  pointwise

/-- The reference's largest score of a row. -/
theorem top_apply (h : Fin 4) (r : Fin 8192) : val_main_v6 (F := Ideal) Q K (ix2 h r) = top (score Q K h r) := by
  unfold val_main_v6
  rw [rowMax_apply, val_main_cst_0_apply]
  have e : FloatOps.ofBits (F := Ideal) .f32 0xFF800000#32 = (⊥ : EReal) := negInf
  rw [e]
  exact congrArg (Finset.univ.fold max ⊥) (funext fun x => score_apply Q K h r x)

/-- The larger of minus infinity and the largest score is the largest score. -/
theorem clamp_apply (h : Fin 4) (r : Fin 8192) : val_main_v13 (F := Ideal) Q K (ix2 h r) = top (score Q K h r) := by
  rw [val_main_v13_apply, top_apply, val_main_v12_apply, val_main_cst_2_apply]
  have e : FloatOps.ofBits (F := Ideal) .f32 0xFF800000#32 = (⊥ : EReal) := negInf
  rw [e]
  exact bot_sup_eq _

/-- A row's entry broadcast along the row. -/
theorem along_apply (y : FVec Ideal S4x8192 .f32) (h : Fin 4) (r : Fin 8192) (j : Fin 256) :
    broadcastInDim S4x8192x256 ![0, 1, 2] bcast_S4x8192x1_S4x8192x256_0_1_2
      (broadcastInDim S4x8192x1 ![0, 1] bcast_S4x8192_S4x8192x1_0_1 y) (ix3 h r j) = y (ix2 h r) := by
  pointwise

/-- The subtracted largest score, broadcast along the row. -/
theorem shift_apply (h : Fin 4) (r : Fin 8192) (j : Fin 256) :
    val_main_v24 (F := Ideal) Q K (ix3 h r j) = top (score Q K h r) := by
  unfold val_main_v24 val_main_v23
  exact (along_apply _ h r j).trans (clamp_apply Q K h r)

/-- The reference's weights. -/
theorem weight_apply (h : Fin 4) (r : Fin 8192) (j : Fin 256) :
    val_main_v26 (F := Ideal) Q K (ix3 h r j) = weight (score Q K h r) j := by
  pointwise [val_main_v26, val_main_v25]
  rw [score_apply, shift_apply]
  rfl

/-- The reference's sum of a row's weights. -/
theorem total_apply (h : Fin 4) (r : Fin 8192) :
    val_main_v27 (F := Ideal) Q K (ix2 h r) = total (score Q K h r) := by
  pointwise [val_main_v27, val_main_cst_8]
  exact Finset.sum_congr rfl fun j _ => weight_apply Q K h r j

/-- The reference's probabilities. -/
theorem prob_apply (h : Fin 4) (r : Fin 8192) (j : Fin 256) :
    val_main_v30 (F := Ideal) Q K (ix3 h r j) = prob (score Q K h r) j := by
  pointwise [val_main_v30, val_main_v29, val_main_v28]
  rw [weight_apply, total_apply]
  rfl

/-- The reference's gradient of the probabilities. -/
theorem probGrad_apply (h : Fin 4) (r : Fin 8192) (j : Fin 256) :
    val_main_v39 (F := Ideal) V G (ix3 h r j) = probGrad G V h r j := by
  pointwise [val_main_v39, val_main_v38, val_main_v37, val_main_v2]
  rfl

/-- The reference's gradient of the scores, before the factor. -/
theorem back_apply (h : Fin 4) (r : Fin 8192) (j : Fin 256) :
    val_main_v53 (F := Ideal) Q K V G (ix3 h r j) = backQuotient (score Q K h r) (probGrad G V h r) j := by
  pointwise [val_main_v53, val_main_v52, val_main_v51, val_main_v50, val_main_v49, val_main_v48, val_main_v47, val_main_v46,
    val_main_v45, val_main_v44, val_main_v43, val_main_v42, val_main_v33, val_main_v32, val_main_v31, val_main_v28,
    val_main_cst_9, val_main_cst_10, val_main_cst_11]
  simp only [weight_apply, total_apply, probGrad_apply, one, Finset.univ_unique, Finset.sum_singleton]
  rfl

/-- The reference's gradient of the scores. -/
theorem scoreGrad_apply (h : Fin 4) (r : Fin 8192) (j : Fin 256) :
    val_main_v55 (F := Ideal) Q K V G (ix3 h r j) = backQuotient (score Q K h r) (probGrad G V h r) j * factor := by
  pointwise [val_main_v55, val_main_v54, val_main_cst_12]
  rw [back_apply]
  rfl

/-- The reference's third result is the gradient of the values. -/
theorem dv_apply : val_main_v60 (F := Ideal) Q K G = dv Q G K := by
  funext i
  pointwise [val_main_v60, val_main_v41, val_main_v40, val_main_v38, val_main_v37]
  refine Finset.sum_congr rfl fun r _ => ?_
  rw [mul_comm]
  refine congrArg₂ (· * ·) (prob_apply Q K _ r _) rfl

/-- The reference's second result, with the gradient of the scores in the quotient's form. -/
theorem dk_apply (i : S256x512.Idx) : val_main_v61 (F := Ideal) Q K V G i
    = ∑ r : Fin 8192, backQuotient (score Q K (headOf (i 1)) r) (probGrad G V (headOf (i 1)) r) (i 0) * factor * Q (ix2 r (i 1)) := by
  pointwise [val_main_v61, val_main_v57, val_main_v56, val_main_v0]
  refine Finset.sum_congr rfl fun r _ => ?_
  refine congrArg₂ (· * ·) (scoreGrad_apply Q G K V _ r _) rfl

/-- The reference's first result, with the gradient of the scores in the quotient's form. -/
theorem dq_apply (i : S8192x512.Idx) : val_main_v62 (F := Ideal) Q K V G i
    = ∑ j : Fin 256, backQuotient (score Q K (headOf (i 1)) (i 0)) (probGrad G V (headOf (i 1)) (i 0)) j * factor * K (ix2 j (i 1)) := by
  pointwise [val_main_v62, val_main_v59, val_main_v58, val_main_v1]
  refine Finset.sum_congr rfl fun j _ => ?_
  refine congrArg₂ (· * ·) (scoreGrad_apply Q G K V _ _ j) rfl

/-- Scores of finite queries and keys are real numbers. -/
theorem score_real (hQ : ∀ i, ∃ a : ℝ, Q i = (a : EReal)) (hK : ∀ i, ∃ a : ℝ, K i = (a : EReal)) (h : Fin 4) (r : Fin 8192)
    (j : Fin 256) : ∃ a : ℝ, score Q K h r j = (a : EReal) := by
  choose q hq using hQ
  choose k hk using hK
  obtain ⟨c, -, hc⟩ := factor_real
  refine ⟨(∑ x : Fin 128, q (ix2 r (col h x)) * k (ix2 j (col h x))) * c, ?_⟩
  rw [EReal.coe_mul, ← coe_sum, ← hc]
  exact congrArg (· * factor) (Finset.sum_congr rfl fun x _ => by rw [hq, hk, EReal.coe_mul])

/-- Of finite queries and keys the reference's second result is the gradient of the keys. -/
theorem dk_eq (hQ : ∀ i, ∃ a : ℝ, Q i = (a : EReal)) (hK : ∀ i, ∃ a : ℝ, K i = (a : EReal)) :
    val_main_v61 (F := Ideal) Q K V G = dk Q G K V := by
  funext i
  rw [dk_apply]
  exact Finset.sum_congr rfl fun r _ =>
    congrArg (fun z => z * factor * Q (ix2 r (i 1))) (back_eq _ _ (score_real Q K hQ hK _ r) (i 0))

/-- Of finite queries and keys the reference's first result is the gradient of the queries. -/
theorem dq_eq (hQ : ∀ i, ∃ a : ℝ, Q i = (a : EReal)) (hK : ∀ i, ∃ a : ℝ, K i = (a : EReal)) :
    val_main_v62 (F := Ideal) Q K V G = dq Q G K V := by
  funext i
  rw [dq_apply]
  exact Finset.sum_congr rfl fun j _ =>
    congrArg (fun z => z * factor * K (ix2 j (i 1))) (back_eq _ _ (score_real Q K hQ hK _ _) j)

end Cert.ReferenceIdeal.Mem

end
-- ==== Proof.Finite.lean ====
/-
  An extended real whose absolute value is less than plus infinity is a real number.
-/
module

public import Idealize.ShloMosaic.Lib.Pointwise

@[expose] public section

noncomputable section

namespace Cert.Finite

open Idealize.ShloMosaic

/-- A comparison "`|x|` is less than plus infinity" that holds says that `x` is a real number. -/
theorem real_of_abs_lt (x : EReal)
    (h : BitVec.ofBool (decide (FloatOps.absf (F := Ideal) (φ := .f32) x < Ideal.ofBits .f32 0x7F800000#32)) = 1#1) :
    ∃ a : ℝ, x = (a : EReal) := by
  have e : Ideal.ofBits .f32 0x7F800000#32 = ⊤ := by simp [Ideal.ofBits, Ideal.ieee]
  rw [e] at h
  have h' : max x (-x) < ⊤ := by
    by_contra hn
    rw [show decide (FloatOps.absf (F := Ideal) (φ := .f32) x < (⊤ : EReal)) = false from decide_eq_false hn] at h
    exact absurd h (by decide)
  induction x using EReal.rec with
  | bot => exact absurd h' (by simp)
  | coe a => exact ⟨a, rfl⟩
  | top => exact absurd h' (by simp)

end Cert.Finite

end
-- ==== Proof.Mem.Finite.lean ====
/-
  The precondition read: the queries and keys are real numbers.
-/
module

public import proofs.«01_k».proof.Proof.Gen.Pre_finite
public import proofs.«01_k».proof.Proof.Finite

@[expose] public section

set_option maxRecDepth 16384

noncomputable section

namespace Cert.Pre_finite.Mem

open Cert.Pre_finite Cert.Pre_finite.Gen Idealize.ShloMosaic

variable (Q G : FVec Ideal S8192x512 .f32) (K V : FVec Ideal S256x512 .f32)

/-- The queries are real numbers. -/
theorem queries (h : (fn (F := Ideal) Q K V G).1 = fun _ => 1#1) (i : S8192x512.Idx) : ∃ a : ℝ, Q i = (a : EReal) := by
  have hi : (fn (F := Ideal) Q K V G).1 i = 1#1 := congrFun h i
  revert hi
  pointwise [fn]
  exact Finite.real_of_abs_lt (Q i)

/-- The keys are real numbers. -/
theorem keys (h : (fn (F := Ideal) Q K V G).2 = fun _ => 1#1) (i : S256x512.Idx) : ∃ a : ℝ, K i = (a : EReal) := by
  have hi : (fn (F := Ideal) Q K V G).2 i = 1#1 := congrFun h i
  revert hi
  pointwise [fn]
  exact Finite.real_of_abs_lt (K i)

end Cert.Pre_finite.Mem

end
-- ==== Proof.Mem.Equation.lean ====
/-
  The claim on the attention over the memory: of finite queries and keys the kernel and the reference leave the same
  gradients.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Mem.Array
public import proofs.«01_k».proof.Proof.Mem.Reference
public import proofs.«01_k».proof.Proof.Mem.Finite
public import Idealize.ShloMosaic.Lib.Claim

@[expose] public section

set_option maxRecDepth 16384

noncomputable section

namespace Cert.Mem

open Idealize.ShloMosaic Idealize.ShloMosaic.TcCoe Idealize.SL.Sem

/-- The reference of the attention over the memory runs and leaves its arguments as they were. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run m ρ)

/-- Of finite queries and keys the kernel and the reference leave the same gradients of the queries, the keys and the
    values. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · refine θ_run_mono (Cert.ReferenceIdeal.Value.run m' g') fun r h c => ?_
    obtain ⟨hq, hk, hv, h0, h1, h2, h3⟩ := h c
    obtain ⟨a0, a1, a2, a3⟩ := hagree c
    obtain ⟨p0, p1⟩ := hpre c
    refine ⟨hq.trans ?_, hk.trans ?_, hv.trans ?_, h0, h1, h2, h3⟩
    · refine (Cert.ReferenceIdeal.Read.val_main_v62_eq m' c).trans ?_
      rw [a0, a1, a2, a3]
      exact (Cert.ReferenceIdeal.Mem.dq_eq _ _ _ _ (Cert.Pre_finite.Mem.queries _ _ _ _ p0)
        (Cert.Pre_finite.Mem.keys _ _ _ _ p1)).trans (Cert.KernelIdeal.Mem.final_dq m c).symm
    · refine (Cert.ReferenceIdeal.Read.val_main_v61_eq m' c).trans ?_
      rw [a0, a1, a2, a3]
      exact (Cert.ReferenceIdeal.Mem.dk_eq _ _ _ _ (Cert.Pre_finite.Mem.queries _ _ _ _ p0)
        (Cert.Pre_finite.Mem.keys _ _ _ _ p1)).trans (Cert.KernelIdeal.Mem.final_dk m c).symm
    · refine (Cert.ReferenceIdeal.Read.val_main_v60_eq _ _ _).trans ?_
      rw [a0, a1, a3]
      exact (Cert.ReferenceIdeal.Mem.dv_apply _ _ _).trans (Cert.KernelIdeal.Mem.final_dv m c).symm

end Cert.Mem

end
-- ==== Proof.Fox.Same.lean ====
/-
  The forgetting attention's program over bits and over the extended reals are one program.
-/
module

public import proofs.«01_k».proof.Proof.Gen.Fox
public import proofs.«01_k».proof.Proof.Gen.FoxIdeal

@[expose] public section

set_option maxRecDepth 65536

noncomputable section

namespace Cert.Fox.Same

open Idealize.ShloMosaic

variable {F : FTy → Type} [FloatOps F]

set_option maxHeartbeats 1600000 in
/-- The body tables are the same. -/
theorem body : Cert.Fox.defs₀ (F := F) = Cert.FoxIdeal.defs₀ (F := F) := by
  unfold Cert.Fox.defs₀ Cert.FoxIdeal.defs₀
  refine congrArg Defs.onTc ?_
  funext l a
  match l, a with
  | 0, (t, s) => rfl

set_option maxHeartbeats 1600000 in
/-- The procedures are the same. -/
theorem defs : Cert.Fox.defs (F := F) = Cert.FoxIdeal.defs (F := F) :=
  congrArg (Pipeline.defs Cert.FoxIdeal.pcfgs) body

set_option maxHeartbeats 1600000 in
/-- The main programs are the same. -/
theorem main : Cert.Fox.main (F := F) = Cert.FoxIdeal.main (F := F) := rfl

end Cert.Fox.Same

end
-- ==== Proof.Fox.RunA.lean ====
module

public import proofs.«01_k».proof.Proof.Gen.FoxIdeal.Launch
public import proofs.«01_k».proof.Proof.Gen.FoxIdeal.Skeleton
public import proofs.«01_k».proof.Proof.Gen.FoxIdeal.Loops
public import proofs.«01_k».proof.Proof.Gen.FoxIdeal.Points
public import proofs.«01_k».proof.Proof.Gen.FoxIdeal.Frame

@[expose] public section

set_option maxRecDepth 16384

noncomputable section

namespace Cert.FoxIdeal.Run

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears its sums: the query tile is a head's first. -/
abbrev first (i : grid0.Coords) : Prop := (Scalar.cmpi .ne (Scalar.extui (Scalar.cmpi .eq (BitVec.ofNat 32 (i 1).val) 0#32)) 0#32) = 1#1

/-- The grid points where that condition holds. -/
theorem first_iff : ∀ t : Fin cfg0.N, first (grid0.coords t) ↔ t.val % 16 = 0 :=
  (by decide +kernel : ∀ t : Fin grid0.N, first (grid0.coords t) ↔ t.val % 16 = 0)

/-- The grid points where half a block of keys is left over in the first pass. -/
theorem odd_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- The grid points where half a block of keys is left over in the second pass. -/
theorem odd_iff' : ∀ t : Fin cfg0.N, k0_cond3 (grid0.coords t) = 1#1 ↔ t.val % 2 = 1 :=
  (by decide +kernel : ∀ t : Fin grid0.N, k0_cond3 (grid0.coords t) = 1#1 ↔ t.val % 2 = 1)

set_option maxHeartbeats 4000000 in
/-- What the body writes into its four result blocks at a head's first query tile, where the sums are cleared, as lists of pieces, with the proof
    that the body runs, leaving its inputs as they were and each result block with its pieces written. -/
def runA (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (hc0 : first i) (h2 : ¬k0_cond2 i = 1#1) (h3 : ¬k0_cond3 i = 1#1)
    (x0 : Vec F S512x128 .bf16) (x1 : Vec F S8192x128 .bf16) (x2 : Vec F S8192x128 .bf16) (x3 : Vec F S1x512x1 .f32) (x4 : Vec F S1x1x8192 .f32) (x5 : Vec F S1x512x1 .f32) (x6 : Vec F S512x128 .f32) :
    Σ' (L7 : List (View.Piece (Elt F) S512x128 .f32)), Σ' (L8 : List (View.Piece (Elt F) S8192x128 .f32)), Σ' (L9 : List (View.Piece (Elt F) S8192x128 .f32)), { L10 : List (View.Piece (Elt F) S1x1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L8)) ∗ (∃ f, (arg11.view.loc (c : Thread nD τ) ↦[arg11.view.set]{fullShare} arg11.view.writes (Elt F) f L9)) ∗ (∃ f, (arg12.view.loc (c : Thread nD τ) ↦[arg12.view.set]{fullShare} arg12.view.writes (Elt F) f L10))) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact H10

end Cert.FoxIdeal.Run

end
-- ==== Proof.Fox.RunB.lean ====
module

public import proofs.«01_k».proof.Proof.Fox.RunA

@[expose] public section

set_option maxRecDepth 16384

noncomputable section

namespace Cert.FoxIdeal.Run

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body writes into its four result blocks at a later query tile with an even number, as lists of pieces, with the proof
    that the body runs, leaving its inputs as they were and each result block with its pieces written. -/
def runB (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (hc0 : ¬first i) (h2 : ¬k0_cond2 i = 1#1) (h3 : ¬k0_cond3 i = 1#1)
    (x0 : Vec F S512x128 .bf16) (x1 : Vec F S8192x128 .bf16) (x2 : Vec F S8192x128 .bf16) (x3 : Vec F S1x512x1 .f32) (x4 : Vec F S1x1x8192 .f32) (x5 : Vec F S1x512x1 .f32) (x6 : Vec F S512x128 .f32) (xo8 : Vec F S8192x128 .f32) (xo9 : Vec F S8192x128 .f32) (xo10 : Vec F S1x1x8192 .f32) :
    Σ' (L7 : List (View.Piece (Elt F) S512x128 .f32)), Σ' (L8 : List (View.Piece (Elt F) S8192x128 .f32)), Σ' (L9 : List (View.Piece (Elt F) S8192x128 .f32)), { L10 : List (View.Piece (Elt F) S1x1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f L7)) ∗ (arg10.view.loc (c : Thread nD τ) ↦[arg10.view.set]{fullShare} arg10.view.writes (Elt F) (harg10.unread xo8) L8) ∗ (arg11.view.loc (c : Thread nD τ) ↦[arg11.view.set]{fullShare} arg11.view.writes (Elt F) (harg11.unread xo9) L9) ∗ (arg12.view.loc (c : Thread nD τ) ↦[arg12.view.set]{fullShare} arg12.view.writes (Elt F) (harg12.unread xo10) L10)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexact H8
    isplitl [H9]; · iexact H9
    iexact H10

end Cert.FoxIdeal.Run

end
-- ==== Proof.Fox.RunC.lean ====
module

public import proofs.«01_k».proof.Proof.Fox.RunB

@[expose] public section

set_option maxRecDepth 16384

noncomputable section

namespace Cert.FoxIdeal.Run

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body writes into its four result blocks at a query tile with an odd number, as lists of pieces, with the proof
    that the body runs, leaving its inputs as they were and each result block with its pieces written. -/
def runC (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (hc0 : ¬first i) (h2 : k0_cond2 i = 1#1) (h3 : k0_cond3 i = 1#1)
    (x0 : Vec F S512x128 .bf16) (x1 : Vec F S8192x128 .bf16) (x2 : Vec F S8192x128 .bf16) (x3 : Vec F S1x512x1 .f32) (x4 : Vec F S1x1x8192 .f32) (x5 : Vec F S1x512x1 .f32) (x6 : Vec F S512x128 .f32) (xo8 : Vec F S8192x128 .f32) (xo9 : Vec F S8192x128 .f32) (xo10 : Vec F S1x1x8192 .f32) :
    Σ' (L7 : List (View.Piece (Elt F) S512x128 .f32)), Σ' (L8 : List (View.Piece (Elt F) S8192x128 .f32)), Σ' (L9 : List (View.Piece (Elt F) S8192x128 .f32)), { L10 : List (View.Piece (Elt F) S1x1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, (arg9.view.loc (c : Thread nD τ) ↦[arg9.view.set]{fullShare} arg9.view.writes (Elt F) f L7)) ∗ (arg10.view.loc (c : Thread nD τ) ↦[arg10.view.set]{fullShare} arg10.view.writes (Elt F) (harg10.unread xo8) L8) ∗ (arg11.view.loc (c : Thread nD τ) ↦[arg11.view.set]{fullShare} arg11.view.writes (Elt F) (harg11.unread xo9) L9) ∗ (arg12.view.loc (c : Thread nD τ) ↦[arg12.view.set]{fullShare} arg12.view.writes (Elt F) (harg12.unread xo10) L10)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexact H8
    isplitl [H9]; · iexact H9
    iexact H10

end Cert.FoxIdeal.Run

end
-- ==== Proof.Fox.Trip.lean ====
/-
  What one trip of each of the two loops over full spans of keys yields and writes, as the payloads of what it loads.
-/
module

public import proofs.«01_k».proof.Proof.Gen.FoxIdeal.Loops

@[expose] public section

set_option maxRecDepth 16384

noncomputable section

namespace Cert.FoxIdeal.Run

open Cert.FoxIdeal Cert.FoxIdeal.Gen
open Idealize.ShloMosaic Idealize.ShloMosaic.TcCoe Idealize.ShloMosaic.Tactic

variable {F : FTy → Type} [FloatOps F]

/-- A trip of the first loop adds the span's part of the row products. -/
theorem trip1_yield (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (v5 : Vec F S512x128 .bf16) (v7 : Vec F S512x128 .f32) (v9 : Vec F S1x512x1 .f32) (v11 : Vec F S1x512x1 .f32) (X_arg3 : BufTy.Contents (Elt F) arg3.view.ty) (X_arg4 : BufTy.Contents (Elt F) arg4.view.ty) (X_arg6 : BufTy.Contents (Elt F) arg6.view.ty) (k : Fin (k0_t1_loop i).trips) (acc : FVec F S512x1 .f32) :
    (trip_k0_t1 (F := F) 𝒱 c bd i arg2 harg2 arg3 harg3 arg4 harg4 arg5 harg5 arg6 harg6 arg7 harg7 arg8 harg8 arg9 harg9 arg10 harg10 arg11 harg11 arg12 harg12 v5 v7 v9 v11 X_arg3 X_arg4 X_arg6 k).1 acc
      = k0_pay30 v5 v7 v9 v11 acc (arg3.view.readAt (Elt F) (Rect.unit (s := S8192x128) (k0_off1 i k) S1024x128.size (k0_off1_inb i k)).toLoadRect X_arg3)
          (arg6.view.readAt (Elt F) (Rect.unit (s := S1x1x8192) (k0_off2 i k) S1x1x1024.size (k0_off2_inb i k)).toLoadRect X_arg6)
          (arg4.view.readAt (Elt F) (Rect.unit (s := S8192x128) (k0_off1 i k) S1024x128.size (k0_off1_inb i k)).toLoadRect X_arg4) := by
  unfold trip_k0_t1; rfl

/-- A trip of the second loop adds the span's part of the queries' gradient. -/
theorem trip3_yield (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (arg1 : BitVec 32) (v1 : BitVec 32) (v6 : FVec F S512x128 .bf16) (v8 : FVec F S512x128 .bf16) (v10 : FVec F S512x1 .f32) (v12 : FVec F S512x1 .f32) (v26 : FVec F S512x1 .f32) (v27 : BitVec 32) (v28 : BitVec 32) (v31 : FVec F S512x128 .bf16) (v36 : Vec F S1x1x512 .f32) (v56 : Vec F S512x128 .bf16) (X_arg3 : BufTy.Contents (Elt F) arg3.view.ty) (X_arg4 : BufTy.Contents (Elt F) arg4.view.ty) (X_arg6 : BufTy.Contents (Elt F) arg6.view.ty) (k : Fin (k0_t3_loop i).trips) (acc : FVec F S512x128 .f32) (f10 f11 f12) :
    (trip_k0_t3 (F := F) 𝒱 c bd i arg2 harg2 arg3 harg3 arg4 harg4 arg5 harg5 arg6 harg6 arg7 harg7 arg8 harg8 arg9 harg9 arg10 harg10 arg11 harg11 arg12 harg12 arg1 v1 v6 v8 v10 v12 v26 v27 v28 v31 v36 v56 X_arg3 X_arg4 X_arg6 k).1 acc f10 f11 f12
      = k0_pay37 acc (k0_pay4 (arg3.view.readAt (Elt F) (Rect.unit (s := S8192x128) (k0_off9 i k) S1024x128.size (k0_off9_inb i k)).toLoadRect X_arg3)) (k0_pay7 v6 v8 v10 v12 (k0_pay34 arg1 v6 v8 v10 v12 v26 v27 v31 v36 v56) (arg3.view.readAt (Elt F) (Rect.unit (s := S8192x128) (k0_off9 i k) S1024x128.size (k0_off9_inb i k)).toLoadRect X_arg3) (arg6.view.readAt (Elt F) (Rect.unit (s := S1x1x8192) (k0_off10 i k) S1x1x1024.size (k0_off10_inb i k)).toLoadRect X_arg6) (arg4.view.readAt (Elt F) (Rect.unit (s := S8192x128) (k0_off9 i k) S1024x128.size (k0_off9_inb i k)).toLoadRect X_arg4)) := by
  unfold trip_k0_t3; rfl

/-- A trip of the second loop writes the span's rows of the keys' gradient. -/
theorem trip3_keys (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (arg1 : BitVec 32) (v1 : BitVec 32) (v6 : FVec F S512x128 .bf16) (v8 : FVec F S512x128 .bf16) (v10 : FVec F S512x1 .f32) (v12 : FVec F S512x1 .f32) (v26 : FVec F S512x1 .f32) (v27 : BitVec 32) (v28 : BitVec 32) (v31 : FVec F S512x128 .bf16) (v36 : Vec F S1x1x512 .f32) (v56 : Vec F S512x128 .bf16) (X_arg3 : BufTy.Contents (Elt F) arg3.view.ty) (X_arg4 : BufTy.Contents (Elt F) arg4.view.ty) (X_arg6 : BufTy.Contents (Elt F) arg6.view.ty) (k : Fin (k0_t3_loop i).trips) (acc : FVec F S512x128 .f32) (f10 f11 f12) :
    (trip_k0_t3 (F := F) 𝒱 c bd i arg2 harg2 arg3 harg3 arg4 harg4 arg5 harg5 arg6 harg6 arg7 harg7 arg8 harg8 arg9 harg9 arg10 harg10 arg11 harg11 arg12 harg12 arg1 v1 v6 v8 v10 v12 v26 v27 v28 v31 v36 v56 X_arg3 X_arg4 X_arg6 k).2.1 acc f10 f11 f12
      = [⟨Rect.unit (s := S8192x128) (k0_off9 i k) S1024x128.size (k0_off9_inb i k),
          k0_pay9 v6 v8 v10 v12 (k0_pay34 arg1 v6 v8 v10 v12 v26 v27 v31 v36 v56) (arg3.view.readAt (Elt F) (Rect.unit (s := S8192x128) (k0_off9 i k) S1024x128.size (k0_off9_inb i k)).toLoadRect X_arg3) (arg6.view.readAt (Elt F) (Rect.unit (s := S1x1x8192) (k0_off10 i k) S1x1x1024.size (k0_off10_inb i k)).toLoadRect X_arg6) (arg4.view.readAt (Elt F) (Rect.unit (s := S8192x128) (k0_off9 i k) S1024x128.size (k0_off9_inb i k)).toLoadRect X_arg4) (arg10.view.readAt (Elt F) (Rect.unit (s := S8192x128) (k0_off9 i k) S1024x128.size (k0_off9_inb i k)).toLoadRect f10)⟩] := by
  unfold trip_k0_t3; rfl

/-- A trip of the second loop writes the span's rows of the values' gradient. -/
theorem trip3_values (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (arg1 : BitVec 32) (v1 : BitVec 32) (v6 : FVec F S512x128 .bf16) (v8 : FVec F S512x128 .bf16) (v10 : FVec F S512x1 .f32) (v12 : FVec F S512x1 .f32) (v26 : FVec F S512x1 .f32) (v27 : BitVec 32) (v28 : BitVec 32) (v31 : FVec F S512x128 .bf16) (v36 : Vec F S1x1x512 .f32) (v56 : Vec F S512x128 .bf16) (X_arg3 : BufTy.Contents (Elt F) arg3.view.ty) (X_arg4 : BufTy.Contents (Elt F) arg4.view.ty) (X_arg6 : BufTy.Contents (Elt F) arg6.view.ty) (k : Fin (k0_t3_loop i).trips) (acc : FVec F S512x128 .f32) (f10 f11 f12) :
    (trip_k0_t3 (F := F) 𝒱 c bd i arg2 harg2 arg3 harg3 arg4 harg4 arg5 harg5 arg6 harg6 arg7 harg7 arg8 harg8 arg9 harg9 arg10 harg10 arg11 harg11 arg12 harg12 arg1 v1 v6 v8 v10 v12 v26 v27 v28 v31 v36 v56 X_arg3 X_arg4 X_arg6 k).2.2.1 acc f10 f11 f12
      = [⟨Rect.unit (s := S8192x128) (k0_off9 i k) S1024x128.size (k0_off9_inb i k),
          k0_pay8 v6 v8 v10 v12 (arg3.view.readAt (Elt F) (Rect.unit (s := S8192x128) (k0_off9 i k) S1024x128.size (k0_off9_inb i k)).toLoadRect X_arg3) (arg6.view.readAt (Elt F) (Rect.unit (s := S1x1x8192) (k0_off10 i k) S1x1x1024.size (k0_off10_inb i k)).toLoadRect X_arg6) (arg11.view.readAt (Elt F) (Rect.unit (s := S8192x128) (k0_off9 i k) S1024x128.size (k0_off9_inb i k)).toLoadRect f11)⟩] := by
  unfold trip_k0_t3; rfl

/-- A trip of the second loop writes the span's part of the decays' gradient. -/
theorem trip3_decays (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole) (arg1 : BitVec 32) (v1 : BitVec 32) (v6 : FVec F S512x128 .bf16) (v8 : FVec F S512x128 .bf16) (v10 : FVec F S512x1 .f32) (v12 : FVec F S512x1 .f32) (v26 : FVec F S512x1 .f32) (v27 : BitVec 32) (v28 : BitVec 32) (v31 : FVec F S512x128 .bf16) (v36 : Vec F S1x1x512 .f32) (v56 : Vec F S512x128 .bf16) (X_arg3 : BufTy.Contents (Elt F) arg3.view.ty) (X_arg4 : BufTy.Contents (Elt F) arg4.view.ty) (X_arg6 : BufTy.Contents (Elt F) arg6.view.ty) (k : Fin (k0_t3_loop i).trips) (acc : FVec F S512x128 .f32) (f10 f11 f12) :
    (trip_k0_t3 (F := F) 𝒱 c bd i arg2 harg2 arg3 harg3 arg4 harg4 arg5 harg5 arg6 harg6 arg7 harg7 arg8 harg8 arg9 harg9 arg10 harg10 arg11 harg11 arg12 harg12 arg1 v1 v6 v8 v10 v12 v26 v27 v28 v31 v36 v56 X_arg3 X_arg4 X_arg6 k).2.2.2.1 acc f10 f11 f12
      = [⟨Rect.unit (s := S1x1x8192) (k0_off10 i k) S1x1x1024.size (k0_off10_inb i k),
          k0_pay36 (k0_pay6 v6 v8 v10 v12 (k0_pay34 arg1 v6 v8 v10 v12 v26 v27 v31 v36 v56) (arg3.view.readAt (Elt F) (Rect.unit (s := S8192x128) (k0_off9 i k) S1024x128.size (k0_off9_inb i k)).toLoadRect X_arg3) (arg6.view.readAt (Elt F) (Rect.unit (s := S1x1x8192) (k0_off10 i k) S1x1x1024.size (k0_off10_inb i k)).toLoadRect X_arg6) (arg4.view.readAt (Elt F) (Rect.unit (s := S8192x128) (k0_off9 i k) S1024x128.size (k0_off9_inb i k)).toLoadRect X_arg4)) (arg12.view.readAt (Elt F) (Rect.unit (s := S1x1x8192) (k0_off10 i k) S1x1x1024.size (k0_off10_inb i k)).toLoadRect f12)⟩] := by
  unfold trip_k0_t3; rfl

end Cert.FoxIdeal.Run

end
-- ==== Proof.Fox.Pay.lean ====
/-
  What the operations of one block of the forgetting attention's gradient compute, entry by entry over the extended
  reals: the probabilities of a tile of queries against a span of keys, their products with the incoming gradient, and
  what is added to each of the four results.
-/
module

public import proofs.«01_k».proof.Proof.Gen.FoxIdeal.Skeleton
public import proofs.«01_k».proof.Proof.Mem.Row
public import Idealize.ShloMosaic.Lib.Pipeline.ValueKit
public import Idealize.ShloMosaic.Lib.Pointwise

@[expose] public section

set_option maxRecDepth 16384

noncomputable section

namespace Cert.FoxIdeal.Pay

open Cert.FoxIdeal Cert.FoxIdeal.Gen Cert.Mem Idealize.ShloMosaic Idealize.ShloMosaic.TcCoe Idealize.SL.Sem

/-- The exponential of a query row's score against one key, less the row's log sum. -/
def expo (q : FVec Ideal S512x128 .bf16) (L C : FVec Ideal S512x1 .f32) (k : Fin 128 → EReal) (cr : EReal) (a : Fin 512) : EReal :=
  Ideal.exp ((∑ x : Fin 128, q (ix2 a x) * k x) * factor + (C (ix2 a 0) - cr) - L (ix2 a 0))

/-- The gradient of one probability: a row of the output's gradient against one value. -/
def grad (g : FVec Ideal S512x128 .bf16) (v : Fin 128 → EReal) (a : Fin 512) : EReal :=
  ∑ x : Fin 128, g (ix2 a x) * v x

theorem pay5_apply (v6 : FVec Ideal S512x128 .bf16) (v10 v12 : FVec Ideal S512x1 .f32) (v150 : Vec Ideal S1024x128 .bf16) (v156 : Vec Ideal S1x1x1024 .f32) (a : Fin 512) (j : Fin 1024) :
    k0_pay5 (F := Ideal) v6 v10 v12 v150 v156 (ix2 a j) = expo v6 v10 v12 (fun x => v150 (ix2 j x)) (v156 (ix3 0 0 j)) a := by
  pointwise [k0_pay5, k0_pay4]
  rfl

theorem pay6_apply (v6 v8 : FVec Ideal S512x128 .bf16) (v10 v12 v62 : FVec Ideal S512x1 .f32) (v150 : Vec Ideal S1024x128 .bf16) (v156 : Vec Ideal S1x1x1024 .f32) (v166 : Vec Ideal S1024x128 .bf16) (a : Fin 512) (j : Fin 1024) :
    k0_pay6 (F := Ideal) v6 v8 v10 v12 v62 v150 v156 v166 (ix2 a j)
      = expo v6 v10 v12 (fun x => v150 (ix2 j x)) (v156 (ix3 0 0 j)) a * (grad v8 (fun x => v166 (ix2 j x)) a - v62 (ix2 a 0)) := by
  pointwise [k0_pay6]
  rw [pay5_apply]
  rfl

theorem pay7_apply (v6 v8 : FVec Ideal S512x128 .bf16) (v10 v12 v62 : FVec Ideal S512x1 .f32) (v150 : Vec Ideal S1024x128 .bf16) (v156 : Vec Ideal S1x1x1024 .f32) (v166 : Vec Ideal S1024x128 .bf16) (a : Fin 512) (j : Fin 1024) :
    k0_pay7 (F := Ideal) v6 v8 v10 v12 v62 v150 v156 v166 (ix2 a j) = k0_pay6 (F := Ideal) v6 v8 v10 v12 v62 v150 v156 v166 (ix2 a j) := by
  pointwise [k0_pay7]

theorem pay8_apply (v6 v8 : FVec Ideal S512x128 .bf16) (v10 v12 : FVec Ideal S512x1 .f32) (v150 : Vec Ideal S1024x128 .bf16) (v156 : Vec Ideal S1x1x1024 .f32) (v174 : Vec Ideal S1024x128 .f32) (j : Fin 1024) (d : Fin 128) :
    k0_pay8 (F := Ideal) v6 v8 v10 v12 v150 v156 v174 (ix2 j d)
      = v174 (ix2 j d) + ∑ a : Fin 512, expo v6 v10 v12 (fun x => v150 (ix2 j x)) (v156 (ix3 0 0 j)) a * v8 (ix2 a d) := by
  pointwise [k0_pay8]
  simp only [pay5_apply]

theorem pay9_apply (v6 v8 : FVec Ideal S512x128 .bf16) (v10 v12 v62 : FVec Ideal S512x1 .f32) (v150 : Vec Ideal S1024x128 .bf16) (v156 : Vec Ideal S1x1x1024 .f32) (v166 : Vec Ideal S1024x128 .bf16) (v182 : Vec Ideal S1024x128 .f32) (j : Fin 1024) (d : Fin 128) :
    k0_pay9 (F := Ideal) v6 v8 v10 v12 v62 v150 v156 v166 v182 (ix2 j d)
      = v182 (ix2 j d) + (∑ a : Fin 512, k0_pay6 (F := Ideal) v6 v8 v10 v12 v62 v150 v156 v166 (ix2 a j) * v6 (ix2 a d)) * factor := by
  pointwise [k0_pay9]
  simp only [pay7_apply]
  rfl

theorem pay36_apply (v171 : FVec Ideal S512x1024 .f32) (v191 : Vec Ideal S1x1x1024 .f32) (j : Fin 1024) :
    k0_pay36 (F := Ideal) v171 v191 (ix3 0 0 j) = v191 (ix3 0 0 j) + (0 - ∑ a : Fin 512, v171 (ix2 a j)) := by
  pointwise [k0_pay36]

theorem pay37_apply (arg14 : FVec Ideal S512x128 .f32) (v151 : FVec Ideal S1024x128 .bf16) (v172 : FVec Ideal S512x1024 .bf16) (a : Fin 512) (d : Fin 128) :
    k0_pay37 (F := Ideal) arg14 v151 v172 (ix2 a d) = arg14 (ix2 a d) + (∑ j : Fin 1024, v172 (ix2 a j) * v151 (ix2 j d)) * factor := by
  pointwise [k0_pay37]
  rfl

theorem pay27_apply (v : Vec Ideal S1x512x1 .f32) (a : Fin 512) : k0_pay27 (F := Ideal) v (ix2 a 0) = v (ix3 0 a 0) := by
  pointwise [k0_pay27]

theorem pay28_apply (v : Vec Ideal S1x512x1 .f32) (a : Fin 512) : k0_pay28 (F := Ideal) v (ix2 a 0) = v (ix3 0 a 0) := by
  pointwise [k0_pay28]

theorem pay25_eq (v : Vec Ideal S512x128 .bf16) : k0_pay25 (F := Ideal) v = v := by
  funext j; pointwise [k0_pay25]

theorem pay26_eq (v : Vec Ideal S512x128 .f32) : k0_pay26 (F := Ideal) v = v := by
  funext j; pointwise [k0_pay26]

theorem pay30_apply (v5 : Vec Ideal S512x128 .bf16) (v7 : Vec Ideal S512x128 .f32) (v9 v11 : Vec Ideal S1x512x1 .f32) (acc : FVec Ideal S512x1 .f32) (v150 : Vec Ideal S1024x128 .bf16) (v156 : Vec Ideal S1x1x1024 .f32) (v166 : Vec Ideal S1024x128 .bf16) (a : Fin 512) :
    k0_pay30 (F := Ideal) v5 v7 v9 v11 acc v150 v156 v166 (ix2 a 0)
      = acc (ix2 a 0) + ∑ j : Fin 1024, expo v5 (k0_pay27 v9) (k0_pay28 v11) (fun x => v150 (ix2 j x)) (v156 (ix3 0 0 j)) a * grad v7 (fun x => v166 (ix2 j x)) a := by
  pointwise [k0_pay30, pay25_eq, pay26_eq]
  rfl

theorem pay32_apply (v5 : Vec Ideal S512x128 .bf16) (v7 : Vec Ideal S512x128 .f32) (v9 v11 : Vec Ideal S1x512x1 .f32) (acc : FVec Ideal S512x1 .f32) (v150 : Vec Ideal S512x128 .bf16) (v156 : Vec Ideal S1x1x512 .f32) (v166 : Vec Ideal S512x128 .bf16) (a : Fin 512) :
    k0_pay32 (F := Ideal) v5 v7 v9 v11 acc v150 v156 v166 (ix2 a 0)
      = acc (ix2 a 0) + ∑ j : Fin 512, expo v5 (k0_pay27 v9) (k0_pay28 v11) (fun x => v150 (ix2 j x)) (v156 (ix3 0 0 j)) a * grad v7 (fun x => v166 (ix2 j x)) a := by
  pointwise [k0_pay32, pay25_eq, pay26_eq]
  rfl

theorem pay17_apply (v6 : FVec Ideal S512x128 .bf16) (v10 v12 : FVec Ideal S512x1 .f32) (v150 : Vec Ideal S512x128 .bf16) (v156 : Vec Ideal S1x1x512 .f32) (a : Fin 512) (j : Fin 512) :
    k0_pay17 (F := Ideal) v6 v10 v12 v150 v156 (ix2 a j) = expo v6 v10 v12 (fun x => v150 (ix2 j x)) (v156 (ix3 0 0 j)) a := by
  pointwise [k0_pay17, k0_pay16]
  rfl

theorem pay18_apply (v6 v8 : FVec Ideal S512x128 .bf16) (v10 v12 v62 : FVec Ideal S512x1 .f32) (v150 : Vec Ideal S512x128 .bf16) (v156 : Vec Ideal S1x1x512 .f32) (v166 : Vec Ideal S512x128 .bf16) (a : Fin 512) (j : Fin 512) :
    k0_pay18 (F := Ideal) v6 v8 v10 v12 v62 v150 v156 v166 (ix2 a j)
      = expo v6 v10 v12 (fun x => v150 (ix2 j x)) (v156 (ix3 0 0 j)) a * (grad v8 (fun x => v166 (ix2 j x)) a - v62 (ix2 a 0)) := by
  pointwise [k0_pay18]
  rw [pay17_apply]
  rfl

theorem pay19_apply (v6 v8 : FVec Ideal S512x128 .bf16) (v10 v12 v62 : FVec Ideal S512x1 .f32) (v150 : Vec Ideal S512x128 .bf16) (v156 : Vec Ideal S1x1x512 .f32) (v166 : Vec Ideal S512x128 .bf16) (a : Fin 512) (j : Fin 512) :
    k0_pay19 (F := Ideal) v6 v8 v10 v12 v62 v150 v156 v166 (ix2 a j) = k0_pay18 (F := Ideal) v6 v8 v10 v12 v62 v150 v156 v166 (ix2 a j) := by
  pointwise [k0_pay19]

theorem pay20_apply (v6 v8 : FVec Ideal S512x128 .bf16) (v10 v12 : FVec Ideal S512x1 .f32) (v150 : Vec Ideal S512x128 .bf16) (v156 : Vec Ideal S1x1x512 .f32) (v174 : Vec Ideal S512x128 .f32) (j : Fin 512) (d : Fin 128) :
    k0_pay20 (F := Ideal) v6 v8 v10 v12 v150 v156 v174 (ix2 j d)
      = v174 (ix2 j d) + ∑ a : Fin 512, expo v6 v10 v12 (fun x => v150 (ix2 j x)) (v156 (ix3 0 0 j)) a * v8 (ix2 a d) := by
  pointwise [k0_pay20]
  simp only [pay17_apply]

theorem pay21_apply (v6 v8 : FVec Ideal S512x128 .bf16) (v10 v12 v62 : FVec Ideal S512x1 .f32) (v150 : Vec Ideal S512x128 .bf16) (v156 : Vec Ideal S1x1x512 .f32) (v166 : Vec Ideal S512x128 .bf16) (v182 : Vec Ideal S512x128 .f32) (j : Fin 512) (d : Fin 128) :
    k0_pay21 (F := Ideal) v6 v8 v10 v12 v62 v150 v156 v166 v182 (ix2 j d)
      = v182 (ix2 j d) + (∑ a : Fin 512, k0_pay18 (F := Ideal) v6 v8 v10 v12 v62 v150 v156 v166 (ix2 a j) * v6 (ix2 a d)) * factor := by
  pointwise [k0_pay21]
  simp only [pay19_apply]
  rfl

theorem pay40_apply (v171 : FVec Ideal S512x512 .f32) (v191 : Vec Ideal S1x1x512 .f32) (j : Fin 512) :
    k0_pay40 (F := Ideal) v171 v191 (ix3 0 0 j) = v191 (ix3 0 0 j) + (0 - ∑ a : Fin 512, v171 (ix2 a j)) := by
  pointwise [k0_pay40]

theorem pay41_apply (acc : FVec Ideal S512x128 .f32) (v151 : FVec Ideal S512x128 .bf16) (v172 : FVec Ideal S512x512 .bf16) (a : Fin 512) (d : Fin 128) :
    k0_pay41 (F := Ideal) acc v151 v172 (ix2 a d) = acc (ix2 a d) + (∑ j : Fin 512, v172 (ix2 a j) * v151 (ix2 j d)) * factor := by
  pointwise [k0_pay41]
  rfl

/-- The number of row `b` of tile `i`, in 32-bit words. -/
theorem rowWord (i : Fin 16) (b : Fin 512) :
    IntOp.addi (Scalar.muli (BitVec.ofNat 32 i.val) 512#32) (BitVec.ofNat 32 b.val) = BitVec.ofNat 32 (512 * i.val + b.val) := by
  have hi := i.isLt
  have hb := b.isLt
  apply BitVec.eq_of_toNat_eq
  simp only [IntOp.addi, Scalar.muli, IntOp.muli, BitVec.toNat_add, BitVec.toNat_mul, BitVec.toNat_ofNat]
  omega

/-- Words of small numbers compare as the numbers do. -/
theorem wordLe (x y : Nat) (hx : x < 8192) (hy : y < 8192) :
    IntOp.cmpi .sle (BitVec.ofNat 32 x) (BitVec.ofNat 32 y) = 1#1 ↔ x ≤ y := by
  have e : ∀ n : Nat, n < 8192 → (BitVec.ofNat 32 n).toInt = n := fun n h => by
    rw [BitVec.toInt_eq_toNat_of_lt (by rw [BitVec.toNat_ofNat]; omega), BitVec.toNat_ofNat]
    omega
  have h : IntOp.cmpi .sle (BitVec.ofNat 32 x) (BitVec.ofNat 32 y) = BitVec.ofBool (decide (x ≤ y)) := by
    show BitVec.ofBool (BitVec.sle _ _) = _
    rw [BitVec.sle, e x hx, e y hy]
    congr 1
    simp
  rw [h]
  by_cases hxy : x ≤ y
  · simp [hxy]
  · simp [hxy]

/-- The causal test inside a diagonal block: key `512 i + j` is not after query `512 i + a`. -/
theorem causal (i : Fin 16) (a j : Fin 512) (x : EReal) :
    Scalar.select (IntOp.cmpi .sle (IntOp.addi (Scalar.muli (BitVec.ofNat 32 i.val) 512#32) (BitVec.ofNat 32 j.val))
      (IntOp.addi (Scalar.muli (BitVec.ofNat 32 i.val) 512#32) (BitVec.ofNat 32 a.val))) x 0 = if j.val ≤ a.val then x else 0 := by
  have hi := i.isLt
  have ha := a.isLt
  have hj := j.isLt
  have h := wordLe (512 * i.val + j.val) (512 * i.val + a.val) (by omega) (by omega)
  rw [rowWord, rowWord]
  by_cases hja : j.val ≤ a.val
  · rw [if_pos hja, show IntOp.cmpi .sle _ _ = 1#1 from h.2 (by omega)]
    rfl
  · rw [if_neg hja]
    exact if_neg fun e => hja (by have := h.1 e; omega)

theorem pay43_apply (i : Fin 16) (v6 : FVec Ideal S512x128 .bf16) (v10 v12 : FVec Ideal S512x1 .f32) (v80 : Vec Ideal S512x128 .bf16) (v86 : Vec Ideal S1x1x512 .f32) (a j : Fin 512) :
    k0_pay43 (F := Ideal) (BitVec.ofNat 32 i.val) v6 v10 v12 v80 v86 (ix2 a j)
      = if j.val ≤ a.val then expo v6 v10 v12 (fun x => v80 (ix2 j x)) (v86 (ix3 0 0 j)) a else 0 := by
  pointwise [k0_pay43, k0_pay42]
  simp only [causal]
  rfl

theorem pay44_apply (i : Fin 16) (v6 v8 : FVec Ideal S512x128 .bf16) (v10 v12 v62 : FVec Ideal S512x1 .f32) (v80 : Vec Ideal S512x128 .bf16) (v86 : Vec Ideal S1x1x512 .f32) (v106 : Vec Ideal S512x128 .bf16) (a j : Fin 512) :
    k0_pay44 (F := Ideal) (BitVec.ofNat 32 i.val) v6 v8 v10 v12 v62 v80 v86 v106 (ix2 a j)
      = (if j.val ≤ a.val then expo v6 v10 v12 (fun x => v80 (ix2 j x)) (v86 (ix3 0 0 j)) a else 0)
        * (grad v8 (fun x => v106 (ix2 j x)) a - v62 (ix2 a 0)) := by
  pointwise [k0_pay44]
  rw [pay43_apply]
  rfl

theorem pay45_apply (i : Fin 16) (v6 v8 : FVec Ideal S512x128 .bf16) (v10 v12 v62 : FVec Ideal S512x1 .f32) (v80 : Vec Ideal S512x128 .bf16) (v86 : Vec Ideal S1x1x512 .f32) (v106 : Vec Ideal S512x128 .bf16) (a j : Fin 512) :
    k0_pay45 (F := Ideal) (BitVec.ofNat 32 i.val) v6 v8 v10 v12 v62 v80 v86 v106 (ix2 a j) = k0_pay44 (F := Ideal) (BitVec.ofNat 32 i.val) v6 v8 v10 v12 v62 v80 v86 v106 (ix2 a j) := by
  pointwise [k0_pay45]

theorem pay46_apply (i : Fin 16) (v6 v8 : FVec Ideal S512x128 .bf16) (v10 v12 : FVec Ideal S512x1 .f32) (v80 : Vec Ideal S512x128 .bf16) (v86 : Vec Ideal S1x1x512 .f32) (v114 : Vec Ideal S512x128 .f32) (j : Fin 512) (d : Fin 128) :
    k0_pay46 (F := Ideal) (BitVec.ofNat 32 i.val) v6 v8 v10 v12 v80 v86 v114 (ix2 j d)
      = v114 (ix2 j d) + ∑ a : Fin 512, (if j.val ≤ a.val then expo v6 v10 v12 (fun x => v80 (ix2 j x)) (v86 (ix3 0 0 j)) a else 0) * v8 (ix2 a d) := by
  pointwise [k0_pay46]
  simp only [pay43_apply]

theorem pay34_apply (i : Fin 16) (v6 v8 : FVec Ideal S512x128 .bf16) (v10 v12 v26 : FVec Ideal S512x1 .f32) (v31 : FVec Ideal S512x128 .bf16) (v36 : Vec Ideal S1x1x512 .f32) (v56 : Vec Ideal S512x128 .bf16) (a : Fin 512) :
    k0_pay34 (F := Ideal) (BitVec.ofNat 32 i.val) v6 v8 v10 v12 v26 (Scalar.muli (BitVec.ofNat 32 i.val) 512#32) v31 v36 v56 (ix2 a 0)
      = v26 (ix2 a 0) + ∑ j : Fin 512, (if j.val ≤ a.val then expo v6 v10 v12 (fun x => v31 (ix2 j x)) (v36 (ix3 0 0 j)) a else 0) * grad v8 (fun x => v56 (ix2 j x)) a := by
  pointwise [k0_pay34]
  simp only [causal, ite_mul, zero_mul]
  rfl

theorem pay1_apply (v6 : FVec Ideal S512x128 .bf16) (v112 : FVec Ideal S512x512 .bf16) (v122 : Vec Ideal S512x128 .f32) (j : Fin 512) (d : Fin 128) :
    k0_pay1 (F := Ideal) v6 v112 v122 (ix2 j d) = v122 (ix2 j d) + (∑ a : Fin 512, v112 (ix2 a j) * v6 (ix2 a d)) * factor := by
  pointwise [k0_pay1]
  rfl

theorem pay2_apply (v111 : FVec Ideal S512x512 .f32) (v131 : Vec Ideal S1x1x512 .f32) (j : Fin 512) :
    k0_pay2 (F := Ideal) v111 v131 (ix3 0 0 j) = v131 (ix3 0 0 j) + (0 - ∑ a : Fin 512, v111 (ix2 a j)) := by
  pointwise [k0_pay2]

theorem pay3_apply (v76 : FVec Ideal S512x128 .f32) (v81 : FVec Ideal S512x128 .bf16) (v112 : FVec Ideal S512x512 .bf16) (a : Fin 512) (d : Fin 128) :
    k0_pay3 (F := Ideal) v76 v81 v112 (ix2 a d) = v76 (ix2 a d) + (∑ j : Fin 512, v112 (ix2 a j) * v81 (ix2 j d)) * factor := by
  pointwise [k0_pay3]
  rfl

theorem pay4_eq (v : Vec Ideal S1024x128 .bf16) : k0_pay4 (F := Ideal) v = v := by
  funext j; pointwise [k0_pay4]

theorem pay16_eq (v : Vec Ideal S512x128 .bf16) : k0_pay16 (F := Ideal) v = v := by
  funext j; pointwise [k0_pay16]

theorem pay33_eq (v : Vec Ideal S512x128 .bf16) : k0_pay33 (F := Ideal) v = v := by
  funext j; pointwise [k0_pay33]

theorem pay42_eq (v : Vec Ideal S512x128 .bf16) : k0_pay42 (F := Ideal) v = v := by
  funext j; pointwise [k0_pay42]

theorem pay22_apply (y : S8192x128.Idx) : k0_pay22 (F := Ideal) y = 0 := by pointwise [k0_pay22]
theorem pay23_apply (y : S8192x128.Idx) : k0_pay23 (F := Ideal) y = 0 := by pointwise [k0_pay23]
theorem pay24_apply (y : S1x1x8192.Idx) : k0_pay24 (F := Ideal) y = 0 := by pointwise [k0_pay24]
theorem pay29_apply (y : S512x1.Idx) : k0_pay29 (F := Ideal) y = 0 := by pointwise [k0_pay29]
theorem pay35_apply (y : S512x128.Idx) : k0_pay35 (F := Ideal) y = 0 := by pointwise [k0_pay35]

end Cert.FoxIdeal.Pay

end
-- ==== Proof.Fox.Part.lean ====
/-
  Sums taken a span at a time, and a buffer of 8192 rows to which a term is added a span of rows at a time.
-/
module

public import proofs.«01_k».proof.Proof.Gen.FoxIdeal.Skeleton
public import Idealize.ShloMosaic.Lib.Pipeline.ValueKit
public import Idealize.ShloMosaic.Lib.WritesUnit

@[expose] public section

set_option maxRecDepth 16384

noncomputable section

namespace Cert.FoxIdeal.Part

open Cert.FoxIdeal Cert.FoxIdeal.Gen Idealize.ShloMosaic Idealize.ShloMosaic.TcCoe Idealize.SL.Sem

/-- The sum of the first `n` of 8192 numbers. -/
def upTo (f : Fin 8192 → EReal) (n : ℕ) : EReal := ∑ s ∈ Finset.range n, if h : s < 8192 then f ⟨s, h⟩ else 0

theorem upTo_zero (f : Fin 8192 → EReal) : upTo f 0 = 0 := Finset.sum_range_zero _

/-- The next `w` numbers are added. -/
theorem upTo_add (f : Fin 8192 → EReal) (n w : ℕ) (h : n + w ≤ 8192) :
    upTo f (n + w) = upTo f n + ∑ j : Fin w, f ⟨n + j.val, by omega⟩ := by
  unfold upTo
  rw [Finset.sum_range_add, Finset.sum_range (n := w)]
  congr 1
  refine Finset.sum_congr rfl fun j _ => ?_
  rw [dif_pos (by omega)]

/-- The sum of all, where those from the `n`th on are zero. -/
theorem upTo_all (f : Fin 8192 → EReal) (n : ℕ) (hn : n ≤ 8192) (h : ∀ s : Fin 8192, n ≤ s.val → f s = 0) : upTo f n = ∑ s, f s := by
  have e : upTo f 8192 = ∑ s, f s := by
    unfold upTo
    rw [Finset.sum_range]
    exact Finset.sum_congr rfl fun j _ => dif_pos j.isLt
  rw [← e]
  unfold upTo
  refine Finset.sum_subset (Finset.range_subset_range.2 hn) fun x hx hx' => ?_
  rw [dif_pos (Finset.mem_range.1 hx)]
  exact h _ (Nat.le_of_not_lt fun hlt => hx' (Finset.mem_range.2 hlt))

variable {κ : Kind} {sp : Space} {e : EltTy}

/-- A load of 1024 rows from row `o` reads those rows. -/
theorem span_load (v : View sig κ sp S8192x128 e) (f : v.ty.Contents (Elt Ideal)) {off : Fin 2 → ℕ} {o : ℕ} (hoff : off = ![o, 0])
    (inb : ∀ a, off a + S1024x128.size a ≤ S8192x128.size a) (ho : o + 1024 ≤ 8192) (j : Fin 1024) (d : Fin 128) :
    v.readAt (Elt Ideal) (Rect.unit (s := S8192x128) off S1024x128.size inb).toLoadRect f (ix2 j d) = v.read (Elt Ideal) f (ix2 ⟨o + j.val, by omega⟩ d) := by
  subst hoff
  rw [View.readAt_apply]
  congr 1
  funext a
  apply Fin.ext
  rw [LoadRect.idx_apply]
  match a with
  | ⟨0, _⟩ => show o + 1 * j.val = o + j.val; omega
  | ⟨1, _⟩ => show 0 + 1 * d.val = d.val; omega

/-- Adding a term to each of the 1024 rows from row `o`, where the rows before already have it: now the rows before `o + 1024`
    have it. -/
theorem span_step (v : View sig κ sp S8192x128 .f32) (f : v.ty.Contents (Elt Ideal)) (L : List (View.Piece (Elt Ideal) S8192x128 .f32))
    (G T : Fin 8192 → Fin 128 → EReal) {off : Fin 2 → ℕ} {o : ℕ} (hoff : off = ![o, 0])
    (inb : ∀ a, off a + S1024x128.size a ≤ S8192x128.size a) (ho : o + 1024 ≤ 8192) (w : Vec Ideal S1024x128 .f32)
    (h : ∀ s d, v.read (Elt Ideal) (v.writes (Elt Ideal) f L) (ix2 s d) = G s d + if s.val < o then T s d else 0)
    (hw : ∀ (j : Fin 1024) (d : Fin 128), w (ix2 j d)
      = v.readAt (Elt Ideal) (Rect.unit (s := S8192x128) off S1024x128.size inb).toLoadRect (v.writes (Elt Ideal) f L) (ix2 j d) + T ⟨o + j.val, by omega⟩ d)
    (s : Fin 8192) (d : Fin 128) :
    v.read (Elt Ideal) (v.writes (Elt Ideal) f (⟨Rect.unit (s := S8192x128) off S1024x128.size inb, w⟩ :: L)) (ix2 s d)
      = G s d + if s.val < o + 1024 then T s d else 0 := by
  by_cases hs : o ≤ s.val ∧ s.val < o + 1024
  · have e := View.read_writes_cons_rows_of_mem v f inb w L (ix2 s d) (ix2 (⟨s.val - o, by omega⟩ : Fin 1024) d) hoff
      (by show s.val = o + (s.val - o); omega) rfl
    refine e.trans ?_
    have es : (⟨o + (s.val - o), by omega⟩ : Fin 8192) = s := Fin.ext (by show o + (s.val - o) = s.val; omega)
    rw [hw, span_load v _ hoff inb ho]
    simp only [es]
    rw [h, if_neg (by omega), if_pos hs.2, add_zero]
  · have e := View.read_writes_cons_rows_of_not_mem (W := 1024) v f inb w L (ix2 s d) hoff rfl
      (by show s.val < o ∨ o + 1024 ≤ s.val; omega)
    refine e.trans ?_
    rw [h]
    congr 1
    by_cases h1 : s.val < o
    · rw [if_pos h1, if_pos (by omega)]
    · rw [if_neg h1, if_neg (by omega)]

/-- A load of 512 rows from row `o` reads those rows. -/
theorem half_load (v : View sig κ sp S8192x128 e) (f : v.ty.Contents (Elt Ideal)) {off : Fin 2 → ℕ} {o : ℕ} (hoff : off = ![o, 0])
    (inb : ∀ a, off a + S512x128.size a ≤ S8192x128.size a) (ho : o + 512 ≤ 8192) (j : Fin 512) (d : Fin 128) :
    v.readAt (Elt Ideal) (Rect.unit (s := S8192x128) off S512x128.size inb).toLoadRect f (ix2 j d) = v.read (Elt Ideal) f (ix2 ⟨o + j.val, by omega⟩ d) := by
  subst hoff
  rw [View.readAt_apply]
  congr 1
  funext a
  apply Fin.ext
  rw [LoadRect.idx_apply]
  match a with
  | ⟨0, _⟩ => show o + 1 * j.val = o + j.val; omega
  | ⟨1, _⟩ => show 0 + 1 * d.val = d.val; omega

/-- Adding a term to each of the 512 rows from row `o`, where the rows before already have it: now the rows before `o + 512`
    have it. -/
theorem half_step (v : View sig κ sp S8192x128 .f32) (f : v.ty.Contents (Elt Ideal)) (L : List (View.Piece (Elt Ideal) S8192x128 .f32))
    (G T : Fin 8192 → Fin 128 → EReal) {off : Fin 2 → ℕ} {o : ℕ} (hoff : off = ![o, 0])
    (inb : ∀ a, off a + S512x128.size a ≤ S8192x128.size a) (ho : o + 512 ≤ 8192) (w : Vec Ideal S512x128 .f32)
    (h : ∀ s d, v.read (Elt Ideal) (v.writes (Elt Ideal) f L) (ix2 s d) = G s d + if s.val < o then T s d else 0)
    (hw : ∀ (j : Fin 512) (d : Fin 128), w (ix2 j d)
      = v.readAt (Elt Ideal) (Rect.unit (s := S8192x128) off S512x128.size inb).toLoadRect (v.writes (Elt Ideal) f L) (ix2 j d) + T ⟨o + j.val, by omega⟩ d)
    (s : Fin 8192) (d : Fin 128) :
    v.read (Elt Ideal) (v.writes (Elt Ideal) f (⟨Rect.unit (s := S8192x128) off S512x128.size inb, w⟩ :: L)) (ix2 s d)
      = G s d + if s.val < o + 512 then T s d else 0 := by
  by_cases hs : o ≤ s.val ∧ s.val < o + 512
  · have e := View.read_writes_cons_rows_of_mem v f inb w L (ix2 s d) (ix2 (⟨s.val - o, by omega⟩ : Fin 512) d) hoff
      (by show s.val = o + (s.val - o); omega) rfl
    refine e.trans ?_
    have es : (⟨o + (s.val - o), by omega⟩ : Fin 8192) = s := Fin.ext (by show o + (s.val - o) = s.val; omega)
    rw [hw, half_load v _ hoff inb ho]
    simp only [es]
    rw [h, if_neg (by omega), if_pos hs.2, add_zero]
  · have e := View.read_writes_cons_rows_of_not_mem (W := 512) v f inb w L (ix2 s d) hoff rfl
      (by show s.val < o ∨ o + 512 ≤ s.val; omega)
    refine e.trans ?_
    rw [h]
    congr 1
    by_cases h1 : s.val < o
    · rw [if_pos h1, if_pos (by omega)]
    · rw [if_neg h1, if_neg (by omega)]

/-- A load of 1024 entries from entry `o` of a row reads those entries. -/
theorem lane_load (v : View sig κ sp S1x1x8192 e) (f : v.ty.Contents (Elt Ideal)) {off : Fin 3 → ℕ} {o : ℕ} (hoff : off = ![0, 0, o])
    (inb : ∀ a, off a + S1x1x1024.size a ≤ S1x1x8192.size a) (ho : o + 1024 ≤ 8192) (j : Fin 1024) :
    v.readAt (Elt Ideal) (Rect.unit (s := S1x1x8192) off S1x1x1024.size inb).toLoadRect f (ix3 0 0 j) = v.read (Elt Ideal) f (ix3 0 0 ⟨o + j.val, by omega⟩) := by
  subst hoff
  rw [View.readAt_apply]
  congr 1
  funext a
  apply Fin.ext
  rw [LoadRect.idx_apply]
  match a with
  | ⟨0, _⟩ => rfl
  | ⟨1, _⟩ => rfl
  | ⟨2, _⟩ => show o + 1 * j.val = o + j.val; omega

/-- The same of a row of 1024 entries from entry `o`. -/
theorem lane_step (v : View sig κ sp S1x1x8192 .f32) (f : v.ty.Contents (Elt Ideal)) (L : List (View.Piece (Elt Ideal) S1x1x8192 .f32))
    (G T : Fin 8192 → EReal) {off : Fin 3 → ℕ} {o : ℕ} (hoff : off = ![0, 0, o])
    (inb : ∀ a, off a + S1x1x1024.size a ≤ S1x1x8192.size a) (ho : o + 1024 ≤ 8192) (w : Vec Ideal S1x1x1024 .f32)
    (h : ∀ s, v.read (Elt Ideal) (v.writes (Elt Ideal) f L) (ix3 0 0 s) = G s + if s.val < o then T s else 0)
    (hw : ∀ (j : Fin 1024), w (ix3 0 0 j)
      = v.readAt (Elt Ideal) (Rect.unit (s := S1x1x8192) off S1x1x1024.size inb).toLoadRect (v.writes (Elt Ideal) f L) (ix3 0 0 j) + T ⟨o + j.val, by omega⟩)
    (s : Fin 8192) :
    v.read (Elt Ideal) (v.writes (Elt Ideal) f (⟨Rect.unit (s := S1x1x8192) off S1x1x1024.size inb, w⟩ :: L)) (ix3 0 0 s)
      = G s + if s.val < o + 1024 then T s else 0 := by
  by_cases hs : o ≤ s.val ∧ s.val < o + 1024
  · have e := View.read_writes_cons_unit_of_mem v f inb w L (ix3 0 0 s) (ix3 0 0 (⟨s.val - o, by omega⟩ : Fin 1024)) hoff
      (fun a => match a with
        | ⟨0, _⟩ => rfl
        | ⟨1, _⟩ => rfl
        | ⟨2, _⟩ => by show s.val = o + (s.val - o); omega)
    refine e.trans ?_
    have es : (⟨o + (s.val - o), by omega⟩ : Fin 8192) = s := Fin.ext (by show o + (s.val - o) = s.val; omega)
    rw [hw, lane_load v _ hoff inb ho]
    simp only [es]
    rw [h, if_neg (by omega), if_pos hs.2, add_zero]
  · have e := View.read_writes_cons_unit_of_not_mem v f inb w L (ix3 0 0 s) hoff 2
      (by show s.val < o ∨ o + 1024 ≤ s.val; omega)
    refine e.trans ?_
    rw [h]
    congr 1
    by_cases h1 : s.val < o
    · rw [if_pos h1, if_pos (by omega)]
    · rw [if_neg h1, if_neg (by omega)]

/-- A load of 512 entries from entry `o` of a row reads those entries. -/
theorem laneHalf_load (v : View sig κ sp S1x1x8192 e) (f : v.ty.Contents (Elt Ideal)) {off : Fin 3 → ℕ} {o : ℕ} (hoff : off = ![0, 0, o])
    (inb : ∀ a, off a + S1x1x512.size a ≤ S1x1x8192.size a) (ho : o + 512 ≤ 8192) (j : Fin 512) :
    v.readAt (Elt Ideal) (Rect.unit (s := S1x1x8192) off S1x1x512.size inb).toLoadRect f (ix3 0 0 j) = v.read (Elt Ideal) f (ix3 0 0 ⟨o + j.val, by omega⟩) := by
  subst hoff
  rw [View.readAt_apply]
  congr 1
  funext a
  apply Fin.ext
  rw [LoadRect.idx_apply]
  match a with
  | ⟨0, _⟩ => rfl
  | ⟨1, _⟩ => rfl
  | ⟨2, _⟩ => show o + 1 * j.val = o + j.val; omega

/-- The same of a row of 512 entries from entry `o`. -/
theorem laneHalf_step (v : View sig κ sp S1x1x8192 .f32) (f : v.ty.Contents (Elt Ideal)) (L : List (View.Piece (Elt Ideal) S1x1x8192 .f32))
    (G T : Fin 8192 → EReal) {off : Fin 3 → ℕ} {o : ℕ} (hoff : off = ![0, 0, o])
    (inb : ∀ a, off a + S1x1x512.size a ≤ S1x1x8192.size a) (ho : o + 512 ≤ 8192) (w : Vec Ideal S1x1x512 .f32)
    (h : ∀ s, v.read (Elt Ideal) (v.writes (Elt Ideal) f L) (ix3 0 0 s) = G s + if s.val < o then T s else 0)
    (hw : ∀ (j : Fin 512), w (ix3 0 0 j)
      = v.readAt (Elt Ideal) (Rect.unit (s := S1x1x8192) off S1x1x512.size inb).toLoadRect (v.writes (Elt Ideal) f L) (ix3 0 0 j) + T ⟨o + j.val, by omega⟩)
    (s : Fin 8192) :
    v.read (Elt Ideal) (v.writes (Elt Ideal) f (⟨Rect.unit (s := S1x1x8192) off S1x1x512.size inb, w⟩ :: L)) (ix3 0 0 s)
      = G s + if s.val < o + 512 then T s else 0 := by
  by_cases hs : o ≤ s.val ∧ s.val < o + 512
  · have e := View.read_writes_cons_unit_of_mem v f inb w L (ix3 0 0 s) (ix3 0 0 (⟨s.val - o, by omega⟩ : Fin 512)) hoff
      (fun a => match a with
        | ⟨0, _⟩ => rfl
        | ⟨1, _⟩ => rfl
        | ⟨2, _⟩ => by show s.val = o + (s.val - o); omega)
    refine e.trans ?_
    have es : (⟨o + (s.val - o), by omega⟩ : Fin 8192) = s := Fin.ext (by show o + (s.val - o) = s.val; omega)
    rw [hw, laneHalf_load v _ hoff inb ho]
    simp only [es]
    rw [h, if_neg (by omega), if_pos hs.2, add_zero]
  · have e := View.read_writes_cons_unit_of_not_mem v f inb w L (ix3 0 0 s) hoff 2
      (by show s.val < o ∨ o + 512 ≤ s.val; omega)
    refine e.trans ?_
    rw [h]
    congr 1
    by_cases h1 : s.val < o
    · rw [if_pos h1, if_pos (by omega)]
    · rw [if_neg h1, if_neg (by omega)]

end Cert.FoxIdeal.Part

end
-- ==== Proof.Fox.Span.lean ====
/-
  What the two loops over full spans of keys leave: after `k` trips, the sums over the first `1024 k` keys.
-/
module

public import proofs.«01_k».proof.Proof.Fox.Trip
public import proofs.«01_k».proof.Proof.Fox.Pay
public import proofs.«01_k».proof.Proof.Fox.Part

@[expose] public section

set_option maxRecDepth 16384

noncomputable section

namespace Cert.FoxIdeal.Span

open Cert.FoxIdeal Cert.FoxIdeal.Gen Cert.FoxIdeal.Run Cert.FoxIdeal.Pay Cert.FoxIdeal.Part Cert.Mem Idealize.ShloMosaic Idealize.ShloMosaic.TcCoe Idealize.SL.Sem

/-- The probability that query row `a` of tile `n` gives key `s`: zero for a later key. -/
def prob (n : ℕ) (q : FVec Ideal S512x128 .bf16) (L C : FVec Ideal S512x1 .f32) (K : S8192x128.Idx → EReal) (cr : S1x1x8192.Idx → EReal)
    (a : Fin 512) (s : Fin 8192) : EReal :=
  if s.val ≤ 512 * n + a.val then expo q L C (fun x => K (ix2 s x)) (cr (ix3 0 0 s)) a else 0

/-- The gradient of that probability. -/
def dprob (g : FVec Ideal S512x128 .bf16) (V : S8192x128.Idx → EReal) (a : Fin 512) (s : Fin 8192) : EReal :=
  grad g (fun x => V (ix2 s x)) a

/-- The gradient of the score, from the row's sum `D` of probabilities with their gradients. -/
def dscore (n : ℕ) (q g : FVec Ideal S512x128 .bf16) (L C D : FVec Ideal S512x1 .f32) (K V : S8192x128.Idx → EReal) (cr : S1x1x8192.Idx → EReal)
    (a : Fin 512) (s : Fin 8192) : EReal :=
  prob n q L C K cr a s * (dprob g V a s - D (ix2 a 0))

theorem prob_of_lt (n : ℕ) (q : FVec Ideal S512x128 .bf16) (L C : FVec Ideal S512x1 .f32) (K : S8192x128.Idx → EReal) (cr : S1x1x8192.Idx → EReal)
    (a : Fin 512) (s : Fin 8192) (h : s.val < 512 * n) :
    prob n q L C K cr a s = expo q L C (fun x => K (ix2 s x)) (cr (ix3 0 0 s)) a := if_pos (by omega)

theorem prob_of_ge (n : ℕ) (q : FVec Ideal S512x128 .bf16) (L C : FVec Ideal S512x1 .f32) (K : S8192x128.Idx → EReal) (cr : S1x1x8192.Idx → EReal)
    (a : Fin 512) (s : Fin 8192) (h : 512 * n + 512 ≤ s.val) : prob n q L C K cr a s = 0 := if_neg (by have := a.isLt; omega)

theorem trips1 : ∀ i : grid0.Coords, (k0_t1_loop i).trips = 512 * (i 1).val / 1024 := by decide +kernel
theorem trips3 : ∀ i : grid0.Coords, (k0_t3_loop i).trips = 512 * (i 1).val / 1024 := by decide +kernel
theorem trips2 : ∀ i : grid0.Coords, (k0_t2_loop i).trips = 0 := fun i => Nat.le_zero.1 (k0_t2_abs i).2.1
theorem trips4 : ∀ i : grid0.Coords, (k0_t4_loop i).trips = 0 := fun i => Nat.le_zero.1 (k0_t4_abs i).2.1

/-- A span of keys before trip `k + 1` lies before the tile. -/
theorem span_lt (i : grid0.Coords) (k : ℕ) (h : k < 512 * (i 1).val / 1024) : 1024 * k + 1024 ≤ 512 * (i 1).val := by omega

theorem tile_lt (i : grid0.Coords) : (i 1).val < 16 := (i 1).isLt

variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole)

/-- The first loop's sum after `k` trips. -/
theorem loop1 (v5 : Vec Ideal S512x128 .bf16) (v7 : Vec Ideal S512x128 .f32) (v9 v11 : Vec Ideal S1x512x1 .f32)
    (X3 : BufTy.Contents (Elt Ideal) arg3.view.ty) (X4 : BufTy.Contents (Elt Ideal) arg4.view.ty) (X6 : BufTy.Contents (Elt Ideal) arg6.view.ty)
    (init : FVec Ideal S512x1 .f32) (a : Fin 512) : ∀ k : ℕ, k ≤ (k0_t1_loop i).trips →
    st_k0_t1 (F := Ideal) Variants.none c none i arg2 harg2 arg3 harg3 arg4 harg4 arg5 harg5 arg6 harg6 arg7 harg7 arg8 harg8 arg9 harg9 arg10 harg10 arg11 harg11 arg12 harg12 v5 v7 v9 v11 X3 X4 X6 init k (ix2 a 0)
      = init (ix2 a 0) + upTo (fun s => prob (i 1).val v5 (k0_pay27 v9) (k0_pay28 v11) (arg3.view.read (Elt Ideal) X3) (arg6.view.read (Elt Ideal) X6) a s
          * dprob v7 (arg4.view.read (Elt Ideal) X4) a s) (1024 * k) := by
  intro k
  induction k with
  | zero => intro _; rw [Nat.mul_zero, upTo_zero, add_zero]; rfl
  | succ k ih =>
    intro hk
    have h16 := tile_lt i
    have hk' : k < (k0_t1_loop i).trips := hk
    have ht := span_lt i k (by rw [← trips1 i]; exact hk')
    have e := congrFun (st_k0_t1_succ (F := Ideal) Variants.none c none i arg2 harg2 arg3 harg3 arg4 harg4 arg5 harg5 arg6 harg6 arg7 harg7 arg8 harg8 arg9 harg9 arg10 harg10 arg11 harg11 arg12 harg12 v5 v7 v9 v11 X3 X4 X6 init ⟨k, hk'⟩) (ix2 a 0)
    refine e.trans ?_
    unfold tripR_k0_t1
    rw [trip1_yield, pay30_apply]
    refine (congrArg (· + _) (ih (Nat.le_of_succ_le hk))).trans ?_
    rw [show 1024 * (k + 1) = 1024 * k + 1024 from by omega, upTo_add _ _ _ (by omega), ← add_assoc]
    congr 1
    refine Finset.sum_congr rfl fun j _ => ?_
    have hj := j.isLt
    rw [prob_of_lt _ _ _ _ _ _ _ _ (by show 1024 * k + j.val < _; omega)]
    have hb : 1024 * k + 1024 ≤ 8192 := by omega
    have l3 := fun x => span_load arg3.view X3 (k0_off1_eq i ⟨k, hk'⟩) (k0_off1_inb i ⟨k, hk'⟩) hb j x
    have l4 := fun x => span_load arg4.view X4 (k0_off1_eq i ⟨k, hk'⟩) (k0_off1_inb i ⟨k, hk'⟩) hb j x
    have l6 := lane_load arg6.view X6 (k0_off2_eq i ⟨k, hk'⟩) (k0_off2_inb i ⟨k, hk'⟩) hb j
    simp only [l3, l4, l6]
    rfl

section Second

variable (arg1 v1 : BitVec 32) (q g : FVec Ideal S512x128 .bf16) (L C v26 : FVec Ideal S512x1 .f32) (v27 v28 : BitVec 32) (v31 : FVec Ideal S512x128 .bf16) (v36 : Vec Ideal S1x1x512 .f32) (v56 : Vec Ideal S512x128 .bf16)
  (X3 : BufTy.Contents (Elt Ideal) arg3.view.ty) (X4 : BufTy.Contents (Elt Ideal) arg4.view.ty) (X6 : BufTy.Contents (Elt Ideal) arg6.view.ty)
  (G10 : BufTy.Contents (Elt Ideal) arg10.view.ty) (G11 : BufTy.Contents (Elt Ideal) arg11.view.ty) (G12 : BufTy.Contents (Elt Ideal) arg12.view.ty)
  (init : FVec Ideal S512x128 .f32)

/-- The gradient of the scores, in the second loop. -/
abbrev ds (a : Fin 512) (s : Fin 8192) : EReal :=
  dscore (i 1).val q g L C (k0_pay34 arg1 q g L C v26 v27 v31 v36 v56) (arg3.view.read (Elt Ideal) X3) (arg4.view.read (Elt Ideal) X4) (arg6.view.read (Elt Ideal) X6) a s

/-- The gradient of the scores of one loaded span. -/
theorem ds_span (k : Fin (k0_t3_loop i).trips) (a : Fin 512) (j : Fin 1024) (hb : 1024 * k.val + 1024 ≤ 512 * (i 1).val) (h : 1024 * k.val + j.val < 8192) :
    k0_pay6 (F := Ideal) q g L C (k0_pay34 arg1 q g L C v26 v27 v31 v36 v56)
      (arg3.view.readAt (Elt Ideal) (Rect.unit (s := S8192x128) (k0_off9 i k) S1024x128.size (k0_off9_inb i k)).toLoadRect X3)
      (arg6.view.readAt (Elt Ideal) (Rect.unit (s := S1x1x8192) (k0_off10 i k) S1x1x1024.size (k0_off10_inb i k)).toLoadRect X6)
      (arg4.view.readAt (Elt Ideal) (Rect.unit (s := S8192x128) (k0_off9 i k) S1024x128.size (k0_off9_inb i k)).toLoadRect X4) (ix2 a j)
      = ds i arg3 arg4 arg6 arg1 q g L C v26 v27 v31 v36 v56 X3 X4 X6 a ⟨1024 * k.val + j.val, h⟩ := by
  have h16 := tile_lt i
  have hj := j.isLt
  rw [pay6_apply]
  unfold ds dscore
  rw [prob_of_lt _ _ _ _ _ _ _ _ (by show 1024 * k.val + j.val < _; omega)]
  have hc : 1024 * k.val + 1024 ≤ 8192 := by omega
  have l3 := fun x => span_load arg3.view X3 (k0_off9_eq i k) (k0_off9_inb i k) hc j x
  have l4 := fun x => span_load arg4.view X4 (k0_off9_eq i k) (k0_off9_inb i k) hc j x
  have l6 := lane_load arg6.view X6 (k0_off10_eq i k) (k0_off10_inb i k) hc j
  simp only [l3, l4, l6]
  rfl

/-- The second loop's sum after `k` trips: the queries' gradient over the first `1024 k` keys. -/
theorem loop3_queries (a : Fin 512) (d : Fin 128) : ∀ k : ℕ, k ≤ (k0_t3_loop i).trips →
    (st_k0_t3 (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init k).1 (ix2 a d)
      = init (ix2 a d) + upTo (fun s => ds i arg3 arg4 arg6 arg1 q g L C v26 v27 v31 v36 v56 X3 X4 X6 a s * arg3.view.read (Elt Ideal) X3 (ix2 s d) * factor) (1024 * k) := by
  intro k
  induction k with
  | zero => intro _; rw [Nat.mul_zero, upTo_zero, add_zero]; rfl
  | succ k ih =>
    intro hk
    have h16 := tile_lt i
    have hk' : k < (k0_t3_loop i).trips := hk
    have ht := span_lt i k (by rw [← trips3 i]; exact hk')
    rw [st_k0_t3_succ (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init ⟨k, hk'⟩]
    dsimp only [tripR_k0_t3]
    rw [trip3_yield, pay37_apply]
    refine (congrArg (· + _) (ih (Nat.le_of_succ_le hk))).trans ?_
    rw [show 1024 * (k + 1) = 1024 * k + 1024 from by omega, upTo_add _ _ _ (by omega), ← add_assoc, sum_mul_factor]
    congr 1
    refine Finset.sum_congr rfl fun j _ => ?_
    have hj := j.isLt
    have hb : 1024 * k + 1024 ≤ 8192 := by omega
    rw [pay7_apply, ds_span i arg3 arg4 arg6 arg1 q g L C v26 v27 v31 v36 v56 X3 X4 X6 ⟨k, hk'⟩ a j ht (by show 1024 * k + j.val < 8192; omega), pay4_eq,
      span_load arg3.view X3 (k0_off9_eq i ⟨k, hk'⟩) (k0_off9_inb i ⟨k, hk'⟩) hb j d]

/-- The keys' gradient after `k` trips. -/
theorem loop3_keys : ∀ k : ℕ, k ≤ (k0_t3_loop i).trips → ∀ (s : Fin 8192) (d : Fin 128),
    arg10.view.read (Elt Ideal) (arg10.view.writes (Elt Ideal) G10 (st_k0_t3 (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init k).2.1) (ix2 s d)
      = arg10.view.read (Elt Ideal) G10 (ix2 s d)
        + if s.val < 1024 * k then (∑ a : Fin 512, ds i arg3 arg4 arg6 arg1 q g L C v26 v27 v31 v36 v56 X3 X4 X6 a s * q (ix2 a d)) * factor else 0 := by
  intro k
  induction k with
  | zero => intro _ s d; rw [if_neg (by omega), add_zero]; rfl
  | succ k ih =>
    intro hk
    have h16 := tile_lt i
    have hk' : k < (k0_t3_loop i).trips := hk
    have ht := span_lt i k (by rw [← trips3 i]; exact hk')
    rw [st_k0_t3_succ (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init ⟨k, hk'⟩]
    dsimp only [tripL_k0_t3]
    rw [trip3_keys, List.singleton_append, show 1024 * (k + 1) = 1024 * k + 1024 from by omega]
    refine span_step arg10.view G10 _ (fun s d => arg10.view.read (Elt Ideal) G10 (ix2 s d))
      (fun s d => (∑ a : Fin 512, ds i arg3 arg4 arg6 arg1 q g L C v26 v27 v31 v36 v56 X3 X4 X6 a s * q (ix2 a d)) * factor)
      (k0_off9_eq i ⟨k, hk'⟩) (k0_off9_inb i ⟨k, hk'⟩) (by show 1024 * k + 1024 ≤ 8192; omega) _ (ih (Nat.le_of_succ_le hk)) fun j d => ?_
    rw [pay9_apply]
    congr 2
    refine Finset.sum_congr rfl fun a _ => ?_
    have hj := j.isLt
    rw [ds_span i arg3 arg4 arg6 arg1 q g L C v26 v27 v31 v36 v56 X3 X4 X6 ⟨k, hk'⟩ a j ht (by show 1024 * k + j.val < 8192; omega)]

/-- The values' gradient after `k` trips. -/
theorem loop3_values : ∀ k : ℕ, k ≤ (k0_t3_loop i).trips → ∀ (s : Fin 8192) (d : Fin 128),
    arg11.view.read (Elt Ideal) (arg11.view.writes (Elt Ideal) G11 (st_k0_t3 (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init k).2.2.1) (ix2 s d)
      = arg11.view.read (Elt Ideal) G11 (ix2 s d)
        + if s.val < 1024 * k then ∑ a : Fin 512, prob (i 1).val q L C (arg3.view.read (Elt Ideal) X3) (arg6.view.read (Elt Ideal) X6) a s * g (ix2 a d) else 0 := by
  intro k
  induction k with
  | zero => intro _ s d; rw [if_neg (by omega), add_zero]; rfl
  | succ k ih =>
    intro hk
    have h16 := tile_lt i
    have hk' : k < (k0_t3_loop i).trips := hk
    have ht := span_lt i k (by rw [← trips3 i]; exact hk')
    rw [st_k0_t3_succ (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init ⟨k, hk'⟩]
    dsimp only [tripL_k0_t3]
    rw [trip3_values, List.singleton_append, show 1024 * (k + 1) = 1024 * k + 1024 from by omega]
    refine span_step arg11.view G11 _ (fun s d => arg11.view.read (Elt Ideal) G11 (ix2 s d))
      (fun s d => ∑ a : Fin 512, prob (i 1).val q L C (arg3.view.read (Elt Ideal) X3) (arg6.view.read (Elt Ideal) X6) a s * g (ix2 a d))
      (k0_off9_eq i ⟨k, hk'⟩) (k0_off9_inb i ⟨k, hk'⟩) (by show 1024 * k + 1024 ≤ 8192; omega) _ (ih (Nat.le_of_succ_le hk)) fun j d => ?_
    rw [pay8_apply]
    congr 1
    refine Finset.sum_congr rfl fun a _ => ?_
    have hj := j.isLt
    have hb : 1024 * k + 1024 ≤ 8192 := by omega
    rw [prob_of_lt _ _ _ _ _ _ _ _ (by show 1024 * k + j.val < _; omega)]
    have l3 := fun x => span_load arg3.view X3 (k0_off9_eq i ⟨k, hk'⟩) (k0_off9_inb i ⟨k, hk'⟩) hb j x
    have l6 := lane_load arg6.view X6 (k0_off10_eq i ⟨k, hk'⟩) (k0_off10_inb i ⟨k, hk'⟩) hb j
    simp only [l3, l6]

/-- The decays' gradient after `k` trips. -/
theorem loop3_decays : ∀ k : ℕ, k ≤ (k0_t3_loop i).trips → ∀ (s : Fin 8192),
    arg12.view.read (Elt Ideal) (arg12.view.writes (Elt Ideal) G12 (st_k0_t3 (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init k).2.2.2) (ix3 0 0 s)
      = arg12.view.read (Elt Ideal) G12 (ix3 0 0 s)
        + if s.val < 1024 * k then 0 - ∑ a : Fin 512, ds i arg3 arg4 arg6 arg1 q g L C v26 v27 v31 v36 v56 X3 X4 X6 a s else 0 := by
  intro k
  induction k with
  | zero => intro _ s; rw [if_neg (by omega), add_zero]; rfl
  | succ k ih =>
    intro hk
    have h16 := tile_lt i
    have hk' : k < (k0_t3_loop i).trips := hk
    have ht := span_lt i k (by rw [← trips3 i]; exact hk')
    rw [st_k0_t3_succ (F := Ideal) Variants.none c none i arg2 harg2 arg3 harg3 arg4 harg4 arg5 harg5 arg6 harg6 arg7 harg7 arg8 harg8 arg9 harg9 arg10 harg10 arg11 harg11 arg12 harg12 arg1 v1 q g L C v26 v27 v28 v31 v36 v56 X3 X4 X6 G10 G11 G12 init ⟨k, hk'⟩]
    dsimp only [tripL_k0_t3]
    rw [trip3_decays, List.singleton_append, show 1024 * (k + 1) = 1024 * k + 1024 from by omega]
    refine lane_step arg12.view G12 _ (fun s => arg12.view.read (Elt Ideal) G12 (ix3 0 0 s))
      (fun s => 0 - ∑ a : Fin 512, ds i arg3 arg4 arg6 arg1 q g L C v26 v27 v31 v36 v56 X3 X4 X6 a s)
      (k0_off10_eq i ⟨k, hk'⟩) (k0_off10_inb i ⟨k, hk'⟩) (by show 1024 * k + 1024 ≤ 8192; omega) _ (ih (Nat.le_of_succ_le hk)) fun j => ?_
    rw [pay36_apply]
    congr 2
    refine Finset.sum_congr rfl fun a _ => ?_
    have hj := j.isLt
    rw [ds_span i arg3 arg4 arg6 arg1 q g L C v26 v27 v31 v36 v56 X3 X4 X6 ⟨k, hk'⟩ a j ht (by show 1024 * k + j.val < 8192; omega)]

end Second

end Cert.FoxIdeal.Span

end
-- ==== Proof.Fox.Pieces.lean ====
/-
  The pieces the body writes into its four result blocks, written out: after the two loops, the half span at an odd tile,
  then the diagonal block.
-/
module

public import proofs.«01_k».proof.Proof.Fox.RunA
public import proofs.«01_k».proof.Proof.Fox.RunB
public import proofs.«01_k».proof.Proof.Fox.RunC
public import proofs.«01_k».proof.Proof.Fox.Span

@[expose] public section

set_option maxRecDepth 16384

noncomputable section

namespace Cert.FoxIdeal.Pieces

open Cert.FoxIdeal Cert.FoxIdeal.Gen Cert.FoxIdeal.Run Idealize.ShloMosaic Idealize.ShloMosaic.TcCoe Idealize.SL.Sem

variable {F : FTy → Type} [FloatOps F]
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole)
variable (x0 : Vec F S512x128 .bf16) (x1 : Vec F S8192x128 .bf16) (x2 : Vec F S8192x128 .bf16) (x3 : Vec F S1x512x1 .f32) (x4 : Vec F S1x1x8192 .f32) (x5 : Vec F S1x512x1 .f32) (x6 : Vec F S512x128 .f32)

/-- The tile's queries. -/
abbrev tq : FVec F S512x128 .bf16 := k0_pay25 (arg2.view.readAt (Elt F) (Rect.unit (s := S512x128) ![0, 0] S512x128.size inb_S512x128_S512x128_0_0).toLoadRect (harg2.unread x0))
/-- The gradient of the tile's output. -/
abbrev tg : FVec F S512x128 .bf16 := k0_pay26 (arg8.view.readAt (Elt F) (Rect.unit (s := S512x128) ![0, 0] S512x128.size inb_S512x128_S512x128_0_0).toLoadRect (harg8.unread x6))
/-- The tile's log sums. -/
abbrev tl : FVec F S512x1 .f32 := k0_pay27 (arg7.view.readAt (Elt F) (Rect.unit (s := S1x512x1) ![0, 0, 0] S1x512x1.size inb_S1x512x1_S1x512x1_0_0_0).toLoadRect (harg7.unread x5))
/-- The tile's decays. -/
abbrev tc : FVec F S512x1 .f32 := k0_pay28 (arg5.view.readAt (Elt F) (Rect.unit (s := S1x512x1) ![0, 0, 0] S1x512x1.size inb_S1x512x1_S1x512x1_0_0_0).toLoadRect (harg5.unread x3))

/-- The first pass over full spans. -/
abbrev pass1 : FVec F S512x1 .f32 :=
  st_k0_t2 (F := F) Variants.none c none i arg2 harg2 arg3 harg3 arg4 harg4 arg5 harg5 arg6 harg6 arg7 harg7 arg8 harg8 arg9 harg9 arg10 harg10 arg11 harg11 arg12 harg12 (arg2.view.readAt (Elt F) (Rect.unit (s := S512x128) ![0, 0] S512x128.size inb_S512x128_S512x128_0_0).toLoadRect (harg2.unread x0)) (arg8.view.readAt (Elt F) (Rect.unit (s := S512x128) ![0, 0] S512x128.size inb_S512x128_S512x128_0_0).toLoadRect (harg8.unread x6)) (arg7.view.readAt (Elt F) (Rect.unit (s := S1x512x1) ![0, 0, 0] S1x512x1.size inb_S1x512x1_S1x512x1_0_0_0).toLoadRect (harg7.unread x5)) (arg5.view.readAt (Elt F) (Rect.unit (s := S1x512x1) ![0, 0, 0] S1x512x1.size inb_S1x512x1_S1x512x1_0_0_0).toLoadRect (harg5.unread x3)) (harg3.unread x1) (harg4.unread x2) (harg6.unread x4)
    (st_k0_t1 (F := F) Variants.none c none i arg2 harg2 arg3 harg3 arg4 harg4 arg5 harg5 arg6 harg6 arg7 harg7 arg8 harg8 arg9 harg9 arg10 harg10 arg11 harg11 arg12 harg12 (arg2.view.readAt (Elt F) (Rect.unit (s := S512x128) ![0, 0] S512x128.size inb_S512x128_S512x128_0_0).toLoadRect (harg2.unread x0)) (arg8.view.readAt (Elt F) (Rect.unit (s := S512x128) ![0, 0] S512x128.size inb_S512x128_S512x128_0_0).toLoadRect (harg8.unread x6)) (arg7.view.readAt (Elt F) (Rect.unit (s := S1x512x1) ![0, 0, 0] S1x512x1.size inb_S1x512x1_S1x512x1_0_0_0).toLoadRect (harg7.unread x5)) (arg5.view.readAt (Elt F) (Rect.unit (s := S1x512x1) ![0, 0, 0] S1x512x1.size inb_S1x512x1_S1x512x1_0_0_0).toLoadRect (harg5.unread x3)) (harg3.unread x1) (harg4.unread x2) (harg6.unread x4) k0_pay29 (k0_t1_loop i).trips)
    (k0_t2_loop i).trips

/-- The first pass with the half span. -/
abbrev pass1Half (h2 : k0_cond2 i = 1#1) : FVec F S512x1 .f32 :=
  k0_pay32 (arg2.view.readAt (Elt F) (Rect.unit (s := S512x128) ![0, 0] S512x128.size inb_S512x128_S512x128_0_0).toLoadRect (harg2.unread x0)) (arg8.view.readAt (Elt F) (Rect.unit (s := S512x128) ![0, 0] S512x128.size inb_S512x128_S512x128_0_0).toLoadRect (harg8.unread x6)) (arg7.view.readAt (Elt F) (Rect.unit (s := S1x512x1) ![0, 0, 0] S1x512x1.size inb_S1x512x1_S1x512x1_0_0_0).toLoadRect (harg7.unread x5)) (arg5.view.readAt (Elt F) (Rect.unit (s := S1x512x1) ![0, 0, 0] S1x512x1.size inb_S1x512x1_S1x512x1_0_0_0).toLoadRect (harg5.unread x3)) (pass1 c i arg2 harg2 arg3 harg3 arg4 harg4 arg5 harg5 arg6 harg6 arg7 harg7 arg8 harg8 arg9 harg9 arg10 harg10 arg11 harg11 arg12 harg12 x0 x1 x2 x3 x4 x5 x6)
    (arg3.view.readAt (Elt F) (Rect.unit (s := S8192x128) (k0_off5 i) S512x128.size (k0_off5_inb i h2)).toLoadRect (harg3.unread x1)) (arg6.view.readAt (Elt F) (Rect.unit (s := S1x1x8192) (k0_off6 i) S1x1x512.size (k0_off6_inb i h2)).toLoadRect (harg6.unread x4)) (arg4.view.readAt (Elt F) (Rect.unit (s := S8192x128) (k0_off5 i) S512x128.size (k0_off5_inb i h2)).toLoadRect (harg4.unread x2))

/-- The loads of the diagonal block: keys, values, decays. -/
abbrev dk : Vec F S512x128 .bf16 := (arg3.view.readAt (Elt F) (Rect.unit (s := S8192x128) (k0_off7 i) S512x128.size (k0_off7_inb i)).toLoadRect (harg3.unread x1))
abbrev dv : Vec F S512x128 .bf16 := (arg4.view.readAt (Elt F) (Rect.unit (s := S8192x128) (k0_off7 i) S512x128.size (k0_off7_inb i)).toLoadRect (harg4.unread x2))
abbrev dr : Vec F S1x1x512 .f32 := (arg6.view.readAt (Elt F) (Rect.unit (s := S1x1x8192) (k0_off8 i) S1x1x512.size (k0_off8_inb i)).toLoadRect (harg6.unread x4))

/-- The row sums of probabilities with their gradients, from the first pass. -/
abbrev rowDot (v26 : FVec F S512x1 .f32) : FVec F S512x1 .f32 :=
  k0_pay34 (BitVec.ofNat 32 (i 1).val) (tq arg2 harg2 x0) (tg arg8 harg8 x6) (tl arg7 harg7 x5) (tc arg5 harg5 x3) v26 (Scalar.muli (BitVec.ofNat 32 (i 1).val) 512#32) (k0_pay33 (dk i arg3 harg3 x1)) (dr i arg6 harg6 x4) (dv i arg4 harg4 x2)

/-- The number of full spans, as the kernel computes it. -/
abbrev spans : BitVec 32 := Scalar.divsi (Scalar.muli (BitVec.ofNat 32 (i 1).val) 512#32) 1024#32

/-- The second pass over full spans. -/
abbrev pass2 (v26 : FVec F S512x1 .f32) (G10 : BufTy.Contents (Elt F) arg10.view.ty) (G11 : BufTy.Contents (Elt F) arg11.view.ty) (G12 : BufTy.Contents (Elt F) arg12.view.ty) :=
  st_k0_t3 (F := F) Variants.none c none i arg2 harg2 arg3 harg3 arg4 harg4 arg5 harg5 arg6 harg6 arg7 harg7 arg8 harg8 arg9 harg9 arg10 harg10 arg11 harg11 arg12 harg12 (BitVec.ofNat 32 (i 1).val) (spans i) (tq arg2 harg2 x0) (tg arg8 harg8 x6) (tl arg7 harg7 x5) (tc arg5 harg5 x3) v26 (Scalar.muli (BitVec.ofNat 32 (i 1).val) 512#32) (Scalar.muli (BitVec.ofNat 32 (i 1).val) 512#32)
    (k0_pay33 (dk i arg3 harg3 x1)) (dr i arg6 harg6 x4) (dv i arg4 harg4 x2) (harg3.unread x1) (harg4.unread x2) (harg6.unread x4) G10 G11 G12 k0_pay35 (k0_t3_loop i).trips

/-- The remainder loop of the second pass, which has no trips. -/
abbrev pass3 (v26 : FVec F S512x1 .f32) (G10 : BufTy.Contents (Elt F) arg10.view.ty) (G11 : BufTy.Contents (Elt F) arg11.view.ty) (G12 : BufTy.Contents (Elt F) arg12.view.ty) (init : FVec F S512x128 .f32) :=
  st_k0_t4 (F := F) Variants.none c none i arg2 harg2 arg3 harg3 arg4 harg4 arg5 harg5 arg6 harg6 arg7 harg7 arg8 harg8 arg9 harg9 arg10 harg10 arg11 harg11 arg12 harg12 (BitVec.ofNat 32 (i 1).val) (spans i) (tq arg2 harg2 x0) (tg arg8 harg8 x6) (tl arg7 harg7 x5) (tc arg5 harg5 x3) v26 (Scalar.muli (BitVec.ofNat 32 (i 1).val) 512#32) (Scalar.muli (BitVec.ofNat 32 (i 1).val) 512#32)
    (k0_pay33 (dk i arg3 harg3 x1)) (dr i arg6 harg6 x4) (dv i arg4 harg4 x2) (Scalar.addi 0#32 (Scalar.muli (Scalar.divsi (Scalar.subi (spans i) 0#32) 1#32) 1#32)) (harg3.unread x1) (harg4.unread x2) (harg6.unread x4) G10 G11 G12 init (k0_t4_loop i).trips

theorem pass3_eq (v26 : FVec F S512x1 .f32) (G10 : BufTy.Contents (Elt F) arg10.view.ty) (G11 : BufTy.Contents (Elt F) arg11.view.ty) (G12 : BufTy.Contents (Elt F) arg12.view.ty) (init : FVec F S512x128 .f32) :
    pass3 c i arg2 harg2 arg3 harg3 arg4 harg4 arg5 harg5 arg6 harg6 arg7 harg7 arg8 harg8 arg9 harg9 arg10 harg10 arg11 harg11 arg12 harg12 x0 x1 x2 x3 x4 x5 x6 v26 G10 G11 G12 init = (init, [], [], []) := by
  unfold pass3
  rw [Span.trips4]
  rfl

theorem pass1_eq : pass1 c i arg2 harg2 arg3 harg3 arg4 harg4 arg5 harg5 arg6 harg6 arg7 harg7 arg8 harg8 arg9 harg9 arg10 harg10 arg11 harg11 arg12 harg12 x0 x1 x2 x3 x4 x5 x6
    = st_k0_t1 (F := F) Variants.none c none i arg2 harg2 arg3 harg3 arg4 harg4 arg5 harg5 arg6 harg6 arg7 harg7 arg8 harg8 arg9 harg9 arg10 harg10 arg11 harg11 arg12 harg12 (arg2.view.readAt (Elt F) (Rect.unit (s := S512x128) ![0, 0] S512x128.size inb_S512x128_S512x128_0_0).toLoadRect (harg2.unread x0)) (arg8.view.readAt (Elt F) (Rect.unit (s := S512x128) ![0, 0] S512x128.size inb_S512x128_S512x128_0_0).toLoadRect (harg8.unread x6)) (arg7.view.readAt (Elt F) (Rect.unit (s := S1x512x1) ![0, 0, 0] S1x512x1.size inb_S1x512x1_S1x512x1_0_0_0).toLoadRect (harg7.unread x5)) (arg5.view.readAt (Elt F) (Rect.unit (s := S1x512x1) ![0, 0, 0] S1x512x1.size inb_S1x512x1_S1x512x1_0_0_0).toLoadRect (harg5.unread x3)) (harg3.unread x1) (harg4.unread x2) (harg6.unread x4) k0_pay29 (k0_t1_loop i).trips := by
  unfold pass1
  rw [Span.trips2]
  rfl

/-- The half span's pieces over those before. -/
abbrev half10 (h3 : k0_cond3 i = 1#1) (D : FVec F S512x1 .f32) (G10 : BufTy.Contents (Elt F) arg10.view.ty) (H : List (View.Piece (Elt F) S8192x128 .f32)) : List (View.Piece (Elt F) S8192x128 .f32) :=
  ⟨Rect.unit (s := S8192x128) (k0_off13 i) S512x128.size (k0_off13_inb i h3), k0_pay21 (tq arg2 harg2 x0) (tg arg8 harg8 x6) (tl arg7 harg7 x5) (tc arg5 harg5 x3) D (arg3.view.readAt (Elt F) (Rect.unit (s := S8192x128) (k0_off13 i) S512x128.size (k0_off13_inb i h3)).toLoadRect (harg3.unread x1)) (arg6.view.readAt (Elt F) (Rect.unit (s := S1x1x8192) (k0_off14 i) S1x1x512.size (k0_off14_inb i h3)).toLoadRect (harg6.unread x4)) (arg4.view.readAt (Elt F) (Rect.unit (s := S8192x128) (k0_off13 i) S512x128.size (k0_off13_inb i h3)).toLoadRect (harg4.unread x2)) (arg10.view.readAt (Elt F) (Rect.unit (s := S8192x128) (k0_off13 i) S512x128.size (k0_off13_inb i h3)).toLoadRect (arg10.view.writes (Elt F) G10 H))⟩ :: H
abbrev half11 (h3 : k0_cond3 i = 1#1) (G11 : BufTy.Contents (Elt F) arg11.view.ty) (H : List (View.Piece (Elt F) S8192x128 .f32)) : List (View.Piece (Elt F) S8192x128 .f32) :=
  ⟨Rect.unit (s := S8192x128) (k0_off13 i) S512x128.size (k0_off13_inb i h3), k0_pay20 (tq arg2 harg2 x0) (tg arg8 harg8 x6) (tl arg7 harg7 x5) (tc arg5 harg5 x3) (arg3.view.readAt (Elt F) (Rect.unit (s := S8192x128) (k0_off13 i) S512x128.size (k0_off13_inb i h3)).toLoadRect (harg3.unread x1)) (arg6.view.readAt (Elt F) (Rect.unit (s := S1x1x8192) (k0_off14 i) S1x1x512.size (k0_off14_inb i h3)).toLoadRect (harg6.unread x4)) (arg11.view.readAt (Elt F) (Rect.unit (s := S8192x128) (k0_off13 i) S512x128.size (k0_off13_inb i h3)).toLoadRect (arg11.view.writes (Elt F) G11 H))⟩ :: H
abbrev half12 (h3 : k0_cond3 i = 1#1) (D : FVec F S512x1 .f32) (G12 : BufTy.Contents (Elt F) arg12.view.ty) (H : List (View.Piece (Elt F) S1x1x8192 .f32)) : List (View.Piece (Elt F) S1x1x8192 .f32) :=
  ⟨Rect.unit (s := S1x1x8192) (k0_off14 i) S1x1x512.size (k0_off14_inb i h3), k0_pay40 (k0_pay18 (tq arg2 harg2 x0) (tg arg8 harg8 x6) (tl arg7 harg7 x5) (tc arg5 harg5 x3) D (arg3.view.readAt (Elt F) (Rect.unit (s := S8192x128) (k0_off13 i) S512x128.size (k0_off13_inb i h3)).toLoadRect (harg3.unread x1)) (arg6.view.readAt (Elt F) (Rect.unit (s := S1x1x8192) (k0_off14 i) S1x1x512.size (k0_off14_inb i h3)).toLoadRect (harg6.unread x4)) (arg4.view.readAt (Elt F) (Rect.unit (s := S8192x128) (k0_off13 i) S512x128.size (k0_off13_inb i h3)).toLoadRect (harg4.unread x2))) (arg12.view.readAt (Elt F) (Rect.unit (s := S1x1x8192) (k0_off14 i) S1x1x512.size (k0_off14_inb i h3)).toLoadRect (arg12.view.writes (Elt F) G12 H))⟩ :: H
abbrev half9 (h3 : k0_cond3 i = 1#1) (D : FVec F S512x1 .f32) (acc : FVec F S512x128 .f32) : FVec F S512x128 .f32 :=
  k0_pay41 acc (k0_pay16 (arg3.view.readAt (Elt F) (Rect.unit (s := S8192x128) (k0_off13 i) S512x128.size (k0_off13_inb i h3)).toLoadRect (harg3.unread x1))) (k0_pay19 (tq arg2 harg2 x0) (tg arg8 harg8 x6) (tl arg7 harg7 x5) (tc arg5 harg5 x3) D (arg3.view.readAt (Elt F) (Rect.unit (s := S8192x128) (k0_off13 i) S512x128.size (k0_off13_inb i h3)).toLoadRect (harg3.unread x1)) (arg6.view.readAt (Elt F) (Rect.unit (s := S1x1x8192) (k0_off14 i) S1x1x512.size (k0_off14_inb i h3)).toLoadRect (harg6.unread x4)) (arg4.view.readAt (Elt F) (Rect.unit (s := S8192x128) (k0_off13 i) S512x128.size (k0_off13_inb i h3)).toLoadRect (harg4.unread x2)))

/-- The diagonal block's pieces over those before. -/
abbrev diag10 (D : FVec F S512x1 .f32) (G10 : BufTy.Contents (Elt F) arg10.view.ty) (H : List (View.Piece (Elt F) S8192x128 .f32)) : List (View.Piece (Elt F) S8192x128 .f32) :=
  ⟨Rect.unit (s := S8192x128) (k0_off7 i) S512x128.size (k0_off7_inb i), k0_pay1 (tq arg2 harg2 x0) (k0_pay45 (BitVec.ofNat 32 (i 1).val) (tq arg2 harg2 x0) (tg arg8 harg8 x6) (tl arg7 harg7 x5) (tc arg5 harg5 x3) D (dk i arg3 harg3 x1) (dr i arg6 harg6 x4) (dv i arg4 harg4 x2)) (arg10.view.readAt (Elt F) (Rect.unit (s := S8192x128) (k0_off7 i) S512x128.size (k0_off7_inb i)).toLoadRect (arg10.view.writes (Elt F) G10 H))⟩ :: H
abbrev diag11 (G11 : BufTy.Contents (Elt F) arg11.view.ty) (H : List (View.Piece (Elt F) S8192x128 .f32)) : List (View.Piece (Elt F) S8192x128 .f32) :=
  ⟨Rect.unit (s := S8192x128) (k0_off7 i) S512x128.size (k0_off7_inb i), k0_pay46 (BitVec.ofNat 32 (i 1).val) (tq arg2 harg2 x0) (tg arg8 harg8 x6) (tl arg7 harg7 x5) (tc arg5 harg5 x3) (dk i arg3 harg3 x1) (dr i arg6 harg6 x4) (arg11.view.readAt (Elt F) (Rect.unit (s := S8192x128) (k0_off7 i) S512x128.size (k0_off7_inb i)).toLoadRect (arg11.view.writes (Elt F) G11 H))⟩ :: H
abbrev diag12 (D : FVec F S512x1 .f32) (G12 : BufTy.Contents (Elt F) arg12.view.ty) (H : List (View.Piece (Elt F) S1x1x8192 .f32)) : List (View.Piece (Elt F) S1x1x8192 .f32) :=
  ⟨Rect.unit (s := S1x1x8192) (k0_off8 i) S1x1x512.size (k0_off8_inb i), k0_pay2 (k0_pay44 (BitVec.ofNat 32 (i 1).val) (tq arg2 harg2 x0) (tg arg8 harg8 x6) (tl arg7 harg7 x5) (tc arg5 harg5 x3) D (dk i arg3 harg3 x1) (dr i arg6 harg6 x4) (dv i arg4 harg4 x2)) (arg12.view.readAt (Elt F) (Rect.unit (s := S1x1x8192) (k0_off8 i) S1x1x512.size (k0_off8_inb i)).toLoadRect (arg12.view.writes (Elt F) G12 H))⟩ :: H
abbrev diag9 (D : FVec F S512x1 .f32) (acc : FVec F S512x128 .f32) : List (View.Piece (Elt F) S512x128 .f32) :=
  [⟨Rect.unit (s := S512x128) ![0, 0] S512x128.size inb_S512x128_S512x128_0_0, k0_pay3 acc (k0_pay42 (dk i arg3 harg3 x1)) (k0_pay45 (BitVec.ofNat 32 (i 1).val) (tq arg2 harg2 x0) (tg arg8 harg8 x6) (tl arg7 harg7 x5) (tc arg5 harg5 x3) D (dk i arg3 harg3 x1) (dr i arg6 harg6 x4) (dv i arg4 harg4 x2))⟩]

theorem runA_9 (h0 : first i) (h2 : ¬k0_cond2 i = 1#1) (h3 : ¬k0_cond3 i = 1#1)  :
    (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).1 := by
  have e : (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩])) (arg11.view.writes (Elt F) arg11.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩])) (arg12.view.writes (Elt F) arg12.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩])) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).1).1 := by unfold runA; rfl
  rw [pass3_eq] at e
  exact e

theorem runA_10 (h0 : first i) (h2 : ¬k0_cond2 i = 1#1) (h3 : ¬k0_cond3 i = 1#1)  :
    (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) arg10.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩]) := by
  have e : (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) arg10.view.junk ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩])) (arg11.view.writes (Elt F) arg11.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩])) (arg12.view.writes (Elt F) arg12.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩])) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).1).2.1 ++ ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩])) := by unfold runA; rfl
  rw [pass3_eq] at e
  exact e

theorem runA_11 (h0 : first i) (h2 : ¬k0_cond2 i = 1#1) (h3 : ¬k0_cond3 i = 1#1)  :
    (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.1 = diag11 i arg2 harg2 arg3 harg3 arg5 harg5 arg6 harg6 arg7 harg7 arg8 harg8 arg11 x0 x1 x3 x4 x5 x6 arg11.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩]) := by
  have e : (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.1 = diag11 i arg2 harg2 arg3 harg3 arg5 harg5 arg6 harg6 arg7 harg7 arg8 harg8 arg11 x0 x1 x3 x4 x5 x6 arg11.view.junk ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩])) (arg11.view.writes (Elt F) arg11.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩])) (arg12.view.writes (Elt F) arg12.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩])) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).1).2.2.1 ++ ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩])) := by unfold runA; rfl
  rw [pass3_eq] at e
  exact e

theorem runA_12 (h0 : first i) (h2 : ¬k0_cond2 i = 1#1) (h3 : ¬k0_cond3 i = 1#1)  :
    (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) arg12.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩]) := by
  have e : (runA (F := F) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) arg12.view.junk ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.1 ++ [⟨Rect.unit (s := S8192x128) ![0, 0] S8192x128.size inb_S8192x128_S8192x128_0_0, k0_pay22 (F := F)⟩])) (arg11.view.writes (Elt F) arg11.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.1 ++ [⟨Rect.unit (s := S8192x128) ![0, 0] S8192x128.size inb_S8192x128_S8192x128_0_0, k0_pay23 (F := F)⟩])) (arg12.view.writes (Elt F) arg12.view.junk ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩])) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).1).2.2.2 ++ ((pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) arg10.view.junk [⟨Rect.unit (s := S8192x128) ![0, 0] S8192x128.size inb_S8192x128_S8192x128_0_0, k0_pay22 (F := F)⟩]) (arg11.view.writes (Elt F) arg11.view.junk [⟨Rect.unit (s := S8192x128) ![0, 0] S8192x128.size inb_S8192x128_S8192x128_0_0, k0_pay23 (F := F)⟩]) (arg12.view.writes (Elt F) arg12.view.junk [⟨Rect.unit (s := S1x1x8192) ![0, 0, 0] S1x1x8192.size inb_S1x1x8192_S1x1x8192_0_0_0, k0_pay24 (F := F)⟩])).2.2.2 ++ [⟨Rect.unit (s := S1x1x8192) ![0, 0, 0] S1x1x8192.size inb_S1x1x8192_S1x1x8192_0_0_0, k0_pay24 (F := F)⟩])) := by unfold runA; rfl
  rw [pass3_eq] at e
  exact e

theorem runB_9 (h0 : ¬first i) (h2 : ¬k0_cond2 i = 1#1) (h3 : ¬k0_cond3 i = 1#1) (xo8 : Vec F S8192x128 .f32) (xo9 : Vec F S8192x128 .f32) (xo10 : Vec F S1x1x8192 .f32) :
    (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).1 := by
  have e : (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).1).1 := by unfold runB; rfl
  rw [pass3_eq] at e
  exact e

theorem runB_10 (h0 : ¬first i) (h2 : ¬k0_cond2 i = 1#1) (h3 : ¬k0_cond3 i = 1#1) (xo8 : Vec F S8192x128 .f32) (xo9 : Vec F S8192x128 .f32) (xo10 : Vec F S1x1x8192 .f32) :
    (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1 := by
  have e : (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (harg10.unread xo8) ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).1).2.1 ++ (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1) := by unfold runB; rfl
  rw [pass3_eq] at e
  exact e

theorem runB_11 (h0 : ¬first i) (h2 : ¬k0_cond2 i = 1#1) (h3 : ¬k0_cond3 i = 1#1) (xo8 : Vec F S8192x128 .f32) (xo9 : Vec F S8192x128 .f32) (xo10 : Vec F S1x1x8192 .f32) :
    (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1 = diag11 i arg2 harg2 arg3 harg3 arg5 harg5 arg6 harg6 arg7 harg7 arg8 harg8 arg11 x0 x1 x3 x4 x5 x6 (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1 := by
  have e : (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1 = diag11 i arg2 harg2 arg3 harg3 arg5 harg5 arg6 harg6 arg7 harg7 arg8 harg8 arg11 x0 x1 x3 x4 x5 x6 (harg11.unread xo9) ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).1).2.2.1 ++ (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1) := by unfold runB; rfl
  rw [pass3_eq] at e
  exact e

theorem runB_12 (h0 : ¬first i) (h2 : ¬k0_cond2 i = 1#1) (h3 : ¬k0_cond3 i = 1#1) (xo8 : Vec F S8192x128 .f32) (xo9 : Vec F S8192x128 .f32) (xo10 : Vec F S1x1x8192 .f32) :
    (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2 := by
  have e : (runB (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6)) (harg12.unread xo10) ((pass3 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).1).2.2.2 ++ (pass2 c i arg2 harg2 arg3 harg3 arg4 harg4 arg5 harg5 arg6 harg6 arg7 harg7 arg8 harg8 arg9 harg9 arg10 harg10 arg11 harg11 arg12 harg12 x0 x1 x2 x3 x4 x5 x6 (pass1 c i arg2 harg2 arg3 harg3 arg4 harg4 arg5 harg5 arg6 harg6 arg7 harg7 arg8 harg8 arg9 harg9 arg10 harg10 arg11 harg11 arg12 harg12 x0 x1 x2 x3 x4 x5 x6) ((harg10.unread xo8) : BufTy.Contents (Elt F) arg10.view.ty) ((harg11.unread xo9) : BufTy.Contents (Elt F) arg11.view.ty) ((harg12.unread xo10) : BufTy.Contents (Elt F) arg12.view.ty)).2.2.2) := by unfold runB; rfl
  rw [pass3_eq] at e
  exact e

theorem runC_9 (h0 : ¬first i) (h2 : k0_cond2 i = 1#1) (h3 : k0_cond3 i = 1#1) (xo8 : Vec F S8192x128 .f32) (xo9 : Vec F S8192x128 .f32) (xo10 : Vec F S1x1x8192 .f32) :
    (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (half9 i arg2 harg2 arg3 harg3 arg4 harg4 arg5 harg5 arg6 harg6 arg7 harg7 arg8 harg8 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).1) := by
  have e : (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1 = diag9 i arg2 harg2 arg3 harg3 arg4 harg4 arg5 harg5 arg6 harg6 arg7 harg7 arg8 harg8 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (half9 i arg2 harg2 arg3 harg3 arg4 harg4 arg5 harg5 arg6 harg6 arg7 harg7 arg8 harg8 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (pass3 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).1).1) := by unfold runC; rfl
  rw [pass3_eq] at e
  exact e

theorem runC_10 (h0 : ¬first i) (h2 : k0_cond2 i = 1#1) (h3 : k0_cond3 i = 1#1) (xo8 : Vec F S8192x128 .f32) (xo9 : Vec F S8192x128 .f32) (xo10 : Vec F S1x1x8192 .f32) :
    (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg10.unread xo8) (half10 i arg2 harg2 arg3 harg3 arg4 harg4 arg5 harg5 arg6 harg6 arg7 harg7 arg8 harg8 arg10 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1) := by
  have e : (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1 = diag10 i arg2 harg2 arg3 harg3 arg4 harg4 arg5 harg5 arg6 harg6 arg7 harg7 arg8 harg8 arg10 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg10.unread xo8) (half10 i arg2 harg2 arg3 harg3 arg4 harg4 arg5 harg5 arg6 harg6 arg7 harg7 arg8 harg8 arg10 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg10.unread xo8) ((pass3 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).1).2.1 ++ (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1)) := by unfold runC; rfl
  rw [pass3_eq] at e
  exact e

theorem runC_11 (h0 : ¬first i) (h2 : k0_cond2 i = 1#1) (h3 : k0_cond3 i = 1#1) (xo8 : Vec F S8192x128 .f32) (xo9 : Vec F S8192x128 .f32) (xo10 : Vec F S1x1x8192 .f32) :
    (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1 = diag11 i arg2 harg2 arg3 harg3 arg5 harg5 arg6 harg6 arg7 harg7 arg8 harg8 arg11 x0 x1 x3 x4 x5 x6 (harg11.unread xo9) (half11 i arg2 harg2 arg3 harg3 arg5 harg5 arg6 harg6 arg7 harg7 arg8 harg8 arg11 x0 x1 x3 x4 x5 x6 h3 (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1) := by
  have e : (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1 = diag11 i arg2 harg2 arg3 harg3 arg5 harg5 arg6 harg6 arg7 harg7 arg8 harg8 arg11 x0 x1 x3 x4 x5 x6 (harg11.unread xo9) (half11 i arg2 harg2 arg3 harg3 arg5 harg5 arg6 harg6 arg7 harg7 arg8 harg8 arg11 x0 x1 x3 x4 x5 x6 h3 (harg11.unread xo9) ((pass3 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).1).2.2.1 ++ (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1)) := by unfold runC; rfl
  rw [pass3_eq] at e
  exact e

theorem runC_12 (h0 : ¬first i) (h2 : k0_cond2 i = 1#1) (h3 : k0_cond3 i = 1#1) (xo8 : Vec F S8192x128 .f32) (xo9 : Vec F S8192x128 .f32) (xo10 : Vec F S1x1x8192 .f32) :
    (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg12.unread xo10) (half12 i arg2 harg2 arg3 harg3 arg4 harg4 arg5 harg5 arg6 harg6 arg7 harg7 arg8 harg8 arg12 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2) := by
  have e : (runC (F := F) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1 = diag12 i arg2 harg2 arg3 harg3 arg4 harg4 arg5 harg5 arg6 harg6 arg7 harg7 arg8 harg8 arg12 x0 x1 x2 x3 x4 x5 x6 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg12.unread xo10) (half12 i arg2 harg2 arg3 harg3 arg4 harg4 arg5 harg5 arg6 harg6 arg7 harg7 arg8 harg8 arg12 x0 x1 x2 x3 x4 x5 x6 h3 (rowDot i arg2 harg2 arg3 harg3 arg4 harg4 arg5 harg5 arg6 harg6 arg7 harg7 arg8 harg8 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2)) (harg12.unread xo10) ((pass3 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) (arg10.view.writes (Elt F) (harg10.unread xo8) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.1) (arg11.view.writes (Elt F) (harg11.unread xo9) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.1) (arg12.view.writes (Elt F) (harg12.unread xo10) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2) (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).1).2.2.2 ++ (pass2 c i arg2 harg2 arg3 harg3 arg4 harg4 arg5 harg5 arg6 harg6 arg7 harg7 arg8 harg8 arg9 harg9 arg10 harg10 arg11 harg11 arg12 harg12 x0 x1 x2 x3 x4 x5 x6 (pass1Half c i arg2 harg2 arg3 harg3 arg4 harg4 arg5 harg5 arg6 harg6 arg7 harg7 arg8 harg8 arg9 harg9 arg10 harg10 arg11 harg11 arg12 harg12 x0 x1 x2 x3 x4 x5 x6 h2) ((harg10.unread xo8) : BufTy.Contents (Elt F) arg10.view.ty) ((harg11.unread xo9) : BufTy.Contents (Elt F) arg11.view.ty) ((harg12.unread xo10) : BufTy.Contents (Elt F) arg12.view.ty)).2.2.2)) := by unfold runC; rfl
  rw [pass3_eq] at e
  exact e

end Cert.FoxIdeal.Pieces

end
-- ==== Proof.Fox.Tile.lean ====
/-
  What the body computes at one tile of queries: its rows of the queries' gradient, and what it adds to the keys', the values'
  and the decays' gradients, as sums over all keys of masked probabilities.
-/
module

public import proofs.«01_k».proof.Proof.Fox.Pieces
public import Idealize.ShloMosaic.Lib.VecWindow

@[expose] public section

set_option maxRecDepth 16384

noncomputable section

namespace Cert.FoxIdeal.Tile

open Cert.FoxIdeal Cert.FoxIdeal.Gen Cert.FoxIdeal.Run Cert.FoxIdeal.Pay Cert.FoxIdeal.Part Cert.FoxIdeal.Span Cert.FoxIdeal.Pieces Cert.Mem Idealize.ShloMosaic Idealize.ShloMosaic.TcCoe Idealize.SL.Sem

theorem odd2 : ∀ i : grid0.Coords, k0_cond2 i = 1#1 ↔ (i 1).val % 2 = 1 := by decide +kernel
theorem odd3 : ∀ i : grid0.Coords, k0_cond3 i = 1#1 ↔ (i 1).val % 2 = 1 := by decide +kernel

/-- On the diagonal the mask compares positions within the block. -/
theorem prob_diag (n : ℕ) (q : FVec Ideal S512x128 .bf16) (L C : FVec Ideal S512x1 .f32) (K : S8192x128.Idx → EReal) (cr : S1x1x8192.Idx → EReal)
    (a j : Fin 512) (h : 512 * n + j.val < 8192) :
    prob n q L C K cr a ⟨512 * n + j.val, h⟩
      = if j.val ≤ a.val then expo q L C (fun x => K (ix2 ⟨512 * n + j.val, h⟩ x)) (cr (ix3 0 0 ⟨512 * n + j.val, h⟩)) a else 0 :=
  if_congr (by show 512 * n + j.val ≤ 512 * n + a.val ↔ _; omega) rfl rfl

/-- The row's sum of probabilities with their gradients. -/
def delta (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (a : Fin 512) : EReal :=
  ∑ s : Fin 8192, prob n x0 (k0_pay27 x5) (k0_pay28 x3) x1 x4 a s * dprob x6 x2 a s

/-- The gradient of the score of query row `a` and key `s`. -/
def score (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (a : Fin 512) (s : Fin 8192) : EReal :=
  prob n x0 (k0_pay27 x5) (k0_pay28 x3) x1 x4 a s * (dprob x6 x2 a s - delta n x0 x1 x2 x3 x4 x5 x6 a)

theorem score_of_ge (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (a : Fin 512) (s : Fin 8192)
    (h : 512 * n + 512 ≤ s.val) : score n x0 x1 x2 x3 x4 x5 x6 a s = 0 := by
  unfold score
  rw [prob_of_ge _ _ _ _ _ _ _ _ h, zero_mul]

/-- The tile's rows of the queries' gradient. -/
def queries (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (a : Fin 512) (d : Fin 128) : EReal :=
  ∑ s : Fin 8192, score n x0 x1 x2 x3 x4 x5 x6 a s * x1 (ix2 s d) * factor

/-- What the tile adds to the keys' gradient. -/
def keys (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (s : Fin 8192) (d : Fin 128) : EReal :=
  (∑ a : Fin 512, score n x0 x1 x2 x3 x4 x5 x6 a s * x0 (ix2 a d)) * factor

/-- What the tile adds to the values' gradient. -/
def values (n : ℕ) (x0 : Vec Ideal S512x128 .bf16) (x1 : Vec Ideal S8192x128 .bf16) (x3 : Vec Ideal S1x512x1 .f32) (x4 : Vec Ideal S1x1x8192 .f32) (x5 : Vec Ideal S1x512x1 .f32) (x6 : Vec Ideal S512x128 .f32) (s : Fin 8192) (d : Fin 128) : EReal :=
  ∑ a : Fin 512, prob n x0 (k0_pay27 x5) (k0_pay28 x3) x1 x4 a s * x6 (ix2 a d)

/-- What the tile adds to the decays' gradient. -/
def decays (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (s : Fin 8192) : EReal :=
  0 - ∑ a : Fin 512, score n x0 x1 x2 x3 x4 x5 x6 a s

variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole)
variable (x0 : Vec Ideal S512x128 .bf16) (x1 : Vec Ideal S8192x128 .bf16) (x2 : Vec Ideal S8192x128 .bf16) (x3 : Vec Ideal S1x512x1 .f32) (x4 : Vec Ideal S1x1x8192 .f32) (x5 : Vec Ideal S1x512x1 .f32) (x6 : Vec Ideal S512x128 .f32)

theorem load5 : (arg2.view.readAt (Elt Ideal) (Rect.unit (s := S512x128) ![0, 0] S512x128.size inb_S512x128_S512x128_0_0).toLoadRect (harg2.unread x0)) = x0 := (View.readAt_full arg2.view _ _).trans (harg2.read_unread x0)
theorem load7 : (arg8.view.readAt (Elt Ideal) (Rect.unit (s := S512x128) ![0, 0] S512x128.size inb_S512x128_S512x128_0_0).toLoadRect (harg8.unread x6)) = x6 := (View.readAt_full arg8.view _ _).trans (harg8.read_unread x6)
theorem load9 : (arg7.view.readAt (Elt Ideal) (Rect.unit (s := S1x512x1) ![0, 0, 0] S1x512x1.size inb_S1x512x1_S1x512x1_0_0_0).toLoadRect (harg7.unread x5)) = x5 := (View.readAt_full arg7.view _ _).trans (harg7.read_unread x5)
theorem load11 : (arg5.view.readAt (Elt Ideal) (Rect.unit (s := S1x512x1) ![0, 0, 0] S1x512x1.size inb_S1x512x1_S1x512x1_0_0_0).toLoadRect (harg5.unread x3)) = x3 := (View.readAt_full arg5.view _ _).trans (harg5.read_unread x3)

theorem tq_eq : tq (F := Ideal) arg2 harg2 x0 = x0 := by unfold tq; rw [load5, pay25_eq]
theorem tg_eq : tg (F := Ideal) arg8 harg8 x6 = x6 := by unfold tg; rw [load7]; exact pay26_eq x6
theorem tl_eq : tl (F := Ideal) arg7 harg7 x5 = k0_pay27 x5 := by unfold tl; rw [load9]
theorem tc_eq : tc (F := Ideal) arg5 harg5 x3 = k0_pay28 x3 := by unfold tc; rw [load11]

/-- The diagonal block's loads. -/
theorem dk_apply (j : Fin 512) (d : Fin 128) : dk (F := Ideal) i arg3 harg3 x1 (ix2 j d) = x1 (ix2 ⟨512 * (i 1).val + j.val, by have := tile_lt i; have := j.isLt; omega⟩ d) := by
  have h := tile_lt i
  exact (half_load arg3.view _ (k0_off7_eq i) (k0_off7_inb i) (by omega) j d).trans (congrFun (harg3.read_unread x1) _)

theorem dv_apply (j : Fin 512) (d : Fin 128) : dv (F := Ideal) i arg4 harg4 x2 (ix2 j d) = x2 (ix2 ⟨512 * (i 1).val + j.val, by have := tile_lt i; have := j.isLt; omega⟩ d) := by
  have h := tile_lt i
  exact (half_load arg4.view _ (k0_off7_eq i) (k0_off7_inb i) (by omega) j d).trans (congrFun (harg4.read_unread x2) _)

theorem dr_apply (j : Fin 512) : dr (F := Ideal) i arg6 harg6 x4 (ix3 0 0 j) = x4 (ix3 0 0 ⟨512 * (i 1).val + j.val, by have := tile_lt i; have := j.isLt; omega⟩) := by
  have h := tile_lt i
  exact (laneHalf_load arg6.view _ (k0_off8_eq i) (k0_off8_inb i) (by omega) j).trans (congrFun (harg6.read_unread x4) _)

/-- The first pass without a half span. -/
theorem pass1_apply (a : Fin 512) : pass1 (F := Ideal) c i arg2 harg2 arg3 harg3 arg4 harg4 arg5 harg5 arg6 harg6 arg7 harg7 arg8 harg8 arg9 harg9 arg10 harg10 arg11 harg11 arg12 harg12 x0 x1 x2 x3 x4 x5 x6 (ix2 a 0)
    = upTo (fun s => prob (i 1).val x0 (k0_pay27 x5) (k0_pay28 x3) x1 x4 a s * dprob x6 x2 a s) (1024 * (512 * (i 1).val / 1024)) := by
  rw [pass1_eq, loop1 c i arg2 harg2 arg3 harg3 arg4 harg4 arg5 harg5 arg6 harg6 arg7 harg7 arg8 harg8 arg9 harg9 arg10 harg10 arg11 harg11 arg12 harg12 _ _ _ _ _ _ _ _ a _ le_rfl, pay29_apply, zero_add, load5, load7, load9, load11, trips1]
  simp only [harg3.read_unread, harg4.read_unread, harg6.read_unread]

/-- The first pass with the half span. -/
theorem pass1Half_apply (h2 : k0_cond2 i = 1#1) (a : Fin 512) : pass1Half (F := Ideal) c i arg2 harg2 arg3 harg3 arg4 harg4 arg5 harg5 arg6 harg6 arg7 harg7 arg8 harg8 arg9 harg9 arg10 harg10 arg11 harg11 arg12 harg12 x0 x1 x2 x3 x4 x5 x6 h2 (ix2 a 0)
    = upTo (fun s => prob (i 1).val x0 (k0_pay27 x5) (k0_pay28 x3) x1 x4 a s * dprob x6 x2 a s) (512 * (i 1).val) := by
  have hn := (odd2 i).1 h2
  have h16 := tile_lt i
  have e : 512 * (i 1).val = 1024 * (512 * (i 1).val / 1024) + 512 := by omega
  unfold pass1Half
  rw [pay32_apply, pass1_apply, load5, load7, load9, load11]
  conv_rhs => rw [e, upTo_add _ _ _ (by omega)]
  congr 1
  refine Finset.sum_congr rfl fun j _ => ?_
  have hj := j.isLt
  rw [prob_of_lt _ _ _ _ _ _ _ _ (by show _ + j.val < _; omega)]
  have hb : 1024 * (512 * (i 1).val / 1024) + 512 ≤ 8192 := by omega
  have l3 := fun x => (half_load arg3.view (harg3.unread x1) (k0_off5_eq i) (k0_off5_inb i h2) hb j x).trans (congrFun (harg3.read_unread x1) _)
  have l4 := fun x => (half_load arg4.view (harg4.unread x2) (k0_off5_eq i) (k0_off5_inb i h2) hb j x).trans (congrFun (harg4.read_unread x2) _)
  have l6 := (laneHalf_load arg6.view (harg6.unread x4) (k0_off6_eq i) (k0_off6_inb i h2) hb j).trans (congrFun (harg6.read_unread x4) _)
  simp only [l3, l4, l6]
  rfl

/-- The row sums of probabilities with their gradients. -/
theorem rowDot_apply (v26 : FVec Ideal S512x1 .f32) (a : Fin 512)
    (h : v26 (ix2 a 0) = upTo (fun s => prob (i 1).val x0 (k0_pay27 x5) (k0_pay28 x3) x1 x4 a s * dprob x6 x2 a s) (512 * (i 1).val)) :
    rowDot (F := Ideal) i arg2 harg2 arg3 harg3 arg4 harg4 arg5 harg5 arg6 harg6 arg7 harg7 arg8 harg8 x0 x1 x2 x3 x4 x5 x6 v26 (ix2 a 0) = delta (i 1).val x0 x1 x2 x3 x4 x5 x6 a := by
  have h16 := tile_lt i
  unfold rowDot delta
  rw [tq_eq, tg_eq, tl_eq, tc_eq, pay34_apply (i 1), h, pay33_eq,
    ← upTo_all _ (512 * (i 1).val + 512) (by omega) (fun s hs => by rw [prob_of_ge _ _ _ _ _ _ _ _ hs, zero_mul]), upTo_add _ _ _ (by omega)]
  congr 1
  refine Finset.sum_congr rfl fun j _ => ?_
  rw [prob_diag]
  simp only [dk_apply, dr_apply, dv_apply]
  rfl

section Steps

variable (D : FVec Ideal S512x1 .f32)

/-- The score gradients of the half span. -/
theorem half_score (h3 : k0_cond3 i = 1#1) (a j : Fin 512) (hb : 1024 * (512 * (i 1).val / 1024) + j.val < 8192) :
    k0_pay18 (F := Ideal) x0 x6 (k0_pay27 x5) (k0_pay28 x3) D (arg3.view.readAt (Elt Ideal) (Rect.unit (s := S8192x128) (k0_off13 i) S512x128.size (k0_off13_inb i h3)).toLoadRect (harg3.unread x1)) (arg6.view.readAt (Elt Ideal) (Rect.unit (s := S1x1x8192) (k0_off14 i) S1x1x512.size (k0_off14_inb i h3)).toLoadRect (harg6.unread x4)) (arg4.view.readAt (Elt Ideal) (Rect.unit (s := S8192x128) (k0_off13 i) S512x128.size (k0_off13_inb i h3)).toLoadRect (harg4.unread x2)) (ix2 a j)
      = dscore (i 1).val x0 x6 (k0_pay27 x5) (k0_pay28 x3) D x1 x2 x4 a ⟨1024 * (512 * (i 1).val / 1024) + j.val, hb⟩ := by
  have hn := (odd3 i).1 h3
  have h16 := tile_lt i
  have hj := j.isLt
  unfold dscore
  rw [pay18_apply, prob_of_lt _ _ _ _ _ _ _ _ (by show _ + j.val < _; omega)]
  have hc : 1024 * (512 * (i 1).val / 1024) + 512 ≤ 8192 := by omega
  have l3 := fun x => (half_load arg3.view (harg3.unread x1) (k0_off13_eq i) (k0_off13_inb i h3) hc j x).trans (congrFun (harg3.read_unread x1) _)
  have l4 := fun x => (half_load arg4.view (harg4.unread x2) (k0_off13_eq i) (k0_off13_inb i h3) hc j x).trans (congrFun (harg4.read_unread x2) _)
  have l6 := (laneHalf_load arg6.view (harg6.unread x4) (k0_off14_eq i) (k0_off14_inb i h3) hc j).trans (congrFun (harg6.read_unread x4) _)
  simp only [l3, l4, l6]
  rfl

/-- The score gradients of the diagonal block. -/
theorem diag_score (a j : Fin 512) (hb : 512 * (i 1).val + j.val < 8192) :
    k0_pay44 (F := Ideal) (BitVec.ofNat 32 (i 1).val) x0 x6 (k0_pay27 x5) (k0_pay28 x3) D (dk i arg3 harg3 x1) (dr i arg6 harg6 x4) (dv i arg4 harg4 x2) (ix2 a j)
      = dscore (i 1).val x0 x6 (k0_pay27 x5) (k0_pay28 x3) D x1 x2 x4 a ⟨512 * (i 1).val + j.val, hb⟩ := by
  unfold dscore
  rw [pay44_apply (i 1), prob_diag]
  simp only [dk_apply, dr_apply, dv_apply]
  rfl

theorem half10_read (h3 : k0_cond3 i = 1#1) (G : BufTy.Contents (Elt Ideal) arg10.view.ty) (H : List (View.Piece (Elt Ideal) S8192x128 .f32)) (B : Fin 8192 → Fin 128 → EReal)
    (inv : ∀ (s : Fin 8192) (d : Fin 128), arg10.view.read (Elt Ideal) (arg10.view.writes (Elt Ideal) G H) (ix2 s d) = B s d + if s.val < 1024 * (512 * (i 1).val / 1024) then (∑ a : Fin 512, dscore (i 1).val x0 x6 (k0_pay27 x5) (k0_pay28 x3) D x1 x2 x4 a s * x0 (ix2 a d)) * factor else 0)
    (s : Fin 8192) (d : Fin 128) : arg10.view.read (Elt Ideal) (arg10.view.writes (Elt Ideal) G (half10 i arg2 harg2 arg3 harg3 arg4 harg4 arg5 harg5 arg6 harg6 arg7 harg7 arg8 harg8 arg10 x0 x1 x2 x3 x4 x5 x6 h3 D G H)) (ix2 s d) = B s d + if s.val < 512 * (i 1).val then (∑ a : Fin 512, dscore (i 1).val x0 x6 (k0_pay27 x5) (k0_pay28 x3) D x1 x2 x4 a s * x0 (ix2 a d)) * factor else 0 := by
  have hn := (odd3 i).1 h3
  have h16 := tile_lt i
  have e : 512 * (i 1).val = 1024 * (512 * (i 1).val / 1024) + 512 := by omega
  rw [if_congr (show s.val < 512 * (i 1).val ↔ s.val < 1024 * (512 * (i 1).val / 1024) + 512 from by omega) rfl rfl]
  refine half_step arg10.view G H B (fun s d => (∑ a : Fin 512, dscore (i 1).val x0 x6 (k0_pay27 x5) (k0_pay28 x3) D x1 x2 x4 a s * x0 (ix2 a d)) * factor) (k0_off13_eq i) (k0_off13_inb i h3) (by omega) _ inv (fun j d => ?_) s d
  rw [tq_eq, tg_eq, tl_eq, tc_eq, pay21_apply]
  congr 2
  refine Finset.sum_congr rfl fun a _ => ?_
  have hj := j.isLt
  rw [half_score i arg3 harg3 arg4 harg4 arg6 harg6 x0 x1 x2 x3 x4 x5 x6 D h3 a j (by omega)]

theorem half11_read (h3 : k0_cond3 i = 1#1) (G : BufTy.Contents (Elt Ideal) arg11.view.ty) (H : List (View.Piece (Elt Ideal) S8192x128 .f32)) (B : Fin 8192 → Fin 128 → EReal)
    (inv : ∀ (s : Fin 8192) (d : Fin 128), arg11.view.read (Elt Ideal) (arg11.view.writes (Elt Ideal) G H) (ix2 s d) = B s d + if s.val < 1024 * (512 * (i 1).val / 1024) then ∑ a : Fin 512, prob (i 1).val x0 (k0_pay27 x5) (k0_pay28 x3) x1 x4 a s * x6 (ix2 a d) else 0)
    (s : Fin 8192) (d : Fin 128) : arg11.view.read (Elt Ideal) (arg11.view.writes (Elt Ideal) G (half11 i arg2 harg2 arg3 harg3 arg5 harg5 arg6 harg6 arg7 harg7 arg8 harg8 arg11 x0 x1 x3 x4 x5 x6 h3 G H)) (ix2 s d) = B s d + if s.val < 512 * (i 1).val then ∑ a : Fin 512, prob (i 1).val x0 (k0_pay27 x5) (k0_pay28 x3) x1 x4 a s * x6 (ix2 a d) else 0 := by
  have hn := (odd3 i).1 h3
  have h16 := tile_lt i
  have e : 512 * (i 1).val = 1024 * (512 * (i 1).val / 1024) + 512 := by omega
  rw [if_congr (show s.val < 512 * (i 1).val ↔ s.val < 1024 * (512 * (i 1).val / 1024) + 512 from by omega) rfl rfl]
  refine half_step arg11.view G H B (fun s d => ∑ a : Fin 512, prob (i 1).val x0 (k0_pay27 x5) (k0_pay28 x3) x1 x4 a s * x6 (ix2 a d)) (k0_off13_eq i) (k0_off13_inb i h3) (by omega) _ inv (fun j d => ?_) s d
  rw [tq_eq, tg_eq, tl_eq, tc_eq, pay20_apply]
  congr 1
  refine Finset.sum_congr rfl fun a _ => ?_
  have hj := j.isLt
  rw [prob_of_lt _ _ _ _ _ _ _ _ (by show _ + j.val < _; omega)]
  have hc : 1024 * (512 * (i 1).val / 1024) + 512 ≤ 8192 := by omega
  have l3 := fun x => (half_load arg3.view (harg3.unread x1) (k0_off13_eq i) (k0_off13_inb i h3) hc j x).trans (congrFun (harg3.read_unread x1) _)
  have l6 := (laneHalf_load arg6.view (harg6.unread x4) (k0_off14_eq i) (k0_off14_inb i h3) hc j).trans (congrFun (harg6.read_unread x4) _)
  simp only [l3, l6]

theorem half12_read (h3 : k0_cond3 i = 1#1) (G : BufTy.Contents (Elt Ideal) arg12.view.ty) (H : List (View.Piece (Elt Ideal) S1x1x8192 .f32)) (B : Fin 8192 → EReal)
    (inv : ∀ (s : Fin 8192), arg12.view.read (Elt Ideal) (arg12.view.writes (Elt Ideal) G H) (ix3 0 0 s) = B s + if s.val < 1024 * (512 * (i 1).val / 1024) then 0 - ∑ a : Fin 512, dscore (i 1).val x0 x6 (k0_pay27 x5) (k0_pay28 x3) D x1 x2 x4 a s else 0)
    (s : Fin 8192) : arg12.view.read (Elt Ideal) (arg12.view.writes (Elt Ideal) G (half12 i arg2 harg2 arg3 harg3 arg4 harg4 arg5 harg5 arg6 harg6 arg7 harg7 arg8 harg8 arg12 x0 x1 x2 x3 x4 x5 x6 h3 D G H)) (ix3 0 0 s) = B s + if s.val < 512 * (i 1).val then 0 - ∑ a : Fin 512, dscore (i 1).val x0 x6 (k0_pay27 x5) (k0_pay28 x3) D x1 x2 x4 a s else 0 := by
  have hn := (odd3 i).1 h3
  have h16 := tile_lt i
  have e : 512 * (i 1).val = 1024 * (512 * (i 1).val / 1024) + 512 := by omega
  rw [if_congr (show s.val < 512 * (i 1).val ↔ s.val < 1024 * (512 * (i 1).val / 1024) + 512 from by omega) rfl rfl]
  refine laneHalf_step arg12.view G H B (fun s => 0 - ∑ a : Fin 512, dscore (i 1).val x0 x6 (k0_pay27 x5) (k0_pay28 x3) D x1 x2 x4 a s) (k0_off14_eq i) (k0_off14_inb i h3) (by omega) _ inv (fun j => ?_) s
  rw [tq_eq, tg_eq, tl_eq, tc_eq, pay40_apply]
  congr 2
  refine Finset.sum_congr rfl fun a _ => ?_
  have hj := j.isLt
  rw [half_score i arg3 harg3 arg4 harg4 arg6 harg6 x0 x1 x2 x3 x4 x5 x6 D h3 a j (by omega)]

theorem diag10_read (G : BufTy.Contents (Elt Ideal) arg10.view.ty) (H : List (View.Piece (Elt Ideal) S8192x128 .f32)) (B : Fin 8192 → Fin 128 → EReal)
    (inv : ∀ (s : Fin 8192) (d : Fin 128), arg10.view.read (Elt Ideal) (arg10.view.writes (Elt Ideal) G H) (ix2 s d) = B s d + if s.val < 512 * (i 1).val then (∑ a : Fin 512, dscore (i 1).val x0 x6 (k0_pay27 x5) (k0_pay28 x3) D x1 x2 x4 a s * x0 (ix2 a d)) * factor else 0)
    (s : Fin 8192) (d : Fin 128) : arg10.view.read (Elt Ideal) (arg10.view.writes (Elt Ideal) G (diag10 i arg2 harg2 arg3 harg3 arg4 harg4 arg5 harg5 arg6 harg6 arg7 harg7 arg8 harg8 arg10 x0 x1 x2 x3 x4 x5 x6  D G H)) (ix2 s d) = B s d + if s.val < 512 * (i 1).val + 512 then (∑ a : Fin 512, dscore (i 1).val x0 x6 (k0_pay27 x5) (k0_pay28 x3) D x1 x2 x4 a s * x0 (ix2 a d)) * factor else 0 := by
  have h16 := tile_lt i
  refine half_step arg10.view G H B (fun s d => (∑ a : Fin 512, dscore (i 1).val x0 x6 (k0_pay27 x5) (k0_pay28 x3) D x1 x2 x4 a s * x0 (ix2 a d)) * factor) (k0_off7_eq i) (k0_off7_inb i) (by omega) _ inv (fun j d => ?_) s d
  rw [tq_eq, tg_eq, tl_eq, tc_eq, pay1_apply]
  congr 2
  refine Finset.sum_congr rfl fun a _ => ?_
  have hj := j.isLt
  rw [pay45_apply (i 1), diag_score i arg3 harg3 arg4 harg4 arg6 harg6 x0 x1 x2 x3 x4 x5 x6 D a j (by omega)]

theorem diag11_read (G : BufTy.Contents (Elt Ideal) arg11.view.ty) (H : List (View.Piece (Elt Ideal) S8192x128 .f32)) (B : Fin 8192 → Fin 128 → EReal)
    (inv : ∀ (s : Fin 8192) (d : Fin 128), arg11.view.read (Elt Ideal) (arg11.view.writes (Elt Ideal) G H) (ix2 s d) = B s d + if s.val < 512 * (i 1).val then ∑ a : Fin 512, prob (i 1).val x0 (k0_pay27 x5) (k0_pay28 x3) x1 x4 a s * x6 (ix2 a d) else 0)
    (s : Fin 8192) (d : Fin 128) : arg11.view.read (Elt Ideal) (arg11.view.writes (Elt Ideal) G (diag11 i arg2 harg2 arg3 harg3 arg5 harg5 arg6 harg6 arg7 harg7 arg8 harg8 arg11 x0 x1 x3 x4 x5 x6  G H)) (ix2 s d) = B s d + if s.val < 512 * (i 1).val + 512 then ∑ a : Fin 512, prob (i 1).val x0 (k0_pay27 x5) (k0_pay28 x3) x1 x4 a s * x6 (ix2 a d) else 0 := by
  have h16 := tile_lt i
  refine half_step arg11.view G H B (fun s d => ∑ a : Fin 512, prob (i 1).val x0 (k0_pay27 x5) (k0_pay28 x3) x1 x4 a s * x6 (ix2 a d)) (k0_off7_eq i) (k0_off7_inb i) (by omega) _ inv (fun j d => ?_) s d
  rw [tq_eq, tg_eq, tl_eq, tc_eq, pay46_apply (i 1)]
  congr 1
  refine Finset.sum_congr rfl fun a _ => ?_
  rw [prob_diag]
  simp only [dk_apply, dr_apply]

theorem diag12_read (G : BufTy.Contents (Elt Ideal) arg12.view.ty) (H : List (View.Piece (Elt Ideal) S1x1x8192 .f32)) (B : Fin 8192 → EReal)
    (inv : ∀ (s : Fin 8192), arg12.view.read (Elt Ideal) (arg12.view.writes (Elt Ideal) G H) (ix3 0 0 s) = B s + if s.val < 512 * (i 1).val then 0 - ∑ a : Fin 512, dscore (i 1).val x0 x6 (k0_pay27 x5) (k0_pay28 x3) D x1 x2 x4 a s else 0)
    (s : Fin 8192) : arg12.view.read (Elt Ideal) (arg12.view.writes (Elt Ideal) G (diag12 i arg2 harg2 arg3 harg3 arg4 harg4 arg5 harg5 arg6 harg6 arg7 harg7 arg8 harg8 arg12 x0 x1 x2 x3 x4 x5 x6  D G H)) (ix3 0 0 s) = B s + if s.val < 512 * (i 1).val + 512 then 0 - ∑ a : Fin 512, dscore (i 1).val x0 x6 (k0_pay27 x5) (k0_pay28 x3) D x1 x2 x4 a s else 0 := by
  have h16 := tile_lt i
  refine laneHalf_step arg12.view G H B (fun s => 0 - ∑ a : Fin 512, dscore (i 1).val x0 x6 (k0_pay27 x5) (k0_pay28 x3) D x1 x2 x4 a s) (k0_off8_eq i) (k0_off8_inb i) (by omega) _ inv (fun j => ?_) s
  rw [tq_eq, tg_eq, tl_eq, tc_eq, pay2_apply]
  congr 2
  refine Finset.sum_congr rfl fun a _ => ?_
  have hj := j.isLt
  rw [diag_score i arg3 harg3 arg4 harg4 arg6 harg6 x0 x1 x2 x3 x4 x5 x6 D a j (by omega)]

theorem half9_apply (h3 : k0_cond3 i = 1#1) (acc : FVec Ideal S512x128 .f32) (a : Fin 512) (d : Fin 128)
    (h : acc (ix2 a d) = upTo (fun s => dscore (i 1).val x0 x6 (k0_pay27 x5) (k0_pay28 x3) D x1 x2 x4 a s * x1 (ix2 s d) * factor) (1024 * (512 * (i 1).val / 1024))) :
    half9 i arg2 harg2 arg3 harg3 arg4 harg4 arg5 harg5 arg6 harg6 arg7 harg7 arg8 harg8 x0 x1 x2 x3 x4 x5 x6 h3 D acc (ix2 a d) = upTo (fun s => dscore (i 1).val x0 x6 (k0_pay27 x5) (k0_pay28 x3) D x1 x2 x4 a s * x1 (ix2 s d) * factor) (512 * (i 1).val) := by
  have hn := (odd3 i).1 h3
  have h16 := tile_lt i
  have e : 512 * (i 1).val = 1024 * (512 * (i 1).val / 1024) + 512 := by omega
  unfold half9
  rw [tq_eq, tg_eq, tl_eq, tc_eq, pay41_apply, h, sum_mul_factor]
  conv_rhs => rw [e, upTo_add _ _ _ (by omega)]
  congr 1
  refine Finset.sum_congr rfl fun j _ => ?_
  have hj := j.isLt
  have hc : 1024 * (512 * (i 1).val / 1024) + 512 ≤ 8192 := by omega
  rw [pay19_apply, half_score i arg3 harg3 arg4 harg4 arg6 harg6 x0 x1 x2 x3 x4 x5 x6 D h3 a j (by omega), pay16_eq,
    half_load arg3.view (harg3.unread x1) (k0_off13_eq i) (k0_off13_inb i h3) hc j d, harg3.read_unread x1]

theorem diag9_apply (f : BufTy.Contents (Elt Ideal) arg9.view.ty) (acc : FVec Ideal S512x128 .f32) (a : Fin 512) (d : Fin 128)
    (h : acc (ix2 a d) = upTo (fun s => dscore (i 1).val x0 x6 (k0_pay27 x5) (k0_pay28 x3) D x1 x2 x4 a s * x1 (ix2 s d) * factor) (512 * (i 1).val)) :
    arg9.view.read (Elt Ideal) (arg9.view.writes (Elt Ideal) f (diag9 i arg2 harg2 arg3 harg3 arg4 harg4 arg5 harg5 arg6 harg6 arg7 harg7 arg8 harg8 x0 x1 x2 x3 x4 x5 x6 D acc)) (ix2 a d) = ∑ s : Fin 8192, dscore (i 1).val x0 x6 (k0_pay27 x5) (k0_pay28 x3) D x1 x2 x4 a s * x1 (ix2 s d) * factor := by
  have h16 := tile_lt i
  have e := View.read_writes_cons_rows_of_mem arg9.view f inb_S512x128_S512x128_0_0 (k0_pay3 acc (k0_pay42 (dk i arg3 harg3 x1)) (k0_pay45 (F := Ideal) (BitVec.ofNat 32 (i 1).val) (tq arg2 harg2 x0) (tg arg8 harg8 x6) (tl arg7 harg7 x5) (tc arg5 harg5 x3) D (dk i arg3 harg3 x1) (dr i arg6 harg6 x4) (dv i arg4 harg4 x2)))
    [] (ix2 a d) (ix2 a d) (o := 0) rfl (Nat.zero_add _).symm rfl
  refine e.trans ?_
  rw [tq_eq, tg_eq, tl_eq, tc_eq, pay3_apply, h, sum_mul_factor, ← upTo_all _ (512 * (i 1).val + 512) (by omega) (fun s hs => by unfold dscore; rw [prob_of_ge _ _ _ _ _ _ _ _ hs, zero_mul, zero_mul, zero_mul]), upTo_add _ _ _ (by omega)]
  congr 1
  refine Finset.sum_congr rfl fun j _ => ?_
  have hj := j.isLt
  rw [pay45_apply (i 1), diag_score i arg3 harg3 arg4 harg4 arg6 harg6 x0 x1 x2 x3 x4 x5 x6 D a j (by omega), pay42_eq, dk_apply]

end Steps

end Cert.FoxIdeal.Tile

end
-- ==== Proof.Fox.After.lean ====
/-
  What the four result blocks hold after the body: at a head's first tile, the tile's own sums; at a later one, those added to
  what the blocks held.
-/
module

public import proofs.«01_k».proof.Proof.Fox.Tile

@[expose] public section

set_option maxRecDepth 16384
set_option maxHeartbeats 1600000

noncomputable section

namespace Cert.FoxIdeal.After

open Cert.FoxIdeal Cert.FoxIdeal.Gen Cert.FoxIdeal.Run Cert.FoxIdeal.Pay Cert.FoxIdeal.Part Cert.FoxIdeal.Span Cert.FoxIdeal.Pieces Cert.FoxIdeal.Tile Cert.Mem Idealize.ShloMosaic Idealize.ShloMosaic.TcCoe Idealize.SL.Sem

theorem keys_of_ge (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (s : Fin 8192) (d : Fin 128) (h : ¬s.val < 512 * n + 512) : keys n x0 x1 x2 x3 x4 x5 x6 s d = 0 := by
  unfold keys
  rw [Finset.sum_eq_zero fun a _ => by rw [score_of_ge n x0 x1 x2 x3 x4 x5 x6 a s (by omega), zero_mul], zero_mul]

theorem values_of_ge (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (s : Fin 8192) (d : Fin 128) (h : ¬s.val < 512 * n + 512) : values n x0 x1 x3 x4 x5 x6 s d = 0 := by
  unfold values
  exact Finset.sum_eq_zero fun a _ => by rw [prob_of_ge _ _ _ _ _ _ a s (by omega), zero_mul]

theorem decays_of_ge (n : ℕ) (x0 : Vec Ideal S512x128 .bf16) (x1 x2 : Vec Ideal S8192x128 .bf16) (x3 : Vec Ideal S1x512x1 .f32) (x4 : Vec Ideal S1x1x8192 .f32) (x5 : Vec Ideal S1x512x1 .f32) (x6 : Vec Ideal S512x128 .f32) (s : Fin 8192) (h : ¬s.val < 512 * n + 512) : decays n x0 x1 x2 x3 x4 x5 x6 s = 0 := by
  unfold decays
  rw [Finset.sum_eq_zero fun a _ => score_of_ge n x0 x1 x2 x3 x4 x5 x6 a s (by omega)]
  exact sub_zero 0

variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S1x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg12 : Memref sig .tc .vmem S1x1x8192 .f32) (harg12 : arg12.IsWhole)
variable (x0 : Vec Ideal S512x128 .bf16) (x1 : Vec Ideal S8192x128 .bf16) (x2 : Vec Ideal S8192x128 .bf16) (x3 : Vec Ideal S1x512x1 .f32) (x4 : Vec Ideal S1x1x8192 .f32) (x5 : Vec Ideal S1x512x1 .f32) (x6 : Vec Ideal S512x128 .f32)

/-- A row's gradient of the scores in terms of the row sums the first pass leaves. -/
theorem dscore_eq (D : FVec Ideal S512x1 .f32) (h : ∀ a, D (ix2 a 0) = delta (i 1).val x0 x1 x2 x3 x4 x5 x6 a) (a : Fin 512) (s : Fin 8192) :
    dscore (i 1).val x0 x6 (k0_pay27 x5) (k0_pay28 x3) D x1 x2 x4 a s = score (i 1).val x0 x1 x2 x3 x4 x5 x6 a s := by
  unfold dscore score
  rw [h]

/-- A block written whole holds what was written. -/
theorem whole2_read {κ : Kind} {sp : Space} (v : View sig κ sp S8192x128 .f32) (f : v.ty.Contents (Elt Ideal)) (w : Vec Ideal S8192x128 .f32) (s : Fin 8192) (d : Fin 128) :
    v.read (Elt Ideal) (v.writes (Elt Ideal) f [⟨Rect.unit (s := S8192x128) ![0, 0] S8192x128.size inb_S8192x128_S8192x128_0_0, w⟩]) (ix2 s d) = w (ix2 s d) :=
  View.read_writes_cons_unit_of_mem v f inb_S8192x128_S8192x128_0_0 w [] (ix2 s d) (ix2 s d) (rfl : ![0, 0] = ![0, 0]) (fun a => match a with
    | ⟨0, _⟩ => (Nat.zero_add _).symm
    | ⟨1, _⟩ => (Nat.zero_add _).symm)

theorem whole3_read {κ : Kind} {sp : Space} (v : View sig κ sp S1x1x8192 .f32) (f : v.ty.Contents (Elt Ideal)) (w : Vec Ideal S1x1x8192 .f32) (s : Fin 8192) :
    v.read (Elt Ideal) (v.writes (Elt Ideal) f [⟨Rect.unit (s := S1x1x8192) ![0, 0, 0] S1x1x8192.size inb_S1x1x8192_S1x1x8192_0_0_0, w⟩]) (ix3 0 0 s) = w (ix3 0 0 s) :=
  View.read_writes_cons_unit_of_mem v f inb_S1x1x8192_S1x1x8192_0_0_0 w [] (ix3 0 0 s) (ix3 0 0 s) (rfl : ![0, 0, 0] = ![0, 0, 0]) (fun a => match a with
    | ⟨0, _⟩ => rfl
    | ⟨1, _⟩ => rfl
    | ⟨2, _⟩ => (Nat.zero_add _).symm)

section Second

variable (v26 : FVec Ideal S512x1 .f32)
  (hv : ∀ a, v26 (ix2 a 0) = upTo (fun s => prob (i 1).val x0 (k0_pay27 x5) (k0_pay28 x3) x1 x4 a s * dprob x6 x2 a s) (512 * (i 1).val))
include hv

theorem rowDot_eq (a : Fin 512) : rowDot (F := Ideal) i arg2 harg2 arg3 harg3 arg4 harg4 arg5 harg5 arg6 harg6 arg7 harg7 arg8 harg8 x0 x1 x2 x3 x4 x5 x6 v26 (ix2 a 0) = delta (i 1).val x0 x1 x2 x3 x4 x5 x6 a :=
  rowDot_apply i arg2 harg2 arg3 harg3 arg4 harg4 arg5 harg5 arg6 harg6 arg7 harg7 arg8 harg8 x0 x1 x2 x3 x4 x5 x6 v26 a (hv a)

/-- The second pass's gradient of the scores. -/
theorem ds_eq (a : Fin 512) (s : Fin 8192) :
    ds i arg3 arg4 arg6 (BitVec.ofNat 32 (i 1).val) (tq arg2 harg2 x0) (tg arg8 harg8 x6) (tl arg7 harg7 x5) (tc arg5 harg5 x3) v26 (Scalar.muli (BitVec.ofNat 32 (i 1).val) 512#32) (k0_pay33 (dk i arg3 harg3 x1)) (dr i arg6 harg6 x4) (dv i arg4 harg4 x2) (harg3.unread x1) (harg4.unread x2) (harg6.unread x4) a s
      = score (i 1).val x0 x1 x2 x3 x4 x5 x6 a s := by
  have e := rowDot_eq i arg2 harg2 arg3 harg3 arg4 harg4 arg5 harg5 arg6 harg6 arg7 harg7 arg8 harg8 x0 x1 x2 x3 x4 x5 x6 v26 hv
  have f := dscore_eq i x0 x1 x2 x3 x4 x5 x6 _ e a s
  refine Eq.trans ?_ f
  show dscore (i 1).val (tq arg2 harg2 x0) (tg arg8 harg8 x6) (tl arg7 harg7 x5) (tc arg5 harg5 x3) (rowDot (F := Ideal) i arg2 harg2 arg3 harg3 arg4 harg4 arg5 harg5 arg6 harg6 arg7 harg7 arg8 harg8 x0 x1 x2 x3 x4 x5 x6 v26) _ _ _ a s = _
  rw [harg3.read_unread, harg4.read_unread, harg6.read_unread]
  unfold dscore
  rw [tq_eq, tg_eq, tl_eq, tc_eq]

variable (G10 : BufTy.Contents (Elt Ideal) arg10.view.ty) (G11 : BufTy.Contents (Elt Ideal) arg11.view.ty) (G12 : BufTy.Contents (Elt Ideal) arg12.view.ty)

theorem pass2_queries (a : Fin 512) (d : Fin 128) :
    (pass2 (F := Ideal) c i arg2 harg2 arg3 harg3 arg4 harg4 arg5 harg5 arg6 harg6 arg7 harg7 arg8 harg8 arg9 harg9 arg10 harg10 arg11 harg11 arg12 harg12 x0 x1 x2 x3 x4 x5 x6 v26 G10 G11 G12).1 (ix2 a d)
      = upTo (fun s => score (i 1).val x0 x1 x2 x3 x4 x5 x6 a s * x1 (ix2 s d) * factor) (1024 * (512 * (i 1).val / 1024)) := by
  have hds := ds_eq i arg2 harg2 arg3 harg3 arg4 harg4 arg5 harg5 arg6 harg6 arg7 harg7 arg8 harg8 x0 x1 x2 x3 x4 x5 x6 v26 hv
  refine (loop3_queries c i arg2 harg2 arg3 harg3 arg4 harg4 arg5 harg5 arg6 harg6 arg7 harg7 arg8 harg8 arg9 harg9 arg10 harg10 arg11 harg11 arg12 harg12 _ _ _ _ _ _ _ _ _ _ _ _ _ _ _ _ _ _ _ a d _ le_rfl).trans ?_
  rw [pay35_apply, zero_add, trips3, harg3.read_unread]
  exact congrArg (fun f => upTo f _) (funext fun s => by rw [hds])

theorem pass2_keys (s : Fin 8192) (d : Fin 128) :
    arg10.view.read (Elt Ideal) (arg10.view.writes (Elt Ideal) G10 (pass2 (F := Ideal) c i arg2 harg2 arg3 harg3 arg4 harg4 arg5 harg5 arg6 harg6 arg7 harg7 arg8 harg8 arg9 harg9 arg10 harg10 arg11 harg11 arg12 harg12 x0 x1 x2 x3 x4 x5 x6 v26 G10 G11 G12).2.1) (ix2 s d)
      = arg10.view.read (Elt Ideal) G10 (ix2 s d) + if s.val < 1024 * (512 * (i 1).val / 1024) then keys (i 1).val x0 x1 x2 x3 x4 x5 x6 s d else 0 := by
  have hds := ds_eq i arg2 harg2 arg3 harg3 arg4 harg4 arg5 harg5 arg6 harg6 arg7 harg7 arg8 harg8 x0 x1 x2 x3 x4 x5 x6 v26 hv
  refine (loop3_keys c i arg2 harg2 arg3 harg3 arg4 harg4 arg5 harg5 arg6 harg6 arg7 harg7 arg8 harg8 arg9 harg9 arg10 harg10 arg11 harg11 arg12 harg12 _ _ _ _ _ _ _ _ _ _ _ _ _ _ _ _ _ _ _ _ le_rfl s d).trans ?_
  rw [trips3, tq_eq]
  unfold keys
  congr 3
  refine Finset.sum_congr rfl fun a _ => ?_
  rw [← hds, tq_eq]

theorem pass2_values (s : Fin 8192) (d : Fin 128) :
    arg11.view.read (Elt Ideal) (arg11.view.writes (Elt Ideal) G11 (pass2 (F := Ideal) c i arg2 harg2 arg3 harg3 arg4 harg4 arg5 harg5 arg6 harg6 arg7 harg7 arg8 harg8 arg9 harg9 arg10 harg10 arg11 harg11 arg12 harg12 x0 x1 x2 x3 x4 x5 x6 v26 G10 G11 G12).2.2.1) (ix2 s d)
      = arg11.view.read (Elt Ideal) G11 (ix2 s d) + if s.val < 1024 * (512 * (i 1).val / 1024) then values (i 1).val x0 x1 x3 x4 x5 x6 s d else 0 := by
  refine (loop3_values c i arg2 harg2 arg3 harg3 arg4 harg4 arg5 harg5 arg6 harg6 arg7 harg7 arg8 harg8 arg9 harg9 arg10 harg10 arg11 harg11 arg12 harg12 _ _ _ _ _ _ _ _ _ _ _ _ _ _ _ _ _ _ _ _ le_rfl s d).trans ?_
  rw [trips3, tq_eq, tg_eq, tl_eq, tc_eq, harg3.read_unread, harg6.read_unread]
  rfl

theorem pass2_decays (s : Fin 8192) :
    arg12.view.read (Elt Ideal) (arg12.view.writes (Elt Ideal) G12 (pass2 (F := Ideal) c i arg2 harg2 arg3 harg3 arg4 harg4 arg5 harg5 arg6 harg6 arg7 harg7 arg8 harg8 arg9 harg9 arg10 harg10 arg11 harg11 arg12 harg12 x0 x1 x2 x3 x4 x5 x6 v26 G10 G11 G12).2.2.2) (ix3 0 0 s)
      = arg12.view.read (Elt Ideal) G12 (ix3 0 0 s) + if s.val < 1024 * (512 * (i 1).val / 1024) then decays (i 1).val x0 x1 x2 x3 x4 x5 x6 s else 0 := by
  have hds := ds_eq i arg2 harg2 arg3 harg3 arg4 harg4 arg5 harg5 arg6 harg6 arg7 harg7 arg8 harg8 x0 x1 x2 x3 x4 x5 x6 v26 hv
  refine (loop3_decays c i arg2 harg2 arg3 harg3 arg4 harg4 arg5 harg5 arg6 harg6 arg7 harg7 arg8 harg8 arg9 harg9 arg10 harg10 arg11 harg11 arg12 harg12 _ _ _ _ _ _ _ _ _ _ _ _ _ _ _ _ _ _ _ _ le_rfl s).trans ?_
  rw [trips3]
  unfold decays
  simp only [hds]

end Second

/-- The first pass at an even tile. -/
theorem pass1_even (h2 : ¬k0_cond2 i = 1#1) (a : Fin 512) : pass1 (F := Ideal) c i arg2 harg2 arg3 harg3 arg4 harg4 arg5 harg5 arg6 harg6 arg7 harg7 arg8 harg8 arg9 harg9 arg10 harg10 arg11 harg11 arg12 harg12 x0 x1 x2 x3 x4 x5 x6 (ix2 a 0)
    = upTo (fun s => prob (i 1).val x0 (k0_pay27 x5) (k0_pay28 x3) x1 x4 a s * dprob x6 x2 a s) (512 * (i 1).val) := by
  have hn : ¬(i 1).val % 2 = 1 := fun h => h2 ((odd2 i).2 h)
  rw [pass1_apply, show 1024 * (512 * (i 1).val / 1024) = 512 * (i 1).val from by omega]

theorem runA_queries (h0 : first i) (h2 : ¬k0_cond2 i = 1#1) (h3 : ¬k0_cond3 i = 1#1)  (f : BufTy.Contents (Elt Ideal) arg9.view.ty) (a : Fin 512) (d : Fin 128) :
    arg9.view.read (Elt Ideal) (arg9.view.writes (Elt Ideal) f (runA (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6).1) (ix2 a d) = queries (i 1).val x0 x1 x2 x3 x4 x5 x6 a d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runA_9]
  refine (diag9_apply i arg2 harg2 arg3 harg3 arg4 harg4 arg5 harg5 arg6 harg6 arg7 harg7 arg8 harg8 arg9 x0 x1 x2 x3 x4 x5 x6 _ f _ a d ?_).trans (Finset.sum_congr rfl fun s _ => by rw [hsc])
  refine (pass2_queries c i arg2 harg2 arg3 harg3 arg4 harg4 arg5 harg5 arg6 harg6 arg7 harg7 arg8 harg8 arg9 harg9 arg10 harg10 arg11 harg11 arg12 harg12 x0 x1 x2 x3 x4 x5 x6 _ hv _ _ _ a d).trans ?_
  simp only [hsc, he]

theorem runA_keys (h0 : first i) (h2 : ¬k0_cond2 i = 1#1) (h3 : ¬k0_cond3 i = 1#1)  (s : Fin 8192) (d : Fin 128) :
    arg10.view.read (Elt Ideal) (arg10.view.writes (Elt Ideal) arg10.view.junk (runA (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6).2.1) (ix2 s d) = keys (i 1).val x0 x1 x2 x3 x4 x5 x6 s d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  have hz : ∀ s d, arg10.view.read (Elt Ideal) (arg10.view.writes (Elt Ideal) arg10.view.junk [⟨Rect.unit (s := S8192x128) ![0, 0] S8192x128.size inb_S8192x128_S8192x128_0_0, k0_pay22 (F := Ideal)⟩]) (ix2 s d) = 0 := fun s d =>
    (whole2_read arg10.view arg10.view.junk (k0_pay22 (F := Ideal)) s d).trans (pay22_apply _)
  rw [runA_10]
  refine (diag10_read i arg2 harg2 arg3 harg3 arg4 harg4 arg5 harg5 arg6 harg6 arg7 harg7 arg8 harg8 arg10 x0 x1 x2 x3 x4 x5 x6 _ arg10.view.junk _ (fun s d => 0) (fun s d => ?_) s d).trans ?_
  · rw [View.writes_append]
    refine (pass2_keys c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [hz, he]
    simp only [hsc, keys]
  simp only [hsc]; by_cases h : s.val < 512 * (i 1).val + 512
  · rw [if_pos h, zero_add]
    rfl
  · rw [if_neg h, keys_of_ge (i 1).val x0 x1 x2 x3 x4 x5 x6 s d h, add_zero]

theorem runA_values (h0 : first i) (h2 : ¬k0_cond2 i = 1#1) (h3 : ¬k0_cond3 i = 1#1)  (s : Fin 8192) (d : Fin 128) :
    arg11.view.read (Elt Ideal) (arg11.view.writes (Elt Ideal) arg11.view.junk (runA (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.1) (ix2 s d) = values (i 1).val x0 x1 x3 x4 x5 x6 s d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hz : ∀ s d, arg11.view.read (Elt Ideal) (arg11.view.writes (Elt Ideal) arg11.view.junk [⟨Rect.unit (s := S8192x128) ![0, 0] S8192x128.size inb_S8192x128_S8192x128_0_0, k0_pay23 (F := Ideal)⟩]) (ix2 s d) = 0 := fun s d =>
    (whole2_read arg11.view arg11.view.junk (k0_pay23 (F := Ideal)) s d).trans (pay23_apply _)
  rw [runA_11]
  refine (diag11_read i arg2 harg2 arg3 harg3 arg5 harg5 arg6 harg6 arg7 harg7 arg8 harg8 arg11 x0 x1 x3 x4 x5 x6 arg11.view.junk _ (fun s d => 0) (fun s d => ?_) s d).trans ?_
  · rw [View.writes_append]
    refine (pass2_values c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [hz, he]
    simp only [values]
  by_cases h : s.val < 512 * (i 1).val + 512
  · rw [if_pos h, zero_add]
    rfl
  · rw [if_neg h, values_of_ge (i 1).val x0 x1 x2 x3 x4 x5 x6 s d h, add_zero]

theorem runA_decays (h0 : first i) (h2 : ¬k0_cond2 i = 1#1) (h3 : ¬k0_cond3 i = 1#1)  (s : Fin 8192) :
    arg12.view.read (Elt Ideal) (arg12.view.writes (Elt Ideal) arg12.view.junk (runA (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6).2.2.2.1) (ix3 0 0 s) = decays (i 1).val x0 x1 x2 x3 x4 x5 x6 s := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  have hz : ∀ s, arg12.view.read (Elt Ideal) (arg12.view.writes (Elt Ideal) arg12.view.junk [⟨Rect.unit (s := S1x1x8192) ![0, 0, 0] S1x1x8192.size inb_S1x1x8192_S1x1x8192_0_0_0, k0_pay24 (F := Ideal)⟩]) (ix3 0 0 s) = 0 := fun s =>
    (whole3_read arg12.view arg12.view.junk (k0_pay24 (F := Ideal)) s).trans (pay24_apply _)
  rw [runA_12]
  refine (diag12_read i arg2 harg2 arg3 harg3 arg4 harg4 arg5 harg5 arg6 harg6 arg7 harg7 arg8 harg8 arg12 x0 x1 x2 x3 x4 x5 x6 _ arg12.view.junk _ (fun s => 0) (fun s => ?_) s).trans ?_
  · rw [View.writes_append]
    refine (pass2_decays c i arg2 harg2 arg3 harg3 arg4 harg4 arg5 harg5 arg6 harg6 arg7 harg7 arg8 harg8 arg9 harg9 arg10 harg10 arg11 harg11 arg12 harg12 x0 x1 x2 x3 x4 x5 x6 _ hv _ _ _ s).trans ?_
    rw [hz, he]
    simp only [hsc, decays]
  simp only [hsc]; by_cases h : s.val < 512 * (i 1).val + 512
  · rw [if_pos h, zero_add]
    rfl
  · rw [if_neg h, decays_of_ge (i 1).val x0 x1 x2 x3 x4 x5 x6 s h, add_zero]

theorem runB_queries (h0 : ¬first i) (h2 : ¬k0_cond2 i = 1#1) (h3 : ¬k0_cond3 i = 1#1) (xo8 : Vec Ideal S8192x128 .f32) (xo9 : Vec Ideal S8192x128 .f32) (xo10 : Vec Ideal S1x1x8192 .f32) (f : BufTy.Contents (Elt Ideal) arg9.view.ty) (a : Fin 512) (d : Fin 128) :
    arg9.view.read (Elt Ideal) (arg9.view.writes (Elt Ideal) f (runB (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1) (ix2 a d) = queries (i 1).val x0 x1 x2 x3 x4 x5 x6 a d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runB_9]
  refine (diag9_apply i arg2 harg2 arg3 harg3 arg4 harg4 arg5 harg5 arg6 harg6 arg7 harg7 arg8 harg8 arg9 x0 x1 x2 x3 x4 x5 x6 _ f _ a d ?_).trans (Finset.sum_congr rfl fun s _ => by rw [hsc])
  refine (pass2_queries c i arg2 harg2 arg3 harg3 arg4 harg4 arg5 harg5 arg6 harg6 arg7 harg7 arg8 harg8 arg9 harg9 arg10 harg10 arg11 harg11 arg12 harg12 x0 x1 x2 x3 x4 x5 x6 _ hv _ _ _ a d).trans ?_
  simp only [hsc, he]

theorem runB_keys (h0 : ¬first i) (h2 : ¬k0_cond2 i = 1#1) (h3 : ¬k0_cond3 i = 1#1) (xo8 : Vec Ideal S8192x128 .f32) (xo9 : Vec Ideal S8192x128 .f32) (xo10 : Vec Ideal S1x1x8192 .f32) (s : Fin 8192) (d : Fin 128) :
    arg10.view.read (Elt Ideal) (arg10.view.writes (Elt Ideal) (harg10.unread xo8) (runB (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1) (ix2 s d) = xo8 (ix2 s d) + keys (i 1).val x0 x1 x2 x3 x4 x5 x6 s d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runB_10]
  refine (diag10_read i arg2 harg2 arg3 harg3 arg4 harg4 arg5 harg5 arg6 harg6 arg7 harg7 arg8 harg8 arg10 x0 x1 x2 x3 x4 x5 x6 _ (harg10.unread xo8) _ (fun s d => xo8 (ix2 s d)) (fun s d => ?_) s d).trans ?_
  · show _ = _
    refine (pass2_keys c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [harg10.read_unread, he]
    simp only [hsc, keys]
  simp only [hsc]; by_cases h : s.val < 512 * (i 1).val + 512
  · rw [if_pos h]
    rfl
  · rw [if_neg h, keys_of_ge (i 1).val x0 x1 x2 x3 x4 x5 x6 s d h]

theorem runB_values (h0 : ¬first i) (h2 : ¬k0_cond2 i = 1#1) (h3 : ¬k0_cond3 i = 1#1) (xo8 : Vec Ideal S8192x128 .f32) (xo9 : Vec Ideal S8192x128 .f32) (xo10 : Vec Ideal S1x1x8192 .f32) (s : Fin 8192) (d : Fin 128) :
    arg11.view.read (Elt Ideal) (arg11.view.writes (Elt Ideal) (harg11.unread xo9) (runB (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1) (ix2 s d) = xo9 (ix2 s d) + values (i 1).val x0 x1 x3 x4 x5 x6 s d := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  rw [runB_11]
  refine (diag11_read i arg2 harg2 arg3 harg3 arg5 harg5 arg6 harg6 arg7 harg7 arg8 harg8 arg11 x0 x1 x3 x4 x5 x6 (harg11.unread xo9) _ (fun s d => xo9 (ix2 s d)) (fun s d => ?_) s d).trans ?_
  · show _ = _
    refine (pass2_values c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [harg11.read_unread, he]
    simp only [values]
  by_cases h : s.val < 512 * (i 1).val + 512
  · rw [if_pos h]
    rfl
  · rw [if_neg h, values_of_ge (i 1).val x0 x1 x2 x3 x4 x5 x6 s d h]

theorem runB_decays (h0 : ¬first i) (h2 : ¬k0_cond2 i = 1#1) (h3 : ¬k0_cond3 i = 1#1) (xo8 : Vec Ideal S8192x128 .f32) (xo9 : Vec Ideal S8192x128 .f32) (xo10 : Vec Ideal S1x1x8192 .f32) (s : Fin 8192) :
    arg12.view.read (Elt Ideal) (arg12.view.writes (Elt Ideal) (harg12.unread xo10) (runB (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1) (ix3 0 0 s) = xo10 (ix3 0 0 s) + decays (i 1).val x0 x1 x2 x3 x4 x5 x6 s := by
  have hn : ¬(i 1).val % 2 = 1 := fun h => h2 ((odd2 i).2 h)
  have he : 1024 * (512 * (i 1).val / 1024) = 512 * (i 1).val := by omega
  have hv := pass1_even c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runB_12]
  refine (diag12_read i arg2 harg2 arg3 harg3 arg4 harg4 arg5 harg5 arg6 harg6 arg7 harg7 arg8 harg8 arg12 x0 x1 x2 x3 x4 x5 x6 _ (harg12.unread xo10) _ (fun s => xo10 (ix3 0 0 s)) (fun s => ?_) s).trans ?_
  · show _ = _
    refine (pass2_decays c i arg2 harg2 arg3 harg3 arg4 harg4 arg5 harg5 arg6 harg6 arg7 harg7 arg8 harg8 arg9 harg9 arg10 harg10 arg11 harg11 arg12 harg12 x0 x1 x2 x3 x4 x5 x6 _ hv _ _ _ s).trans ?_
    rw [harg12.read_unread, he]
    simp only [hsc, decays]
  simp only [hsc]; by_cases h : s.val < 512 * (i 1).val + 512
  · rw [if_pos h]
    rfl
  · rw [if_neg h, decays_of_ge (i 1).val x0 x1 x2 x3 x4 x5 x6 s h]

theorem runC_queries (h0 : ¬first i) (h2 : k0_cond2 i = 1#1) (h3 : k0_cond3 i = 1#1) (xo8 : Vec Ideal S8192x128 .f32) (xo9 : Vec Ideal S8192x128 .f32) (xo10 : Vec Ideal S1x1x8192 .f32) (f : BufTy.Contents (Elt Ideal) arg9.view.ty) (a : Fin 512) (d : Fin 128) :
    arg9.view.read (Elt Ideal) (arg9.view.writes (Elt Ideal) f (runC (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).1) (ix2 a d) = queries (i 1).val x0 x1 x2 x3 x4 x5 x6 a d := by
  have hv := pass1Half_apply c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runC_9]
  refine (diag9_apply i arg2 harg2 arg3 harg3 arg4 harg4 arg5 harg5 arg6 harg6 arg7 harg7 arg8 harg8 arg9 x0 x1 x2 x3 x4 x5 x6 _ f _ a d ?_).trans (Finset.sum_congr rfl fun s _ => by rw [hsc])
  refine half9_apply i arg2 harg2 arg3 harg3 arg4 harg4 arg5 harg5 arg6 harg6 arg7 harg7 arg8 harg8 x0 x1 x2 x3 x4 x5 x6 _ h3 _ a d ?_
  refine (pass2_queries c i arg2 harg2 arg3 harg3 arg4 harg4 arg5 harg5 arg6 harg6 arg7 harg7 arg8 harg8 arg9 harg9 arg10 harg10 arg11 harg11 arg12 harg12 x0 x1 x2 x3 x4 x5 x6 _ hv _ _ _ a d).trans ?_
  simp only [hsc]

theorem runC_keys (h0 : ¬first i) (h2 : k0_cond2 i = 1#1) (h3 : k0_cond3 i = 1#1) (xo8 : Vec Ideal S8192x128 .f32) (xo9 : Vec Ideal S8192x128 .f32) (xo10 : Vec Ideal S1x1x8192 .f32) (s : Fin 8192) (d : Fin 128) :
    arg10.view.read (Elt Ideal) (arg10.view.writes (Elt Ideal) (harg10.unread xo8) (runC (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.1) (ix2 s d) = xo8 (ix2 s d) + keys (i 1).val x0 x1 x2 x3 x4 x5 x6 s d := by
  have hv := pass1Half_apply c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runC_10]
  refine (diag10_read i arg2 harg2 arg3 harg3 arg4 harg4 arg5 harg5 arg6 harg6 arg7 harg7 arg8 harg8 arg10 x0 x1 x2 x3 x4 x5 x6 _ (harg10.unread xo8) _ (fun s d => xo8 (ix2 s d)) (fun s d => ?_) s d).trans ?_
  · refine half10_read i arg2 harg2 arg3 harg3 arg4 harg4 arg5 harg5 arg6 harg6 arg7 harg7 arg8 harg8 arg10 x0 x1 x2 x3 x4 x5 x6 _ h3 (harg10.unread xo8) _ (fun s d => xo8 (ix2 s d)) (fun s d => ?_) s d
    refine (pass2_keys c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [harg10.read_unread]
    simp only [hsc, keys]
  simp only [hsc]; by_cases h : s.val < 512 * (i 1).val + 512
  · rw [if_pos h]
    rfl
  · rw [if_neg h, keys_of_ge (i 1).val x0 x1 x2 x3 x4 x5 x6 s d h]

theorem runC_values (h0 : ¬first i) (h2 : k0_cond2 i = 1#1) (h3 : k0_cond3 i = 1#1) (xo8 : Vec Ideal S8192x128 .f32) (xo9 : Vec Ideal S8192x128 .f32) (xo10 : Vec Ideal S1x1x8192 .f32) (s : Fin 8192) (d : Fin 128) :
    arg11.view.read (Elt Ideal) (arg11.view.writes (Elt Ideal) (harg11.unread xo9) (runC (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.1) (ix2 s d) = xo9 (ix2 s d) + values (i 1).val x0 x1 x3 x4 x5 x6 s d := by
  have hv := pass1Half_apply c i arg2 harg2 arg3 harg3 arg4 harg4 arg5 harg5 arg6 harg6 arg7 harg7 arg8 harg8 arg9 harg9 arg10 harg10 arg11 harg11 arg12 harg12 x0 x1 x2 x3 x4 x5 x6 h2
  rw [runC_11]
  refine (diag11_read i arg2 harg2 arg3 harg3 arg5 harg5 arg6 harg6 arg7 harg7 arg8 harg8 arg11 x0 x1 x3 x4 x5 x6 (harg11.unread xo9) _ (fun s d => xo9 (ix2 s d)) (fun s d => ?_) s d).trans ?_
  · refine half11_read i arg2 harg2 arg3 harg3 arg5 harg5 arg6 harg6 arg7 harg7 arg8 harg8 arg11 x0 x1 x3 x4 x5 x6 h3 (harg11.unread xo9) _ (fun s d => xo9 (ix2 s d)) (fun s d => ?_) s d
    refine (pass2_values c i arg2 harg2 arg3 harg3 arg4 harg4 arg5 harg5 arg6 harg6 arg7 harg7 arg8 harg8 arg9 harg9 arg10 harg10 arg11 harg11 arg12 harg12 x0 x1 x2 x3 x4 x5 x6 _ hv _ _ _ s d).trans ?_
    rw [harg11.read_unread]
    simp only [values]
  by_cases h : s.val < 512 * (i 1).val + 512
  · rw [if_pos h]
    rfl
  · rw [if_neg h, values_of_ge (i 1).val x0 x1 x2 x3 x4 x5 x6 s d h]

theorem runC_decays (h0 : ¬first i) (h2 : k0_cond2 i = 1#1) (h3 : k0_cond3 i = 1#1) (xo8 : Vec Ideal S8192x128 .f32) (xo9 : Vec Ideal S8192x128 .f32) (xo10 : Vec Ideal S1x1x8192 .f32) (s : Fin 8192) :
    arg12.view.read (Elt Ideal) (arg12.view.writes (Elt Ideal) (harg12.unread xo10) (runC (F := Ideal) c i arg2 harg2 arg3 harg3 arg4 harg4 arg5 harg5 arg6 harg6 arg7 harg7 arg8 harg8 arg9 harg9 arg10 harg10 arg11 harg11 arg12 harg12 h0 h2 h3 x0 x1 x2 x3 x4 x5 x6 xo8 xo9 xo10).2.2.2.1) (ix3 0 0 s) = xo10 (ix3 0 0 s) + decays (i 1).val x0 x1 x2 x3 x4 x5 x6 s := by
  have hv := pass1Half_apply c i arg2 harg2 arg3 harg3 arg4 harg4 arg5 harg5 arg6 harg6 arg7 harg7 arg8 harg8 arg9 harg9 arg10 harg10 arg11 harg11 arg12 harg12 x0 x1 x2 x3 x4 x5 x6 h2
  have hsc := dscore_eq i x0 x1 x2 x3 x4 x5 x6 _ (rowDot_eq i arg2 harg2 arg3 harg3 arg4 harg4 arg5 harg5 arg6 harg6 arg7 harg7 arg8 harg8 x0 x1 x2 x3 x4 x5 x6 _ hv)
  rw [runC_12]
  refine (diag12_read i arg2 harg2 arg3 harg3 arg4 harg4 arg5 harg5 arg6 harg6 arg7 harg7 arg8 harg8 arg12 x0 x1 x2 x3 x4 x5 x6 _ (harg12.unread xo10) _ (fun s => xo10 (ix3 0 0 s)) (fun s => ?_) s).trans ?_
  · refine half12_read i arg2 harg2 arg3 harg3 arg4 harg4 arg5 harg5 arg6 harg6 arg7 harg7 arg8 harg8 arg12 x0 x1 x2 x3 x4 x5 x6 _ h3 (harg12.unread xo10) _ (fun s => xo10 (ix3 0 0 s)) (fun s => ?_) s
    refine (pass2_decays c i arg2 harg2 arg3 harg3 arg4 harg4 arg5 harg5 arg6 harg6 arg7 harg7 arg8 harg8 arg9 harg9 arg10 harg10 arg11 harg11 arg12 harg12 x0 x1 x2 x3 x4 x5 x6 _ hv _ _ _ s).trans ?_
    rw [harg12.read_unread]
    simp only [hsc, decays]
  simp only [hsc]; by_cases h : s.val < 512 * (i 1).val + 512
  · rw [if_pos h]
    rfl
  · rw [if_neg h, decays_of_ge (i 1).val x0 x1 x2 x3 x4 x5 x6 s h]

end Cert.FoxIdeal.After

end
-- ==== Proof.Fox.Launch.lean ====
module

public import proofs.«01_k».proof.Proof.Fox.RunC
public import Idealize.ShloMosaic.Lib.Claim

@[expose] public section

set_option maxRecDepth 16384

noncomputable section

namespace Cert.FoxIdeal.Run

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging memrefs of the eleven windows at a grid point. -/

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8192x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x8192 .f32 := win0_10.stage (cfg0.slots t 10)
abbrev hs10 (t : Fin cfg0.N) : (ms10 t).IsWhole := hstage0_10 ((cfg0.slots t 10).cast nbuf0_10)

/-- The contents of the four result blocks: the gradients of queries, keys and values, and of the key decays. -/
abbrev Outs (F : FTy → Type) [FloatOps F] : Type := Vec F S512x128 .f32 × Vec F S8192x128 .f32 × Vec F S8192x128 .f32 × Vec F S1x1x8192 .f32

/-- The body's run at a grid point at a head's first query tile, where the sums are cleared. -/
abbrev atA (c : Dev nD) (t : Fin cfg0.N) (h0 : t.val % 16 = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((first_iff t).mpr h0) (fun h => by have := (odd_iff t).mp h; omega) (fun h => by have := (odd_iff' t).mp h; omega) (iblk m c 0 t) (iblk m c 1 t) (iblk m c 2 t) (iblk m c 3 t) (iblk m c 4 t) (iblk m c 5 t) (iblk m c 6 t)

/-- What the four result blocks hold after that run. -/
def outA (c : Dev nD) (t : Fin cfg0.N) (h0 : t.val % 16 = 0) : Outs F :=
  ((ms7 t).view.read (Elt F) ((ms7 t).view.writes (Elt F) (ms7 t).view.junk (atA m c t h0).1),
   (ms8 t).view.read (Elt F) ((ms8 t).view.writes (Elt F) (ms8 t).view.junk (atA m c t h0).2.1),
   (ms9 t).view.read (Elt F) ((ms9 t).view.writes (Elt F) (ms9 t).view.junk (atA m c t h0).2.2.1),
   (ms10 t).view.read (Elt F) ((ms10 t).view.writes (Elt F) (ms10 t).view.junk (atA m c t h0).2.2.2.1))

/-- The body's run at a grid point at a later query tile with an even number. -/
abbrev atB (c : Dev nD) (t : Fin cfg0.N) (h0 : ¬t.val % 16 = 0) (h1 : ¬t.val % 2 = 1) (p : Outs F) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((first_iff t).mp h)) (fun h => h1 ((odd_iff t).mp h)) (fun h => h1 ((odd_iff' t).mp h)) (iblk m c 0 t) (iblk m c 1 t) (iblk m c 2 t) (iblk m c 3 t) (iblk m c 4 t) (iblk m c 5 t) (iblk m c 6 t) p.2.1 p.2.2.1 p.2.2.2

/-- What the four result blocks hold after that run. -/
def outB (c : Dev nD) (t : Fin cfg0.N) (h0 : ¬t.val % 16 = 0) (h1 : ¬t.val % 2 = 1) (p : Outs F) : Outs F :=
  ((ms7 t).view.read (Elt F) ((ms7 t).view.writes (Elt F) (ms7 t).view.junk (atB m c t h0 h1 p).1),
   (ms8 t).view.read (Elt F) ((ms8 t).view.writes (Elt F) ((hs8 t).unread p.2.1) (atB m c t h0 h1 p).2.1),
   (ms9 t).view.read (Elt F) ((ms9 t).view.writes (Elt F) ((hs9 t).unread p.2.2.1) (atB m c t h0 h1 p).2.2.1),
   (ms10 t).view.read (Elt F) ((ms10 t).view.writes (Elt F) ((hs10 t).unread p.2.2.2) (atB m c t h0 h1 p).2.2.2.1))

/-- The body's run at a grid point at a query tile with an odd number. -/
abbrev atC (c : Dev nD) (t : Fin cfg0.N) (h0 : ¬t.val % 16 = 0) (h1 : t.val % 2 = 1) (p : Outs F) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun h => h0 ((first_iff t).mp h)) ((odd_iff t).mpr h1) ((odd_iff' t).mpr h1) (iblk m c 0 t) (iblk m c 1 t) (iblk m c 2 t) (iblk m c 3 t) (iblk m c 4 t) (iblk m c 5 t) (iblk m c 6 t) p.2.1 p.2.2.1 p.2.2.2

/-- What the four result blocks hold after that run. -/
def outC (c : Dev nD) (t : Fin cfg0.N) (h0 : ¬t.val % 16 = 0) (h1 : t.val % 2 = 1) (p : Outs F) : Outs F :=
  ((ms7 t).view.read (Elt F) ((ms7 t).view.writes (Elt F) (ms7 t).view.junk (atC m c t h0 h1 p).1),
   (ms8 t).view.read (Elt F) ((ms8 t).view.writes (Elt F) ((hs8 t).unread p.2.1) (atC m c t h0 h1 p).2.1),
   (ms9 t).view.read (Elt F) ((ms9 t).view.writes (Elt F) ((hs9 t).unread p.2.2.1) (atC m c t h0 h1 p).2.2.1),
   (ms10 t).view.read (Elt F) ((ms10 t).view.writes (Elt F) ((hs10 t).unread p.2.2.2) (atC m c t h0 h1 p).2.2.2.1))

/-- Every index of result block 1 is written at a head's first query tile, where the sums are cleared. -/
theorem coverA7 (c : Dev nD) (t : Fin cfg0.N) (h0 : t.val % 16 = 0) (y : S512x128.Idx) :
    ∃ pc ∈ (atA m c t h0).1, y ∈ pc.1.set :=
  View.cover_of_tiledL (atA m c t h0).1 S512x128.size (by sl_kernel_rfl) y

/-- Every index of result block 2 is written at a head's first query tile, where the sums are cleared. -/
theorem coverA8 (c : Dev nD) (t : Fin cfg0.N) (h0 : t.val % 16 = 0) (y : S8192x128.Idx) :
    ∃ pc ∈ (atA m c t h0).2.1, y ∈ pc.1.set :=
  View.cover_of_wholeMem (atA m c t h0).2.1 (by sl_whole_mem) y

/-- Every index of result block 3 is written at a head's first query tile, where the sums are cleared. -/
theorem coverA9 (c : Dev nD) (t : Fin cfg0.N) (h0 : t.val % 16 = 0) (y : S8192x128.Idx) :
    ∃ pc ∈ (atA m c t h0).2.2.1, y ∈ pc.1.set :=
  View.cover_of_wholeMem (atA m c t h0).2.2.1 (by sl_whole_mem) y

/-- Every index of result block 4 is written at a head's first query tile, where the sums are cleared. -/
theorem coverA10 (c : Dev nD) (t : Fin cfg0.N) (h0 : t.val % 16 = 0) (y : S1x1x8192.Idx) :
    ∃ pc ∈ (atA m c t h0).2.2.2.1, y ∈ pc.1.set :=
  View.cover_of_wholeMem (atA m c t h0).2.2.2.1 (by sl_whole_mem) y

/-- Every index of result block 1 is written at a later query tile with an even number. -/
theorem coverB7 (c : Dev nD) (t : Fin cfg0.N) (h0 : ¬t.val % 16 = 0) (h1 : ¬t.val % 2 = 1) (p : Outs F) (y : S512x128.Idx) :
    ∃ pc ∈ (atB m c t h0 h1 p).1, y ∈ pc.1.set :=
  View.cover_of_tiledL (atB m c t h0 h1 p).1 S512x128.size (by sl_kernel_rfl) y

/-- Every index of result block 1 is written at a query tile with an odd number. -/
theorem coverC7 (c : Dev nD) (t : Fin cfg0.N) (h0 : ¬t.val % 16 = 0) (h1 : t.val % 2 = 1) (p : Outs F) (y : S512x128.Idx) :
    ∃ pc ∈ (atC m c t h0 h1 p).1, y ∈ pc.1.set :=
  View.cover_of_tiledL (atC m c t h0 h1 p).1 S512x128.size (by sl_kernel_rfl) y

/-- What the four result blocks hold after each grid point, by recursion on the point. -/
def outsAt (c : Dev nD) : (n : ℕ) → n < cfg0.N → Outs F
  | 0, h => outA m c ⟨0, h⟩ rfl
  | n + 1, h =>
    if h0 : (n + 1) % 16 = 0 then outA m c ⟨n + 1, h⟩ h0
    else if h1 : (n + 1) % 2 = 1 then outC m c ⟨n + 1, h⟩ h0 h1 (outsAt c n (Nat.lt_of_succ_lt h))
    else outB m c ⟨n + 1, h⟩ h0 h1 (outsAt c n (Nat.lt_of_succ_lt h))

/-- The contents before a grid point that is not the first. -/
abbrev prev (c : Dev nD) (t : Fin cfg0.N) : Outs F := outsAt m c (t.val - 1) (Nat.lt_of_le_of_lt (Nat.sub_le _ _) t.isLt)

theorem outsAt_A (c : Dev nD) (t : Fin cfg0.N) (h0 : t.val % 16 = 0) : outsAt m c t.val t.isLt = outA m c t h0 := by
  obtain ⟨n, hn⟩ := t
  cases n with
  | zero => exact rfl
  | succ n => exact dif_pos h0

theorem outsAt_B (c : Dev nD) (t : Fin cfg0.N) (h0 : ¬t.val % 16 = 0) (h1 : ¬t.val % 2 = 1) :
    outsAt m c t.val t.isLt = outB m c t h0 h1 (prev m c t) := by
  obtain ⟨n, hn⟩ := t
  cases n with
  | zero => exact absurd (Nat.zero_mod _) h0
  | succ n => exact (dif_neg h0).trans (dif_neg h1)

theorem outsAt_C (c : Dev nD) (t : Fin cfg0.N) (h0 : ¬t.val % 16 = 0) (h1 : t.val % 2 = 1) :
    outsAt m c t.val t.isLt = outC m c t h0 h1 (prev m c t) := by
  obtain ⟨n, hn⟩ := t
  cases n with
  | zero => exact absurd (Nat.zero_mod _) h0
  | succ n => exact (dif_neg h0).trans (dif_pos h1)

/-- The proof data of the launch: each input block as fetched, each result block as the recursion gives it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]
theorem after9 (c : Dev nD) (t : Fin cfg0.N) : (dats m 0 c).after 9 t = (outsAt m c t.val t.isLt).2.2.1 := by dsimp only [dats]
theorem after10 (c : Dev nD) (t : Fin cfg0.N) : (dats m 0 c).after 10 t = (outsAt m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Within a head, result block 2 holds before a point what the point before left in it. -/
theorem before8 (c : Dev nD) (t : Fin cfg0.N) (h0 : ¬t.val % 16 = 0) (d) : (dats m 0 c).before 8 t d = (prev m c t).2.1 := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-- Within a head, result block 3 holds before a point what the point before left in it. -/
theorem before9 (c : Dev nD) (t : Fin cfg0.N) (h0 : ¬t.val % 16 = 0) (d) : (dats m 0 c).before 9 t d = (prev m c t).2.2.1 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-- Within a head, result block 4 holds before a point what the point before left in it. -/
theorem before10 (c : Dev nD) (t : Fin cfg0.N) (h0 : ¬t.val % 16 = 0) (d) : (dats m 0 c).before 10 t d = (prev m c t).2.2.2 := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What the body hands back at a grid point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- The body at every grid point takes the contents before it to the contents after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  by_cases h0 : t.val % 16 = 0
  · rw [outsAt_A m c t h0]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atA m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA7 m c t h0)
    isplitl [H8]
    · unfold owns; iexists _; isplitr
      swap; · iexact H8
      ipureintro; exact View.read_writes_of_cover _ _ _ _ _ (coverA8 m c t h0)
    isplitl [H9]
    · unfold owns; iexists _; isplitr
      swap; · iexact H9
      ipureintro; exact View.read_writes_of_cover _ _ _ _ _ (coverA9 m c t h0)
    unfold owns; iexists _; isplitr
    swap; · iexact H10
    ipureintro; exact View.read_writes_of_cover _ _ _ _ _ (coverA10 m c t h0)
  · by_cases h1 : t.val % 2 = 1
    · rw [outsAt_C m c t h0 h1]
      simp only [before8 m c t h0, before9 m c t h0, before10 m c t h0]
      unfold outC; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atC m c t h0 h1 (prev m c t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      iintro ⟨H0, H1, H2, H3, H4, H5, H6, ⟨%e7, H7⟩, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverC7 m c t h0 h1 (prev m c t))
      isplitl [H8]
      · unfold owns; iexists _; isplitr
        swap; · iexact H8
        ipureintro; rfl
      isplitl [H9]
      · unfold owns; iexists _; isplitr
        swap; · iexact H9
        ipureintro; rfl
      unfold owns; iexists _; isplitr
      swap; · iexact H10
      ipureintro; rfl
    · rw [outsAt_B m c t h0 h1]
      simp only [before8 m c t h0, before9 m c t h0, before10 m c t h0]
      unfold outB; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atB m c t h0 h1 (prev m c t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      iintro ⟨H0, H1, H2, H3, H4, H5, H6, ⟨%e7, H7⟩, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB7 m c t h0 h1 (prev m c t))
      isplitl [H8]
      · unfold owns; iexists _; isplitr
        swap; · iexact H8
        ipureintro; rfl
      isplitl [H9]
      · unfold owns; iexists _; isplitr
        swap; · iexact H9
        ipureintro; rfl
      unfold owns; iexists _; isplitr
      swap; · iexact H10
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with every array as the proof data says and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The arguments end unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Idealize.ShloMosaic.θ_run_and (frame_of m ρ (dats m) (A_eq m) (run_main m ρ)) ((θ_run defs _ _).mono (fun _ h => h.2) (run_all m ρ))

end Cert.FoxIdeal.Run

end
-- ==== Proof.Fox.Spec.lean ====
/-
  The gradient of the forgetting attention over the extended reals: the score of a query and a key is their scaled product and
  the difference of their accumulated decays; a query sees the keys up to its own position.
-/
module

public import proofs.«01_k».proof.Proof.Mem.Row
public import proofs.«01_k».proof.Proof.Mem.Spec

@[expose] public section

noncomputable section

namespace Cert.Fox

open Cert.Mem Idealize.ShloMosaic

variable (Q K V G : FVec Ideal ⟨2, ![8192, 512]⟩ .f32) (C : FVec Ideal ⟨2, ![8192, 4]⟩ .f32)

/-- The score of query `r` and key `s` in head `h`. -/
def score (h : Fin 4) (r s : Fin 8192) : EReal :=
  (∑ x : Fin 128, Q (ix2 r (col h x)) * K (ix2 s (col h x))) * factor + (C (ix2 r h) - C (ix2 s h))

/-- The score where the query sees the key, and minus infinity elsewhere. -/
def masked (h : Fin 4) (r s : Fin 8192) : EReal := if s.val ≤ r.val then score Q K C h r s else ⊥

/-- The logarithm of the sum of a row's exponentials. -/
def logSum (h : Fin 4) (r : Fin 8192) : EReal := top (masked Q K C h r) + Ideal.log (total (masked Q K C h r))

/-- The gradient of the probability of query `r` and key `s`. -/
def probGrad (h : Fin 4) (r s : Fin 8192) : EReal := ∑ x : Fin 128, G (ix2 r (col h x)) * V (ix2 s (col h x))

/-- The probability as the exponential of the score less the row's log sum. -/
def expProb (h : Fin 4) (r s : Fin 8192) : EReal :=
  if s.val ≤ r.val then Ideal.exp (score Q K C h r s - logSum Q K C h r) else 0

/-- The gradient of the score with those probabilities. -/
def expBack (h : Fin 4) (r s : Fin 8192) : EReal :=
  expProb Q K C h r s * (probGrad V G h r s - ∑ l : Fin 8192, expProb Q K C h r l * probGrad V G h r l)

/-- The queries' gradient with those probabilities. -/
def expQ (h : Fin 4) (r : Fin 8192) (d : Fin 128) : EReal := ∑ s : Fin 8192, expBack Q K V G C h r s * K (ix2 s (col h d)) * factor

/-- The keys' gradient with those probabilities. -/
def expK (h : Fin 4) (s : Fin 8192) (d : Fin 128) : EReal := ∑ r : Fin 8192, expBack Q K V G C h r s * Q (ix2 r (col h d)) * factor

/-- The values' gradient with those probabilities. -/
def expV (h : Fin 4) (s : Fin 8192) (d : Fin 128) : EReal := ∑ r : Fin 8192, expProb Q K C h r s * G (ix2 r (col h d))

/-- Query `a` of tile `n`. -/
abbrev tileRow (n : Fin 16) (a : Fin 512) : Fin 8192 := ⟨n.val * 512 + a.val, by omega⟩

/-- The decays' gradient with those probabilities: the keys' part, a sum over tiles of 512 queries. -/
def expC (h : Fin 4) (s : Fin 8192) : EReal := ∑ n : Fin 16, (0 - ∑ a : Fin 512, expBack Q K V G C h (tileRow n a) s)

/-- A column's place within its head. -/
abbrev laneOf (l : Fin 512) : Fin 128 := ⟨l.val % 128, by omega⟩

theorem headOf_col (h : Fin 4) (x : Fin 128) : headOf (col h x) = h := by
  apply Fin.ext; show (h.val * 128 + x.val) / 128 = h.val; omega

theorem laneOf_col (h : Fin 4) (x : Fin 128) : laneOf (col h x) = x := by
  apply Fin.ext; show (h.val * 128 + x.val) % 128 = x.val; omega

theorem col_headOf (l : Fin 512) : col (headOf l) (laneOf l) = l := by
  apply Fin.ext; show l.val / 128 * 128 + l.val % 128 = l.val; omega

/-- The four result arrays with those probabilities. -/
def arrQ : FVec Ideal ⟨2, ![8192, 512]⟩ .f32 := fun i => expQ Q K V G C (headOf (i 1)) (i 0) (laneOf (i 1))
def arrK : FVec Ideal ⟨2, ![8192, 512]⟩ .f32 := fun i => expK Q K V G C (headOf (i 1)) (i 0) (laneOf (i 1))
def arrV : FVec Ideal ⟨2, ![8192, 512]⟩ .f32 := fun i => expV Q K G C (headOf (i 1)) (i 0) (laneOf (i 1))
def arrC : FVec Ideal ⟨3, ![4, 1, 8192]⟩ .f32 := fun i => expC Q K V G C (i 0) (i 2)

/-- The softmax of a row's scores. -/
abbrev prob (h : Fin 4) (r s : Fin 8192) : EReal := Cert.Mem.prob (masked Q K C h r) s

/-- The gradient of the score. -/
abbrev back (h : Fin 4) (r s : Fin 8192) : EReal := Cert.Mem.back (masked Q K C h r) (probGrad V G h r) s

end Cert.Fox

end
-- ==== Proof.Fox.Host.lean ====
/-
  What the kernel's host lines hand to the launch: the arguments themselves, the decays along rows and columns, and each row's
  logarithm of the sum of its exponentials.
-/
module

public import proofs.«01_k».proof.Proof.Fox.Pay
public import proofs.«01_k».proof.Proof.Fox.Spec
public import proofs.«01_k».proof.Proof.Gen.FoxIdeal.Frame
public import Idealize.ShloMosaic.Lib.Pipeline.ValueKit
public import Idealize.ShloMosaic.Lib.StableHlo.ReadAt

@[expose] public section

set_option maxRecDepth 16384

noncomputable section

namespace Cert.FoxIdeal.Host

open Cert.FoxIdeal Cert.FoxIdeal.Gen Cert.Mem Idealize.ShloMosaic Idealize.ShloMosaic.TcCoe Idealize.SL.Sem

variable (m : (ℓ : Loc nD τ sig) → Buf (Elt Ideal) ℓ) (c : Dev nD)

/-- The queries. -/
abbrev argQ : FVec Ideal S8192x512 .f32 := m ((c : Thread nD τ).loc main_arg0)
/-- The keys. -/
abbrev argK : FVec Ideal S8192x512 .f32 := m ((c : Thread nD τ).loc main_arg1)
/-- The values. -/
abbrev argV : FVec Ideal S8192x512 .f32 := m ((c : Thread nD τ).loc main_arg2)
/-- The accumulated decays. -/
abbrev argC : FVec Ideal S8192x4 .f32 := m ((c : Thread nD τ).loc main_arg3)
/-- The gradient of the output. -/
abbrev argG : FVec Ideal S8192x512 .f32 := m ((c : Thread nD τ).loc main_arg4)

theorem V_q (i : S8192x512.Idx) : (show FVec Ideal S8192x512 .bf16 from V m c main_v30) i = argQ m c i := by
  unfold V
  after_reads_at

theorem V_k (i : S8192x512.Idx) : (show FVec Ideal S8192x512 .bf16 from V m c main_v31) i = argK m c i := by
  unfold V
  after_reads_at

theorem V_v (i : S8192x512.Idx) : (show FVec Ideal S8192x512 .bf16 from V m c main_v32) i = argV m c i := by
  unfold V
  after_reads_at

theorem V_col (h : Fin 4) (r : Fin 8192) : (show FVec Ideal S4x8192x1 .f32 from V m c main_v34) (ix3 h r 0) = argC m c (ix2 r h) := by
  unfold V
  after_reads_at

theorem V_row (h : Fin 4) (s : Fin 8192) : (show FVec Ideal S4x1x8192 .f32 from V m c main_v36) (ix3 h 0 s) = argC m c (ix2 s h) := by
  unfold V
  after_reads_at

/-- The word of minus infinity. -/
theorem negInf : Ideal.ofBits .f32 0xFF800000#32 = (⊥ : EReal) := by
  simp [Ideal.ofBits, Ideal.ieee]

/-- The test whether a key is at or before a query. -/
theorem seen (r s : Fin 8192) (x y : EReal) :
    Scalar.select (IntOp.cmpi .sle (BitVec.ofNat 32 s.val) (BitVec.ofNat 32 r.val)) x y = if s.val ≤ r.val then x else y := by
  have hr := r.isLt
  have hs := s.isLt
  have h := Pay.wordLe s.val r.val (by omega) (by omega)
  by_cases e : s.val ≤ r.val
  · rw [if_pos e, show IntOp.cmpi .sle _ _ = 1#1 from h.2 e]
    rfl
  · rw [if_neg e]
    exact if_neg fun f => e (h.1 f)

/-- The buffers after the lines that compute the masked scores. -/
abbrev W (b : DevRef τ sig) : Buf (Elt Ideal) ((c, b) : Loc nD τ sig) :=
  StableHlo.after (hostOps0 ++ hostOps0_1) (fun b => m (c, b)) b

theorem W_score (h : Fin 4) (r s : Fin 8192) :
    (show FVec Ideal S4x8192x8192 .f32 from W m c (Proc.devRef .tc main_v20)) (ix3 h r s) = Cert.Fox.masked (argQ m c) (argK m c) (argC m c) h r s := by
  unfold W
  after_reads_at
  refine (seen r s _ _).trans ?_
  unfold Cert.Fox.masked
  exact if_congr Iff.rfl rfl negInf

/-- The largest entry of each row. -/
theorem max_apply (y : FVec Ideal S4x8192x8192 .f32) (z : FVec Ideal S_ .f32) (h : Fin 4) (r : Fin 8192) :
    Host.reduce FloatOps.maximumf y z reducesTo_S4x8192x8192_S4x8192_d2 h_S_ (ix2 h r)
      = Finset.univ.fold max (z (Shape.Idx.first h_S_)) fun x : Fin 8192 => y (ix3 h r x) := by
  pointwise

/-- The sum of each row. -/
theorem sum_apply (y : FVec Ideal S4x8192x8192 .f32) (z : FVec Ideal S_ .f32) (h : Fin 4) (r : Fin 8192) :
    Host.reduceAdd y z reducesTo_S4x8192x8192_S4x8192_d2 h_S_ (ix2 h r)
      = z (Shape.Idx.first h_S_) + ∑ x : Fin 8192, y (ix3 h r x) := by
  pointwise

/-- The host's logarithm of the sum of exponentials, of an array of scores. -/
def logSum (y : FVec Ideal S4x8192x8192 .f32) : FVec Ideal S4x8192x1 .f32 :=
  addf (broadcastInDim S4x8192x1 ![0, 1] bcast_S4x8192_S4x8192x1_0_1 (Host.reduce FloatOps.maximumf y (constant S_ .f32 0xFF800000#32) reducesTo_S4x8192x8192_S4x8192_d2 h_S_))
    (Host.log (broadcastInDim S4x8192x1 ![0, 1] bcast_S4x8192_S4x8192x1_0_1 (Host.reduceAdd (Host.exp (subf y (broadcastInDim S4x8192x8192 ![0, 1, 2] bcast_S4x8192x1_S4x8192x8192_0_1_2 (broadcastInDim S4x8192x1 ![0, 1] bcast_S4x8192_S4x8192x1_0_1 (Host.reduce FloatOps.maximumf y (constant S_ .f32 0xFF800000#32) reducesTo_S4x8192x8192_S4x8192_d2 h_S_)))))
      (constant S_ .f32 0x00000000#32) reducesTo_S4x8192x8192_S4x8192_d2 h_S_)))

theorem after_logSum (U : ∀ b : DevRef τ sig, Buf (Elt Ideal) ((c, b) : Loc nD τ sig)) : (show FVec Ideal S4x8192x1 .f32 from StableHlo.after hostOps0_2 U (Proc.devRef .tc main_v29))
    = logSum (show FVec Ideal S4x8192x8192 .f32 from U (Proc.devRef .tc main_v20)) := by
  after_reads_simp
  rfl

theorem along_apply (y : FVec Ideal S4x8192 .f32) (h : Fin 4) (r s : Fin 8192) :
    broadcastInDim S4x8192x8192 ![0, 1, 2] bcast_S4x8192x1_S4x8192x8192_0_1_2 (broadcastInDim S4x8192x1 ![0, 1] bcast_S4x8192_S4x8192x1_0_1 y) (ix3 h r s) = y (ix2 h r) := by
  pointwise

theorem keep_apply (y : FVec Ideal S4x8192 .f32) (h : Fin 4) (r : Fin 8192) :
    broadcastInDim S4x8192x1 ![0, 1] bcast_S4x8192_S4x8192x1_0_1 y (ix3 h r 0) = y (ix2 h r) := by
  pointwise

theorem negConst : constant (F := Ideal) S_ .f32 0xFF800000#32 (Shape.Idx.first h_S_) = (⊥ : EReal) := negInf
theorem zeroConst : constant (F := Ideal) S_ .f32 0x00000000#32 (Shape.Idx.first h_S_) = (0 : EReal) := by
  show Ideal.ofBits .f32 0x00000000#32 = 0
  simp [Ideal.ofBits, Ideal.ieee]

theorem add_log (a b : FVec Ideal S4x8192x1 .f32) (i : S4x8192x1.Idx) : addf a (Host.log b) i = (a i + Ideal.log (b i) : EReal) := rfl
theorem exp_sub (a b : FVec Ideal S4x8192x8192 .f32) (i : S4x8192x8192.Idx) : Host.exp (subf a b) i = (Ideal.exp (a i - b i) : EReal) := rfl

theorem top_apply (y : FVec Ideal S4x8192x8192 .f32) (h : Fin 4) (r : Fin 8192) :
    Host.reduce FloatOps.maximumf y (constant S_ .f32 0xFF800000#32) reducesTo_S4x8192x8192_S4x8192_d2 h_S_ (ix2 h r) = top (fun s => y (ix3 h r s)) := by
  rw [max_apply, negConst, top]

theorem logSum_apply (y : FVec Ideal S4x8192x8192 .f32) (h : Fin 4) (r : Fin 8192) :
    logSum y (ix3 h r 0) = top (fun s => y (ix3 h r s)) + Ideal.log (total fun s => y (ix3 h r s)) := by
  have e := top_apply y h r
  rw [logSum, add_log, keep_apply, keep_apply, sum_apply, zeroConst, zero_add, e]
  simp only [total, weight]
  refine congrArg (fun z => top (fun s => y (ix3 h r s)) + Ideal.log z) (Finset.sum_congr rfl fun s _ => ?_)
  rw [exp_sub]
  exact congrArg (fun z => Ideal.exp (y (ix3 h r s) - z)) ((along_apply _ h r s).trans e)

theorem after_append (k l : List (HloOp τ sig (Elt Ideal))) (U : ∀ b : DevRef τ sig, Buf (Elt Ideal) ((c, b) : Loc nD τ sig)) :
    StableHlo.after (k ++ l) U = StableHlo.after l (StableHlo.after k U) := by
  induction k generalizing U with
  | nil => rfl
  | cons o k ih => exact ih _

/-- The row's log sum that the launch takes. -/
theorem V_lse (h : Fin 4) (r : Fin 8192) :
    (show FVec Ideal S4x8192x1 .f32 from V m c main_v29) (ix3 h r 0) = Cert.Fox.logSum (argQ m c) (argK m c) (argC m c) h r := by
  have e : (show FVec Ideal S4x8192x1 .f32 from V m c main_v29) = logSum (show FVec Ideal S4x8192x8192 .f32 from W m c (Proc.devRef .tc main_v20)) := by
    refine Eq.trans ?_ (after_logSum c (W m c))
    have f : List.flatten [hostOps0, hostOps0_1, hostOps0_2] = (hostOps0 ++ hostOps0_1) ++ hostOps0_2 (F := Ideal) := by
      simp only [List.flatten_cons, List.flatten_nil, List.append_nil, List.append_assoc]
    unfold V
    rw [f, after_append c]
  rw [e, logSum_apply]
  have g : (fun s => (show FVec Ideal S4x8192x8192 .f32 from W m c (Proc.devRef .tc main_v20)) (ix3 h r s)) = Cert.Fox.masked (argQ m c) (argK m c) (argC m c) h r :=
    funext fun s => W_score m c h r s
  rw [g, Cert.Fox.logSum]

end Cert.FoxIdeal.Host

end
-- ==== Proof.Fox.Embed.lean ====
/-
  Where the entries of a grid point's blocks lie in the arrays.
-/
module

public import proofs.«01_k».proof.Proof.Fox.After
public import proofs.«01_k».proof.Proof.Fox.Launch
public import proofs.«01_k».proof.Proof.Fox.Host

@[expose] public section

set_option maxRecDepth 16384

noncomputable section

namespace Cert.FoxIdeal.Array

open Cert.FoxIdeal Cert.FoxIdeal.Gen Cert.FoxIdeal.Run Cert.FoxIdeal.Pay Cert.FoxIdeal.Span Cert.FoxIdeal.Tile Cert.FoxIdeal.After Cert.FoxIdeal.Host Cert.Mem Idealize.ShloMosaic Idealize.ShloMosaic.TcCoe Idealize.SL.Sem

variable (m : (ℓ : Loc nD τ sig) → Buf (Elt Ideal) ℓ) (c : Dev nD)

/-- The block each window is on at a grid point: point `t` is tile `t % 16` of head `t / 16`. -/
theorem idx : ∀ t : Fin cfg0.N, win0_0.index t = ![t.val % 16, t.val / 16] ∧ win0_1.index t = ![0, t.val / 16]
    ∧ win0_2.index t = ![0, t.val / 16] ∧ win0_3.index t = ![t.val / 16, t.val % 16, 0] ∧ win0_4.index t = ![t.val / 16, 0, 0]
    ∧ win0_5.index t = ![t.val / 16, t.val % 16, 0] ∧ win0_6.index t = ![t.val % 16, t.val / 16]
    ∧ win0_7.index t = ![t.val % 16, t.val / 16] ∧ win0_8.index t = ![0, t.val / 16] ∧ win0_9.index t = ![0, t.val / 16]
    ∧ win0_10.index t = ![t.val / 16, 0, 0] ∧ t.val / 16 < 4 :=
  (by decide +kernel : ∀ t : Fin grid0.N, _)

/-- The tile a grid point's second coordinate names. -/
theorem tile_eq : ∀ t : Fin cfg0.N, (grid0.coords t 1).val = t.val % 16 :=
  (by decide +kernel : ∀ t : Fin grid0.N, _)

/-- The head of a grid point. -/
abbrev ptHead (t : Fin cfg0.N) : Fin 4 := ⟨t.val / 16, (idx t).2.2.2.2.2.2.2.2.2.2.2⟩
/-- The query that row `a` of a grid point's tile is. -/
abbrev ptRow (t : Fin cfg0.N) (a : Fin 512) : Fin 8192 := ⟨t.val % 16 * 512 + a.val, by omega⟩

theorem emb0 (t : Fin cfg0.N) (a : Fin 512) (x : Fin 128) :
    (show S8192x512.Idx from (win0_0.blk t).view.emb (ix2 a x)) = ix2 (ptRow t a) (col (ptHead t) x) := by
  blk_ext [idx t]

theorem emb6 (t : Fin cfg0.N) (a : Fin 512) (x : Fin 128) :
    (show S8192x512.Idx from (win0_6.blk t).view.emb (ix2 a x)) = ix2 (ptRow t a) (col (ptHead t) x) := by
  blk_ext [idx t]

theorem emb7 (t : Fin cfg0.N) (a : Fin 512) (x : Fin 128) :
    (show S8192x512.Idx from (win0_7.blk t).view.emb (ix2 a x)) = ix2 (ptRow t a) (col (ptHead t) x) := by
  blk_ext [idx t]

theorem emb1 (t : Fin cfg0.N) (s : Fin 8192) (x : Fin 128) :
    (show S8192x512.Idx from (win0_1.blk t).view.emb (ix2 s x)) = ix2 s (col (ptHead t) x) := by
  blk_ext [idx t]

theorem emb2 (t : Fin cfg0.N) (s : Fin 8192) (x : Fin 128) :
    (show S8192x512.Idx from (win0_2.blk t).view.emb (ix2 s x)) = ix2 s (col (ptHead t) x) := by
  blk_ext [idx t]

theorem emb8 (t : Fin cfg0.N) (s : Fin 8192) (x : Fin 128) :
    (show S8192x512.Idx from (win0_8.blk t).view.emb (ix2 s x)) = ix2 s (col (ptHead t) x) := by
  blk_ext [idx t]

theorem emb9 (t : Fin cfg0.N) (s : Fin 8192) (x : Fin 128) :
    (show S8192x512.Idx from (win0_9.blk t).view.emb (ix2 s x)) = ix2 s (col (ptHead t) x) := by
  blk_ext [idx t]

theorem emb3 (t : Fin cfg0.N) (a : Fin 512) :
    (show S4x8192x1.Idx from (win0_3.blk t).view.emb (ix3 0 a 0)) = ix3 (ptHead t) (ptRow t a) 0 := by
  blk_ext [idx t]

theorem emb5 (t : Fin cfg0.N) (a : Fin 512) :
    (show S4x8192x1.Idx from (win0_5.blk t).view.emb (ix3 0 a 0)) = ix3 (ptHead t) (ptRow t a) 0 := by
  blk_ext [idx t]

theorem emb4 (t : Fin cfg0.N) (s : Fin 8192) :
    (show S4x1x8192.Idx from (win0_4.blk t).view.emb (ix3 0 0 s)) = ix3 (ptHead t) 0 s := by
  blk_ext [idx t]

theorem emb10 (t : Fin cfg0.N) (s : Fin 8192) :
    (show S4x1x8192.Idx from (win0_10.blk t).view.emb (ix3 0 0 s)) = ix3 (ptHead t) 0 s := by
  blk_ext [idx t]

end Cert.FoxIdeal.Array

end
-- ==== Proof.Fox.Read.lean ====
/-
  What a grid point's input blocks hold.
-/
module

public import proofs.«01_k».proof.Proof.Fox.Embed

@[expose] public section

set_option maxRecDepth 16384

noncomputable section

namespace Cert.FoxIdeal.Array

open Cert.FoxIdeal Cert.FoxIdeal.Gen Cert.FoxIdeal.Run Cert.FoxIdeal.Pay Cert.FoxIdeal.Span Cert.FoxIdeal.Tile Cert.FoxIdeal.After Cert.FoxIdeal.Host Cert.Mem Idealize.ShloMosaic Idealize.ShloMosaic.TcCoe Idealize.SL.Sem

variable (m : (ℓ : Loc nD τ sig) → Buf (Elt Ideal) ℓ) (c : Dev nD)

theorem blk0 (X : FVec Ideal S8192x512 .bf16) (t : Fin cfg0.N) (a : Fin 512) (x : Fin 128) :
    (win0_0.blk t).view.read (Elt Ideal) X (ix2 a x) = X (ix2 (ptRow t a) (col (ptHead t) x)) :=
  congrArg X (emb0 t a x)

theorem read0 (t : Fin cfg0.N) (a : Fin 512) (x : Fin 128) :
    (show FVec Ideal S512x128 .bf16 from iblk m c 0 t) (ix2 a x) = argQ m c (ix2 (ptRow t a) (col (ptHead t) x)) := by
  have e := blk0 (V m c main_v30) t a x
  have f : (win0_0.blk t).view.read (Elt Ideal) (V m c main_v30) (ix2 a x) = argQ m c (ix2 (ptRow t a) (col (ptHead t) x)) := e.trans (V_q m c _)
  unfold iblk
  exact f

theorem blk1 (X : FVec Ideal S8192x512 .bf16) (t : Fin cfg0.N) (s : Fin 8192) (x : Fin 128) :
    (win0_1.blk t).view.read (Elt Ideal) X (ix2 s x) = X (ix2 s (col (ptHead t) x)) :=
  congrArg X (emb1 t s x)

theorem read1 (t : Fin cfg0.N) (s : Fin 8192) (x : Fin 128) :
    (show FVec Ideal S8192x128 .bf16 from iblk m c 1 t) (ix2 s x) = argK m c (ix2 s (col (ptHead t) x)) := by
  have e := blk1 (V m c main_v31) t s x
  have f : (win0_1.blk t).view.read (Elt Ideal) (V m c main_v31) (ix2 s x) = argK m c (ix2 s (col (ptHead t) x)) := e.trans (V_k m c _)
  unfold iblk
  exact f

theorem blk2 (X : FVec Ideal S8192x512 .bf16) (t : Fin cfg0.N) (s : Fin 8192) (x : Fin 128) :
    (win0_2.blk t).view.read (Elt Ideal) X (ix2 s x) = X (ix2 s (col (ptHead t) x)) :=
  congrArg X (emb2 t s x)

theorem read2 (t : Fin cfg0.N) (s : Fin 8192) (x : Fin 128) :
    (show FVec Ideal S8192x128 .bf16 from iblk m c 2 t) (ix2 s x) = argV m c (ix2 s (col (ptHead t) x)) := by
  have e := blk2 (V m c main_v32) t s x
  have f : (win0_2.blk t).view.read (Elt Ideal) (V m c main_v32) (ix2 s x) = argV m c (ix2 s (col (ptHead t) x)) := e.trans (V_v m c _)
  unfold iblk
  exact f

theorem blk3 (X : FVec Ideal S4x8192x1 .f32) (t : Fin cfg0.N) (a : Fin 512) :
    (win0_3.blk t).view.read (Elt Ideal) X (ix3 0 a 0) = X (ix3 (ptHead t) (ptRow t a) 0) :=
  congrArg X (emb3 t a)

theorem read3 (t : Fin cfg0.N) (a : Fin 512) :
    (show FVec Ideal S1x512x1 .f32 from iblk m c 3 t) (ix3 0 a 0) = argC m c (ix2 (ptRow t a) (ptHead t)) := by
  have e := blk3 (V m c main_v34) t a
  have f : (win0_3.blk t).view.read (Elt Ideal) (V m c main_v34) (ix3 0 a 0) = argC m c (ix2 (ptRow t a) (ptHead t)) := e.trans (V_col m c _ _)
  unfold iblk
  exact f

theorem blk4 (X : FVec Ideal S4x1x8192 .f32) (t : Fin cfg0.N) (s : Fin 8192) :
    (win0_4.blk t).view.read (Elt Ideal) X (ix3 0 0 s) = X (ix3 (ptHead t) 0 s) :=
  congrArg X (emb4 t s)

theorem read4 (t : Fin cfg0.N) (s : Fin 8192) :
    (show FVec Ideal S1x1x8192 .f32 from iblk m c 4 t) (ix3 0 0 s) = argC m c (ix2 s (ptHead t)) := by
  have e := blk4 (V m c main_v36) t s
  have f : (win0_4.blk t).view.read (Elt Ideal) (V m c main_v36) (ix3 0 0 s) = argC m c (ix2 s (ptHead t)) := e.trans (V_row m c _ _)
  unfold iblk
  exact f

theorem blk5 (X : FVec Ideal S4x8192x1 .f32) (t : Fin cfg0.N) (a : Fin 512) :
    (win0_5.blk t).view.read (Elt Ideal) X (ix3 0 a 0) = X (ix3 (ptHead t) (ptRow t a) 0) :=
  congrArg X (emb5 t a)

theorem read5 (t : Fin cfg0.N) (a : Fin 512) :
    (show FVec Ideal S1x512x1 .f32 from iblk m c 5 t) (ix3 0 a 0) = Cert.Fox.logSum (argQ m c) (argK m c) (argC m c) (ptHead t) (ptRow t a) := by
  have e := blk5 (V m c main_v29) t a
  have f : (win0_5.blk t).view.read (Elt Ideal) (V m c main_v29) (ix3 0 a 0) = Cert.Fox.logSum (argQ m c) (argK m c) (argC m c) (ptHead t) (ptRow t a) := e.trans (V_lse m c _ _)
  unfold iblk
  exact f

theorem blk6 (X : FVec Ideal S8192x512 .f32) (t : Fin cfg0.N) (a : Fin 512) (x : Fin 128) :
    (win0_6.blk t).view.read (Elt Ideal) X (ix2 a x) = X (ix2 (ptRow t a) (col (ptHead t) x)) :=
  congrArg X (emb6 t a x)

theorem read6 (t : Fin cfg0.N) (a : Fin 512) (x : Fin 128) :
    (show FVec Ideal S512x128 .f32 from iblk m c 6 t) (ix2 a x) = argG m c (ix2 (ptRow t a) (col (ptHead t) x)) := by
  have e := blk6 (V m c main_arg4) t a x
  have f : (win0_6.blk t).view.read (Elt Ideal) (V m c main_arg4) (ix2 a x) = argG m c (ix2 (ptRow t a) (col (ptHead t) x)) := e.trans (congrFun (V_main_arg4 m c) _)
  unfold iblk
  exact f

end Cert.FoxIdeal.Array

end
-- ==== Proof.Fox.Point.lean ====
/-
  What a grid point computes, as part of the whole gradient.
-/
module

public import proofs.«01_k».proof.Proof.Fox.Read

@[expose] public section

set_option maxRecDepth 16384

noncomputable section

namespace Cert.FoxIdeal.Array

open Cert.FoxIdeal Cert.FoxIdeal.Gen Cert.FoxIdeal.Run Cert.FoxIdeal.Pay Cert.FoxIdeal.Span Cert.FoxIdeal.Tile Cert.FoxIdeal.After Cert.FoxIdeal.Host Cert.Mem Idealize.ShloMosaic Idealize.ShloMosaic.TcCoe Idealize.SL.Sem

variable (m : (ℓ : Loc nD τ sig) → Buf (Elt Ideal) ℓ) (c : Dev nD)

/-- A point's probabilities. -/
theorem prob_pt (t : Fin cfg0.N) (a : Fin 512) (s : Fin 8192) :
    Span.prob (grid0.coords t 1).val (iblk m c 0 t) (k0_pay27 (iblk m c 5 t)) (k0_pay28 (iblk m c 3 t)) (iblk m c 1 t) (iblk m c 4 t) a s
      = Cert.Fox.expProb (argQ m c) (argK m c) (argC m c) (ptHead t) (ptRow t a) s := by
  unfold Span.prob Cert.Fox.expProb expo Cert.Fox.score
  rw [tile_eq t, pay27_apply, pay28_apply]
  refine if_congr (by show _ ↔ s.val ≤ t.val % 16 * 512 + a.val; omega) (congrArg Ideal.exp (congrArg₂ (· - ·) (congrArg₂ (· + ·) (congrArg (· * factor) ?_) (congrArg₂ (· - ·) (read3 m c t a) (read4 m c t s))) (read5 m c t a))) rfl
  exact Finset.sum_congr rfl fun x _ => congrArg₂ (fun y z : EReal => y * z) (read0 m c t a x) (read1 m c t s x)

/-- A point's gradients of its probabilities. -/
theorem grad_pt (t : Fin cfg0.N) (a : Fin 512) (s : Fin 8192) :
    dprob (iblk m c 6 t) (iblk m c 2 t) a s = Cert.Fox.probGrad (argV m c) (argG m c) (ptHead t) (ptRow t a) s := by
  unfold dprob grad Cert.Fox.probGrad
  exact Finset.sum_congr rfl fun x _ => congrArg₂ (fun y z : EReal => y * z) (read6 m c t a x) (read2 m c t s x)

/-- A point's gradients of its scores. -/
theorem score_pt (t : Fin cfg0.N) (a : Fin 512) (s : Fin 8192) :
    Tile.score (grid0.coords t 1).val (iblk m c 0 t) (iblk m c 1 t) (iblk m c 2 t) (iblk m c 3 t) (iblk m c 4 t) (iblk m c 5 t) (iblk m c 6 t) a s = Cert.Fox.expBack (argQ m c) (argK m c) (argV m c) (argG m c) (argC m c) (ptHead t) (ptRow t a) s := by
  unfold Tile.score delta Cert.Fox.expBack
  simp only [prob_pt, grad_pt]

/-- A point's rows of the queries' gradient. -/
theorem queries_pt (t : Fin cfg0.N) (a : Fin 512) (d : Fin 128) :
    queries (grid0.coords t 1).val (iblk m c 0 t) (iblk m c 1 t) (iblk m c 2 t) (iblk m c 3 t) (iblk m c 4 t) (iblk m c 5 t) (iblk m c 6 t) a d = Cert.Fox.expQ (argQ m c) (argK m c) (argV m c) (argG m c) (argC m c) (ptHead t) (ptRow t a) d := by
  unfold queries Cert.Fox.expQ
  exact Finset.sum_congr rfl fun s _ => congrArg (· * factor) (congrArg₂ (fun y z : EReal => y * z) (score_pt m c t a s) (read1 m c t s d))

/-- A point's part of the keys' gradient. -/
theorem keys_pt (t : Fin cfg0.N) (s : Fin 8192) (d : Fin 128) :
    keys (grid0.coords t 1).val (iblk m c 0 t) (iblk m c 1 t) (iblk m c 2 t) (iblk m c 3 t) (iblk m c 4 t) (iblk m c 5 t) (iblk m c 6 t) s d
      = ∑ a : Fin 512, Cert.Fox.expBack (argQ m c) (argK m c) (argV m c) (argG m c) (argC m c) (ptHead t) (ptRow t a) s * argQ m c (ix2 (ptRow t a) (col (ptHead t) d)) * factor := by
  unfold keys
  rw [sum_mul_factor]
  exact Finset.sum_congr rfl fun a _ => congrArg (· * factor) (congrArg₂ (fun y z : EReal => y * z) (score_pt m c t a s) (read0 m c t a d))

/-- A point's part of the values' gradient. -/
theorem values_pt (t : Fin cfg0.N) (s : Fin 8192) (d : Fin 128) :
    values (grid0.coords t 1).val (iblk m c 0 t) (iblk m c 1 t) (iblk m c 3 t) (iblk m c 4 t) (iblk m c 5 t) (iblk m c 6 t) s d
      = ∑ a : Fin 512, Cert.Fox.expProb (argQ m c) (argK m c) (argC m c) (ptHead t) (ptRow t a) s * argG m c (ix2 (ptRow t a) (col (ptHead t) d)) := by
  unfold values
  exact Finset.sum_congr rfl fun a _ => congrArg₂ (fun y z : EReal => y * z) (prob_pt m c t a s) (read6 m c t a d)

/-- A point's part of the decays' gradient. -/
theorem decays_pt (t : Fin cfg0.N) (s : Fin 8192) :
    decays (grid0.coords t 1).val (iblk m c 0 t) (iblk m c 1 t) (iblk m c 2 t) (iblk m c 3 t) (iblk m c 4 t) (iblk m c 5 t) (iblk m c 6 t) s
      = 0 - ∑ a : Fin 512, Cert.Fox.expBack (argQ m c) (argK m c) (argV m c) (argG m c) (argC m c) (ptHead t) (ptRow t a) s := by
  unfold decays
  simp only [score_pt]

end Cert.FoxIdeal.Array

end
-- ==== Proof.Fox.Steps.lean ====
/-
  The result blocks over the points of a head.
-/
module

public import proofs.«01_k».proof.Proof.Fox.Point

@[expose] public section

set_option maxRecDepth 16384

noncomputable section

namespace Cert.FoxIdeal.Array

open Cert.FoxIdeal Cert.FoxIdeal.Gen Cert.FoxIdeal.Run Cert.FoxIdeal.Pay Cert.FoxIdeal.Span Cert.FoxIdeal.Tile Cert.FoxIdeal.After Cert.FoxIdeal.Host Cert.Mem Idealize.ShloMosaic Idealize.ShloMosaic.TcCoe Idealize.SL.Sem

variable (m : (ℓ : Loc nD τ sig) → Buf (Elt Ideal) ℓ) (c : Dev nD)

/-- A point's part of the keys' gradient, at an entry of the block. -/
def partK (t : Fin cfg0.N) (j : S8192x128.Idx) : EReal :=
  keys (grid0.coords t 1).val (iblk m c 0 t) (iblk m c 1 t) (iblk m c 2 t) (iblk m c 3 t) (iblk m c 4 t) (iblk m c 5 t) (iblk m c 6 t) (j 0) (j 1)
/-- A point's part of the values' gradient, at an entry of the block. -/
def partV (t : Fin cfg0.N) (j : S8192x128.Idx) : EReal :=
  values (grid0.coords t 1).val (iblk m c 0 t) (iblk m c 1 t) (iblk m c 3 t) (iblk m c 4 t) (iblk m c 5 t) (iblk m c 6 t) (j 0) (j 1)
/-- A point's part of the decays' gradient, at an entry of the block. -/
def partC (t : Fin cfg0.N) (j : S1x1x8192.Idx) : EReal :=
  decays (grid0.coords t 1).val (iblk m c 0 t) (iblk m c 1 t) (iblk m c 2 t) (iblk m c 3 t) (iblk m c 4 t) (iblk m c 5 t) (iblk m c 6 t) (j 2)

/-- At every point the first result block is the point's rows of the queries' gradient. -/
theorem out_q (t : Fin cfg0.N) (a : Fin 512) (d : Fin 128) : (outsAt m c t.val t.isLt).1 (ix2 a d) = queries (grid0.coords t 1).val (iblk m c 0 t) (iblk m c 1 t) (iblk m c 2 t) (iblk m c 3 t) (iblk m c 4 t) (iblk m c 5 t) (iblk m c 6 t) a d := by
  by_cases h0 : t.val % 16 = 0
  · rw [outsAt_A m c t h0]
    exact runA_queries c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) ((first_iff t).mpr h0) (fun h => by have := (odd_iff t).mp h; omega) (fun h => by have := (odd_iff' t).mp h; omega) (ms7 t).view.junk a d
  · by_cases h1 : t.val % 2 = 1
    · rw [outsAt_C m c t h0 h1]
      exact runC_queries c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) ((odd_iff t).mpr h1) ((odd_iff' t).mpr h1) _ _ _ (ms7 t).view.junk a d
    · rw [outsAt_B m c t h0 h1]
      exact runB_queries c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) (fun h => h1 ((odd_iff t).mp h)) (fun h => h1 ((odd_iff' t).mp h)) _ _ _ (ms7 t).view.junk a d

/-- A head's first point leaves its own part. -/
theorem first_keys (t : Fin cfg0.N) (h0 : t.val % 16 = 0) (j : S8192x128.Idx) : (outsAt m c t.val t.isLt).2.1 j = 0 + partK m c t j := by
  obtain ⟨s, d, rfl⟩ : ∃ (s : Fin 8192) (d : Fin 128), j = ix2 s d := ⟨j 0, j 1, eq_ix2 j⟩
  rw [outsAt_A m c t h0, zero_add]
  exact runA_keys c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) ((first_iff t).mpr h0) (fun h => by have := (odd_iff t).mp h; omega) (fun h => by have := (odd_iff' t).mp h; omega) s d

/-- A later point adds its part. -/
theorem step_keys (t : Fin cfg0.N) (h0 : ¬t.val % 16 = 0) (j : S8192x128.Idx) :
    (outsAt m c t.val t.isLt).2.1 j = (outsAt m c (t.val - 1) (Nat.lt_of_le_of_lt (Nat.sub_le _ _) t.isLt)).2.1 j + partK m c t j := by
  obtain ⟨s, d, rfl⟩ : ∃ (s : Fin 8192) (d : Fin 128), j = ix2 s d := ⟨j 0, j 1, eq_ix2 j⟩
  by_cases h1 : t.val % 2 = 1
  · rw [outsAt_C m c t h0 h1]
    exact runC_keys c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) ((odd_iff t).mpr h1) ((odd_iff' t).mpr h1) (prev m c t).2.1 (prev m c t).2.2.1 (prev m c t).2.2.2 s d
  · rw [outsAt_B m c t h0 h1]
    exact runB_keys c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) (fun h => h1 ((odd_iff t).mp h)) (fun h => h1 ((odd_iff' t).mp h)) (prev m c t).2.1 (prev m c t).2.2.1 (prev m c t).2.2.2 s d

/-- A head's first point leaves its own part. -/
theorem first_values (t : Fin cfg0.N) (h0 : t.val % 16 = 0) (j : S8192x128.Idx) : (outsAt m c t.val t.isLt).2.2.1 j = 0 + partV m c t j := by
  obtain ⟨s, d, rfl⟩ : ∃ (s : Fin 8192) (d : Fin 128), j = ix2 s d := ⟨j 0, j 1, eq_ix2 j⟩
  rw [outsAt_A m c t h0, zero_add]
  exact runA_values c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) ((first_iff t).mpr h0) (fun h => by have := (odd_iff t).mp h; omega) (fun h => by have := (odd_iff' t).mp h; omega) s d

/-- A later point adds its part. -/
theorem step_values (t : Fin cfg0.N) (h0 : ¬t.val % 16 = 0) (j : S8192x128.Idx) :
    (outsAt m c t.val t.isLt).2.2.1 j = (outsAt m c (t.val - 1) (Nat.lt_of_le_of_lt (Nat.sub_le _ _) t.isLt)).2.2.1 j + partV m c t j := by
  obtain ⟨s, d, rfl⟩ : ∃ (s : Fin 8192) (d : Fin 128), j = ix2 s d := ⟨j 0, j 1, eq_ix2 j⟩
  by_cases h1 : t.val % 2 = 1
  · rw [outsAt_C m c t h0 h1]
    exact runC_values c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) ((odd_iff t).mpr h1) ((odd_iff' t).mpr h1) (prev m c t).2.1 (prev m c t).2.2.1 (prev m c t).2.2.2 s d
  · rw [outsAt_B m c t h0 h1]
    exact runB_values c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) (fun h => h1 ((odd_iff t).mp h)) (fun h => h1 ((odd_iff' t).mp h)) (prev m c t).2.1 (prev m c t).2.2.1 (prev m c t).2.2.2 s d

theorem last (j : S1x1x8192.Idx) : j = ix3 0 0 (j 2) := by
  have e0 : (show Fin 1 from j 0) = 0 := Subsingleton.elim _ _
  have e1 : (show Fin 1 from j 1) = 0 := Subsingleton.elim _ _
  exact (eq_ix3 j).trans (congrArg₂ (fun (a b : Fin 1) => (ix3 a b (j 2) : S1x1x8192.Idx)) e0 e1)

/-- A head's first point leaves its own part. -/
theorem first_decays (t : Fin cfg0.N) (h0 : t.val % 16 = 0) (j : S1x1x8192.Idx) : (outsAt m c t.val t.isLt).2.2.2 j = 0 + partC m c t j := by
  obtain ⟨s, rfl⟩ : ∃ s : Fin 8192, j = ix3 0 0 s := ⟨j 2, last j⟩
  rw [outsAt_A m c t h0, zero_add]
  exact runA_decays c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) ((first_iff t).mpr h0) (fun h => by have := (odd_iff t).mp h; omega) (fun h => by have := (odd_iff' t).mp h; omega) s

/-- A later point adds its part. -/
theorem step_decays (t : Fin cfg0.N) (h0 : ¬t.val % 16 = 0) (j : S1x1x8192.Idx) :
    (outsAt m c t.val t.isLt).2.2.2 j = (outsAt m c (t.val - 1) (Nat.lt_of_le_of_lt (Nat.sub_le _ _) t.isLt)).2.2.2 j + partC m c t j := by
  obtain ⟨s, rfl⟩ : ∃ s : Fin 8192, j = ix3 0 0 s := ⟨j 2, last j⟩
  by_cases h1 : t.val % 2 = 1
  · rw [outsAt_C m c t h0 h1]
    exact runC_decays c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) ((odd_iff t).mpr h1) ((odd_iff' t).mpr h1) (prev m c t).2.1 (prev m c t).2.2.1 (prev m c t).2.2.2 s
  · rw [outsAt_B m c t h0 h1]
    exact runB_decays c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (fun h => h0 ((first_iff t).mp h)) (fun h => h1 ((odd_iff t).mp h)) (fun h => h1 ((odd_iff' t).mp h)) (prev m c t).2.1 (prev m c t).2.2.1 (prev m c t).2.2.2 s

end Cert.FoxIdeal.Array

end
-- ==== Proof.Fox.Array.lean ====
/-
  What the launch leaves in its four result arrays: the gradients of the queries, the keys, the values and the decays.
-/
module

public import proofs.«01_k».proof.Proof.Fox.Steps

@[expose] public section

set_option maxRecDepth 16384

noncomputable section

namespace Cert.FoxIdeal.Array

open Cert.FoxIdeal Cert.FoxIdeal.Gen Cert.FoxIdeal.Run Cert.FoxIdeal.Pay Cert.FoxIdeal.Span Cert.FoxIdeal.Tile Cert.FoxIdeal.After Cert.FoxIdeal.Host Cert.Mem Idealize.ShloMosaic Idealize.ShloMosaic.TcCoe Idealize.SL.Sem

variable (m : (ℓ : Loc nD τ sig) → Buf (Elt Ideal) ℓ) (c : Dev nD)

/-- The first result is the gradient of the queries. -/
theorem final_q : (dats m 0 c).arrAt 7 (cfgs 0).N = Cert.Fox.arrQ (argQ m c) (argK m c) (argV m c) (argG m c) (argC m c) := by
  refine (dats m 0 c).arrAt_eq_of_covers 7 _ (by decide +kernel) fun t hf y => ?_
  blk_simp
  rw [after7]
  obtain ⟨a, d, rfl⟩ : ∃ (a : Fin 512) (d : Fin 128), y = ix2 a d := ⟨y 0, y 1, eq_ix2 y⟩
  rw [out_q, queries_pt]
  refine Eq.trans ?_ (congrArg (Cert.Fox.arrQ (argQ m c) (argK m c) (argV m c) (argG m c) (argC m c)) (emb7 t a d)).symm
  show _ = Cert.Fox.expQ (argQ m c) (argK m c) (argV m c) (argG m c) (argC m c) (headOf (col (ptHead t) d)) (ptRow t a) (Cert.Fox.laneOf (col (ptHead t) d))
  rw [Cert.Fox.headOf_col, Cert.Fox.laneOf_col]

/-- The points of a run are all of one head. -/
theorem ptHead_run (t : Fin cfg0.N) (n : Fin 16) (h : 16 * (t.val / 16) + n.val < cfg0.N) :
    ptHead ⟨16 * (t.val / 16) + n.val, h⟩ = ptHead t := by
  apply Fin.ext; show (16 * (t.val / 16) + n.val) / 16 = t.val / 16; omega

/-- Point `n` of a run has the tile of queries `n`. -/
theorem ptRow_run (t : Fin cfg0.N) (n : Fin 16) (a : Fin 512) (h : 16 * (t.val / 16) + n.val < cfg0.N) (hl : n.val * 512 + a.val < 8192) :
    ptRow ⟨16 * (t.val / 16) + n.val, h⟩ a = ⟨n.val * 512 + a.val, hl⟩ := by
  apply Fin.ext; show (16 * (t.val / 16) + n.val) % 16 * 512 + a.val = n.val * 512 + a.val; omega

/-- The result of the keys' gradient. -/
theorem final_keys : (dats m 0 c).arrAt 8 (cfgs 0).N = Cert.Fox.arrK (argQ m c) (argK m c) (argV m c) (argG m c) (argC m c) := by
  refine (dats m 0 c).arrAt_eq_of_covers 8 _ (by decide +kernel) fun t hf y => ?_
  blk_simp
  have ht := (flush0_8 t).mp hf
  rw [after8, Pipeline.eq_sum_fin_of_reset_step_apply_of_flush (fun n h => (outsAt m c n h).2.1) 16 (fun _ => 0) (partK m c)
    (first_keys m c) (step_keys m c) t ht y, zero_add]
  obtain ⟨s, d, rfl⟩ : ∃ (s : Fin 8192) (d : Fin 128), y = ix2 s d := ⟨y 0, y 1, eq_ix2 y⟩
  refine Eq.trans ?_ (congrArg (Cert.Fox.arrK (argQ m c) (argK m c) (argV m c) (argG m c) (argC m c)) (emb8 t s d)).symm
  show _ = Cert.Fox.expK (argQ m c) (argK m c) (argV m c) (argG m c) (argC m c) (headOf (col (ptHead t) d)) s (Cert.Fox.laneOf (col (ptHead t) d))
  rw [Cert.Fox.headOf_col, Cert.Fox.laneOf_col]
  have e : ∀ u : Fin cfg0.N, partK m c u (ix2 s d) = _ := fun u => keys_pt m c u s d
  simp only [e]
  unfold Cert.Fox.expK
  refine Fin.sum_mul_add_congr fun n a hl => ?_
  rw [ptHead_run, ptRow_run t n a _ hl]

/-- The result of the values' gradient. -/
theorem final_values : (dats m 0 c).arrAt 9 (cfgs 0).N = Cert.Fox.arrV (argQ m c) (argK m c) (argG m c) (argC m c) := by
  refine (dats m 0 c).arrAt_eq_of_covers 9 _ (by decide +kernel) fun t hf y => ?_
  blk_simp
  have ht := (flush0_9 t).mp hf
  rw [after9, Pipeline.eq_sum_fin_of_reset_step_apply_of_flush (fun n h => (outsAt m c n h).2.2.1) 16 (fun _ => 0) (partV m c)
    (first_values m c) (step_values m c) t ht y, zero_add]
  obtain ⟨s, d, rfl⟩ : ∃ (s : Fin 8192) (d : Fin 128), y = ix2 s d := ⟨y 0, y 1, eq_ix2 y⟩
  refine Eq.trans ?_ (congrArg (Cert.Fox.arrV (argQ m c) (argK m c) (argG m c) (argC m c)) (emb9 t s d)).symm
  show _ = Cert.Fox.expV (argQ m c) (argK m c) (argG m c) (argC m c) (headOf (col (ptHead t) d)) s (Cert.Fox.laneOf (col (ptHead t) d))
  rw [Cert.Fox.headOf_col, Cert.Fox.laneOf_col]
  have e : ∀ u : Fin cfg0.N, partV m c u (ix2 s d) = _ := fun u => values_pt m c u s d
  simp only [e]
  unfold Cert.Fox.expV
  refine Fin.sum_mul_add_congr fun n a hl => ?_
  rw [ptHead_run, ptRow_run t n a _ hl]

/-- The result of the decays' gradient. -/
theorem final_decays : (dats m 0 c).arrAt 10 (cfgs 0).N = Cert.Fox.arrC (argQ m c) (argK m c) (argV m c) (argG m c) (argC m c) := by
  refine (dats m 0 c).arrAt_eq_of_covers 10 _ (by decide +kernel) fun t hf y => ?_
  blk_simp
  have ht := (flush0_10 t).mp hf
  rw [after10, Pipeline.eq_sum_fin_of_reset_step_apply_of_flush (fun n h => (outsAt m c n h).2.2.2) 16 (fun _ => 0) (partC m c)
    (first_decays m c) (step_decays m c) t ht y, zero_add]
  obtain ⟨s, rfl⟩ : ∃ s : Fin 8192, y = ix3 0 0 s := ⟨y 2, last y⟩
  refine Eq.trans ?_ (congrArg (Cert.Fox.arrC (argQ m c) (argK m c) (argV m c) (argG m c) (argC m c)) (emb10 t s)).symm
  show _ = Cert.Fox.expC (argQ m c) (argK m c) (argV m c) (argG m c) (argC m c) (ptHead t) s
  have e : ∀ u : Fin cfg0.N, partC m c u (ix3 0 0 s) = _ := fun u => decays_pt m c u s
  simp only [e]
  unfold Cert.Fox.expC
  refine Finset.sum_congr rfl fun n _ => congrArg (0 - ·) (Finset.sum_congr rfl fun a _ => ?_)
  rw [ptHead_run, ptRow_run t n a _ (by omega)]

end Cert.FoxIdeal.Array

end
-- ==== Proof.Fox.Reference.lean ====
/-
  The differentiated reference of the forgetting attention, read at an index over the extended reals: its masked scores, its
  probabilities, the gradient of the scores, and its four gradients.
-/
module

public import proofs.«01_k».proof.Proof.Gen.RefFoxIdeal.Read
public import proofs.«01_k».proof.Proof.Fox.Host
public import Idealize.ShloMosaic.Lib.Pointwise

@[expose] public section

set_option maxRecDepth 16384

noncomputable section

namespace Cert.RefFoxIdeal.Fox

open Cert.RefFoxIdeal Cert.RefFoxIdeal.Gen Cert.RefFoxIdeal.Read Cert.Mem Idealize.ShloMosaic Idealize.ShloMosaic.TcCoe Idealize.SL.Sem

variable (Q K V G : FVec Ideal S8192x512 .f32) (C : FVec Ideal S8192x4 .f32)

/-- The word of one is one. -/
theorem one : Ideal.ofBits .f32 0x3F800000#32 = (1 : EReal) := by
  simp [Ideal.ofBits, Ideal.ieee, -EReal.coe_mul]; norm_num

/-- The reference's scores. -/
theorem score_apply (h : Fin 4) (r s : Fin 8192) :
    val_main_v13 (F := Ideal) Q K C (ix3 h r s) = Cert.Fox.score Q K C h r s := by
  pointwise [val_main_v13, val_main_v12, val_main_v11, val_main_v10, val_main_v9, val_main_v8, val_main_v7, val_main_v6,
    val_main_v5, val_main_v4, val_main_v3, val_main_v1, val_main_v0, val_main_cst]
  rfl

/-- The reference's test of a query and a key. -/
theorem test_apply (h : Fin 4) (r s : Fin 8192) :
    val_main_v21_1 (F := Ideal) (ix3 h r s) = IntOp.cmpi .sle (BitVec.ofNat 32 s.val) (BitVec.ofNat 32 r.val) := by
  pointwise [val_main_v21_1, val_main_v20, val_main_v19, val_main_v18, val_main_v17, val_main_v16, val_main_v15, val_main_v14]

/-- The reference's masked scores. -/
theorem masked_apply (h : Fin 4) (r s : Fin 8192) :
    val_main_v21_0 (F := Ideal) Q K C (ix3 h r s) = Cert.Fox.masked Q K C h r s := by
  rw [val_main_v21_0_apply, test_apply, score_apply]
  refine (Cert.FoxIdeal.Host.seen r s _ _).trans ?_
  unfold Cert.Fox.masked
  refine if_congr Iff.rfl rfl ?_
  pointwise [val_main_call0_v2, val_main_call0_v0, val_main_cst_0]
  exact Cert.FoxIdeal.Host.negInf

/-- The largest entry of each row of an array of scores. -/
theorem rowMax_apply (y : FVec Ideal S4x8192x8192 .f32) (z : FVec Ideal S_ .f32) (h : Fin 4) (r : Fin 8192) :
    Host.reduce FloatOps.maximumf y z reducesTo_S4x8192x8192_S4x8192_d2 h_S_ (ix2 h r)
      = Finset.univ.fold max (z (Shape.Idx.first h_S_)) fun x : Fin 8192 => y (ix3 h r x) := by
  pointwise

/-- The reference's largest score of a row. -/
theorem top_apply (h : Fin 4) (r : Fin 8192) : val_main_v22 (F := Ideal) Q K C (ix2 h r) = top (Cert.Fox.masked Q K C h r) := by
  unfold val_main_v22
  rw [rowMax_apply, val_main_cst_1_apply]
  have e : FloatOps.ofBits (F := Ideal) .f32 0xFF800000#32 = (⊥ : EReal) := Cert.FoxIdeal.Host.negInf
  rw [e]
  exact congrArg (Finset.univ.fold max ⊥) (funext fun x => masked_apply Q K C h r x)

/-- The larger of minus infinity and the largest score is the largest score. -/
theorem clamp_apply (h : Fin 4) (r : Fin 8192) : val_main_v29 (F := Ideal) Q K C (ix2 h r) = top (Cert.Fox.masked Q K C h r) := by
  rw [val_main_v29_apply, top_apply, val_main_v28_apply, val_main_cst_3_apply]
  have e : FloatOps.ofBits (F := Ideal) .f32 0xFF800000#32 = (⊥ : EReal) := Cert.FoxIdeal.Host.negInf
  rw [e]
  exact bot_sup_eq _

/-- A row's entry broadcast along the row. -/
theorem along_apply (y : FVec Ideal S4x8192 .f32) (h : Fin 4) (r s : Fin 8192) :
    broadcastInDim S4x8192x8192 ![0, 1, 2] bcast_S4x8192x1_S4x8192x8192_0_1_2
      (broadcastInDim S4x8192x1 ![0, 1] bcast_S4x8192_S4x8192x1_0_1 y) (ix3 h r s) = y (ix2 h r) := by
  pointwise

/-- The subtracted largest score, broadcast along the row. -/
theorem shift_apply (h : Fin 4) (r s : Fin 8192) :
    val_main_v40 (F := Ideal) Q K C (ix3 h r s) = top (Cert.Fox.masked Q K C h r) := by
  unfold val_main_v40 val_main_v39
  exact (along_apply _ h r s).trans (clamp_apply Q K C h r)

/-- The reference's weights. -/
theorem weight_apply (h : Fin 4) (r s : Fin 8192) :
    val_main_v42 (F := Ideal) Q K C (ix3 h r s) = weight (Cert.Fox.masked Q K C h r) s := by
  rw [val_main_v42_apply, val_main_v41_apply, masked_apply, shift_apply]
  rfl

/-- The reference's sum of a row's weights. -/
theorem total_apply (h : Fin 4) (r : Fin 8192) :
    val_main_v43 (F := Ideal) Q K C (ix2 h r) = total (Cert.Fox.masked Q K C h r) := by
  pointwise [val_main_v43, val_main_cst_9]
  exact Finset.sum_congr rfl fun j _ => weight_apply Q K C h r j

/-- The sum of weights, broadcast along the row. -/
theorem totalAlong_apply (h : Fin 4) (r s : Fin 8192) :
    val_main_v45 (F := Ideal) Q K C (ix3 h r s) = total (Cert.Fox.masked Q K C h r) := by
  unfold val_main_v45 val_main_v44
  exact (along_apply _ h r s).trans (total_apply Q K C h r)

/-- The reference's probabilities. -/
theorem prob_apply (h : Fin 4) (r s : Fin 8192) :
    val_main_v46 (F := Ideal) Q K C (ix3 h r s) = Cert.Fox.prob Q K C h r s := by
  rw [val_main_v46_apply, weight_apply, totalAlong_apply]
  rfl

/-- The reference's gradient of the probabilities. -/
theorem probGrad_apply (h : Fin 4) (r s : Fin 8192) :
    val_main_v55 (F := Ideal) V G (ix3 h r s) = Cert.Fox.probGrad V G h r s := by
  pointwise [val_main_v55, val_main_v54, val_main_v53, val_main_v2]
  rfl

/-- One over the square of the weights' sum, along the row. -/
theorem square_apply (h : Fin 4) (r s : Fin 8192) : val_main_v58 (F := Ideal) Q K C (ix3 h r s)
    = Ideal.div 1 (total (Cert.Fox.masked Q K C h r) * total (Cert.Fox.masked Q K C h r)) := by
  pointwise [val_main_v58, val_main_v49, val_main_v48, val_main_v47, val_main_v44, val_main_cst_10]
  simp only [total_apply, one]

/-- The denominator's part of the gradient: a row's sum. -/
theorem denominator_apply (h : Fin 4) (r : Fin 8192) : val_main_v61 (F := Ideal) Q K V C G (ix2 h r)
    = ∑ l : Fin 8192, Cert.Fox.probGrad V G h r l * Ideal.div 1 (total (Cert.Fox.masked Q K C h r) * total (Cert.Fox.masked Q K C h r))
        * weight (Cert.Fox.masked Q K C h r) l := by
  pointwise [val_main_v61, val_main_cst_11]
  refine Finset.sum_congr rfl fun l _ => ?_
  rw [val_main_v60_apply, val_main_v59_apply, probGrad_apply, square_apply, weight_apply]
  rfl

/-- A negated row's sum, summed over an axis of one entry and broadcast along the row. -/
theorem spread_apply (y : FVec Ideal S4x8192 .f32) (h : Fin 4) (r s : Fin 8192) :
    broadcastInDim S4x8192x8192 ![0, 1] bcast_S4x8192_S4x8192x8192_0_1
      (Host.reduceAdd (Host.negf (shapeCast _ y shapeCasts_S4x8192_S4x8192x1)) (val_main_cst_12 (F := Ideal)) reducesTo_S4x8192x1_S4x8192_d2 h_S_)
      (ix3 h r s) = (-(y (ix2 h r)) : EReal) := by
  pointwise [val_main_cst_12]
  simp only [Finset.univ_unique, Finset.sum_singleton]

/-- The reference's gradient of the scores before the mask, in the quotient's form. -/
theorem quotient_apply (h : Fin 4) (r s : Fin 8192) :
    val_main_v69 (F := Ideal) Q K V C G (ix3 h r s) = backQuotient (Cert.Fox.masked Q K C h r) (Cert.Fox.probGrad V G h r) s := by
  have e : val_main_v67 (F := Ideal) Q K V C G (ix3 h r s) = -(val_main_v61 (F := Ideal) Q K V C G (ix2 h r) : EReal) := by
    unfold val_main_v67 val_main_v66 val_main_v63 val_main_v62
    exact spread_apply _ h r s
  have f : val_main_v64 (F := Ideal) Q K C (ix3 h r s) = total (Cert.Fox.masked Q K C h r) := by
    unfold val_main_v64 val_main_v44
    exact (along_apply _ h r s).trans (total_apply Q K C h r)
  rw [val_main_v69_apply, val_main_v68_apply, val_main_v65_apply, e, f, denominator_apply, probGrad_apply, weight_apply]
  rfl

/-- The reference's gradient of the scores. -/
def ds (h : Fin 4) (r s : Fin 8192) : EReal :=
  if s.val ≤ r.val then backQuotient (Cert.Fox.masked Q K C h r) (Cert.Fox.probGrad V G h r) s else 0

theorem ds_apply (h : Fin 4) (r s : Fin 8192) : val_main_v70 (F := Ideal) Q K V C G (ix3 h r s) = ds Q K V G C h r s := by
  rw [val_main_v70_apply, test_apply, quotient_apply]
  refine (Cert.FoxIdeal.Host.seen r s _ _).trans ?_
  unfold ds
  refine if_congr Iff.rfl rfl ?_
  pointwise [val_main_call1_v0, val_main_call1_cst]

/-- The scaled gradient of the scores. -/
theorem scaled_apply (h : Fin 4) (r s : Fin 8192) : val_main_v82 (F := Ideal) Q K V C G (ix3 h r s) = ds Q K V G C h r s * factor := by
  rw [val_main_v82_apply, ds_apply]
  pointwise [val_main_v81, val_main_cst_17]
  rfl

/-- The reference's gradient of the queries. -/
theorem queries_apply (i : S8192x512.Idx) : val_main_v89 (F := Ideal) Q K V C G i
    = ∑ s : Fin 8192, ds Q K V G C (headOf (i 1)) (i 0) s * factor * K (ix2 s (i 1)) := by
  pointwise [val_main_v89, val_main_v86, val_main_v85, val_main_v1]
  refine Finset.sum_congr rfl fun s _ => ?_
  refine congrArg₂ (fun y z : EReal => y * z) (scaled_apply Q K V G C _ _ s) rfl

/-- The reference's gradient of the keys. -/
theorem keys_apply (i : S8192x512.Idx) : val_main_v88 (F := Ideal) Q K V C G i
    = ∑ r : Fin 8192, ds Q K V G C (headOf (i 1)) r (i 0) * factor * Q (ix2 r (i 1)) := by
  pointwise [val_main_v88, val_main_v84, val_main_v83, val_main_v0]
  refine Finset.sum_congr rfl fun r _ => ?_
  refine congrArg₂ (fun y z : EReal => y * z) (scaled_apply Q K V G C _ r _) rfl

/-- The reference's gradient of the values. -/
theorem values_apply (i : S8192x512.Idx) : val_main_v87 (F := Ideal) Q K C G i
    = ∑ r : Fin 8192, G (ix2 r (i 1)) * Cert.Fox.prob Q K C (headOf (i 1)) r (i 0) := by
  pointwise [val_main_v87, val_main_v57, val_main_v56, val_main_v54, val_main_v53]
  refine Finset.sum_congr rfl fun r _ => ?_
  refine congrArg₂ (fun y z : EReal => y * z) rfl (prob_apply Q K C _ r _)

/-- The sums over the queries of the negated gradients. -/
theorem columns_apply (h : Fin 4) (s : Fin 8192) : val_main_v74 (F := Ideal) Q K V C G (ix2 h s) = ∑ r : Fin 8192, -ds Q K V G C h r s := by
  pointwise [val_main_v74, val_main_cst_14]
  refine Finset.sum_congr rfl fun r _ => ?_
  rw [val_main_v73_apply, ds_apply]
  rfl

/-- The sums over the keys of the gradients. -/
theorem rows_apply (h : Fin 4) (r : Fin 8192) : val_main_v71 (F := Ideal) Q K V C G (ix2 h r) = ∑ s : Fin 8192, ds Q K V G C h r s := by
  pointwise [val_main_v71, val_main_cst_13]
  exact Finset.sum_congr rfl fun s _ => ds_apply Q K V G C h r s

/-- The reference's gradient of the decays. -/
theorem decays_apply (i : S4x1x8192.Idx) : val_main_v91 (F := Ideal) Q K V C G i
    = (∑ r : Fin 8192, -ds Q K V G C (i 0) r (i 2)) + ∑ s : Fin 8192, ds Q K V G C (i 0) (i 2) s := by
  pointwise [val_main_v91, val_main_v90, val_main_v80, val_main_v79, val_main_v78, val_main_v77, val_main_v76, val_main_v75, val_main_v72,
    val_main_cst_15, val_main_cst_16]
  simp only [Finset.univ_unique, Finset.sum_singleton]
  exact congrArg₂ (fun y z : EReal => y + z) (columns_apply Q K V G C _ _) (rows_apply Q K V G C _ _)

end Cert.RefFoxIdeal.Fox

end
-- ==== Proof.Fox.Masked.lean ====
/-
  A row of scores some of which are minus infinity and at least one is a real number: its softmax is the exponential of the
  score less the row's log sum, both forms of the gradient agree, and the gradients of a row's scores sum to zero.
-/
module

public import proofs.«01_k».proof.Proof.Mem.Row

@[expose] public section

noncomputable section

namespace Cert.Mem

open Idealize.ShloMosaic

variable {n : Nat}

/-- Every score is minus infinity or a real number, and score `k` is a real number. -/
structure Partial (s : Fin n → EReal) (k : Fin n) : Prop where
  all : ∀ j, s j = ⊥ ∨ ∃ a : ℝ, s j = (a : EReal)
  one : ∃ a : ℝ, s k = (a : EReal)

variable {s : Fin n → EReal} {k : Fin n}

/-- The largest score is a real number. -/
theorem Partial.top_real (h : Partial s k) : ∃ b : ℝ, top s = (b : EReal) := by
  haveI : NeZero n := ⟨fun e => absurd k.isLt (by omega)⟩
  obtain ⟨j, hj⟩ := top_mem s
  rcases h.all j with e | ⟨a, e⟩
  · obtain ⟨a, ea⟩ := h.one
    have le : s k ≤ top s := Finset.le_sup (f := s) (Finset.mem_univ k)
    rw [hj, e, ea] at le
    exact absurd (le_bot_iff.mp le) (EReal.coe_ne_bot a)
  · exact ⟨a, hj.trans e⟩

/-- The weight of minus infinity is zero. -/
theorem Partial.weight_bot (h : Partial s k) {j : Fin n} (e : s j = ⊥) : weight s j = 0 := by
  rw [weight, e, EReal.bot_sub, Ideal.exp_bot]

/-- Every weight is a real number that is not negative, and the weight of a real score is positive. -/
theorem Partial.weight_real (h : Partial s k) (j : Fin n) :
    ∃ e : ℝ, 0 ≤ e ∧ weight s j = (e : EReal) ∧ ((∃ a : ℝ, s j = (a : EReal)) → 0 < e) := by
  rcases h.all j with e | ⟨a, e⟩
  · exact ⟨0, le_refl _, by rw [h.weight_bot e, EReal.coe_zero], fun ⟨a, ea⟩ => absurd (e.symm.trans ea) (EReal.bot_ne_coe a)⟩
  · obtain ⟨b, hb⟩ := h.top_real
    refine ⟨Real.exp (a - b), (Real.exp_pos _).le, ?_, fun _ => Real.exp_pos _⟩
    rw [weight, hb, e, ← EReal.coe_sub, Ideal.exp_coe]

/-- The weights' sum is a positive real number. -/
theorem Partial.total_real (h : Partial s k) : ∃ z : ℝ, 0 < z ∧ total s = (z : EReal) := by
  choose e he hw hp using h.weight_real
  refine ⟨∑ j, e j, Finset.sum_pos' (fun j _ => he j) ⟨k, Finset.mem_univ k, hp k h.one⟩, ?_⟩
  rw [total, ← coe_sum]
  exact Finset.sum_congr rfl fun j _ => hw j

/-- The probability of minus infinity is zero. -/
theorem Partial.prob_bot (h : Partial s k) {j : Fin n} (e : s j = ⊥) : prob s j = 0 := by
  obtain ⟨z, hz, ez⟩ := h.total_real
  rw [prob, h.weight_bot e, ez, Ideal.div_coe hz.ne', zero_mul]

/-- The exponential of a real score less the row's log sum is its probability. -/
theorem Partial.exp_eq (h : Partial s k) {j : Fin n} (hj : ∃ a : ℝ, s j = (a : EReal)) :
    Ideal.exp (s j - (top s + Ideal.log (total s))) = prob s j := by
  obtain ⟨z, hz, ez⟩ := h.total_real
  obtain ⟨b, hb⟩ := h.top_real
  obtain ⟨a, ha⟩ := hj
  rw [prob, weight, ez, Ideal.div_coe hz.ne', hb, ha, Ideal.log_coe, if_neg (not_le.2 hz), ← EReal.coe_add, ← EReal.coe_sub,
    ← EReal.coe_sub, Ideal.exp_coe, Ideal.exp_coe, ← EReal.coe_mul]
  refine congrArg _ ?_
  rw [show a - (b + Real.log z) = (a - b) - Real.log z by ring, Real.exp_sub, Real.exp_log hz, div_eq_mul_one_div]

/-- The probabilities are real numbers that sum to one. -/
theorem Partial.prob_real (h : Partial s k) : ∃ p : Fin n → ℝ, (∀ j, prob s j = (p j : EReal)) ∧ ∑ j, p j = 1 := by
  obtain ⟨z, hz, ez⟩ := h.total_real
  choose e he hw hp using h.weight_real
  refine ⟨fun j => e j * (1 / z), fun j => ?_, ?_⟩
  · rw [prob, hw, ez, Ideal.div_coe hz.ne', ← EReal.coe_mul]
  · have hs : total s = ((∑ j, e j : ℝ) : EReal) := by
      rw [total, ← coe_sum]
      exact Finset.sum_congr rfl fun j _ => hw j
    rw [← Finset.sum_mul, EReal.coe_eq_coe_iff.1 (hs.symm.trans ez), mul_one_div_cancel hz.ne']

/-- Whatever the gradient of the probabilities, the two forms of the gradient agree. -/
theorem Partial.back_eq (h : Partial s k) (g : Fin n → EReal) (j : Fin n) : backQuotient s g j = back s g j := by
  obtain ⟨z, hz, ez⟩ := h.total_real
  have hz' : z ≠ 0 := hz.ne'
  have hi : (0 : ℝ) ≤ 1 / z := (one_div_pos.2 hz).le
  have hsum : ∑ l, g l * Ideal.div 1 (total s * total s) * weight s l = ((1 / z : ℝ) : EReal) * ∑ l, prob s l * g l := by
    rw [mul_sum_of_nonneg _ _ hi]
    refine Finset.sum_congr rfl fun l _ => ?_
    rw [prob, ez, ← EReal.coe_mul, Ideal.div_coe (mul_ne_zero hz' hz'), Ideal.div_coe hz', one_mul,
      show (1 / (z * z) : ℝ) = (1 / z) * (1 / z) by field_simp, EReal.coe_mul]
    ac_rfl
  rw [backQuotient, hsum, back, prob, ez, Ideal.div_coe hz', Ideal.div_coe hz', mul_comm (g j),
    sub_eq_add_neg, ← mul_neg, ← EReal.left_distrib_of_nonneg_of_ne_top (by exact_mod_cast hi) (EReal.coe_ne_top _)]
  ac_rfl

/-- The gradient of minus infinity is zero. -/
theorem Partial.back_bot (h : Partial s k) (g : Fin n → EReal) {j : Fin n} (e : s j = ⊥) : back s g j = 0 := by
  rw [back, h.prob_bot e, zero_mul]

/-- For a real gradient of the probabilities, the gradients of the scores are real numbers that sum to zero. -/
theorem Partial.back_real (h : Partial s k) (g : Fin n → ℝ) :
    ∃ b : Fin n → ℝ, (∀ j, back s (fun l => (g l : EReal)) j = (b j : EReal)) ∧ ∑ j, b j = 0 := by
  obtain ⟨p, hp, h1⟩ := h.prob_real
  refine ⟨fun j => p j * (g j - ∑ l, p l * g l), fun j => ?_, ?_⟩
  · rw [back, hp, EReal.coe_mul, EReal.coe_sub, ← coe_sum]
    refine congrArg (fun y => (p j : EReal) * ((g j : EReal) - y)) (Finset.sum_congr rfl fun l _ => ?_)
    rw [hp, EReal.coe_mul]
  · simp only [mul_sub, Finset.sum_sub_distrib]
    rw [← Finset.sum_mul, h1, one_mul, sub_self]

end Cert.Mem

end
-- ==== Proof.Fox.Softmax.lean ====
/-
  Of finite arguments the gradients with the kernel's probabilities are those with the softmax's.
-/
module

public import proofs.«01_k».proof.Proof.Fox.Spec
public import proofs.«01_k».proof.Proof.Fox.Masked
public import Idealize.ShloMosaic.Lib.Pointwise

@[expose] public section

set_option maxRecDepth 16384

noncomputable section

namespace Cert.Fox

open Cert.Mem Idealize.ShloMosaic

variable (Q K V G : FVec Ideal ⟨2, ![8192, 512]⟩ .f32) (C : FVec Ideal ⟨2, ![8192, 4]⟩ .f32)

/-- A sum of products of real numbers is a real number. -/
theorem dot_real {n : Nat} (a b : Fin n → EReal) (ha : ∀ i, ∃ x : ℝ, a i = (x : EReal)) (hb : ∀ i, ∃ x : ℝ, b i = (x : EReal)) :
    ∃ x : ℝ, ∑ i, a i * b i = (x : EReal) := by
  choose x hx using ha
  choose y hy using hb
  refine ⟨∑ i, x i * y i, ?_⟩
  rw [← coe_sum]
  exact Finset.sum_congr rfl fun i _ => by rw [hx, hy, EReal.coe_mul]

variable (hQ : ∀ i, ∃ a : ℝ, Q i = (a : EReal)) (hK : ∀ i, ∃ a : ℝ, K i = (a : EReal)) (hC : ∀ i, ∃ a : ℝ, C i = (a : EReal))
include hQ hK hC

/-- Scores of finite arguments are real numbers. -/
theorem score_real (h : Fin 4) (r s : Fin 8192) : ∃ a : ℝ, score Q K C h r s = (a : EReal) := by
  obtain ⟨f, -, hf⟩ := factor_real
  obtain ⟨x, hx⟩ := dot_real (fun x : Fin 128 => Q (ix2 r (col h x))) (fun x => K (ix2 s (col h x))) (fun _ => hQ _) (fun _ => hK _)
  obtain ⟨y, hy⟩ := hC (ix2 r h)
  obtain ⟨z, hz⟩ := hC (ix2 s h)
  exact ⟨x * f + (y - z), by rw [score, hx, hf, hy, hz, EReal.coe_add, EReal.coe_mul, EReal.coe_sub]⟩

/-- A row's masked scores: real up to the query's own position, minus infinity after it. -/
theorem masked_partial (h : Fin 4) (r : Fin 8192) : Partial (masked Q K C h r) r where
  all s := by
    unfold masked
    split
    · exact Or.inr (score_real Q K C hQ hK hC h r s)
    · exact Or.inl rfl
  one := by
    rw [masked, if_pos (le_refl _)]
    exact score_real Q K C hQ hK hC h r r

/-- The kernel's probability is the softmax's. -/
theorem expProb_eq (h : Fin 4) (r s : Fin 8192) : expProb Q K C h r s = prob Q K C h r s := by
  have p := masked_partial Q K C hQ hK hC h r
  by_cases e : s.val ≤ r.val
  · have f : masked Q K C h r s = score Q K C h r s := by rw [masked, if_pos e]
    rw [expProb, if_pos e, logSum, ← f]
    refine p.exp_eq ?_
    rw [f]
    exact score_real Q K C hQ hK hC h r s
  · rw [expProb, if_neg e]
    exact (p.prob_bot (by rw [masked, if_neg e])).symm

/-- So is its gradient of the score. -/
theorem expBack_eq (h : Fin 4) (r s : Fin 8192) : expBack Q K V G C h r s = back Q K V G C h r s := by
  rw [expBack, expProb_eq Q K C hQ hK hC]
  simp only [expProb_eq Q K C hQ hK hC]
  rfl

/-- The decays' gradient: the sum over all queries of the negated gradients of the scores. -/
theorem expC_eq (hV : ∀ i, ∃ a : ℝ, V i = (a : EReal)) (hG : ∀ i, ∃ a : ℝ, G i = (a : EReal)) (h : Fin 4) (s : Fin 8192) :
    expC Q K V G C h s = (∑ r : Fin 8192, -back Q K V G C h r s) + ∑ l : Fin 8192, back Q K V G C h s l := by
  have hg : ∀ r, ∃ g : Fin 8192 → ℝ, probGrad V G h r = fun l => (g l : EReal) := fun r => by
    choose g e using fun l => dot_real (fun x : Fin 128 => G (ix2 r (col h x))) (fun x => V (ix2 l (col h x))) (fun _ => hG _) (fun _ => hV _)
    exact ⟨g, funext e⟩
  have hb : ∀ r, ∃ b : Fin 8192 → ℝ, (∀ l, back Q K V G C h r l = (b l : EReal)) ∧ ∑ l, b l = 0 := fun r => by
    obtain ⟨g, e⟩ := hg r
    obtain ⟨b, eb, e0⟩ := (masked_partial Q K C hQ hK hC h r).back_real g
    exact ⟨b, fun l => by rw [← eb, back, e], e0⟩
  choose b eb e0 using hb
  have hrow : ∑ l : Fin 8192, back Q K V G C h s l = 0 := by
    simp only [eb]
    rw [coe_sum, e0, EReal.coe_zero]
  rw [hrow, add_zero, expC]
  have hneg : ∀ r, -back Q K V G C h r s = ((-b r s : ℝ) : EReal) := fun r => by rw [eb, EReal.coe_neg]
  have hL : ∀ n : Fin 16, (0 - ∑ a : Fin 512, expBack Q K V G C h (tileRow n a) s) = ((∑ a : Fin 512, -b (tileRow n a) s : ℝ) : EReal) := fun n => by
    simp only [expBack_eq Q K V G C hQ hK hC, eb]
    rw [coe_sum, Finset.sum_neg_distrib, zero_sub, EReal.coe_neg]
  simp only [hL, hneg]
  rw [coe_sum, coe_sum]
  refine congrArg _ ?_
  exact (Idealize.ShloMosaic.Fin.sum_univ_tiles 16 512 rfl (fun r : Fin 8192 => -b r s)).symm

end Cert.Fox

end
-- ==== Proof.Fox.Finite.lean ====
/-
  The precondition of the forgetting attention read: every entry of every argument is a real number.
-/
module

public import proofs.«01_k».proof.Proof.Gen.Pre_all_finite
public import proofs.«01_k».proof.Proof.Finite

@[expose] public section

set_option maxRecDepth 16384

noncomputable section

namespace Cert.Pre_all_finite.Fox

open Cert.Pre_all_finite Cert.Pre_all_finite.Gen Idealize.ShloMosaic

variable (Q K V G : FVec Ideal S8192x512 .f32) (C : FVec Ideal S8192x4 .f32)

/-- The queries are real numbers. -/
theorem queries (h : (fn (F := Ideal) Q K V C G).1 = fun _ => 1#1) (i : S8192x512.Idx) : ∃ a : ℝ, Q i = (a : EReal) := by
  have hi : (fn (F := Ideal) Q K V C G).1 i = 1#1 := congrFun h i
  revert hi
  pointwise [fn]
  exact Finite.real_of_abs_lt (Q i)

/-- The keys are real numbers. -/
theorem keys (h : (fn (F := Ideal) Q K V C G).2.1 = fun _ => 1#1) (i : S8192x512.Idx) : ∃ a : ℝ, K i = (a : EReal) := by
  have hi : (fn (F := Ideal) Q K V C G).2.1 i = 1#1 := congrFun h i
  revert hi
  pointwise [fn]
  exact Finite.real_of_abs_lt (K i)

/-- The values are real numbers. -/
theorem values (h : (fn (F := Ideal) Q K V C G).2.2.1 = fun _ => 1#1) (i : S8192x512.Idx) : ∃ a : ℝ, V i = (a : EReal) := by
  have hi : (fn (F := Ideal) Q K V C G).2.2.1 i = 1#1 := congrFun h i
  revert hi
  pointwise [fn]
  exact Finite.real_of_abs_lt (V i)

/-- The decays are real numbers. -/
theorem decays (h : (fn (F := Ideal) Q K V C G).2.2.2.1 = fun _ => 1#1) (i : S8192x4.Idx) : ∃ a : ℝ, C i = (a : EReal) := by
  have hi : (fn (F := Ideal) Q K V C G).2.2.2.1 i = 1#1 := congrFun h i
  revert hi
  pointwise [fn]
  exact Finite.real_of_abs_lt (C i)

/-- The gradient of the output is real numbers. -/
theorem output (h : (fn (F := Ideal) Q K V C G).2.2.2.2 = fun _ => 1#1) (i : S8192x512.Idx) : ∃ a : ℝ, G i = (a : EReal) := by
  have hi : (fn (F := Ideal) Q K V C G).2.2.2.2 i = 1#1 := congrFun h i
  revert hi
  pointwise [fn]
  exact Finite.real_of_abs_lt (G i)

end Cert.Pre_all_finite.Fox

end
-- ==== Proof.Fox.Equation.lean ====
/-
  The claim on the forgetting attention: of finite arguments the kernel and the reference leave the same gradients.
-/
module

public import proofs.«01_k».proof.Proof.Gen.RefFoxIdeal.Run
public import proofs.«01_k».proof.Proof.Gen.RefFoxIdeal.Read
public import proofs.«01_k».proof.Defs
public import proofs.«01_k».proof.Proof.Fox.Same
public import proofs.«01_k».proof.Proof.Fox.Array
public import proofs.«01_k».proof.Proof.Fox.Reference
public import proofs.«01_k».proof.Proof.Fox.Softmax
public import proofs.«01_k».proof.Proof.Fox.Finite
public import Idealize.ShloMosaic.Lib.Claim

@[expose] public section

set_option maxRecDepth 16384

noncomputable section

namespace Cert.FoxIdeal.Run

open Cert.FoxIdeal Cert.FoxIdeal.Gen Idealize.ShloMosaic Idealize.ShloMosaic.TcCoe Idealize.SL.Sem

/-- The kernel runs, leaves the launch's four output arrays in the results, and its arguments as they were. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v37_0) = (dats m 0 c).arrAt 7 (cfgs 0).N
      ∧ r.2.mem ((c : Thread nD τ).loc main_v37_1) = (dats m 0 c).arrAt 8 (cfgs 0).N
      ∧ r.2.mem ((c : Thread nD τ).loc main_v37_2) = (dats m 0 c).arrAt 9 (cfgs 0).N
      ∧ r.2.mem ((c : Thread nD τ).loc main_v37_3) = (dats m 0 c).arrAt 10 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 7, (h.1 c).1 8, (h.1 c).1 9, (h.1 c).1 10, h.2.1 c⟩)
    (Idealize.ShloMosaic.θ_run_and (run_main m ρ) (frame m ρ))

end Cert.FoxIdeal.Run

namespace Cert.Fox

open Cert.Mem Idealize.ShloMosaic Idealize.ShloMosaic.TcCoe Idealize.SL.Sem

section arrays

variable (Q K V G : FVec Ideal ⟨2, ![8192, 512]⟩ .f32) (C : FVec Ideal ⟨2, ![8192, 4]⟩ .f32)
variable (hQ : ∀ i, ∃ a : ℝ, Q i = (a : EReal)) (hK : ∀ i, ∃ a : ℝ, K i = (a : EReal)) (hC : ∀ i, ∃ a : ℝ, C i = (a : EReal))
include hQ hK hC

/-- The reference's gradient of the score is the kernel's. -/
theorem ds_eq (h : Fin 4) (r s : Fin 8192) : Cert.RefFoxIdeal.Fox.ds Q K V G C h r s = expBack Q K V G C h r s := by
  have p := masked_partial Q K C hQ hK hC h r
  rw [expBack_eq Q K V G C hQ hK hC, Cert.RefFoxIdeal.Fox.ds]
  by_cases e : s.val ≤ r.val
  · rw [if_pos e, p.back_eq]
  · rw [if_neg e]
    exact (p.back_bot _ (by rw [masked, if_neg e])).symm

/-- The reference's gradient of the queries is the kernel's. -/
theorem queries_eq : Cert.RefFoxIdeal.Read.val_main_v89 (F := Ideal) Q K V C G = arrQ Q K V G C := by
  funext i
  obtain ⟨r, l, rfl⟩ : ∃ (r : Fin 8192) (l : Fin 512), i = ix2 r l := ⟨i 0, i 1, eq_ix2 i⟩
  refine (Cert.RefFoxIdeal.Fox.queries_apply Q K V G C (ix2 r l)).trans ?_
  show ∑ s : Fin 8192, Cert.RefFoxIdeal.Fox.ds Q K V G C (headOf l) r s * factor * K (ix2 s l)
    = ∑ s : Fin 8192, expBack Q K V G C (headOf l) r s * K (ix2 s (col (headOf l) (laneOf l))) * factor
  refine Finset.sum_congr rfl fun s _ => ?_
  rw [ds_eq Q K V G C hQ hK hC, col_headOf]
  exact mul_right_comm _ _ _

/-- The reference's gradient of the keys is the kernel's. -/
theorem keys_eq : Cert.RefFoxIdeal.Read.val_main_v88 (F := Ideal) Q K V C G = arrK Q K V G C := by
  funext i
  obtain ⟨s, l, rfl⟩ : ∃ (s : Fin 8192) (l : Fin 512), i = ix2 s l := ⟨i 0, i 1, eq_ix2 i⟩
  refine (Cert.RefFoxIdeal.Fox.keys_apply Q K V G C (ix2 s l)).trans ?_
  show ∑ r : Fin 8192, Cert.RefFoxIdeal.Fox.ds Q K V G C (headOf l) r s * factor * Q (ix2 r l)
    = ∑ r : Fin 8192, expBack Q K V G C (headOf l) r s * Q (ix2 r (col (headOf l) (laneOf l))) * factor
  refine Finset.sum_congr rfl fun r _ => ?_
  rw [ds_eq Q K V G C hQ hK hC, col_headOf]
  exact mul_right_comm _ _ _

/-- The reference's gradient of the values is the kernel's. -/
theorem values_eq : Cert.RefFoxIdeal.Read.val_main_v87 (F := Ideal) Q K C G = arrV Q K G C := by
  funext i
  obtain ⟨s, l, rfl⟩ : ∃ (s : Fin 8192) (l : Fin 512), i = ix2 s l := ⟨i 0, i 1, eq_ix2 i⟩
  refine (Cert.RefFoxIdeal.Fox.values_apply Q K G C (ix2 s l)).trans ?_
  show ∑ r : Fin 8192, G (ix2 r l) * prob Q K C (headOf l) r s
    = ∑ r : Fin 8192, expProb Q K C (headOf l) r s * G (ix2 r (col (headOf l) (laneOf l)))
  refine Finset.sum_congr rfl fun r _ => ?_
  rw [expProb_eq Q K C hQ hK hC, col_headOf]
  exact mul_comm _ _

/-- The reference's gradient of the decays is the kernel's. -/
theorem decays_eq (hV : ∀ i, ∃ a : ℝ, V i = (a : EReal)) (hG : ∀ i, ∃ a : ℝ, G i = (a : EReal)) :
    Cert.RefFoxIdeal.Read.val_main_v91 (F := Ideal) Q K V C G = arrC Q K V G C := by
  funext i
  obtain ⟨h, z, s, rfl⟩ : ∃ (h : Fin 4) (z : Fin 1) (s : Fin 8192), i = ix3 h z s := ⟨i 0, i 1, i 2, eq_ix3 i⟩
  have e : ∀ h r s, Cert.RefFoxIdeal.Fox.ds Q K V G C h r s = back Q K V G C h r s := fun h r s =>
    (ds_eq Q K V G C hQ hK hC h r s).trans (expBack_eq Q K V G C hQ hK hC h r s)
  refine (Cert.RefFoxIdeal.Fox.decays_apply Q K V G C (ix3 h z s)).trans ?_
  show (∑ r : Fin 8192, -Cert.RefFoxIdeal.Fox.ds Q K V G C h r s) + ∑ l : Fin 8192, Cert.RefFoxIdeal.Fox.ds Q K V G C h s l
    = expC Q K V G C h s
  rw [expC_eq Q K V G C hQ hK hC hV hG]
  simp only [e]

end arrays

set_option maxRecDepth 65536 in
set_option maxHeartbeats 1600000 in
/-- The kernel's program runs, leaves its arguments as they were and no semaphore raised. -/
theorem frame_kernel : Cert.quiescent_Fox (hFox := Cert.Fox.Gen.facts) := fun m ρ _ => by
  have e := Cert.FoxIdeal.Run.frame (F := Bits) m ρ
  rw [← Same.defs, ← Same.main] at e
  exact e

/-- So does the program over the extended reals. -/
theorem frame_ideal : Cert.quiescent_FoxIdeal (hFoxIdeal := Cert.FoxIdeal.Gen.facts) := fun m ρ _ => Cert.FoxIdeal.Run.frame m ρ

/-- The reference runs and leaves its arguments as they were. -/
theorem frame_reference : Cert.quiescent_RefFoxIdeal (hRefFoxIdeal := Cert.RefFoxIdeal.Gen.facts) :=
  fun m ρ _ => (θ_run Cert.RefFoxIdeal.defs _ _).mono
    (fun r h => ⟨fun c => (h c).2.2.2.2, Idealize.ShloMosaic.sem_eq_zero_of_no_sems (by decide) r.2⟩)
    (Cert.RefFoxIdeal.Value.run m ρ)

set_option maxHeartbeats 3200000 in
/-- Of finite arguments the kernel and the reference leave the same gradients of the queries, the keys, the values and the
    decays. -/
theorem value : Cert.algebraic_FoxIdeal_RefFoxIdeal_pre_all_finite (hFoxIdeal := Cert.FoxIdeal.Gen.facts)
    (hRefFoxIdeal := Cert.RefFoxIdeal.Gen.facts) (hPre_all_finite := Cert.Pre_all_finite.Gen.facts) := by
  pair_intro
  · run_from Cert.FoxIdeal.Run.run_blocks m g
  · refine θ_run_mono (Cert.RefFoxIdeal.Value.run m' g') fun r h c => ?_
    obtain ⟨hq, hk, hv, hc, h0, h1, h2, h3, h4⟩ := h c
    obtain ⟨a0, a1, a2, a3, a4⟩ := hagree c
    obtain ⟨p0, p1, p2, p3, p4⟩ := hpre c
    have q0 := Cert.Pre_all_finite.Fox.queries _ _ _ _ _ p0
    have q1 := Cert.Pre_all_finite.Fox.keys _ _ _ _ _ p1
    have q2 := Cert.Pre_all_finite.Fox.values _ _ _ _ _ p2
    have q3 := Cert.Pre_all_finite.Fox.decays _ _ _ _ _ p3
    have q4 := Cert.Pre_all_finite.Fox.output _ _ _ _ _ p4
    refine ⟨hq.trans ?_, hk.trans ?_, hv.trans ?_, hc.trans ?_, h0, h1, h2, h3, h4⟩
    · refine (Cert.RefFoxIdeal.Read.val_main_v89_eq m' c).trans ?_
      rw [a0, a1, a2, a3, a4]
      exact (queries_eq _ _ _ _ _ q0 q1 q3).trans (Cert.FoxIdeal.Array.final_q m c).symm
    · refine (Cert.RefFoxIdeal.Read.val_main_v88_eq m' c).trans ?_
      rw [a0, a1, a2, a3, a4]
      exact (keys_eq _ _ _ _ _ q0 q1 q3).trans (Cert.FoxIdeal.Array.final_keys m c).symm
    · refine (Cert.RefFoxIdeal.Read.val_main_v87_eq m' c).trans ?_
      rw [a0, a1, a3, a4]
      exact (values_eq _ _ _ _ q0 q1 q3).trans (Cert.FoxIdeal.Array.final_values m c).symm
    · refine (Cert.RefFoxIdeal.Read.val_main_v91_eq m' c).trans ?_
      rw [a0, a1, a2, a3, a4]
      exact (decays_eq _ _ _ _ _ q0 q1 q3 q2 q4).trans (Cert.FoxIdeal.Array.final_decays m c).symm

end Cert.Fox

end
-- ==== Proof.FoxForward.Pay.lean ====
/-
  What the operations of one span of keys compute in the forgetting attention, entry by entry over the extended reals: the
  scores, the largest score so far, the rescaled sum of exponentials and the rescaled sum of values, and the two results.
-/
module

public import proofs.«01_k».proof.Proof.Gen.FoxForwardIdeal.Skeleton
public import proofs.«01_k».proof.Proof.Fox.Pay
public import Idealize.ShloMosaic.Lib.Pipeline.ValueKit
public import Idealize.ShloMosaic.Lib.Pointwise

@[expose] public section

set_option maxRecDepth 16384

noncomputable section

namespace Cert.FoxForwardIdeal.Pay

open Cert.FoxForwardIdeal Cert.FoxForwardIdeal.Gen Cert.Mem Idealize.ShloMosaic Idealize.ShloMosaic.TcCoe Idealize.SL.Sem

/-- The word of minus infinity. -/
theorem negInf : Ideal.ofBits .f32 0xFF800000#32 = (⊥ : EReal) := by
  simp [Ideal.ofBits, Ideal.ieee]

/-- The score of a query row and one key. -/
def score (q : S512x128.Idx → EReal) (C : S1x512x1.Idx → EReal) (k : Fin 128 → EReal) (cr : EReal) (a : Fin 512) : EReal :=
  (∑ x : Fin 128, q (ix2 a x) * k x) * factor + (C (ix3 0 a 0) - cr)

/-- The largest entry of each row. -/
theorem max_apply (y : FVec Ideal S512x1024 .f32) (a : Fin 512) :
    multiReduction .maximumf [1] S512 y 0xFF800000#32 reduces_S512x1024_S512 (.inl rfl) rfl (ix1 a) = top fun j : Fin 1024 => y (ix2 a j) := by
  pointwise
  rw [negInf, top]

theorem pay8_eq (v : Vec Ideal S512x128 .bf16) : k0_pay8 (F := Ideal) v = v := by
  funext j; pointwise [k0_pay8]

theorem pay9_apply (v : Vec Ideal S1x512x1 .f32) (a : Fin 512) : k0_pay9 (F := Ideal) v (ix2 a 0) = v (ix3 0 a 0) := by
  pointwise [k0_pay9]

section Trip

variable (v2 : Vec Ideal S512x128 .bf16) (v4 : Vec Ideal S1x512x1 .f32) (m l : FVec Ideal S512x1 .f32) (acc : FVec Ideal S512x128 .f32)
  (v72 : Vec Ideal S1024x128 .bf16) (v78 : Vec Ideal S1x1x1024 .f32) (v100 : Vec Ideal S1024x128 .bf16) (a : Fin 512) (j : Fin 1024) (d : Fin 128)

theorem pay13_apply : k0_pay13 (F := Ideal) v2 v4 v72 v78 (ix2 a j) = score v2 v4 (fun x => v72 (ix2 j x)) (v78 (ix3 0 0 j)) a := by
  pointwise [k0_pay13, pay8_eq, k0_pay9]
  rfl

theorem pay14_apply : k0_pay14 (F := Ideal) v2 v4 m v72 v78 (ix2 a 0)
    = max (m (ix2 a 0)) (top fun j : Fin 1024 => score v2 v4 (fun x => v72 (ix2 j x)) (v78 (ix3 0 0 j)) a) := by
  pointwise [k0_pay14]
  simp only [pay13_apply, negInf]
  rfl

theorem pay15_apply : k0_pay15 (F := Ideal) v2 v4 m v72 v78 (ix2 a j)
    = Ideal.exp (score v2 v4 (fun x => v72 (ix2 j x)) (v78 (ix3 0 0 j)) a - k0_pay14 (F := Ideal) v2 v4 m v72 v78 (ix2 a 0)) := by
  pointwise [k0_pay15]
  rw [pay13_apply]

theorem pay16_apply : k0_pay16 (F := Ideal) v2 v4 m v72 v78 (ix2 a 0)
    = Ideal.exp (m (ix2 a 0) - k0_pay14 (F := Ideal) v2 v4 m v72 v78 (ix2 a 0)) := by
  pointwise [k0_pay16]

theorem pay17_apply : k0_pay17 (F := Ideal) v2 v4 m l v72 v78 (ix2 a 0)
    = Ideal.exp (m (ix2 a 0) - k0_pay14 (F := Ideal) v2 v4 m v72 v78 (ix2 a 0)) * l (ix2 a 0)
      + ∑ j : Fin 1024, Ideal.exp (score v2 v4 (fun x => v72 (ix2 j x)) (v78 (ix3 0 0 j)) a - k0_pay14 (F := Ideal) v2 v4 m v72 v78 (ix2 a 0)) := by
  pointwise [k0_pay17]
  simp only [pay15_apply, pay16_apply]

theorem pay18_apply : k0_pay18 (F := Ideal) v2 v4 m acc v72 v78 v100 (ix2 a d)
    = Ideal.exp (m (ix2 a 0) - k0_pay14 (F := Ideal) v2 v4 m v72 v78 (ix2 a 0)) * acc (ix2 a d)
      + ∑ j : Fin 1024, Ideal.exp (score v2 v4 (fun x => v72 (ix2 j x)) (v78 (ix3 0 0 j)) a - k0_pay14 (F := Ideal) v2 v4 m v72 v78 (ix2 a 0)) * v100 (ix2 j d) := by
  pointwise [k0_pay18]
  simp only [pay15_apply, pay16_apply]

theorem pay25_apply : k0_pay25 (F := Ideal) v2 v4 v72 v78 (ix2 a j) = score v2 v4 (fun x => v72 (ix2 j x)) (v78 (ix3 0 0 j)) a := by
  pointwise [k0_pay25, pay8_eq, k0_pay9]
  rfl

end Trip

/-- The number of the span that holds tile `n`, times 1024, in 32-bit words. -/
theorem spanWord : ∀ n : Fin 16, Scalar.muli (Scalar.divsi (Scalar.muli (BitVec.ofNat 32 n.val) 512#32) 1024#32) 1024#32 = BitVec.ofNat 32 (1024 * (n.val / 2)) := by
  decide +kernel

/-- Word sums of small numbers. -/
theorem addWord (x y : ℕ) : IntOp.addi (BitVec.ofNat 32 x) (BitVec.ofNat 32 y) = BitVec.ofNat 32 (x + y) := (BitVec.ofNat_add x y).symm

/-- The causal test in the last span. -/
theorem seen (n : Fin 16) (a : Fin 512) (j : Fin 1024) (x : EReal) :
    Scalar.select (IntOp.cmpi .sle (IntOp.addi (Scalar.muli (Scalar.divsi (Scalar.muli (BitVec.ofNat 32 n.val) 512#32) 1024#32) 1024#32) (BitVec.ofNat 32 j.val))
      (IntOp.addi (Scalar.muli (BitVec.ofNat 32 n.val) 512#32) (BitVec.ofNat 32 a.val))) x ⊥
      = if 1024 * (n.val / 2) + j.val ≤ 512 * n.val + a.val then x else ⊥ := by
  have hn := n.isLt
  have ha := a.isLt
  have hj := j.isLt
  have h := Cert.FoxIdeal.Pay.wordLe (1024 * (n.val / 2) + j.val) (512 * n.val + a.val) (by omega) (by omega)
  rw [Cert.FoxIdeal.Pay.rowWord, spanWord, addWord]
  by_cases e : 1024 * (n.val / 2) + j.val ≤ 512 * n.val + a.val
  · rw [if_pos e, show IntOp.cmpi .sle _ _ = 1#1 from h.2 e]
    rfl
  · rw [if_neg e]
    exact if_neg fun f => e (h.1 f)

section Last

variable (i : grid0.Coords) (m l : FVec Ideal S512x1 .f32) (acc : FVec Ideal S512x128 .f32) (S : FVec Ideal S512x1024 .f32)
  (v57 : Vec Ideal S1024x128 .bf16) (a : Fin 512) (j : Fin 1024) (d : Fin 128)

/-- The last span's scores, masked. -/
abbrev lastScore : FVec Ideal S512x1024 .f32 := k0_pay1 (F := Ideal) S (k0_pay26 i) (iota .tc S512x1024 32 [1] iota_S512x1024_d1_w32) (k0_pay27 i)
/-- The largest score after the last span. -/
abbrev lastTop : FVec Ideal S512x1 .f32 := k0_pay2 (F := Ideal) m S (k0_pay26 i) (iota .tc S512x1024 32 [1] iota_S512x1024_d1_w32) (k0_pay27 i)
/-- The sum of exponentials after the last span. -/
abbrev lastSum : FVec Ideal S512x1 .f32 := k0_pay5 (F := Ideal) m l S (k0_pay26 i) (iota .tc S512x1024 32 [1] iota_S512x1024_d1_w32) (k0_pay27 i)

theorem lastScore_apply : lastScore i S (ix2 a j) = if 1024 * ((i 1).val / 2) + j.val ≤ 512 * (i 1).val + a.val then S (ix2 a j) else ⊥ := by
  unfold lastScore
  pointwise [k0_pay1, k0_pay26, k0_pay27]
  rw [negInf]
  exact seen (i 1) a j _

theorem lastTop_apply : lastTop i m S (ix2 a 0) = max (m (ix2 a 0)) (top fun j : Fin 1024 => lastScore i S (ix2 a j)) := by
  unfold lastTop
  pointwise [k0_pay2]
  simp only [negInf]
  rfl

theorem lastSum_apply : lastSum i m l S (ix2 a 0)
    = Ideal.exp (m (ix2 a 0) - lastTop i m S (ix2 a 0)) * l (ix2 a 0)
      + ∑ j : Fin 1024, Ideal.exp (lastScore i S (ix2 a j) - lastTop i m S (ix2 a 0)) := by
  unfold lastSum
  pointwise [k0_pay5, k0_pay4, k0_pay3]

theorem pay6_apply : k0_pay6 (F := Ideal) m l acc S (k0_pay26 i) (iota .tc S512x1024 32 [1] iota_S512x1024_d1_w32) (k0_pay27 i) v57 (ix2 a d)
    = Ideal.div (Ideal.exp (m (ix2 a 0) - lastTop i m S (ix2 a 0)) * acc (ix2 a d)
      + ∑ j : Fin 1024, Ideal.exp (lastScore i S (ix2 a j) - lastTop i m S (ix2 a 0)) * v57 (ix2 j d)) (lastSum i m l S (ix2 a 0)) := by
  pointwise [k0_pay6, k0_pay4, k0_pay3]

theorem pay7_apply : k0_pay7 (F := Ideal) m l S (k0_pay26 i) (iota .tc S512x1024 32 [1] iota_S512x1024_d1_w32) (k0_pay27 i) (ix3 0 a 0)
    = lastTop i m S (ix2 a 0) + Ideal.log (lastSum i m l S (ix2 a 0)) := by
  pointwise [k0_pay7]

end Last

end Cert.FoxForwardIdeal.Pay

end
-- ==== Proof.FoxForward.Run.lean ====
/-
  The pieces a grid point writes, as the payloads of what it loads and of the loop's final state, and what one trip of the loop
  over full spans of keys yields.
-/
module

public import proofs.«01_k».proof.Proof.FoxForward.Pay
public import proofs.«01_k».proof.Proof.Gen.FoxForwardIdeal.Frame

@[expose] public section

set_option maxRecDepth 16384

noncomputable section

namespace Cert.FoxForwardIdeal.Run

open Cert.FoxForwardIdeal Cert.FoxForwardIdeal.Gen Cert.FoxForwardIdeal.Pay Cert.Mem Idealize.ShloMosaic Idealize.ShloMosaic.TcCoe Idealize.SL.Sem

section Trip

variable {F : FTy → Type} [FloatOps F]
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S512x128 .f32) (harg7 : arg7.IsWhole) (arg8 : Memref sig .tc .vmem S1x512x1 .f32) (harg8 : arg8.IsWhole)

/-- A trip of the loop yields the new largest score, sum of exponentials and sum of values. -/
theorem trip_yield (v2 : Vec F S512x128 .bf16) (v4 : Vec F S1x512x1 .f32)
    (X3 : BufTy.Contents (Elt F) arg3.view.ty) (X4 : BufTy.Contents (Elt F) arg4.view.ty) (X6 : BufTy.Contents (Elt F) arg6.view.ty) (k : Fin (k0_t1_loop i).trips)
    (acc : FVec F S512x1 .f32 × FVec F S512x1 .f32 × FVec F S512x128 .f32) :
    (trip_k0_t1 (F := F) Variants.none c none i arg2 harg2 arg3 harg3 arg4 harg4 arg5 harg5 arg6 harg6 arg7 harg7 arg8 harg8 v2 v4 X3 X4 X6 k).1 acc
      = (k0_pay14 v2 v4 acc.1 (arg3.view.readAt (Elt F) (Rect.unit (s := S8192x128) (k0_off1 i k) S1024x128.size (k0_off1_inb i k)).toLoadRect X3)
            (arg6.view.readAt (Elt F) (Rect.unit (s := S1x1x8192) (k0_off2 i k) S1x1x1024.size (k0_off2_inb i k)).toLoadRect X6),
         k0_pay17 v2 v4 acc.1 acc.2.1 (arg3.view.readAt (Elt F) (Rect.unit (s := S8192x128) (k0_off1 i k) S1024x128.size (k0_off1_inb i k)).toLoadRect X3)
            (arg6.view.readAt (Elt F) (Rect.unit (s := S1x1x8192) (k0_off2 i k) S1x1x1024.size (k0_off2_inb i k)).toLoadRect X6),
         k0_pay18 v2 v4 acc.1 acc.2.2 (arg3.view.readAt (Elt F) (Rect.unit (s := S8192x128) (k0_off1 i k) S1024x128.size (k0_off1_inb i k)).toLoadRect X3)
            (arg6.view.readAt (Elt F) (Rect.unit (s := S1x1x8192) (k0_off2 i k) S1x1x1024.size (k0_off2_inb i k)).toLoadRect X6)
            (arg4.view.readAt (Elt F) (Rect.unit (s := S8192x128) (k0_off1 i k) S1024x128.size (k0_off1_inb i k)).toLoadRect X4)) := by
  unfold trip_k0_t1; rfl

variable (x0 : Vec F S512x128 .bf16) (x1 x2 : Vec F S8192x128 .bf16) (x3 : Vec F S1x512x1 .f32) (x4 : Vec F S1x1x8192 .f32)

/-- The state after the loop over full spans. -/
abbrev spans : FVec F S512x1 .f32 × FVec F S512x1 .f32 × FVec F S512x128 .f32 :=
  st_k0_t1 (F := F) Variants.none c none i arg2 harg2 arg3 harg3 arg4 harg4 arg5 harg5 arg6 harg6 arg7 harg7 arg8 harg8 (arg2.view.readAt (Elt F) (Rect.unit (s := S512x128) ![0, 0] S512x128.size inb_S512x128_S512x128_0_0).toLoadRect (harg2.unread x0)) (arg5.view.readAt (Elt F) (Rect.unit (s := S1x512x1) ![0, 0, 0] S1x512x1.size inb_S1x512x1_S1x512x1_0_0_0).toLoadRect (harg5.unread x3)) (harg3.unread x1) (harg4.unread x2) (harg6.unread x4) (k0_pay10, k0_pay11, k0_pay12) (k0_t1_loop i).trips

/-- The state after the second loop, which makes no trip. -/
abbrev rest : FVec F S512x1 .f32 × FVec F S512x1 .f32 × FVec F S512x128 .f32 :=
  st_k0_t2 (F := F) Variants.none c none i arg2 harg2 arg3 harg3 arg4 harg4 arg5 harg5 arg6 harg6 arg7 harg7 arg8 harg8 (arg2.view.readAt (Elt F) (Rect.unit (s := S512x128) ![0, 0] S512x128.size inb_S512x128_S512x128_0_0).toLoadRect (harg2.unread x0)) (arg5.view.readAt (Elt F) (Rect.unit (s := S1x512x1) ![0, 0, 0] S1x512x1.size inb_S1x512x1_S1x512x1_0_0_0).toLoadRect (harg5.unread x3)) (harg3.unread x1) (harg4.unread x2) (harg6.unread x4) (spans c i arg2 harg2 arg3 harg3 arg4 harg4 arg5 harg5 arg6 harg6 arg7 harg7 arg8 harg8 x0 x1 x2 x3 x4) (k0_t2_loop i).trips

theorem rest_eq : rest c i arg2 harg2 arg3 harg3 arg4 harg4 arg5 harg5 arg6 harg6 arg7 harg7 arg8 harg8 x0 x1 x2 x3 x4 = spans c i arg2 harg2 arg3 harg3 arg4 harg4 arg5 harg5 arg6 harg6 arg7 harg7 arg8 harg8 x0 x1 x2 x3 x4 := by
  unfold rest
  have h : (k0_t2_loop i).trips = 0 := Nat.le_zero.1 (k0_t2_abs i).2.1
  rw [h]
  exact st_k0_t2_zero ..

/-- The last span's keys, decays and values, and its scores. -/
abbrev lastKeys : Vec F S1024x128 .bf16 := arg3.view.readAt (Elt F) (Rect.unit (s := S8192x128) (k0_off5 i) S1024x128.size (k0_off5_inb i)).toLoadRect (harg3.unread x1)
abbrev lastDecays : Vec F S1x1x1024 .f32 := arg6.view.readAt (Elt F) (Rect.unit (s := S1x1x8192) (k0_off6 i) S1x1x1024.size (k0_off6_inb i)).toLoadRect (harg6.unread x4)
abbrev lastValues : Vec F S1024x128 .bf16 := arg4.view.readAt (Elt F) (Rect.unit (s := S8192x128) (k0_off5 i) S1024x128.size (k0_off5_inb i)).toLoadRect (harg4.unread x2)
abbrev lastRaw : FVec F S512x1024 .f32 := k0_pay25 (arg2.view.readAt (Elt F) (Rect.unit (s := S512x128) ![0, 0] S512x128.size inb_S512x128_S512x128_0_0).toLoadRect (harg2.unread x0)) (arg5.view.readAt (Elt F) (Rect.unit (s := S1x512x1) ![0, 0, 0] S1x512x1.size inb_S1x512x1_S1x512x1_0_0_0).toLoadRect (harg5.unread x3)) (lastKeys i arg3 harg3 x1) (lastDecays i arg6 harg6 x4)

/-- The rows of the output. -/
theorem pieces_out : (kernelRun0_A (F := F) c i arg2 harg2 arg3 harg3 arg4 harg4 arg5 harg5 arg6 harg6 arg7 harg7 arg8 harg8 x0 x1 x2 x3 x4).1
    = [⟨Rect.unit (s := S512x128) ![0, 0] S512x128.size inb_S512x128_S512x128_0_0,
        k0_pay6 (spans c i arg2 harg2 arg3 harg3 arg4 harg4 arg5 harg5 arg6 harg6 arg7 harg7 arg8 harg8 x0 x1 x2 x3 x4).1 (spans c i arg2 harg2 arg3 harg3 arg4 harg4 arg5 harg5 arg6 harg6 arg7 harg7 arg8 harg8 x0 x1 x2 x3 x4).2.1 (spans c i arg2 harg2 arg3 harg3 arg4 harg4 arg5 harg5 arg6 harg6 arg7 harg7 arg8 harg8 x0 x1 x2 x3 x4).2.2
          (lastRaw i arg2 harg2 arg3 harg3 arg5 harg5 arg6 harg6 x0 x1 x3 x4) (k0_pay26 i) (iota .tc S512x1024 32 [1] iota_S512x1024_d1_w32) (k0_pay27 i) (lastValues i arg4 harg4 x2)⟩] := by
  rw [← rest_eq]
  unfold kernelRun0_A
  rfl

/-- The rows of the log sums. -/
theorem pieces_sum : (kernelRun0_A (F := F) c i arg2 harg2 arg3 harg3 arg4 harg4 arg5 harg5 arg6 harg6 arg7 harg7 arg8 harg8 x0 x1 x2 x3 x4).2.1
    = [⟨Rect.unit (s := S1x512x1) ![0, 0, 0] S1x512x1.size inb_S1x512x1_S1x512x1_0_0_0,
        k0_pay7 (spans c i arg2 harg2 arg3 harg3 arg4 harg4 arg5 harg5 arg6 harg6 arg7 harg7 arg8 harg8 x0 x1 x2 x3 x4).1 (spans c i arg2 harg2 arg3 harg3 arg4 harg4 arg5 harg5 arg6 harg6 arg7 harg7 arg8 harg8 x0 x1 x2 x3 x4).2.1
          (lastRaw i arg2 harg2 arg3 harg3 arg5 harg5 arg6 harg6 x0 x1 x3 x4) (k0_pay26 i) (iota .tc S512x1024 32 [1] iota_S512x1024_d1_w32) (k0_pay27 i)⟩] := by
  rw [← rest_eq]
  unfold kernelRun0_A
  rfl

end Trip

end Cert.FoxForwardIdeal.Run

end
-- ==== Proof.FoxForward.Online.lean ====
/-
  A row's softmax taken a span of keys at a time: the largest score so far, the sum of the exponentials of the scores less it,
  and the same sum of exponentials times values, each rescaled when a span brings a larger score.
-/
module

public import proofs.«01_k».proof.Proof.Fox.Masked

@[expose] public section

noncomputable section

namespace Cert.Mem

open Idealize.ShloMosaic

/-- The factor that carries an exponential from one subtrahend to a larger one. -/
theorem exp_rescale (x m m' : EReal) (hx : x = ⊥ ∨ ∃ a : ℝ, x = (a : EReal)) (hm' : m' = ⊥ ∨ ∃ a : ℝ, m' = (a : EReal))
    (h : x ≤ m) (h' : m ≤ m') : Ideal.exp (m - m') * Ideal.exp (x - m) = Ideal.exp (x - m') := by
  rcases hx with rfl | ⟨a, rfl⟩
  · rw [EReal.bot_sub, EReal.bot_sub, Ideal.exp_bot, mul_zero]
  · rcases hm' with rfl | ⟨b, rfl⟩
    · exact absurd (le_bot_iff.1 (h.trans h')) (EReal.coe_ne_bot a)
    · induction m with
      | bot => exact absurd (le_bot_iff.1 h) (EReal.coe_ne_bot a)
      | top => exact absurd (top_le_iff.1 h') (EReal.coe_ne_top b)
      | coe y =>
        rw [← EReal.coe_sub, ← EReal.coe_sub, ← EReal.coe_sub, Ideal.exp_coe, Ideal.exp_coe, Ideal.exp_coe, ← EReal.coe_mul,
          ← Real.exp_add]
        exact congrArg (fun z : ℝ => ((Real.exp z : ℝ) : EReal)) (by ring)

/-- The factor is a real number that is not negative. -/
theorem exp_sub_real (m m' : EReal) (hm' : m' = ⊥ ∨ ∃ a : ℝ, m' = (a : EReal)) (h' : m ≤ m') :
    ∃ e : ℝ, 0 ≤ e ∧ Ideal.exp (m - m') = (e : EReal) := by
  induction m with
  | bot => exact ⟨0, le_refl _, by rw [EReal.bot_sub, Ideal.exp_bot, EReal.coe_zero]⟩
  | top =>
    rcases hm' with rfl | ⟨b, rfl⟩
    · exact absurd (le_bot_iff.1 h') (by simp)
    · exact absurd (top_le_iff.1 h') (EReal.coe_ne_top b)
  | coe y =>
    rcases hm' with rfl | ⟨b, rfl⟩
    · exact absurd (le_bot_iff.1 h') (EReal.coe_ne_bot y)
    · exact ⟨Real.exp (y - b), (Real.exp_pos _).le, by rw [← EReal.coe_sub, Ideal.exp_coe]⟩

variable {n : ℕ}

/-- The largest of the scores in `T`. -/
def supOf (s : Fin n → EReal) (T : Finset (Fin n)) : EReal := T.sup s

/-- The sum over `T` of the exponentials of the scores less the largest in `T`, each times `v`. -/
def sumOf (s v : Fin n → EReal) (T : Finset (Fin n)) : EReal := ∑ j ∈ T, Ideal.exp (s j - supOf s T) * v j

/-- The largest of scores that are minus infinity or real is minus infinity or real. -/
theorem supOf_real (s : Fin n → EReal) (hs : ∀ j, s j = ⊥ ∨ ∃ a : ℝ, s j = (a : EReal)) (T : Finset (Fin n)) :
    supOf s T = ⊥ ∨ ∃ a : ℝ, supOf s T = (a : EReal) := by
  unfold supOf
  rcases T.eq_empty_or_nonempty with rfl | hT
  · exact Or.inl Finset.sup_empty
  · obtain ⟨j, -, e⟩ := Finset.exists_mem_eq_sup T hT s
    rw [e]
    exact hs j

variable {w : ℕ}

/-- The keys in `T` and the keys of a span. -/
def grow (T : Finset (Fin n)) (f : Fin w ↪ Fin n) : Finset (Fin n) := T ∪ Finset.univ.map f

/-- The largest score after a span. -/
theorem supOf_grow (s : Fin n → EReal) (T : Finset (Fin n)) (f : Fin w ↪ Fin n) :
    supOf s (grow T f) = max (supOf s T) (top fun j => s (f j)) := by
  unfold supOf grow
  rw [Finset.sup_union, Finset.sup_map]
  rfl

/-- The sum after a span: the sum before, rescaled, and the span's own terms. -/
theorem sumOf_grow (s v : Fin n → EReal) (hs : ∀ j, s j = ⊥ ∨ ∃ a : ℝ, s j = (a : EReal)) (T : Finset (Fin n)) (f : Fin w ↪ Fin n)
    (hd : ∀ j, f j ∉ T) :
    sumOf s v (grow T f) = Ideal.exp (supOf s T - supOf s (grow T f)) * sumOf s v T
      + ∑ j, Ideal.exp (s (f j) - supOf s (grow T f)) * v (f j) := by
  have hle : supOf s T ≤ supOf s (grow T f) := by rw [supOf_grow]; exact le_max_left _ _
  have hr := supOf_real s hs (grow T f)
  obtain ⟨e, he, ee⟩ := exp_sub_real _ _ hr hle
  have hmul : Ideal.exp (supOf s T - supOf s (grow T f)) * sumOf s v T = ∑ j ∈ T, Ideal.exp (s j - supOf s (grow T f)) * v j := by
    rw [sumOf, ee, mul_sum_of_nonneg _ _ he]
    refine Finset.sum_congr rfl fun j hj => ?_
    rw [← ee, ← mul_assoc, exp_rescale _ _ _ (hs j) hr (show s j ≤ supOf s T from Finset.le_sup (f := s) hj) hle]
  have hdis : Disjoint T (Finset.univ.map f) := by
    rw [Finset.disjoint_left]
    intro x hx hx'
    obtain ⟨j, -, rfl⟩ := Finset.mem_map.1 hx'
    exact hd j hx
  rw [hmul, sumOf]
  generalize supOf s (grow T f) = M
  rw [grow, Finset.sum_union hdis, Finset.sum_map]

/-- Keys whose scores are minus infinity may be left out of the largest score. -/
theorem supOf_all (s : Fin n → EReal) (T : Finset (Fin n)) (h : ∀ j, j ∉ T → s j = ⊥) : supOf s T = top s := by
  refine le_antisymm (Finset.sup_mono (Finset.subset_univ T)) (Finset.sup_le (s := Finset.univ) fun j _ => ?_)
  by_cases hj : j ∈ T
  · exact Finset.le_sup (f := s) hj
  · rw [h j hj]; exact bot_le

/-- They may be left out of the sum. -/
theorem sumOf_all (s v : Fin n → EReal) (T : Finset (Fin n)) (h : ∀ j, j ∉ T → s j = ⊥) : sumOf s v T = ∑ j, weight s j * v j := by
  rw [sumOf, supOf_all s T h]
  refine Finset.sum_subset (Finset.subset_univ T) fun j _ hj => ?_
  rw [h j hj, EReal.bot_sub, Ideal.exp_bot, zero_mul]

variable {s : Fin n → EReal} {k : Fin n}

/-- The weighted sum of values over the weights' sum is the sum of values times their probabilities. -/
theorem Partial.div_total (h : Partial s k) (v : Fin n → EReal) :
    Ideal.div (∑ j, weight s j * v j) (total s) = ∑ j, prob s j * v j := by
  obtain ⟨z, hz, ez⟩ := h.total_real
  rw [ez, Ideal.div_coe hz.ne', mul_comm, mul_sum_of_nonneg _ _ (one_div_pos.2 hz).le]
  refine Finset.sum_congr rfl fun j _ => ?_
  rw [prob, ez, Ideal.div_coe hz.ne']
  ac_rfl

end Cert.Mem

end
-- ==== Proof.FoxForward.Tile.lean ====
/-
  What a grid point computes for its tile of queries: the softmax's weighted sum of the values and the log sum of its scores.
-/
module

public import proofs.«01_k».proof.Proof.FoxForward.Run
public import proofs.«01_k».proof.Proof.FoxForward.Online
public import Idealize.ShloMosaic.Lib.WritesUnit
public import Idealize.ShloMosaic.Lib.VecWindow

@[expose] public section

set_option maxRecDepth 16384

noncomputable section

namespace Cert.FoxForwardIdeal.Tile

open Cert.FoxForwardIdeal Cert.FoxForwardIdeal.Gen Cert.FoxForwardIdeal.Pay Cert.FoxForwardIdeal.Run Cert.Mem Idealize.ShloMosaic Idealize.ShloMosaic.TcCoe Idealize.SL.Sem

/-- A load of 1024 rows from row `o` reads those rows. -/
theorem span_load {κ : Kind} {sp : Space} {e : EltTy} (v : View sig κ sp S8192x128 e) (f : v.ty.Contents (Elt Ideal)) {off : Fin 2 → ℕ} {o : ℕ} (hoff : off = ![o, 0])
    (inb : ∀ a, off a + S1024x128.size a ≤ S8192x128.size a) (ho : o + 1024 ≤ 8192) (j : Fin 1024) (d : Fin 128) :
    v.readAt (Elt Ideal) (Rect.unit (s := S8192x128) off S1024x128.size inb).toLoadRect f (ix2 j d) = v.read (Elt Ideal) f (ix2 ⟨o + j.val, by omega⟩ d) := by
  subst hoff
  rw [View.readAt_apply]
  congr 1
  funext a
  apply Fin.ext
  rw [LoadRect.idx_apply]
  match a with
  | ⟨0, _⟩ => show o + 1 * j.val = o + j.val; omega
  | ⟨1, _⟩ => show 0 + 1 * d.val = d.val; omega

/-- A load of 1024 entries from entry `o` of a row reads those entries. -/
theorem lane_load {κ : Kind} {sp : Space} {e : EltTy} (v : View sig κ sp S1x1x8192 e) (f : v.ty.Contents (Elt Ideal)) {off : Fin 3 → ℕ} {o : ℕ} (hoff : off = ![0, 0, o])
    (inb : ∀ a, off a + S1x1x1024.size a ≤ S1x1x8192.size a) (ho : o + 1024 ≤ 8192) (j : Fin 1024) :
    v.readAt (Elt Ideal) (Rect.unit (s := S1x1x8192) off S1x1x1024.size inb).toLoadRect f (ix3 0 0 j) = v.read (Elt Ideal) f (ix3 0 0 ⟨o + j.val, by omega⟩) := by
  subst hoff
  rw [View.readAt_apply]
  congr 1
  funext a
  apply Fin.ext
  rw [LoadRect.idx_apply]
  match a with
  | ⟨0, _⟩ => rfl
  | ⟨1, _⟩ => rfl
  | ⟨2, _⟩ => show o + 1 * j.val = o + j.val; omega

theorem trips : ∀ i : grid0.Coords, (k0_t1_loop i).trips = (i 1).val / 2 := by decide +kernel
theorem off5 : ∀ i : grid0.Coords, k0_off5 i = ![1024 * ((i 1).val / 2), 0] := by decide +kernel
theorem off6 : ∀ i : grid0.Coords, k0_off6 i = ![0, 0, 1024 * ((i 1).val / 2)] := by decide +kernel
theorem tile_lt (i : grid0.Coords) : (i 1).val < 16 := (i 1).isLt

/-- The first `n` keys. -/
def below (n : ℕ) : Finset (Fin 8192) := Finset.univ.filter fun s => s.val < n

/-- The 1024 keys from key `o`. -/
def span (o : ℕ) (ho : o + 1024 ≤ 8192) : Fin 1024 ↪ Fin 8192 where
  toFun j := ⟨o + j.val, by omega⟩
  inj' x y h := by
    have e : o + x.val = o + y.val := congrArg Fin.val h
    exact Fin.ext (by omega)

theorem grow_below (o : ℕ) (ho : o + 1024 ≤ 8192) : grow (below o) (span o ho) = below (o + 1024) := by
  ext s
  simp only [grow, below, span, Finset.mem_union, Finset.mem_filter, Finset.mem_univ, true_and, Finset.mem_map, Function.Embedding.coeFn_mk]
  constructor
  · rintro (h | ⟨j, rfl⟩)
    · omega
    · show o + j.val < o + 1024; omega
  · intro h
    by_cases h1 : s.val < o
    · exact Or.inl h1
    · exact Or.inr ⟨⟨s.val - o, by omega⟩, Fin.ext (by show o + (s.val - o) = s.val; omega)⟩

theorem span_not_mem (o : ℕ) (ho : o + 1024 ≤ 8192) (j : Fin 1024) : span o ho j ∉ below o := by
  simp only [below, span, Finset.mem_filter, Finset.mem_univ, true_and, Function.Embedding.coeFn_mk]
  show ¬ o + j.val < o
  omega

/-- The scores of query row `a` of tile `n`: minus infinity for a later key. -/
def row (n : ℕ) (q : S512x128.Idx → EReal) (C : S1x512x1.Idx → EReal) (K : S8192x128.Idx → EReal) (cr : S1x1x8192.Idx → EReal) (a : Fin 512) (s : Fin 8192) : EReal :=
  if s.val ≤ 512 * n + a.val then score q C (fun x => K (ix2 s x)) (cr (ix3 0 0 s)) a else ⊥

/-- The largest score, the sum of exponentials and the weighted sum of values over the keys in `T`. -/
structure Holds (s : Fin 8192 → EReal) (V : S8192x128.Idx → EReal) (T : Finset (Fin 8192)) (a : Fin 512) (R : FVec Ideal S512x1 .f32 × FVec Ideal S512x1 .f32 × FVec Ideal S512x128 .f32) : Prop where
  largest : R.1 (ix2 a 0) = supOf s T
  exps : R.2.1 (ix2 a 0) = sumOf s (fun _ => 1) T
  values : ∀ d : Fin 128, R.2.2 (ix2 a d) = sumOf s (fun k => V (ix2 k d)) T

variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x1x8192 .f32) (harg6 : arg6.IsWhole) (arg7 : Memref sig .tc .vmem S512x128 .f32) (harg7 : arg7.IsWhole) (arg8 : Memref sig .tc .vmem S1x512x1 .f32) (harg8 : arg8.IsWhole)

/-- The state after `k` trips: the first `1024 k` keys. -/
theorem loop (v2 : Vec Ideal S512x128 .bf16) (v4 : Vec Ideal S1x512x1 .f32)
    (X3 : BufTy.Contents (Elt Ideal) arg3.view.ty) (X4 : BufTy.Contents (Elt Ideal) arg4.view.ty) (X6 : BufTy.Contents (Elt Ideal) arg6.view.ty) (a : Fin 512)
    (hs : ∀ s, row (i 1).val v2 v4 (arg3.view.read (Elt Ideal) X3) (arg6.view.read (Elt Ideal) X6) a s = ⊥ ∨ ∃ x : ℝ, row (i 1).val v2 v4 (arg3.view.read (Elt Ideal) X3) (arg6.view.read (Elt Ideal) X6) a s = (x : EReal)) :
    ∀ k : ℕ, k ≤ (k0_t1_loop i).trips →
    Holds (row (i 1).val v2 v4 (arg3.view.read (Elt Ideal) X3) (arg6.view.read (Elt Ideal) X6) a) (arg4.view.read (Elt Ideal) X4) (below (1024 * k)) a
      (st_k0_t1 (F := Ideal) Variants.none c none i arg2 harg2 arg3 harg3 arg4 harg4 arg5 harg5 arg6 harg6 arg7 harg7 arg8 harg8 v2 v4 X3 X4 X6 (k0_pay10, k0_pay11, k0_pay12) k) := by
  intro k
  induction k with
  | zero =>
    intro _
    have e : below (1024 * 0) = ∅ := by ext s; simp [below]
    rw [e, st_k0_t1_zero]
    refine ⟨?_, ?_, fun d => ?_⟩
    · show Ideal.ofBits .f32 0xFF800000#32 = _
      rw [negInf]; rfl
    · show Ideal.ofBits .f32 0x00000000#32 = _
      simp [Ideal.ofBits, Ideal.ieee, sumOf]
    · show Ideal.ofBits .f32 0x00000000#32 = _
      simp [Ideal.ofBits, Ideal.ieee, sumOf]
  | succ k ih =>
    intro hk
    have h16 := tile_lt i
    have hk' : k < (k0_t1_loop i).trips := hk
    have ht := trips i
    have hb : 1024 * k + 1024 ≤ 8192 := by omega
    obtain ⟨h1, h2, h3⟩ := ih (Nat.le_of_succ_le hk)
    rw [st_k0_t1_succ (F := Ideal) Variants.none c none i arg2 harg2 arg3 harg3 arg4 harg4 arg5 harg5 arg6 harg6 arg7 harg7 arg8 harg8 v2 v4 X3 X4 X6 (k0_pay10, k0_pay11, k0_pay12) ⟨k, hk'⟩]
    unfold tripR_k0_t1
    rw [trip_yield, show 1024 * (k + 1) = 1024 * k + 1024 from by omega, ← grow_below (1024 * k) hb]
    have hrow : ∀ j : Fin 1024, score v2 v4 (fun x => (arg3.view.readAt (Elt Ideal) (Rect.unit (s := S8192x128) (k0_off1 i ⟨k, hk'⟩) S1024x128.size (k0_off1_inb i ⟨k, hk'⟩)).toLoadRect X3) (ix2 j x))
        ((arg6.view.readAt (Elt Ideal) (Rect.unit (s := S1x1x8192) (k0_off2 i ⟨k, hk'⟩) S1x1x1024.size (k0_off2_inb i ⟨k, hk'⟩)).toLoadRect X6) (ix3 0 0 j)) a
        = row (i 1).val v2 v4 (arg3.view.read (Elt Ideal) X3) (arg6.view.read (Elt Ideal) X6) a (span (1024 * k) hb j) := fun j => by
      have hj := j.isLt
      have l3 := fun x => span_load arg3.view X3 (k0_off1_eq i ⟨k, hk'⟩) (k0_off1_inb i ⟨k, hk'⟩) hb j x
      have l6 := lane_load arg6.view X6 (k0_off2_eq i ⟨k, hk'⟩) (k0_off2_inb i ⟨k, hk'⟩) hb j
      unfold row
      rw [if_pos (by show 1024 * k + j.val ≤ _; omega)]
      simp only [l3, l6]
      rfl
    have hval : ∀ (j : Fin 1024) (d : Fin 128), (arg4.view.readAt (Elt Ideal) (Rect.unit (s := S8192x128) (k0_off1 i ⟨k, hk'⟩) S1024x128.size (k0_off1_inb i ⟨k, hk'⟩)).toLoadRect X4) (ix2 j d)
        = arg4.view.read (Elt Ideal) X4 (ix2 (span (1024 * k) hb j) d) := fun j d =>
      span_load arg4.view X4 (k0_off1_eq i ⟨k, hk'⟩) (k0_off1_inb i ⟨k, hk'⟩) hb j d
    have htop : k0_pay14 (F := Ideal) v2 v4 (st_k0_t1 (F := Ideal) Variants.none c none i arg2 harg2 arg3 harg3 arg4 harg4 arg5 harg5 arg6 harg6 arg7 harg7 arg8 harg8 v2 v4 X3 X4 X6 (k0_pay10, k0_pay11, k0_pay12) k).1
        (arg3.view.readAt (Elt Ideal) (Rect.unit (s := S8192x128) (k0_off1 i ⟨k, hk'⟩) S1024x128.size (k0_off1_inb i ⟨k, hk'⟩)).toLoadRect X3)
        (arg6.view.readAt (Elt Ideal) (Rect.unit (s := S1x1x8192) (k0_off2 i ⟨k, hk'⟩) S1x1x1024.size (k0_off2_inb i ⟨k, hk'⟩)).toLoadRect X6) (ix2 a 0)
        = supOf (row (i 1).val v2 v4 (arg3.view.read (Elt Ideal) X3) (arg6.view.read (Elt Ideal) X6) a) (grow (below (1024 * k)) (span (1024 * k) hb)) := by
      rw [pay14_apply, h1, supOf_grow]
      simp only [hrow]
    refine ⟨htop, ?_, fun d => ?_⟩
    · refine (pay17_apply v2 v4 _ _ _ _ a).trans ?_
      rw [htop, sumOf_grow _ _ hs _ _ (span_not_mem (1024 * k) hb), h1, h2]
      simp only [hrow, mul_one]
    · refine (pay18_apply v2 v4 _ _ _ _ _ a d).trans ?_
      rw [htop, sumOf_grow _ _ hs _ _ (span_not_mem (1024 * k) hb), h1, h3]
      simp only [hrow, hval]

variable (x0 : Vec Ideal S512x128 .bf16) (x1 x2 : Vec Ideal S8192x128 .bf16) (x3 : Vec Ideal S1x512x1 .f32) (x4 : Vec Ideal S1x1x8192 .f32)

theorem load2 : (arg2.view.readAt (Elt Ideal) (Rect.unit (s := S512x128) ![0, 0] S512x128.size inb_S512x128_S512x128_0_0).toLoadRect (harg2.unread x0)) = x0 := (View.readAt_full arg2.view _ _).trans (harg2.read_unread x0)
theorem load5 : (arg5.view.readAt (Elt Ideal) (Rect.unit (s := S1x512x1) ![0, 0, 0] S1x512x1.size inb_S1x512x1_S1x512x1_0_0_0).toLoadRect (harg5.unread x3)) = x3 := (View.readAt_full arg5.view _ _).trans (harg5.read_unread x3)

/-- The state after the loop: all keys before the last span. -/
theorem spans_holds (a : Fin 512) (hs : ∀ s, row (i 1).val x0 x3 x1 x4 a s = ⊥ ∨ ∃ x : ℝ, row (i 1).val x0 x3 x1 x4 a s = (x : EReal)) :
    Holds (row (i 1).val x0 x3 x1 x4 a) x2 (below (1024 * ((i 1).val / 2))) a (spans (F := Ideal) c i arg2 harg2 arg3 harg3 arg4 harg4 arg5 harg5 arg6 harg6 arg7 harg7 arg8 harg8 x0 x1 x2 x3 x4) := by
  have h := loop c i arg2 harg2 arg3 harg3 arg4 harg4 arg5 harg5 arg6 harg6 arg7 harg7 arg8 harg8 x0 x3 (harg3.unread x1) (harg4.unread x2) (harg6.unread x4) a
  simp only [harg3.read_unread, harg4.read_unread, harg6.read_unread] at h
  have h' := h hs _ le_rfl
  unfold spans
  rw [load2, load5]
  rw [← trips i]
  exact h'

/-- The last span's masked scores. -/
theorem last_row (a : Fin 512) (hb : 1024 * ((i 1).val / 2) + 1024 ≤ 8192) (j : Fin 1024) :
    lastScore i (lastRaw i arg2 harg2 arg3 harg3 arg5 harg5 arg6 harg6 x0 x1 x3 x4) (ix2 a j) = row (i 1).val x0 x3 x1 x4 a (span (1024 * ((i 1).val / 2)) hb j) := by
  rw [lastScore_apply]
  unfold row
  refine if_congr Iff.rfl ?_ rfl
  unfold lastRaw
  rw [load2, load5, pay25_apply]
  have l3 := fun x => span_load arg3.view (harg3.unread x1) (off5 i) (k0_off5_inb i) hb j x
  have l6 := lane_load arg6.view (harg6.unread x4) (off6 i) (k0_off6_inb i) hb j
  unfold lastKeys lastDecays
  simp only [l3, l6, harg3.read_unread, harg6.read_unread]
  rfl

/-- The keys after the last span are not seen. -/
theorem row_after (a : Fin 512) (s : Fin 8192) (h : s ∉ below (1024 * ((i 1).val / 2) + 1024)) : row (i 1).val x0 x3 x1 x4 a s = ⊥ := by
  have ha := a.isLt
  have h' : ¬ s.val < 1024 * ((i 1).val / 2) + 1024 := fun e => h (Finset.mem_filter.2 ⟨Finset.mem_univ s, e⟩)
  exact if_neg (by omega)

section Ends

variable (a : Fin 512) (hs : ∀ s, row (i 1).val x0 x3 x1 x4 a s = ⊥ ∨ ∃ x : ℝ, row (i 1).val x0 x3 x1 x4 a s = (x : EReal))
include hs

/-- The largest score of the row. -/
theorem top_eq : lastTop i (spans (F := Ideal) c i arg2 harg2 arg3 harg3 arg4 harg4 arg5 harg5 arg6 harg6 arg7 harg7 arg8 harg8 x0 x1 x2 x3 x4).1 (lastRaw i arg2 harg2 arg3 harg3 arg5 harg5 arg6 harg6 x0 x1 x3 x4) (ix2 a 0)
    = supOf (row (i 1).val x0 x3 x1 x4 a) (below (1024 * ((i 1).val / 2) + 1024)) := by
  have h16 := tile_lt i
  have hb : 1024 * ((i 1).val / 2) + 1024 ≤ 8192 := by omega
  rw [lastTop_apply, (spans_holds c i arg2 harg2 arg3 harg3 arg4 harg4 arg5 harg5 arg6 harg6 arg7 harg7 arg8 harg8 x0 x1 x2 x3 x4 a hs).largest, ← grow_below _ hb, supOf_grow]
  simp only [last_row i arg2 harg2 arg3 harg3 arg5 harg5 arg6 harg6 x0 x1 x3 x4 a hb]

/-- The row's sum of exponentials. -/
theorem sum_eq : lastSum i (spans (F := Ideal) c i arg2 harg2 arg3 harg3 arg4 harg4 arg5 harg5 arg6 harg6 arg7 harg7 arg8 harg8 x0 x1 x2 x3 x4).1 (spans (F := Ideal) c i arg2 harg2 arg3 harg3 arg4 harg4 arg5 harg5 arg6 harg6 arg7 harg7 arg8 harg8 x0 x1 x2 x3 x4).2.1 (lastRaw i arg2 harg2 arg3 harg3 arg5 harg5 arg6 harg6 x0 x1 x3 x4) (ix2 a 0)
    = total (row (i 1).val x0 x3 x1 x4 a) := by
  have h16 := tile_lt i
  have hb : 1024 * ((i 1).val / 2) + 1024 ≤ 8192 := by omega
  have e := sumOf_all (row (i 1).val x0 x3 x1 x4 a) (fun _ => 1) _ fun s h => row_after i x0 x1 x3 x4 a s h
  simp only [mul_one] at e
  unfold total
  have t := top_eq c i arg2 harg2 arg3 harg3 arg4 harg4 arg5 harg5 arg6 harg6 arg7 harg7 arg8 harg8 x0 x1 x2 x3 x4 a hs
  rw [lastSum_apply, t, ← e]
  rw [← grow_below _ hb, sumOf_grow _ _ hs _ _ (span_not_mem _ hb), (spans_holds c i arg2 harg2 arg3 harg3 arg4 harg4 arg5 harg5 arg6 harg6 arg7 harg7 arg8 harg8 x0 x1 x2 x3 x4 a hs).largest, (spans_holds c i arg2 harg2 arg3 harg3 arg4 harg4 arg5 harg5 arg6 harg6 arg7 harg7 arg8 harg8 x0 x1 x2 x3 x4 a hs).exps]
  simp only [last_row i arg2 harg2 arg3 harg3 arg5 harg5 arg6 harg6 x0 x1 x3 x4 a hb, mul_one]

/-- The block of the output: the weighted sum of the values over the sum of the weights. -/
theorem out_apply (d : Fin 128) : out0_A_5 (F := Ideal) c i arg2 harg2 arg3 harg3 arg4 harg4 arg5 harg5 arg6 harg6 arg7 harg7 arg8 harg8 x0 x1 x2 x3 x4 (ix2 a d)
    = Ideal.div (∑ s, weight (row (i 1).val x0 x3 x1 x4 a) s * x2 (ix2 s d)) (total (row (i 1).val x0 x3 x1 x4 a)) := by
  have h16 := tile_lt i
  have hb : 1024 * ((i 1).val / 2) + 1024 ≤ 8192 := by omega
  unfold out0_A_5
  rw [pieces_out]
  refine (View.read_writes_cons_unit_of_mem VO0_5 _ inb_S512x128_S512x128_0_0 _ [] (ix2 a d) (ix2 a d) (rfl : ![0, 0] = ![0, 0]) (fun a => match a with
    | ⟨0, _⟩ => (Nat.zero_add _).symm
    | ⟨1, _⟩ => (Nat.zero_add _).symm)).trans ?_
  rw [pay6_apply, sum_eq c i arg2 harg2 arg3 harg3 arg4 harg4 arg5 harg5 arg6 harg6 arg7 harg7 arg8 harg8 x0 x1 x2 x3 x4 a hs, top_eq c i arg2 harg2 arg3 harg3 arg4 harg4 arg5 harg5 arg6 harg6 arg7 harg7 arg8 harg8 x0 x1 x2 x3 x4 a hs,
    ← sumOf_all (row (i 1).val x0 x3 x1 x4 a) (fun s => x2 (ix2 s d)) _ fun s h => row_after i x0 x1 x3 x4 a s h]
  rw [← grow_below _ hb, sumOf_grow _ _ hs _ _ (span_not_mem _ hb), (spans_holds c i arg2 harg2 arg3 harg3 arg4 harg4 arg5 harg5 arg6 harg6 arg7 harg7 arg8 harg8 x0 x1 x2 x3 x4 a hs).largest, (spans_holds c i arg2 harg2 arg3 harg3 arg4 harg4 arg5 harg5 arg6 harg6 arg7 harg7 arg8 harg8 x0 x1 x2 x3 x4 a hs).values]
  have l4 := fun j => span_load arg4.view (harg4.unread x2) (off5 i) (k0_off5_inb i) hb j d
  unfold lastValues
  simp only [last_row i arg2 harg2 arg3 harg3 arg5 harg5 arg6 harg6 x0 x1 x3 x4 a hb, l4, harg4.read_unread]
  rfl

/-- The block of the log sums. -/
theorem lse_apply : out0_A_6 (F := Ideal) c i arg2 harg2 arg3 harg3 arg4 harg4 arg5 harg5 arg6 harg6 arg7 harg7 arg8 harg8 x0 x1 x2 x3 x4 (ix3 0 a 0)
    = top (row (i 1).val x0 x3 x1 x4 a) + Ideal.log (total (row (i 1).val x0 x3 x1 x4 a)) := by
  unfold out0_A_6
  rw [pieces_sum]
  refine (View.read_writes_cons_unit_of_mem VO0_6 _ inb_S1x512x1_S1x512x1_0_0_0 _ [] (ix3 0 a 0) (ix3 0 a 0) (rfl : ![0, 0, 0] = ![0, 0, 0]) (fun a => match a with
    | ⟨0, _⟩ => rfl
    | ⟨1, _⟩ => (Nat.zero_add _).symm
    | ⟨2, _⟩ => rfl)).trans ?_
  rw [pay7_apply, sum_eq c i arg2 harg2 arg3 harg3 arg4 harg4 arg5 harg5 arg6 harg6 arg7 harg7 arg8 harg8 x0 x1 x2 x3 x4 a hs, top_eq c i arg2 harg2 arg3 harg3 arg4 harg4 arg5 harg5 arg6 harg6 arg7 harg7 arg8 harg8 x0 x1 x2 x3 x4 a hs,
    supOf_all _ _ fun s h => row_after i x0 x1 x3 x4 a s h]

end Ends

end Cert.FoxForwardIdeal.Tile

end
-- ==== Proof.FoxForward.Host.lean ====
/-
  What the forward call's host lines hand to the launch: the arguments themselves and the decays along columns and rows.
-/
module

public import proofs.«01_k».proof.Proof.Fox.Spec
public import proofs.«01_k».proof.Proof.Gen.FoxForwardIdeal.Value
public import Idealize.ShloMosaic.Lib.Pipeline.ValueKit
public import Idealize.ShloMosaic.Lib.StableHlo.ReadAt

@[expose] public section

set_option maxRecDepth 16384

noncomputable section

namespace Cert.FoxForwardIdeal.Host

open Cert.FoxForwardIdeal Cert.FoxForwardIdeal.Gen Cert.FoxForwardIdeal.Value Cert.Fox Cert.Mem Idealize.ShloMosaic Idealize.ShloMosaic.TcCoe Idealize.SL.Sem

variable (m : (ℓ : Loc nD τ sig) → Buf (Elt Ideal) ℓ) (c : Dev nD)

/-- The queries. -/
abbrev argQ : FVec Ideal S8192x512 .f32 := m ((c : Thread nD τ).loc main_arg0)
/-- The keys. -/
abbrev argK : FVec Ideal S8192x512 .f32 := m ((c : Thread nD τ).loc main_arg1)
/-- The values. -/
abbrev argV : FVec Ideal S8192x512 .f32 := m ((c : Thread nD τ).loc main_arg2)
/-- The accumulated decays. -/
abbrev argC : FVec Ideal S8192x4 .f32 := m ((c : Thread nD τ).loc main_arg3)

theorem V_q (i : S8192x512.Idx) : (show FVec Ideal S8192x512 .bf16 from V m c main_v0) i = argQ m c i := by
  unfold V
  after_reads_at

theorem V_k (i : S8192x512.Idx) : (show FVec Ideal S8192x512 .bf16 from V m c main_v1) i = argK m c i := by
  unfold V
  after_reads_at

theorem V_v (i : S8192x512.Idx) : (show FVec Ideal S8192x512 .bf16 from V m c main_v2) i = argV m c i := by
  unfold V
  after_reads_at

theorem V_col (h : Fin 4) (r : Fin 8192) : (show FVec Ideal S4x8192x1 .f32 from V m c main_v4) (ix3 h r 0) = argC m c (ix2 r h) := by
  unfold V
  after_reads_at

theorem V_row (h : Fin 4) (s : Fin 8192) : (show FVec Ideal S4x1x8192 .f32 from V m c main_v6) (ix3 h 0 s) = argC m c (ix2 s h) := by
  unfold V
  after_reads_at

end Cert.FoxForwardIdeal.Host

end
-- ==== Proof.FoxForward.Read.lean ====
/-
  Where the entries of a grid point's blocks lie in the arrays, and what its input blocks hold.
-/
module

public import proofs.«01_k».proof.Proof.FoxForward.Tile
public import proofs.«01_k».proof.Proof.FoxForward.Host

@[expose] public section

set_option maxRecDepth 16384

noncomputable section

namespace Cert.FoxForwardIdeal.Array

open Cert.FoxForwardIdeal Cert.FoxForwardIdeal.Gen Cert.FoxForwardIdeal.Value Cert.FoxForwardIdeal.Host Cert.FoxForwardIdeal.Tile Cert.Mem Idealize.ShloMosaic Idealize.ShloMosaic.TcCoe Idealize.SL.Sem

variable (m : (ℓ : Loc nD τ sig) → Buf (Elt Ideal) ℓ) (c : Dev nD)

/-- The block each window is on at a grid point: point `t` is tile `t % 16` of head `t / 16`. -/
theorem idx : ∀ t : Fin cfg0.N, win0_0.index t = ![t.val % 16, t.val / 16] ∧ win0_1.index t = ![0, t.val / 16]
    ∧ win0_2.index t = ![0, t.val / 16] ∧ win0_3.index t = ![t.val / 16, t.val % 16, 0] ∧ win0_4.index t = ![t.val / 16, 0, 0]
    ∧ win0_5.index t = ![t.val % 16, t.val / 16] ∧ win0_6.index t = ![t.val / 16, t.val % 16, 0] ∧ t.val / 16 < 4 :=
  (by decide +kernel : ∀ t : Fin grid0.N, _)

/-- The tile a grid point's second coordinate names. -/
theorem tile_eq : ∀ t : Fin cfg0.N, (grid0.coords t 1).val = t.val % 16 :=
  (by decide +kernel : ∀ t : Fin grid0.N, _)

/-- The head of a grid point. -/
abbrev ptHead (t : Fin cfg0.N) : Fin 4 := ⟨t.val / 16, (idx t).2.2.2.2.2.2.2⟩
/-- The query that row `a` of a grid point's tile is. -/
abbrev ptRow (t : Fin cfg0.N) (a : Fin 512) : Fin 8192 := ⟨t.val % 16 * 512 + a.val, by omega⟩

theorem emb0 (t : Fin cfg0.N) (a : Fin 512) (x : Fin 128) :
    (show S8192x512.Idx from (win0_0.blk t).view.emb (ix2 a x)) = ix2 (ptRow t a) (col (ptHead t) x) := by
  blk_ext [idx t]

theorem emb5 (t : Fin cfg0.N) (a : Fin 512) (x : Fin 128) :
    (show S8192x512.Idx from (win0_5.blk t).view.emb (ix2 a x)) = ix2 (ptRow t a) (col (ptHead t) x) := by
  blk_ext [idx t]

theorem emb1 (t : Fin cfg0.N) (s : Fin 8192) (x : Fin 128) :
    (show S8192x512.Idx from (win0_1.blk t).view.emb (ix2 s x)) = ix2 s (col (ptHead t) x) := by
  blk_ext [idx t]

theorem emb2 (t : Fin cfg0.N) (s : Fin 8192) (x : Fin 128) :
    (show S8192x512.Idx from (win0_2.blk t).view.emb (ix2 s x)) = ix2 s (col (ptHead t) x) := by
  blk_ext [idx t]

theorem emb3 (t : Fin cfg0.N) (a : Fin 512) :
    (show S4x8192x1.Idx from (win0_3.blk t).view.emb (ix3 0 a 0)) = ix3 (ptHead t) (ptRow t a) 0 := by
  blk_ext [idx t]

theorem emb6 (t : Fin cfg0.N) (a : Fin 512) :
    (show S4x8192x1.Idx from (win0_6.blk t).view.emb (ix3 0 a 0)) = ix3 (ptHead t) (ptRow t a) 0 := by
  blk_ext [idx t]

theorem emb4 (t : Fin cfg0.N) (s : Fin 8192) :
    (show S4x1x8192.Idx from (win0_4.blk t).view.emb (ix3 0 0 s)) = ix3 (ptHead t) 0 s := by
  blk_ext [idx t]

theorem blk0 (X : FVec Ideal S8192x512 .bf16) (t : Fin cfg0.N) (a : Fin 512) (x : Fin 128) :
    (win0_0.blk t).view.read (Elt Ideal) X (ix2 a x) = X (ix2 (ptRow t a) (col (ptHead t) x)) :=
  congrArg X (emb0 t a x)

theorem read0 (t : Fin cfg0.N) (a : Fin 512) (x : Fin 128) :
    (show FVec Ideal S512x128 .bf16 from iblk m c 0 t) (ix2 a x) = argQ m c (ix2 (ptRow t a) (col (ptHead t) x)) := by
  have e := blk0 (V m c main_v0) t a x
  have f : (win0_0.blk t).view.read (Elt Ideal) (V m c main_v0) (ix2 a x) = argQ m c (ix2 (ptRow t a) (col (ptHead t) x)) := e.trans (V_q m c _)
  unfold iblk
  exact f

theorem blk1 (X : FVec Ideal S8192x512 .bf16) (t : Fin cfg0.N) (s : Fin 8192) (x : Fin 128) :
    (win0_1.blk t).view.read (Elt Ideal) X (ix2 s x) = X (ix2 s (col (ptHead t) x)) :=
  congrArg X (emb1 t s x)

theorem read1 (t : Fin cfg0.N) (s : Fin 8192) (x : Fin 128) :
    (show FVec Ideal S8192x128 .bf16 from iblk m c 1 t) (ix2 s x) = argK m c (ix2 s (col (ptHead t) x)) := by
  have e := blk1 (V m c main_v1) t s x
  have f : (win0_1.blk t).view.read (Elt Ideal) (V m c main_v1) (ix2 s x) = argK m c (ix2 s (col (ptHead t) x)) := e.trans (V_k m c _)
  unfold iblk
  exact f

theorem blk2 (X : FVec Ideal S8192x512 .bf16) (t : Fin cfg0.N) (s : Fin 8192) (x : Fin 128) :
    (win0_2.blk t).view.read (Elt Ideal) X (ix2 s x) = X (ix2 s (col (ptHead t) x)) :=
  congrArg X (emb2 t s x)

theorem read2 (t : Fin cfg0.N) (s : Fin 8192) (x : Fin 128) :
    (show FVec Ideal S8192x128 .bf16 from iblk m c 2 t) (ix2 s x) = argV m c (ix2 s (col (ptHead t) x)) := by
  have e := blk2 (V m c main_v2) t s x
  have f : (win0_2.blk t).view.read (Elt Ideal) (V m c main_v2) (ix2 s x) = argV m c (ix2 s (col (ptHead t) x)) := e.trans (V_v m c _)
  unfold iblk
  exact f

theorem blk3 (X : FVec Ideal S4x8192x1 .f32) (t : Fin cfg0.N) (a : Fin 512) :
    (win0_3.blk t).view.read (Elt Ideal) X (ix3 0 a 0) = X (ix3 (ptHead t) (ptRow t a) 0) :=
  congrArg X (emb3 t a)

theorem read3 (t : Fin cfg0.N) (a : Fin 512) :
    (show FVec Ideal S1x512x1 .f32 from iblk m c 3 t) (ix3 0 a 0) = argC m c (ix2 (ptRow t a) (ptHead t)) := by
  have e := blk3 (V m c main_v4) t a
  have f : (win0_3.blk t).view.read (Elt Ideal) (V m c main_v4) (ix3 0 a 0) = argC m c (ix2 (ptRow t a) (ptHead t)) := e.trans (V_col m c _ _)
  unfold iblk
  exact f

theorem blk4 (X : FVec Ideal S4x1x8192 .f32) (t : Fin cfg0.N) (s : Fin 8192) :
    (win0_4.blk t).view.read (Elt Ideal) X (ix3 0 0 s) = X (ix3 (ptHead t) 0 s) :=
  congrArg X (emb4 t s)

theorem read4 (t : Fin cfg0.N) (s : Fin 8192) :
    (show FVec Ideal S1x1x8192 .f32 from iblk m c 4 t) (ix3 0 0 s) = argC m c (ix2 s (ptHead t)) := by
  have e := blk4 (V m c main_v6) t s
  have f : (win0_4.blk t).view.read (Elt Ideal) (V m c main_v6) (ix3 0 0 s) = argC m c (ix2 s (ptHead t)) := e.trans (V_row m c _ _)
  unfold iblk
  exact f

end Cert.FoxForwardIdeal.Array

end
-- ==== Proof.FoxForward.Array.lean ====
/-
  What the launch of the forward call leaves in its two result arrays: the softmax's average of the values, and the logarithm of
  each row's sum of exponentials.
-/
module

public import proofs.«01_k».proof.Proof.FoxForward.Read
public import proofs.«01_k».proof.Proof.Fox.Softmax

@[expose] public section

set_option maxRecDepth 16384

noncomputable section

namespace Cert.Fox

open Cert.Mem Idealize.ShloMosaic

/-- The attention's output: each query's average of the values by the softmax of its scores. -/
def outArr (Q K V : FVec Ideal ⟨2, ![8192, 512]⟩ .f32) (C : FVec Ideal ⟨2, ![8192, 4]⟩ .f32) : FVec Ideal ⟨2, ![8192, 512]⟩ .f32 :=
  fun i => ∑ s : Fin 8192, prob Q K C (headOf (i 1)) (i 0) s * V (ix2 s (col (headOf (i 1)) (laneOf (i 1))))

/-- The logarithm of each row's sum of exponentials. -/
def sumArr (Q K : FVec Ideal ⟨2, ![8192, 512]⟩ .f32) (C : FVec Ideal ⟨2, ![8192, 4]⟩ .f32) : FVec Ideal ⟨3, ![4, 8192, 1]⟩ .f32 :=
  fun i => logSum Q K C (i 0) (i 1)

end Cert.Fox

namespace Cert.FoxForwardIdeal.Array

open Cert.FoxForwardIdeal Cert.FoxForwardIdeal.Gen Cert.FoxForwardIdeal.Host Cert.FoxForwardIdeal.Tile Cert.Mem Idealize.ShloMosaic Idealize.ShloMosaic.TcCoe Idealize.SL.Sem

variable (m : (ℓ : Loc nD τ sig) → Buf (Elt Ideal) ℓ) (c : Dev nD)

/-- A point's scores are the whole array's. -/
theorem row_pt (t : Fin cfg0.N) (a : Fin 512) :
    row (grid0.coords t 1).val (iblk m c 0 t) (iblk m c 3 t) (iblk m c 1 t) (iblk m c 4 t) a = Cert.Fox.masked (argQ m c) (argK m c) (argC m c) (ptHead t) (ptRow t a) := by
  funext s
  unfold row Cert.Fox.masked Pay.score Cert.Fox.score
  rw [tile_eq t]
  refine if_congr (by show _ ↔ s.val ≤ t.val % 16 * 512 + a.val; omega) (congrArg₂ (· + ·) (congrArg (· * factor) ?_)
    (congrArg₂ (· - ·) (read3 m c t a) (read4 m c t s))) rfl
  exact Finset.sum_congr rfl fun x _ => congrArg₂ (fun y z : EReal => y * z) (read0 m c t a x) (read1 m c t s x)

/-- The only index along an axis of one entry. -/
theorem lastIdx (y : S1x512x1.Idx) : y = ix3 0 (y 1) 0 := by
  refine (eq_ix3 y).trans ?_
  exact congrArg₂ (fun u v => ix3 u (y 1) v) (Subsingleton.elim (show Fin 1 from y 0) 0) (Subsingleton.elim (show Fin 1 from y 2) 0)

variable (hQ : ∀ i, ∃ a : ℝ, argQ m c i = (a : EReal)) (hK : ∀ i, ∃ a : ℝ, argK m c i = (a : EReal)) (hC : ∀ i, ∃ a : ℝ, argC m c i = (a : EReal))
include hQ hK hC

/-- A point's scores are minus infinity or real. -/
theorem row_real (t : Fin cfg0.N) (a : Fin 512) (s : Fin 8192) :
    row (grid0.coords t 1).val (iblk m c 0 t) (iblk m c 3 t) (iblk m c 1 t) (iblk m c 4 t) a s = ⊥ ∨ ∃ x : ℝ, row (grid0.coords t 1).val (iblk m c 0 t) (iblk m c 3 t) (iblk m c 1 t) (iblk m c 4 t) a s = (x : EReal) := by
  rw [row_pt m c t a]
  exact (Cert.Fox.masked_partial (argQ m c) (argK m c) (argC m c) hQ hK hC (ptHead t) (ptRow t a)).all s

/-- A point's rows of the output. -/
theorem out_pt (t : Fin cfg0.N) (a : Fin 512) (d : Fin 128) : (outsAt0 m c t).1 (ix2 a d)
    = ∑ s : Fin 8192, Cert.Fox.prob (argQ m c) (argK m c) (argC m c) (ptHead t) (ptRow t a) s * argV m c (ix2 s (col (ptHead t) d)) := by
  have p := (Cert.Fox.masked_partial (argQ m c) (argK m c) (argC m c) hQ hK hC (ptHead t) (ptRow t a)).div_total fun s => argV m c (ix2 s (col (ptHead t) d))
  have e := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) a (row_real m c hQ hK hC t a) d
  rw [row_pt m c t a] at e
  have f : ∀ s : Fin 8192, (show FVec Ideal S8192x128 .bf16 from iblk m c 2 t) (ix2 s d) = argV m c (ix2 s (col (ptHead t) d)) := fun s => read2 m c t s d
  simp only [outsAt0]
  rw [e]
  refine Eq.trans ?_ p
  exact congrArg (Ideal.div · _) (Finset.sum_congr rfl fun s _ => congrArg (weight (Cert.Fox.masked (argQ m c) (argK m c) (argC m c) (ptHead t) (ptRow t a)) s * ·) (f s))

/-- A point's log sums. -/
theorem sum_pt (t : Fin cfg0.N) (a : Fin 512) : (outsAt0 m c t).2 (ix3 0 a 0)
    = Cert.Fox.logSum (argQ m c) (argK m c) (argC m c) (ptHead t) (ptRow t a) := by
  have e := lse_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) a (row_real m c hQ hK hC t a)
  rw [row_pt m c t a] at e
  simp only [outsAt0]
  rw [e]
  rfl

/-- The first result is the attention's output. -/
theorem final_out : (dats m 0 c).arrAt 5 cfg0.N = Cert.Fox.outArr (argQ m c) (argK m c) (argV m c) (argC m c) := by
  refine (dats m 0 c).arrAt_eq_of_covers 5 _ (by decide +kernel) fun t hf y => ?_
  blk_simp
  rw [after0_5]
  obtain ⟨a, d, rfl⟩ : ∃ (a : Fin 512) (d : Fin 128), y = ix2 a d := ⟨y 0, y 1, eq_ix2 y⟩
  rw [out_pt m c hQ hK hC]
  refine Eq.trans ?_ (congrArg (Cert.Fox.outArr (argQ m c) (argK m c) (argV m c) (argC m c)) (emb5 t a d)).symm
  show _ = ∑ s : Fin 8192, Cert.Fox.prob (argQ m c) (argK m c) (argC m c) (headOf (col (ptHead t) d)) (ptRow t a) s
    * argV m c (ix2 s (col (headOf (col (ptHead t) d)) (Cert.Fox.laneOf (col (ptHead t) d))))
  rw [Cert.Fox.headOf_col, Cert.Fox.laneOf_col]

/-- The second result is the logarithm of each row's sum of exponentials. -/
theorem final_sum : (dats m 0 c).arrAt 6 cfg0.N = Cert.Fox.sumArr (argQ m c) (argK m c) (argC m c) := by
  refine (dats m 0 c).arrAt_eq_of_covers 6 _ (by decide +kernel) fun t hf y => ?_
  blk_simp
  rw [after0_6]
  obtain ⟨a, rfl⟩ : ∃ a : Fin 512, y = ix3 0 a 0 := ⟨y 1, lastIdx y⟩
  rw [sum_pt m c hQ hK hC]
  refine Eq.trans ?_ (congrArg (Cert.Fox.sumArr (argQ m c) (argK m c) (argC m c)) (emb6 t a)).symm
  rfl

end Cert.FoxForwardIdeal.Array

end
-- ==== Proof.FoxForward.Reference.lean ====
/-
  The forward call's reference read at an index over the extended reals: its masked scores, its probabilities, its output and
  the logarithm of each row's sum of exponentials.
-/
module

public import proofs.«01_k».proof.Proof.Gen.RefFoxForwardIdeal.Read
public import proofs.«01_k».proof.Proof.Fox.Host
public import proofs.«01_k».proof.Proof.FoxForward.Array
public import Idealize.ShloMosaic.Lib.Pointwise

@[expose] public section

set_option maxRecDepth 16384

noncomputable section

namespace Cert.RefFoxForwardIdeal.Forward

open Cert.RefFoxForwardIdeal Cert.RefFoxForwardIdeal.Gen Cert.RefFoxForwardIdeal.Read Cert.Mem Idealize.ShloMosaic Idealize.ShloMosaic.TcCoe Idealize.SL.Sem

variable (Q K V : FVec Ideal S8192x512 .f32) (C : FVec Ideal S8192x4 .f32)

/-- The reference's scores. -/
theorem score_apply (h : Fin 4) (r s : Fin 8192) :
    val_main_v13 (F := Ideal) Q K C (ix3 h r s) = Cert.Fox.score Q K C h r s := by
  pointwise [val_main_v13, val_main_v12, val_main_v11, val_main_v10, val_main_v9, val_main_v8, val_main_v7, val_main_v6,
    val_main_v5, val_main_v4, val_main_v3, val_main_v1, val_main_v0, val_main_cst]
  rfl

/-- The reference's test of a query and a key. -/
theorem test_apply (h : Fin 4) (r s : Fin 8192) :
    val_main_call0_v1 (F := Ideal) (ix3 h r s) = IntOp.cmpi .sle (BitVec.ofNat 32 s.val) (BitVec.ofNat 32 r.val) := by
  pointwise [val_main_call0_v1, val_main_v20, val_main_v19, val_main_v18, val_main_v17, val_main_v16, val_main_v15, val_main_v14]

/-- The reference's masked scores. -/
theorem masked_apply (h : Fin 4) (r s : Fin 8192) :
    val_main_v21 (F := Ideal) Q K C (ix3 h r s) = Cert.Fox.masked Q K C h r s := by
  rw [val_main_v21_apply, test_apply, score_apply]
  refine (Cert.FoxIdeal.Host.seen r s _ _).trans ?_
  unfold Cert.Fox.masked
  refine if_congr Iff.rfl rfl ?_
  pointwise [val_main_call0_v2, val_main_call0_v0, val_main_cst_0]
  exact Cert.FoxIdeal.Host.negInf

/-- The largest entry of each row of an array of scores. -/
theorem rowMax_apply (y : FVec Ideal S4x8192x8192 .f32) (z : FVec Ideal S_ .f32) (h : Fin 4) (r : Fin 8192) :
    Host.reduce FloatOps.maximumf y z reducesTo_S4x8192x8192_S4x8192_d2 h_S_ (ix2 h r)
      = Finset.univ.fold max (z (Shape.Idx.first h_S_)) fun x : Fin 8192 => y (ix3 h r x) := by
  pointwise

/-- The softmax's largest score of a row. -/
theorem top_apply (h : Fin 4) (r : Fin 8192) : val_main_v22 (F := Ideal) Q K C (ix2 h r) = top (Cert.Fox.masked Q K C h r) := by
  unfold val_main_v22
  rw [rowMax_apply, val_main_cst_1_apply]
  have e : FloatOps.ofBits (F := Ideal) .f32 0xFF800000#32 = (⊥ : EReal) := Cert.FoxIdeal.Host.negInf
  rw [e]
  exact congrArg (Finset.univ.fold max ⊥) (funext fun x => masked_apply Q K C h r x)

/-- The log sum's largest score of a row. -/
theorem top'_apply (h : Fin 4) (r : Fin 8192) : val_main_v33 (F := Ideal) Q K C (ix2 h r) = top (Cert.Fox.masked Q K C h r) :=
  top_apply Q K C h r

/-- The larger of minus infinity and the largest score is the largest score. -/
theorem clamp_apply (h : Fin 4) (r : Fin 8192) : val_main_v24 (F := Ideal) Q K C (ix2 h r) = top (Cert.Fox.masked Q K C h r) := by
  rw [val_main_v24_apply, top_apply, val_main_v23_apply, val_main_cst_2_apply]
  have e : FloatOps.ofBits (F := Ideal) .f32 0xFF800000#32 = (⊥ : EReal) := Cert.FoxIdeal.Host.negInf
  rw [e]
  exact bot_sup_eq _

/-- A row's entry broadcast along the row. -/
theorem along_apply (y : FVec Ideal S4x8192 .f32) (h : Fin 4) (r s : Fin 8192) :
    broadcastInDim S4x8192x8192 ![0, 1, 2] bcast_S4x8192x1_S4x8192x8192_0_1_2
      (broadcastInDim S4x8192x1 ![0, 1] bcast_S4x8192_S4x8192x1_0_1 y) (ix3 h r s) = y (ix2 h r) := by
  pointwise

/-- The softmax's weights. -/
theorem weight_apply (h : Fin 4) (r s : Fin 8192) :
    val_main_v28 (F := Ideal) Q K C (ix3 h r s) = weight (Cert.Fox.masked Q K C h r) s := by
  have e : val_main_v26 (F := Ideal) Q K C (ix3 h r s) = top (Cert.Fox.masked Q K C h r) := by
    unfold val_main_v26 val_main_v25
    exact (along_apply _ h r s).trans (clamp_apply Q K C h r)
  rw [val_main_v28_apply, val_main_v27_apply, masked_apply, e]
  rfl

/-- The log sum's weights. -/
theorem weight'_apply (h : Fin 4) (r s : Fin 8192) :
    val_main_v37 (F := Ideal) Q K C (ix3 h r s) = weight (Cert.Fox.masked Q K C h r) s := by
  have e : val_main_v35 (F := Ideal) Q K C (ix3 h r s) = top (Cert.Fox.masked Q K C h r) := by
    unfold val_main_v35 val_main_v34
    exact (along_apply _ h r s).trans (top'_apply Q K C h r)
  rw [val_main_v37_apply, val_main_v36_apply, masked_apply, e]
  rfl

/-- The softmax's sum of a row's weights. -/
theorem total_apply (h : Fin 4) (r : Fin 8192) :
    val_main_v29 (F := Ideal) Q K C (ix2 h r) = total (Cert.Fox.masked Q K C h r) := by
  pointwise [val_main_v29, val_main_cst_3]
  exact Finset.sum_congr rfl fun j _ => weight_apply Q K C h r j

/-- The log sum's sum of a row's weights. -/
theorem total'_apply (h : Fin 4) (r : Fin 8192) :
    val_main_v38 (F := Ideal) Q K C (ix2 h r) = total (Cert.Fox.masked Q K C h r) := by
  pointwise [val_main_v38, val_main_cst_5]
  exact Finset.sum_congr rfl fun j _ => weight'_apply Q K C h r j

/-- The reference's probabilities. -/
theorem prob_apply (h : Fin 4) (r s : Fin 8192) :
    val_main_v32 (F := Ideal) Q K C (ix3 h r s) = Cert.Fox.prob Q K C h r s := by
  have e : val_main_v31 (F := Ideal) Q K C (ix3 h r s) = total (Cert.Fox.masked Q K C h r) := by
    unfold val_main_v31 val_main_v30
    exact (along_apply _ h r s).trans (total_apply Q K C h r)
  rw [val_main_v32_apply, weight_apply, e]
  rfl

/-- The reference's output. -/
theorem out_apply (i : S8192x512.Idx) : val_main_v44 (F := Ideal) Q K V C i
    = ∑ s : Fin 8192, V (ix2 s (i 1)) * Cert.Fox.prob Q K C (headOf (i 1)) (i 0) s := by
  pointwise [val_main_v44, val_main_v43, val_main_v42, val_main_v2]
  refine Finset.sum_congr rfl fun s _ => ?_
  refine congrArg₂ (fun y z : EReal => y * z) rfl (prob_apply Q K C _ _ s)

/-- A row's entry kept as a column. -/
theorem keep_apply (y : FVec Ideal S4x8192 .f32) (h : Fin 4) (r : Fin 8192) :
    broadcastInDim S4x8192x1 ![0, 1] bcast_S4x8192_S4x8192x1_0_1 y (ix3 h r 0) = y (ix2 h r) := by
  pointwise

/-- The reference's logarithm of a row's sum of exponentials. -/
theorem sum_apply (h : Fin 4) (r : Fin 8192) : val_main_v41 (F := Ideal) Q K C (ix3 h r 0) = Cert.Fox.logSum Q K C h r := by
  have e : val_main_v34 (F := Ideal) Q K C (ix3 h r 0) = top (Cert.Fox.masked Q K C h r) := by
    unfold val_main_v34
    exact (keep_apply _ h r).trans (top'_apply Q K C h r)
  have f : val_main_v39 (F := Ideal) Q K C (ix3 h r 0) = total (Cert.Fox.masked Q K C h r) := by
    unfold val_main_v39
    exact (keep_apply _ h r).trans (total'_apply Q K C h r)
  rw [val_main_v41_apply, val_main_v40_apply, e, f]
  rfl

/-- The reference's output is the kernel's. -/
theorem out_eq : val_main_v44 (F := Ideal) Q K V C = Cert.Fox.outArr Q K V C := by
  funext i
  obtain ⟨r, l, rfl⟩ : ∃ (r : Fin 8192) (l : Fin 512), i = ix2 r l := ⟨i 0, i 1, eq_ix2 i⟩
  refine (out_apply Q K V C (ix2 r l)).trans ?_
  show ∑ s : Fin 8192, V (ix2 s l) * Cert.Fox.prob Q K C (headOf l) r s
    = ∑ s : Fin 8192, Cert.Fox.prob Q K C (headOf l) r s * V (ix2 s (col (headOf l) (Cert.Fox.laneOf l)))
  refine Finset.sum_congr rfl fun s _ => ?_
  rw [Cert.Fox.col_headOf]
  exact mul_comm _ _

/-- The reference's log sums are the kernel's. -/
theorem sum_eq : val_main_v41 (F := Ideal) Q K C = Cert.Fox.sumArr Q K C := by
  funext i
  obtain ⟨h, r, rfl⟩ : ∃ (h : Fin 4) (r : Fin 8192), i = ix3 h r 0 := ⟨i 0, i 1, by
    refine (eq_ix3 i).trans ?_
    exact congrArg (fun v => ix3 (i 0) (i 1) v) (Subsingleton.elim (show Fin 1 from i 2) 0)⟩
  exact sum_apply Q K C h r

end Cert.RefFoxForwardIdeal.Forward

end
-- ==== Proof.FoxForward.Finite.lean ====
/-
  The precondition of the forward call read: every query, key and decay is a real number.
-/
module

public import proofs.«01_k».proof.Proof.Gen.Pre_scores_finite
public import proofs.«01_k».proof.Proof.Finite

@[expose] public section

set_option maxRecDepth 16384

noncomputable section

namespace Cert.Pre_scores_finite.Forward

open Cert.Pre_scores_finite Cert.Pre_scores_finite.Gen Idealize.ShloMosaic

variable (Q K V : FVec Ideal S8192x512 .f32) (C : FVec Ideal S8192x4 .f32)

/-- The queries are real numbers. -/
theorem queries (h : (fn (F := Ideal) Q K V C).1 = fun _ => 1#1) (i : S8192x512.Idx) : ∃ a : ℝ, Q i = (a : EReal) := by
  have hi : (fn (F := Ideal) Q K V C).1 i = 1#1 := congrFun h i
  revert hi
  pointwise [fn]
  exact Finite.real_of_abs_lt (Q i)

/-- The keys are real numbers. -/
theorem keys (h : (fn (F := Ideal) Q K V C).2.1 = fun _ => 1#1) (i : S8192x512.Idx) : ∃ a : ℝ, K i = (a : EReal) := by
  have hi : (fn (F := Ideal) Q K V C).2.1 i = 1#1 := congrFun h i
  revert hi
  pointwise [fn]
  exact Finite.real_of_abs_lt (K i)

/-- The decays are real numbers. -/
theorem decays (h : (fn (F := Ideal) Q K V C).2.2 = fun _ => 1#1) (i : S8192x4.Idx) : ∃ a : ℝ, C i = (a : EReal) := by
  have hi : (fn (F := Ideal) Q K V C).2.2 i = 1#1 := congrFun h i
  revert hi
  pointwise [fn]
  exact Finite.real_of_abs_lt (C i)

end Cert.Pre_scores_finite.Forward

end
-- ==== Proof.FoxForward.Equation.lean ====
/-
  The claim on the forgetting attention's forward call: of finite queries, keys and decays the kernel and the reference leave the
  same output and the same log sums.
-/
module

public import proofs.«01_k».proof.Proof.Gen.RefFoxForwardIdeal.Run
public import proofs.«01_k».proof.Defs
public import proofs.«01_k».proof.Proof.FoxForward.Reference
public import proofs.«01_k».proof.Proof.FoxForward.Finite
public import Idealize.ShloMosaic.Lib.Claim

@[expose] public section

set_option maxRecDepth 16384

noncomputable section

namespace Cert.FoxForward

open Cert.Mem Idealize.ShloMosaic Idealize.ShloMosaic.TcCoe Idealize.SL.Sem

/-- The reference runs and leaves its arguments as they were. -/
theorem frame_reference : Cert.quiescent_RefFoxForwardIdeal (hRefFoxForwardIdeal := Cert.RefFoxForwardIdeal.Gen.facts) :=
  fun m ρ _ => (θ_run Cert.RefFoxForwardIdeal.defs _ _).mono
    (fun r h => ⟨fun c => (h c).2.2, Idealize.ShloMosaic.sem_eq_zero_of_no_sems (by decide) r.2⟩)
    (Cert.RefFoxForwardIdeal.Value.run m ρ)

set_option maxHeartbeats 3200000 in
/-- Of finite queries, keys and decays the kernel and the reference leave the same output and the same logarithms of the rows' sums
    of exponentials. -/
theorem value : Cert.algebraic_FoxForwardIdeal_RefFoxForwardIdeal_pre_scores_finite (hFoxForwardIdeal := Cert.FoxForwardIdeal.Gen.facts)
    (hRefFoxForwardIdeal := Cert.RefFoxForwardIdeal.Gen.facts) (hPre_scores_finite := Cert.Pre_scores_finite.Gen.facts) := by
  pair_intro
  · run_from Cert.FoxForwardIdeal.Value.run_blocks m g
  · refine θ_run_mono (Cert.RefFoxForwardIdeal.Value.run m' g') fun r h c => ?_
    obtain ⟨ho, hs, h0, h1, h2, h3⟩ := h c
    obtain ⟨a0, a1, a2, a3⟩ := hagree c
    obtain ⟨p0, p1, p3⟩ := hpre c
    have q0 := Cert.Pre_scores_finite.Forward.queries _ _ _ _ p0
    have q1 := Cert.Pre_scores_finite.Forward.keys _ _ _ _ p1
    have q3 := Cert.Pre_scores_finite.Forward.decays _ _ _ _ p3
    refine ⟨ho.trans ?_, hs.trans ?_, h0, h1, h2, h3⟩
    · refine (Cert.RefFoxForwardIdeal.Read.val_main_v44_eq m' c).trans ?_
      rw [a0, a1, a2, a3]
      exact (Cert.RefFoxForwardIdeal.Forward.out_eq _ _ _ _).trans (Cert.FoxForwardIdeal.Array.final_out m c q0 q1 q3).symm
    · refine (Cert.RefFoxForwardIdeal.Read.val_main_v41_eq m' c).trans ?_
      rw [a0, a1, a3]
      exact (Cert.RefFoxForwardIdeal.Forward.sum_eq _ _ _).trans (Cert.FoxForwardIdeal.Array.final_sum m c q0 q1 q3).symm

end Cert.FoxForward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Loops
public import proofs.«01_k».proof.Proof.Gen.FoxIdeal.Points
public import proofs.«01_k».proof.Proof.Gen.FoxIdeal.Frame
public import proofs.«01_k».proof.Proof.Gen.Fox
public import proofs.«01_k».proof.Proof.Gen.RefFoxIdeal
public import proofs.«01_k».proof.Proof.Gen.RefFoxIdeal.Run
public import proofs.«01_k».proof.Proof.Gen.RefFoxIdeal.Read
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.RefInIdeal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.RefInDxIdeal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.RefInDwIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RefUpIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.RefUpDxIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.RefUpDwIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RefDownIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.RefDownDxIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.RefDownDwIdeal
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.RefBranchIdeal
public import proofs.«01_k».proof.Proof.Gen.BranchDx
public import proofs.«01_k».proof.Proof.Gen.BranchDx.Skeleton
public import proofs.«01_k».proof.Proof.Gen.BranchDx.Launch
public import proofs.«01_k».proof.Proof.Gen.BranchDx.Points
public import proofs.«01_k».proof.Proof.Gen.BranchDx.Frame
public import proofs.«01_k».proof.Proof.Gen.BranchDxIdeal
public import proofs.«01_k».proof.Proof.Gen.BranchDxIdeal.Skeleton
public import proofs.«01_k».proof.Proof.Gen.BranchDxIdeal.Launch
public import proofs.«01_k».proof.Proof.Gen.BranchDxIdeal.Points
public import proofs.«01_k».proof.Proof.Gen.BranchDxIdeal.Frame
public import proofs.«01_k».proof.Proof.Gen.RefBranchDxIdeal
public import proofs.«01_k».proof.Proof.Gen.BranchDw
public import proofs.«01_k».proof.Proof.Gen.BranchDw.Skeleton
public import proofs.«01_k».proof.Proof.Gen.BranchDw.Launch
public import proofs.«01_k».proof.Proof.Gen.BranchDw.Points
public import proofs.«01_k».proof.Proof.Gen.BranchDw.Frame
public import proofs.«01_k».proof.Proof.Gen.BranchDwIdeal
public import proofs.«01_k».proof.Proof.Gen.BranchDwIdeal.Skeleton
public import proofs.«01_k».proof.Proof.Gen.BranchDwIdeal.Launch
public import proofs.«01_k».proof.Proof.Gen.BranchDwIdeal.Points
public import proofs.«01_k».proof.Proof.Gen.BranchDwIdeal.Frame
public import proofs.«01_k».proof.Proof.Gen.RefBranchDwIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.RefMergeIdeal
public import proofs.«01_k».proof.Proof.Gen.MergeDx
public import proofs.«01_k».proof.Proof.Gen.MergeDx.Skeleton
public import proofs.«01_k».proof.Proof.Gen.MergeDx.Launch
public import proofs.«01_k».proof.Proof.Gen.MergeDx.Points
public import proofs.«01_k».proof.Proof.Gen.MergeDx.Frame
public import proofs.«01_k».proof.Proof.Gen.MergeDxIdeal
public import proofs.«01_k».proof.Proof.Gen.MergeDxIdeal.Skeleton
public import proofs.«01_k».proof.Proof.Gen.MergeDxIdeal.Launch
public import proofs.«01_k».proof.Proof.Gen.MergeDxIdeal.Points
public import proofs.«01_k».proof.Proof.Gen.MergeDxIdeal.Frame
public import proofs.«01_k».proof.Proof.Gen.RefMergeDxIdeal
public import proofs.«01_k».proof.Proof.Gen.MergeDw
public import proofs.«01_k».proof.Proof.Gen.MergeDw.Skeleton
public import proofs.«01_k».proof.Proof.Gen.MergeDw.Launch
public import proofs.«01_k».proof.Proof.Gen.MergeDw.Points
public import proofs.«01_k».proof.Proof.Gen.MergeDw.Frame
public import proofs.«01_k».proof.Proof.Gen.MergeDwIdeal
public import proofs.«01_k».proof.Proof.Gen.MergeDwIdeal.Skeleton
public import proofs.«01_k».proof.Proof.Gen.MergeDwIdeal.Launch
public import proofs.«01_k».proof.Proof.Gen.MergeDwIdeal.Points
public import proofs.«01_k».proof.Proof.Gen.MergeDwIdeal.Frame
public import proofs.«01_k».proof.Proof.Gen.RefMergeDwIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.RefQueryIdeal
public import proofs.«01_k».proof.Proof.Gen.QueryDx
public import proofs.«01_k».proof.Proof.Gen.QueryDx.Skeleton
public import proofs.«01_k».proof.Proof.Gen.QueryDx.Launch
public import proofs.«01_k».proof.Proof.Gen.QueryDx.Points
public import proofs.«01_k».proof.Proof.Gen.QueryDx.Frame
public import proofs.«01_k».proof.Proof.Gen.QueryDxIdeal
public import proofs.«01_k».proof.Proof.Gen.QueryDxIdeal.Skeleton
public import proofs.«01_k».proof.Proof.Gen.QueryDxIdeal.Launch
public import proofs.«01_k».proof.Proof.Gen.QueryDxIdeal.Points
public import proofs.«01_k».proof.Proof.Gen.QueryDxIdeal.Frame
public import proofs.«01_k».proof.Proof.Gen.RefQueryDxIdeal
public import proofs.«01_k».proof.Proof.Gen.QueryDw
public import proofs.«01_k».proof.Proof.Gen.QueryDw.Skeleton
public import proofs.«01_k».proof.Proof.Gen.QueryDw.Launch
public import proofs.«01_k».proof.Proof.Gen.QueryDw.Points
public import proofs.«01_k».proof.Proof.Gen.QueryDw.Frame
public import proofs.«01_k».proof.Proof.Gen.QueryDwIdeal
public import proofs.«01_k».proof.Proof.Gen.QueryDwIdeal.Skeleton
public import proofs.«01_k».proof.Proof.Gen.QueryDwIdeal.Launch
public import proofs.«01_k».proof.Proof.Gen.QueryDwIdeal.Points
public import proofs.«01_k».proof.Proof.Gen.QueryDwIdeal.Frame
public import proofs.«01_k».proof.Proof.Gen.RefQueryDwIdeal
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.RefMemoryIdeal
public import proofs.«01_k».proof.Proof.Gen.MemoryDx
public import proofs.«01_k».proof.Proof.Gen.MemoryDx.Skeleton
public import proofs.«01_k».proof.Proof.Gen.MemoryDx.Launch
public import proofs.«01_k».proof.Proof.Gen.MemoryDx.Points
public import proofs.«01_k».proof.Proof.Gen.MemoryDx.Frame
public import proofs.«01_k».proof.Proof.Gen.MemoryDxIdeal
public import proofs.«01_k».proof.Proof.Gen.MemoryDxIdeal.Skeleton
public import proofs.«01_k».proof.Proof.Gen.MemoryDxIdeal.Launch
public import proofs.«01_k».proof.Proof.Gen.MemoryDxIdeal.Points
public import proofs.«01_k».proof.Proof.Gen.MemoryDxIdeal.Frame
public import proofs.«01_k».proof.Proof.Gen.RefMemoryDxIdeal
public import proofs.«01_k».proof.Proof.Gen.MemoryDw
public import proofs.«01_k».proof.Proof.Gen.MemoryDw.Skeleton
public import proofs.«01_k».proof.Proof.Gen.MemoryDw.Launch
public import proofs.«01_k».proof.Proof.Gen.MemoryDw.Points
public import proofs.«01_k».proof.Proof.Gen.MemoryDw.Frame
public import proofs.«01_k».proof.Proof.Gen.MemoryDwIdeal
public import proofs.«01_k».proof.Proof.Gen.MemoryDwIdeal.Skeleton
public import proofs.«01_k».proof.Proof.Gen.MemoryDwIdeal.Launch
public import proofs.«01_k».proof.Proof.Gen.MemoryDwIdeal.Points
public import proofs.«01_k».proof.Proof.Gen.MemoryDwIdeal.Frame
public import proofs.«01_k».proof.Proof.Gen.RefMemoryDwIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InIdeal.Value
public import proofs.«01_k».proof.Proof.Gen.RefInIdeal.Run
public import proofs.«01_k».proof.Proof.Gen.InDxIdeal.Value
public import proofs.«01_k».proof.Proof.Gen.RefInDxIdeal.Run
public import proofs.«01_k».proof.Proof.Gen.InDwIdeal.Value
public import proofs.«01_k».proof.Proof.Gen.RefInDwIdeal.Run
public import proofs.«01_k».proof.Proof.Gen.UpIdeal.Value
public import proofs.«01_k».proof.Proof.Gen.RefUpIdeal.Run
public import proofs.«01_k».proof.Proof.Gen.UpDxIdeal.Value
public import proofs.«01_k».proof.Proof.Gen.RefUpDxIdeal.Run
public import proofs.«01_k».proof.Proof.Gen.UpDwIdeal.Value
public import proofs.«01_k».proof.Proof.Gen.RefUpDwIdeal.Run
public import proofs.«01_k».proof.Proof.Gen.DownIdeal.Value
public import proofs.«01_k».proof.Proof.Gen.RefDownIdeal.Run
public import proofs.«01_k».proof.Proof.Gen.DownDxIdeal.Value
public import proofs.«01_k».proof.Proof.Gen.RefDownDxIdeal.Run
public import proofs.«01_k».proof.Proof.Gen.DownDwIdeal.Value
public import proofs.«01_k».proof.Proof.Gen.RefDownDwIdeal.Run
public import proofs.«01_k».proof.Proof.Gen.BranchIdeal.Value
public import proofs.«01_k».proof.Proof.Gen.RefBranchIdeal.Run
public import proofs.«01_k».proof.Proof.Gen.BranchDxIdeal.Value
public import proofs.«01_k».proof.Proof.Gen.RefBranchDxIdeal.Run
public import proofs.«01_k».proof.Proof.Gen.BranchDwIdeal.Value
public import proofs.«01_k».proof.Proof.Gen.RefBranchDwIdeal.Run
public import proofs.«01_k».proof.Proof.Gen.MergeIdeal.Value
public import proofs.«01_k».proof.Proof.Gen.RefMergeIdeal.Run
public import proofs.«01_k».proof.Proof.Gen.MergeDxIdeal.Value
public import proofs.«01_k».proof.Proof.Gen.RefMergeDxIdeal.Run
public import proofs.«01_k».proof.Proof.Gen.MergeDwIdeal.Value
public import proofs.«01_k».proof.Proof.Gen.RefMergeDwIdeal.Run
public import proofs.«01_k».proof.Proof.Gen.QueryIdeal.Value
public import proofs.«01_k».proof.Proof.Gen.RefQueryIdeal.Run
public import proofs.«01_k».proof.Proof.Gen.QueryDxIdeal.Value
public import proofs.«01_k».proof.Proof.Gen.RefQueryDxIdeal.Run
public import proofs.«01_k».proof.Proof.Gen.QueryDwIdeal.Value
public import proofs.«01_k».proof.Proof.Gen.RefQueryDwIdeal.Run
public import proofs.«01_k».proof.Proof.Gen.MemoryIdeal.Value
public import proofs.«01_k».proof.Proof.Gen.RefMemoryIdeal.Run
public import proofs.«01_k».proof.Proof.Gen.MemoryDxIdeal.Value
public import proofs.«01_k».proof.Proof.Gen.RefMemoryDxIdeal.Run
public import proofs.«01_k».proof.Proof.Gen.MemoryDwIdeal.Value
public import proofs.«01_k».proof.Proof.Gen.RefMemoryDwIdeal.Run
public import proofs.«01_k».proof.Proof.Product.In
public import proofs.«01_k».proof.Proof.Product.Up
public import proofs.«01_k».proof.Proof.Product.Down
public import proofs.«01_k».proof.Proof.Product.Branch
public import proofs.«01_k».proof.Proof.Product.Merge
public import proofs.«01_k».proof.Proof.Product.Query
public import proofs.«01_k».proof.Proof.Product.Memory
public import Idealize.ShloMosaic.Lib.Claim
public import proofs.«01_k».proof.Proof.Mem.Equation
public import proofs.«01_k».proof.Proof.Gen.Pre_all_finite
public import proofs.«01_k».proof.Proof.Gen.Pre_scores_finite
public import proofs.«01_k».proof.Proof.Gen.FoxForward
public import proofs.«01_k».proof.Proof.Gen.FoxForward.Skeleton
public import proofs.«01_k».proof.Proof.Gen.FoxForward.Launch
public import proofs.«01_k».proof.Proof.Gen.FoxForward.Points
public import proofs.«01_k».proof.Proof.Gen.FoxForward.Frame
public import proofs.«01_k».proof.Proof.Gen.FoxForwardIdeal
public import proofs.«01_k».proof.Proof.Gen.FoxForwardIdeal.Value
public import proofs.«01_k».proof.Proof.Gen.RefFoxForwardIdeal
public import proofs.«01_k».proof.Proof.Gen.RefFoxForwardIdeal.Run
public import proofs.«01_k».proof.Proof.Gen.RefFoxForwardIdeal.Read
public import proofs.«01_k».proof.Proof.Fox.Equation
public import proofs.«01_k».proof.Proof.FoxForward.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.In.Gen.facts, Cert.InIdeal.Gen.facts, Cert.RefInIdeal.Gen.facts, Cert.InDx.Gen.facts, Cert.InDxIdeal.Gen.facts, Cert.RefInDxIdeal.Gen.facts, Cert.InDw.Gen.facts, Cert.InDwIdeal.Gen.facts, Cert.RefInDwIdeal.Gen.facts, Cert.Up.Gen.facts, Cert.UpIdeal.Gen.facts, Cert.RefUpIdeal.Gen.facts, Cert.UpDx.Gen.facts, Cert.UpDxIdeal.Gen.facts, Cert.RefUpDxIdeal.Gen.facts, Cert.UpDw.Gen.facts, Cert.UpDwIdeal.Gen.facts, Cert.RefUpDwIdeal.Gen.facts, Cert.Down.Gen.facts, Cert.DownIdeal.Gen.facts, Cert.RefDownIdeal.Gen.facts, Cert.DownDx.Gen.facts, Cert.DownDxIdeal.Gen.facts, Cert.RefDownDxIdeal.Gen.facts, Cert.DownDw.Gen.facts, Cert.DownDwIdeal.Gen.facts, Cert.RefDownDwIdeal.Gen.facts, Cert.Branch.Gen.facts, Cert.BranchIdeal.Gen.facts, Cert.RefBranchIdeal.Gen.facts, Cert.BranchDx.Gen.facts, Cert.BranchDxIdeal.Gen.facts, Cert.RefBranchDxIdeal.Gen.facts, Cert.BranchDw.Gen.facts, Cert.BranchDwIdeal.Gen.facts, Cert.RefBranchDwIdeal.Gen.facts, Cert.Merge.Gen.facts, Cert.MergeIdeal.Gen.facts, Cert.RefMergeIdeal.Gen.facts, Cert.MergeDx.Gen.facts, Cert.MergeDxIdeal.Gen.facts, Cert.RefMergeDxIdeal.Gen.facts, Cert.MergeDw.Gen.facts, Cert.MergeDwIdeal.Gen.facts, Cert.RefMergeDwIdeal.Gen.facts, Cert.Query.Gen.facts, Cert.QueryIdeal.Gen.facts, Cert.RefQueryIdeal.Gen.facts, Cert.QueryDx.Gen.facts, Cert.QueryDxIdeal.Gen.facts, Cert.RefQueryDxIdeal.Gen.facts, Cert.QueryDw.Gen.facts, Cert.QueryDwIdeal.Gen.facts, Cert.RefQueryDwIdeal.Gen.facts, Cert.Memory.Gen.facts, Cert.MemoryIdeal.Gen.facts, Cert.RefMemoryIdeal.Gen.facts, Cert.MemoryDx.Gen.facts, Cert.MemoryDxIdeal.Gen.facts, Cert.RefMemoryDxIdeal.Gen.facts, Cert.MemoryDw.Gen.facts, Cert.MemoryDwIdeal.Gen.facts, Cert.RefMemoryDwIdeal.Gen.facts, Cert.Fox.Gen.facts, Cert.FoxIdeal.Gen.facts, Cert.RefFoxIdeal.Gen.facts, Cert.FoxForward.Gen.facts, Cert.FoxForwardIdeal.Gen.facts, Cert.RefFoxForwardIdeal.Gen.facts, Cert.Pre_finite.Gen.facts, Cert.Pre_all_finite.Gen.facts, Cert.Pre_scores_finite.Gen.facts,
    fun m ρ _ => Cert.Kernel.Gen.frame m ρ,
    fun m ρ _ => Cert.KernelIdeal.Gen.frame m ρ,
    fun m ρ _ => Cert.KernelIdeal.Gen.frame m ρ,
    Cert.Mem.frame_reference,
    fun m ρ _ => Cert.Mem.frame_reference m ρ trivial,
    fun m ρ _ => Cert.In.Gen.frame m ρ,
    fun m ρ _ => Cert.InIdeal.Gen.frame m ρ,
    Cert.Product.In.frame_reference,
    fun m ρ _ => Cert.InDx.Gen.frame m ρ,
    fun m ρ _ => Cert.InDxIdeal.Gen.frame m ρ,
    Cert.Product.InDx.frame_reference,
    fun m ρ _ => Cert.InDw.Gen.frame m ρ,
    fun m ρ _ => Cert.InDwIdeal.Gen.frame m ρ,
    Cert.Product.InDw.frame_reference,
    fun m ρ _ => Cert.Up.Gen.frame m ρ,
    fun m ρ _ => Cert.UpIdeal.Gen.frame m ρ,
    Cert.Product.Up.frame_reference,
    fun m ρ _ => Cert.UpDx.Gen.frame m ρ,
    fun m ρ _ => Cert.UpDxIdeal.Gen.frame m ρ,
    Cert.Product.UpDx.frame_reference,
    fun m ρ _ => Cert.UpDw.Gen.frame m ρ,
    fun m ρ _ => Cert.UpDwIdeal.Gen.frame m ρ,
    Cert.Product.UpDw.frame_reference,
    fun m ρ _ => Cert.Down.Gen.frame m ρ,
    fun m ρ _ => Cert.DownIdeal.Gen.frame m ρ,
    Cert.Product.Down.frame_reference,
    fun m ρ _ => Cert.DownDx.Gen.frame m ρ,
    fun m ρ _ => Cert.DownDxIdeal.Gen.frame m ρ,
    Cert.Product.DownDx.frame_reference,
    fun m ρ _ => Cert.DownDw.Gen.frame m ρ,
    fun m ρ _ => Cert.DownDwIdeal.Gen.frame m ρ,
    Cert.Product.DownDw.frame_reference,
    fun m ρ _ => Cert.Branch.Gen.frame m ρ,
    fun m ρ _ => Cert.BranchIdeal.Gen.frame m ρ,
    Cert.Product.Branch.frame_reference,
    fun m ρ _ => Cert.BranchDx.Gen.frame m ρ,
    fun m ρ _ => Cert.BranchDxIdeal.Gen.frame m ρ,
    Cert.Product.BranchDx.frame_reference,
    fun m ρ _ => Cert.BranchDw.Gen.frame m ρ,
    fun m ρ _ => Cert.BranchDwIdeal.Gen.frame m ρ,
    Cert.Product.BranchDw.frame_reference,
    fun m ρ _ => Cert.Merge.Gen.frame m ρ,
    fun m ρ _ => Cert.MergeIdeal.Gen.frame m ρ,
    Cert.Product.Merge.frame_reference,
    fun m ρ _ => Cert.MergeDx.Gen.frame m ρ,
    fun m ρ _ => Cert.MergeDxIdeal.Gen.frame m ρ,
    Cert.Product.MergeDx.frame_reference,
    fun m ρ _ => Cert.MergeDw.Gen.frame m ρ,
    fun m ρ _ => Cert.MergeDwIdeal.Gen.frame m ρ,
    Cert.Product.MergeDw.frame_reference,
    fun m ρ _ => Cert.Query.Gen.frame m ρ,
    fun m ρ _ => Cert.QueryIdeal.Gen.frame m ρ,
    Cert.Product.Query.frame_reference,
    fun m ρ _ => Cert.QueryDx.Gen.frame m ρ,
    fun m ρ _ => Cert.QueryDxIdeal.Gen.frame m ρ,
    Cert.Product.QueryDx.frame_reference,
    fun m ρ _ => Cert.QueryDw.Gen.frame m ρ,
    fun m ρ _ => Cert.QueryDwIdeal.Gen.frame m ρ,
    Cert.Product.QueryDw.frame_reference,
    fun m ρ _ => Cert.Memory.Gen.frame m ρ,
    fun m ρ _ => Cert.MemoryIdeal.Gen.frame m ρ,
    Cert.Product.Memory.frame_reference,
    fun m ρ _ => Cert.MemoryDx.Gen.frame m ρ,
    fun m ρ _ => Cert.MemoryDxIdeal.Gen.frame m ρ,
    Cert.Product.MemoryDx.frame_reference,
    fun m ρ _ => Cert.MemoryDw.Gen.frame m ρ,
    fun m ρ _ => Cert.MemoryDwIdeal.Gen.frame m ρ,
    Cert.Product.MemoryDw.frame_reference,
    Cert.Fox.frame_kernel,
    Cert.Fox.frame_ideal,
    fun m ρ _ => Cert.Fox.frame_ideal m ρ trivial,
    Cert.Fox.frame_reference,
    fun m ρ _ => Cert.Fox.frame_reference m ρ trivial,
    fun m ρ _ => Cert.FoxForward.Gen.frame m ρ,
    fun m ρ _ => Cert.FoxForwardIdeal.Gen.frame m ρ,
    fun m ρ _ => Cert.FoxForwardIdeal.Gen.frame m ρ,
    Cert.FoxForward.frame_reference,
    fun m ρ _ => Cert.FoxForward.frame_reference m ρ trivial,
    trivial,
    Cert.Mem.value,
    trivial,
    Cert.Product.In.value,
    trivial,
    Cert.Product.InDx.value,
    trivial,
    Cert.Product.InDw.value,
    trivial,
    Cert.Product.Up.value,
    trivial,
    Cert.Product.UpDx.value,
    trivial,
    Cert.Product.UpDw.value,
    trivial,
    Cert.Product.Down.value,
    trivial,
    Cert.Product.DownDx.value,
    trivial,
    Cert.Product.DownDw.value,
    trivial,
    Cert.Product.Branch.value,
    trivial,
    Cert.Product.BranchDx.value,
    trivial,
    Cert.Product.BranchDw.value,
    trivial,
    Cert.Product.Merge.value,
    trivial,
    Cert.Product.MergeDx.value,
    trivial,
    Cert.Product.MergeDw.value,
    trivial,
    Cert.Product.Query.value,
    trivial,
    Cert.Product.QueryDx.value,
    trivial,
    Cert.Product.QueryDw.value,
    trivial,
    Cert.Product.Memory.value,
    trivial,
    Cert.Product.MemoryDx.value,
    trivial,
    Cert.Product.MemoryDw.value,
    trivial,
    Cert.Fox.value,
    trivial,
    Cert.FoxForward.value⟩

end Cert.Proof

end
